-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite_bounds [hPre_finite_bounds : Cert.Pre_finite_bounds.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite_bounds.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite_bounds [hPre_finite_bounds : Cert.Pre_finite_bounds.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite_bounds.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5))) = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Kernel5Ideal_pre_finite_bounds [hKernel5Ideal : Cert.Kernel5Ideal.Facts] [hPre_finite_bounds : Cert.Pre_finite_bounds.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite_bounds m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Reference5Ideal_pre_finite_bounds [hReference5Ideal : Cert.Reference5Ideal.Facts] [hPre_finite_bounds : Cert.Pre_finite_bounds.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite_bounds m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v109) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v33) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)) →
    ∃ (v0 : (c : Dev Cert.Kernel4Ideal.nD) → Buf (Elt Ideal) ((c.tc : Thread Cert.Kernel4Ideal.nD Cert.Kernel4Ideal.τ).loc Cert.Kernel4Ideal.main_v0_0)) (v1 : (c : Dev Cert.Kernel4Ideal.nD) → Buf (Elt Ideal) ((c.tc : Thread Cert.Kernel4Ideal.nD Cert.Kernel4Ideal.τ).loc Cert.Kernel4Ideal.main_v0_1)) (v2 : (c : Dev Cert.Kernel4Ideal.nD) → Buf (Elt Ideal) ((c.tc : Thread Cert.Kernel4Ideal.nD Cert.Kernel4Ideal.τ).loc Cert.Kernel4Ideal.main_v0_2)) (v3 : (c : Dev Cert.Kernel4Ideal.nD) → Buf (Elt Ideal) ((c.tc : Thread Cert.Kernel4Ideal.nD Cert.Kernel4Ideal.τ).loc Cert.Kernel4Ideal.main_v0_3)) (v4 : (c : Dev Cert.Kernel4Ideal.nD) → Buf (Elt Ideal) ((c.tc : Thread Cert.Kernel4Ideal.nD Cert.Kernel4Ideal.τ).loc Cert.Kernel4Ideal.main_v0_4)) (v5 : (c : Dev Cert.Kernel4Ideal.nD) → Buf (Elt Ideal) ((c.tc : Thread Cert.Kernel4Ideal.nD Cert.Kernel4Ideal.τ).loc Cert.Kernel4Ideal.main_v0_5)) (v6 : (c : Dev Cert.Kernel4Ideal.nD) → Buf (Elt Ideal) ((c.tc : Thread Cert.Kernel4Ideal.nD Cert.Kernel4Ideal.τ).loc Cert.Kernel4Ideal.main_v0_6)) (v7 : (c : Dev Cert.Kernel4Ideal.nD) → Buf (Elt Ideal) ((c.tc : Thread Cert.Kernel4Ideal.nD Cert.Kernel4Ideal.τ).loc Cert.Kernel4Ideal.main_v0_7)) (v8 : (c : Dev Cert.Kernel4Ideal.nD) → Buf (Elt Ideal) ((c.tc : Thread Cert.Kernel4Ideal.nD Cert.Kernel4Ideal.τ).loc Cert.Kernel4Ideal.main_v0_8)) (v9 : (c : Dev Cert.Kernel4Ideal.nD) → Buf (Elt Ideal) ((c.tc : Thread Cert.Kernel4Ideal.nD Cert.Kernel4Ideal.τ).loc Cert.Kernel4Ideal.main_v0_9)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0_0) = v0 c
          ∧ r.2.mem ((c.tc : Thread Cert.Kernel4Ideal.nD Cert.Kernel4Ideal.τ).loc Cert.Kernel4Ideal.main_v0_1) = v1 c
          ∧ r.2.mem ((c.tc : Thread Cert.Kernel4Ideal.nD Cert.Kernel4Ideal.τ).loc Cert.Kernel4Ideal.main_v0_2) = v2 c
          ∧ r.2.mem ((c.tc : Thread Cert.Kernel4Ideal.nD Cert.Kernel4Ideal.τ).loc Cert.Kernel4Ideal.main_v0_3) = v3 c
          ∧ r.2.mem ((c.tc : Thread Cert.Kernel4Ideal.nD Cert.Kernel4Ideal.τ).loc Cert.Kernel4Ideal.main_v0_4) = v4 c
          ∧ r.2.mem ((c.tc : Thread Cert.Kernel4Ideal.nD Cert.Kernel4Ideal.τ).loc Cert.Kernel4Ideal.main_v0_5) = v5 c
          ∧ r.2.mem ((c.tc : Thread Cert.Kernel4Ideal.nD Cert.Kernel4Ideal.τ).loc Cert.Kernel4Ideal.main_v0_6) = v6 c
          ∧ r.2.mem ((c.tc : Thread Cert.Kernel4Ideal.nD Cert.Kernel4Ideal.τ).loc Cert.Kernel4Ideal.main_v0_7) = v7 c
          ∧ r.2.mem ((c.tc : Thread Cert.Kernel4Ideal.nD Cert.Kernel4Ideal.τ).loc Cert.Kernel4Ideal.main_v0_8) = v8 c
          ∧ r.2.mem ((c.tc : Thread Cert.Kernel4Ideal.nD Cert.Kernel4Ideal.τ).loc Cert.Kernel4Ideal.main_v0_9) = v9 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v25) = v0 c
          ∧ r.2.mem ((c.tc : Thread Cert.Reference4Ideal.nD Cert.Reference4Ideal.τ).loc Cert.Reference4Ideal.main_v76) = v1 c
          ∧ r.2.mem ((c.tc : Thread Cert.Reference4Ideal.nD Cert.Reference4Ideal.τ).loc Cert.Reference4Ideal.main_v77) = v2 c
          ∧ r.2.mem ((c.tc : Thread Cert.Reference4Ideal.nD Cert.Reference4Ideal.τ).loc Cert.Reference4Ideal.main_v78) = v3 c
          ∧ r.2.mem ((c.tc : Thread Cert.Reference4Ideal.nD Cert.Reference4Ideal.τ).loc Cert.Reference4Ideal.main_v43) = v4 c
          ∧ r.2.mem ((c.tc : Thread Cert.Reference4Ideal.nD Cert.Reference4Ideal.τ).loc Cert.Reference4Ideal.main_v80) = v5 c
          ∧ r.2.mem ((c.tc : Thread Cert.Reference4Ideal.nD Cert.Reference4Ideal.τ).loc Cert.Reference4Ideal.main_v81) = v6 c
          ∧ r.2.mem ((c.tc : Thread Cert.Reference4Ideal.nD Cert.Reference4Ideal.τ).loc Cert.Reference4Ideal.main_v82) = v7 c
          ∧ r.2.mem ((c.tc : Thread Cert.Reference4Ideal.nD Cert.Reference4Ideal.τ).loc Cert.Reference4Ideal.main_v84) = v8 c
          ∧ r.2.mem ((c.tc : Thread Cert.Reference4Ideal.nD Cert.Reference4Ideal.τ).loc Cert.Reference4Ideal.main_v71) = v9 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7))

def preserves_Kernel5_Kernel5Ideal : Prop :=
  True

def algebraic_Kernel5Ideal_Reference5Ideal_pre_finite_bounds [hKernel5Ideal : Cert.Kernel5Ideal.Facts] [hReference5Ideal : Cert.Reference5Ideal.Facts] [hPre_finite_bounds : Cert.Pre_finite_bounds.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite_bounds m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)) →
    ∃ (v0 : (c : Dev Cert.Kernel5Ideal.nD) → Buf (Elt Ideal) ((c.tc : Thread Cert.Kernel5Ideal.nD Cert.Kernel5Ideal.τ).loc Cert.Kernel5Ideal.main_v0_0)) (v1 : (c : Dev Cert.Kernel5Ideal.nD) → Buf (Elt Ideal) ((c.tc : Thread Cert.Kernel5Ideal.nD Cert.Kernel5Ideal.τ).loc Cert.Kernel5Ideal.main_v0_1)) (v2 : (c : Dev Cert.Kernel5Ideal.nD) → Buf (Elt Ideal) ((c.tc : Thread Cert.Kernel5Ideal.nD Cert.Kernel5Ideal.τ).loc Cert.Kernel5Ideal.main_v0_2)) (v3 : (c : Dev Cert.Kernel5Ideal.nD) → Buf (Elt Ideal) ((c.tc : Thread Cert.Kernel5Ideal.nD Cert.Kernel5Ideal.τ).loc Cert.Kernel5Ideal.main_v0_3)) (v4 : (c : Dev Cert.Kernel5Ideal.nD) → Buf (Elt Ideal) ((c.tc : Thread Cert.Kernel5Ideal.nD Cert.Kernel5Ideal.τ).loc Cert.Kernel5Ideal.main_v0_4)) (v5 : (c : Dev Cert.Kernel5Ideal.nD) → Buf (Elt Ideal) ((c.tc : Thread Cert.Kernel5Ideal.nD Cert.Kernel5Ideal.τ).loc Cert.Kernel5Ideal.main_v0_5)) (v6 : (c : Dev Cert.Kernel5Ideal.nD) → Buf (Elt Ideal) ((c.tc : Thread Cert.Kernel5Ideal.nD Cert.Kernel5Ideal.τ).loc Cert.Kernel5Ideal.main_v0_6)) (v7 : (c : Dev Cert.Kernel5Ideal.nD) → Buf (Elt Ideal) ((c.tc : Thread Cert.Kernel5Ideal.nD Cert.Kernel5Ideal.τ).loc Cert.Kernel5Ideal.main_v0_7)) (v8 : (c : Dev Cert.Kernel5Ideal.nD) → Buf (Elt Ideal) ((c.tc : Thread Cert.Kernel5Ideal.nD Cert.Kernel5Ideal.τ).loc Cert.Kernel5Ideal.main_v0_8)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0_0) = v0 c
          ∧ r.2.mem ((c.tc : Thread Cert.Kernel5Ideal.nD Cert.Kernel5Ideal.τ).loc Cert.Kernel5Ideal.main_v0_1) = v1 c
          ∧ r.2.mem ((c.tc : Thread Cert.Kernel5Ideal.nD Cert.Kernel5Ideal.τ).loc Cert.Kernel5Ideal.main_v0_2) = v2 c
          ∧ r.2.mem ((c.tc : Thread Cert.Kernel5Ideal.nD Cert.Kernel5Ideal.τ).loc Cert.Kernel5Ideal.main_v0_3) = v3 c
          ∧ r.2.mem ((c.tc : Thread Cert.Kernel5Ideal.nD Cert.Kernel5Ideal.τ).loc Cert.Kernel5Ideal.main_v0_4) = v4 c
          ∧ r.2.mem ((c.tc : Thread Cert.Kernel5Ideal.nD Cert.Kernel5Ideal.τ).loc Cert.Kernel5Ideal.main_v0_5) = v5 c
          ∧ r.2.mem ((c.tc : Thread Cert.Kernel5Ideal.nD Cert.Kernel5Ideal.τ).loc Cert.Kernel5Ideal.main_v0_6) = v6 c
          ∧ r.2.mem ((c.tc : Thread Cert.Kernel5Ideal.nD Cert.Kernel5Ideal.τ).loc Cert.Kernel5Ideal.main_v0_7) = v7 c
          ∧ r.2.mem ((c.tc : Thread Cert.Kernel5Ideal.nD Cert.Kernel5Ideal.τ).loc Cert.Kernel5Ideal.main_v0_8) = v8 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v66) = v0 c
          ∧ r.2.mem ((c.tc : Thread Cert.Reference5Ideal.nD Cert.Reference5Ideal.τ).loc Cert.Reference5Ideal.main_v67) = v1 c
          ∧ r.2.mem ((c.tc : Thread Cert.Reference5Ideal.nD Cert.Reference5Ideal.τ).loc Cert.Reference5Ideal.main_v68) = v2 c
          ∧ r.2.mem ((c.tc : Thread Cert.Reference5Ideal.nD Cert.Reference5Ideal.τ).loc Cert.Reference5Ideal.main_v17) = v3 c
          ∧ r.2.mem ((c.tc : Thread Cert.Reference5Ideal.nD Cert.Reference5Ideal.τ).loc Cert.Reference5Ideal.main_v70) = v4 c
          ∧ r.2.mem ((c.tc : Thread Cert.Reference5Ideal.nD Cert.Reference5Ideal.τ).loc Cert.Reference5Ideal.main_v71) = v5 c
          ∧ r.2.mem ((c.tc : Thread Cert.Reference5Ideal.nD Cert.Reference5Ideal.τ).loc Cert.Reference5Ideal.main_v72) = v6 c
          ∧ r.2.mem ((c.tc : Thread Cert.Reference5Ideal.nD Cert.Reference5Ideal.τ).loc Cert.Reference5Ideal.main_v74) = v7 c
          ∧ r.2.mem ((c.tc : Thread Cert.Reference5Ideal.nD Cert.Reference5Ideal.τ).loc Cert.Reference5Ideal.main_v61) = v8 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5))

def preserves_Kernel6_Kernel6Ideal : Prop :=
  True

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hPre_finite_bounds : Cert.Pre_finite_bounds.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_finite_bounds (hKernel5Ideal := hKernel5Ideal) (hPre_finite_bounds := hPre_finite_bounds)
    ∧ quiescent_Reference5Ideal (hReference5Ideal := hReference5Ideal)
    ∧ quiescent_Reference5Ideal_pre_finite_bounds (hReference5Ideal := hReference5Ideal) (hPre_finite_bounds := hPre_finite_bounds)
    ∧ quiescent_Kernel6 (hKernel6 := hKernel6)
    ∧ quiescent_Kernel6Ideal (hKernel6Ideal := hKernel6Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_finite_bounds (hKernel5Ideal := hKernel5Ideal) (hReference5Ideal := hReference5Ideal) (hPre_finite_bounds := hPre_finite_bounds)
    ∧ preserves_Kernel6_Kernel6Ideal
-- ==== Pre_finite_bounds.lean ====
abbrev S4x8192x1024 : Shape := ⟨3, ![4, 8192, 1024]⟩
abbrev S1024x1536 : Shape := ⟨2, ![1024, 1536]⟩
abbrev S16x1024 : Shape := ⟨2, ![16, 1024]⟩
abbrev S8x1 : Shape := ⟨2, ![8, 1]⟩
abbrev S1024x2048 : Shape := ⟨2, ![1024, 2048]⟩
abbrev S2x512 : Shape := ⟨2, ![2, 512]⟩
abbrev S_ : Shape := ⟨0, ![]⟩

class Facts : Prop where
  bcast_S_S2x512 : S_.BroadcastsInDim S2x512 (![] : Fin 0 → Fin S2x512.rank)

variable [Facts]

def fn {F : FTy → Type} [FloatOps F] (main_arg0 : FVec F S4x8192x1024 .f32) (main_arg1 : FVec F S1024x1536 .bf16) (main_arg2 : FVec F S16x1024 .bf16) (main_arg3 : FVec F S8x1 .f32) (main_arg4 : FVec F S1024x2048 .bf16) (main_arg5 : FVec F S2x512 .f32) : IVec S2x512 1 :=
  let main_v0 : FVec F S2x512 .f32 := Host.absf main_arg5
  let main_cst : FVec F S_ .f32 := constant S_ .f32 0x7F800000#32
  let main_v1 : FVec F S2x512 .f32 := broadcastInDim S2x512 ![] bcast_S_S2x512 main_cst
  let main_v2 : IVec S2x512 1 := cmpf .olt main_v0 main_v1
  main_v2
-- ==== Kernel.lean ====
abbrev S4x8192x512 : Shape := ⟨3, ![4, 8192, 512]⟩
abbrev S4x4x8x8192 : Shape := ⟨4, ![4, 4, 8, 8192]⟩
abbrev S1x512 : Shape := ⟨2, ![1, 512]⟩
abbrev S1x512x128 : Shape := ⟨3, ![1, 512, 128]⟩
abbrev S1x8192x128 : Shape := ⟨3, ![1, 8192, 128]⟩
abbrev S1x1x8x512 : Shape := ⟨4, ![1, 1, 8, 512]⟩
abbrev S1x1x8x8192 : Shape := ⟨4, ![1, 1, 8, 8192]⟩
abbrev S1x128 : Shape := ⟨2, ![1, 128]⟩
abbrev S2x512x1 : Shape := ⟨3, ![2, 512, 1]⟩
abbrev S2x512x128 : Shape := ⟨3, ![2, 512, 128]⟩
abbrev S512x128 : Shape := ⟨2, ![512, 128]⟩
abbrev S8x512 : Shape := ⟨2, ![8, 512]⟩
abbrev S512x8 : Shape := ⟨2, ![512, 8]⟩
abbrev S512x1 : Shape := ⟨2, ![512, 1]⟩
abbrev S1x1x1x512 : Shape := ⟨4, ![1, 1, 1, 512]⟩
abbrev S512x512 : Shape := ⟨2, ![512, 512]⟩
abbrev S1x512x1 : Shape := ⟨3, ![1, 512, 1]⟩
abbrev S512 : Shape := ⟨1, ![512]⟩

abbrev nBuf : Space → Nat
  | .hbm => 6
  | .vmem => 17
  | .smem => 0
  | _ => 0

abbrev bufTy : (tb : Table) → Fin (tcTables nBuf tb) → BufTy
  | .hbm, ⟨0, _⟩ => ⟨S4x8192x512, .bf16⟩
  | .hbm, ⟨1, _⟩ => ⟨S4x8192x512, .bf16⟩
  | .hbm, ⟨2, _⟩ => ⟨S4x8192x512, .bf16⟩
  | .hbm, ⟨3, _⟩ => ⟨S4x4x8x8192, .f32⟩
  | .hbm, ⟨4, _⟩ => ⟨S1x512, .f32⟩
  | .hbm, ⟨5, _⟩ => ⟨S4x8192x512, .bf16⟩
  | .local _ .vmem, ⟨0, _⟩ => ⟨S1x512x128, .bf16⟩
  | .local _ .vmem, ⟨1, _⟩ => ⟨S1x512x128, .bf16⟩
  | .local _ .vmem, ⟨2, _⟩ => ⟨S1x8192x128, .bf16⟩
  | .local _ .vmem, ⟨3, _⟩ => ⟨S1x8192x128, .bf16⟩
  | .local _ .vmem, ⟨4, _⟩ => ⟨S1x8192x128, .bf16⟩
  | .local _ .vmem, ⟨5, _⟩ => ⟨S1x8192x128, .bf16⟩
  | .local _ .vmem, ⟨6, _⟩ => ⟨S1x1x8x512, .f32⟩
  | .local _ .vmem, ⟨7, _⟩ => ⟨S1x1x8x512, .f32⟩
  | .local _ .vmem, ⟨8, _⟩ => ⟨S1x1x8x8192, .f32⟩
  | .local _ .vmem, ⟨9, _⟩ => ⟨S1x1x8x8192, .f32⟩
  | .local _ .vmem, ⟨10, _⟩ => ⟨S1x128, .f32⟩
  | .local _ .vmem, ⟨11, _⟩ => ⟨S1x128, .f32⟩
  | .local _ .vmem, ⟨12, _⟩ => ⟨S1x512x128, .bf16⟩
  | .local _ .vmem, ⟨13, _⟩ => ⟨S1x512x128, .bf16⟩
  | .local _ .vmem, ⟨14, _⟩ => ⟨S2x512x1, .f32⟩
  | .local _ .vmem, ⟨15, _⟩ => ⟨S2x512x1, .f32⟩
  | .local _ .vmem, ⟨16, _⟩ => ⟨S2x512x128, .f32⟩
  | _, _ => ⟨S4x8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![4, 4, 16], ![false, false, false]⟩

@[reducible] def k0_t1_loop (i : grid0.Coords) : Scf.Loop 32 :=
  let c0_i32_18 : BitVec 32 := 0#32
  let arg2 : BitVec 32 := BitVec.ofNat 32 (i 2).val
  let v25 : BitVec 32 := Scalar.subi arg2 c0_i32_18
  let c1_i32 : BitVec 32 := 1#32
  let v27 : BitVec 32 := Scalar.divsi v25 c1_i32
  let v28 : BitVec 32 := Scalar.muli v27 c1_i32
  let v29 : BitVec 32 := Scalar.addi c0_i32_18 v28
  let c1_i32_19 : BitVec 32 := 1#32
  ⟨c0_i32_18, v29, c1_i32_19⟩
def k0_mult1 (i : grid0.Coords) (k0_t1 : Fin (k0_t1_loop i).trips) : BitVec 32 :=
  let c0_i32_18 : BitVec 32 := 0#32
  let c1_i32_19 : BitVec 32 := 1#32
  let arg13 : BitVec 32 := Scf.iv c0_i32_18 c1_i32_19 k0_t1
  let c512_i32_102 : BitVec 32 := 512#32
  let v176 : BitVec 32 := Scalar.muli arg13 c512_i32_102
  v176
def k0_off1 (i : grid0.Coords) (k0_t1 : Fin (k0_t1_loop i).trips) : Fin 3 → Nat :=
  let c0_103 : Index := 0#32
  let c0_i32_18 : BitVec 32 := 0#32
  let c1_i32_19 : BitVec 32 := 1#32
  let arg13 : BitVec 32 := Scf.iv c0_i32_18 c1_i32_19 k0_t1
  let c512_i32_102 : BitVec 32 := 512#32
  let v176 : BitVec 32 := Scalar.muli arg13 c512_i32_102
  let v177 : BitVec 32 := v176
  let v178 : Index := Scalar.indexCast v177
  let c0_104 : Index := 0#32
  ![0, v178.toNat, 0]
def k0_off2 (i : grid0.Coords) (k0_t1 : Fin (k0_t1_loop i).trips) : Fin 4 → Nat :=
  let c0_107 : Index := 0#32
  let c0_108 : Index := 0#32
  let c0_109 : Index := 0#32
  let c0_i32_18 : BitVec 32 := 0#32
  let c1_i32_19 : BitVec 32 := 1#32
  let arg13 : BitVec 32 := Scf.iv c0_i32_18 c1_i32_19 k0_t1
  let c512_i32_102 : BitVec 32 := 512#32
  let v176 : BitVec 32 := Scalar.muli arg13 c512_i32_102
  let v177 : BitVec 32 := v176
  let v184 : Index := Scalar.indexCast v177
  ![0, 0, 0, v184.toNat]
def k0_off3 (i : grid0.Coords) (k0_t1 : Fin (k0_t1_loop i).trips) : Fin 4 → Nat :=
  let c0_132 : Index := 0#32
  let c0_133 : Index := 0#32
  let c1_134 : Index := 1#32
  let c0_i32_18 : BitVec 32 := 0#32
  let c1_i32_19 : BitVec 32 := 1#32
  let arg13 : BitVec 32 := Scf.iv c0_i32_18 c1_i32_19 k0_t1
  let c512_i32_102 : BitVec 32 := 512#32
  let v176 : BitVec 32 := Scalar.muli arg13 c512_i32_102
  let v177 : BitVec 32 := v176
  let v224 : Index := Scalar.indexCast v177
  ![0, 0, 1, v224.toNat]
@[reducible] def k0_t2_loop (i : grid0.Coords) : Scf.Loop 32 :=
  let c0_i32_18 : BitVec 32 := 0#32
  let arg2 : BitVec 32 := BitVec.ofNat 32 (i 2).val
  let v25 : BitVec 32 := Scalar.subi arg2 c0_i32_18
  let c1_i32 : BitVec 32 := 1#32
  let v27 : BitVec 32 := Scalar.divsi v25 c1_i32
  let v28 : BitVec 32 := Scalar.muli v27 c1_i32
  let v29 : BitVec 32 := Scalar.addi c0_i32_18 v28
  let v26 : BitVec 32 := Scalar.addi c0_i32_18 v25
  let c1_i32_20 : BitVec 32 := 1#32
  ⟨v29, v26, c1_i32_20⟩
def k0_mult2 (i : grid0.Coords) (k0_t2 : Fin (k0_t2_loop i).trips) : BitVec 32 :=
  let c0_i32_18 : BitVec 32 := 0#32
  let arg2 : BitVec 32 := BitVec.ofNat 32 (i 2).val
  let v25 : BitVec 32 := Scalar.subi arg2 c0_i32_18
  let c1_i32 : BitVec 32 := 1#32
  let v27 : BitVec 32 := Scalar.divsi v25 c1_i32
  let v28 : BitVec 32 := Scalar.muli v27 c1_i32
  let v29 : BitVec 32 := Scalar.addi c0_i32_18 v28
  let c1_i32_20 : BitVec 32 := 1#32
  let arg13 : BitVec 32 := Scf.iv v29 c1_i32_20 k0_t2
  let c512_i32_102 : BitVec 32 := 512#32
  let v176 : BitVec 32 := Scalar.muli arg13 c512_i32_102
  v176
def k0_off4 (i : grid0.Coords) (k0_t2 : Fin (k0_t2_loop i).trips) : Fin 3 → Nat :=
  let c0_103 : Index := 0#32
  let c0_i32_18 : BitVec 32 := 0#32
  let arg2 : BitVec 32 := BitVec.ofNat 32 (i 2).val
  let v25 : BitVec 32 := Scalar.subi arg2 c0_i32_18
  let c1_i32 : BitVec 32 := 1#32
  let v27 : BitVec 32 := Scalar.divsi v25 c1_i32
  let v28 : BitVec 32 := Scalar.muli v27 c1_i32
  let v29 : BitVec 32 := Scalar.addi c0_i32_18 v28
  let c1_i32_20 : BitVec 32 := 1#32
  let arg13 : BitVec 32 := Scf.iv v29 c1_i32_20 k0_t2
  let c512_i32_102 : BitVec 32 := 512#32
  let v176 : BitVec 32 := Scalar.muli arg13 c512_i32_102
  let v177 : BitVec 32 := v176
  let v178 : Index := Scalar.indexCast v177
  let c0_104 : Index := 0#32
  ![0, v178.toNat, 0]
def k0_off5 (i : grid0.Coords) (k0_t2 : Fin (k0_t2_loop i).trips) : Fin 4 → Nat :=
  let c0_107 : Index := 0#32
  let c0_108 : Index := 0#32
  let c0_109 : Index := 0#32
  let c0_i32_18 : BitVec 32 := 0#32
  let arg2 : BitVec 32 := BitVec.ofNat 32 (i 2).val
  let v25 : BitVec 32 := Scalar.subi arg2 c0_i32_18
  let c1_i32 : BitVec 32 := 1#32
  let v27 : BitVec 32 := Scalar.divsi v25 c1_i32
  let v28 : BitVec 32 := Scalar.muli v27 c1_i32
  let v29 : BitVec 32 := Scalar.addi c0_i32_18 v28
  let c1_i32_20 : BitVec 32 := 1#32
  let arg13 : BitVec 32 := Scf.iv v29 c1_i32_20 k0_t2
  let c512_i32_102 : BitVec 32 := 512#32
  let v176 : BitVec 32 := Scalar.muli arg13 c512_i32_102
  let v177 : BitVec 32 := v176
  let v184 : Index := Scalar.indexCast v177
  ![0, 0, 0, v184.toNat]
def k0_off6 (i : grid0.Coords) (k0_t2 : Fin (k0_t2_loop i).trips) : Fin 4 → Nat :=
  let c0_132 : Index := 0#32
  let c0_133 : Index := 0#32
  let c1_134 : Index := 1#32
  let c0_i32_18 : BitVec 32 := 0#32
  let arg2 : BitVec 32 := BitVec.ofNat 32 (i 2).val
  let v25 : BitVec 32 := Scalar.subi arg2 c0_i32_18
  let c1_i32 : BitVec 32 := 1#32
  let v27 : BitVec 32 := Scalar.divsi v25 c1_i32
  let v28 : BitVec 32 := Scalar.muli v27 c1_i32
  let v29 : BitVec 32 := Scalar.addi c0_i32_18 v28
  let c1_i32_20 : BitVec 32 := 1#32
  let arg13 : BitVec 32 := Scf.iv v29 c1_i32_20 k0_t2
  let c512_i32_102 : BitVec 32 := 512#32
  let v176 : BitVec 32 := Scalar.muli arg13 c512_i32_102
  let v177 : BitVec 32 := v176
  let v224 : Index := Scalar.indexCast v177
  ![0, 0, 1, v224.toNat]
def k0_mult3 (i : grid0.Coords) : BitVec 32 :=
  let arg2 : BitVec 32 := BitVec.ofNat 32 (i 2).val
  let c512_i32 : BitVec 32 := 512#32
  let v30 : BitVec 32 := Scalar.muli arg2 c512_i32
  v30
def k0_off7 (i : grid0.Coords) : Fin 3 → Nat :=
  let c0_21 : Index := 0#32
  let arg2 : BitVec 32 := BitVec.ofNat 32 (i 2).val
  let c512_i32 : BitVec 32 := 512#32
  let v30 : BitVec 32 := Scalar.muli arg2 c512_i32
  let v31 : BitVec 32 := v30
  let v32 : Index := Scalar.indexCast v31
  let c0_22 : Index := 0#32
  ![0, v32.toNat, 0]
def k0_off8 (i : grid0.Coords) : Fin 4 → Nat :=
  let c0_25 : Index := 0#32
  let c0_26 : Index := 0#32
  let c0_27 : Index := 0#32
  let arg2 : BitVec 32 := BitVec.ofNat 32 (i 2).val
  let c512_i32 : BitVec 32 := 512#32
  let v30 : BitVec 32 := Scalar.muli arg2 c512_i32
  let v31 : BitVec 32 := v30
  let v38 : Index := Scalar.indexCast v31
  ![0, 0, 0, v38.toNat]
def k0_off9 (i : grid0.Coords) : Fin 4 → Nat :=
  let c0_51 : Index := 0#32
  let c0_52 : Index := 0#32
  let c1 : Index := 1#32
  let arg2 : BitVec 32 := BitVec.ofNat 32 (i 2).val
  let c512_i32 : BitVec 32 := 512#32
  let v30 : BitVec 32 := Scalar.muli arg2 c512_i32
  let v31 : BitVec 32 := v30
  let v83 : Index := Scalar.indexCast v31
  ![0, 0, 1, v83.toNat]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat, arg2.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x1x8x8192 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, false]

abbrev stage0_6 : Fin 2 → Memref sig .tc .vmem S1x512x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== ReferenceIdeal.lean ====
abbrev S4x8192x512 : Shape := ⟨3, ![4, 8192, 512]⟩
abbrev S4x4x8x8192 : Shape := ⟨4, ![4, 4, 8, 8192]⟩
abbrev S1x512 : Shape := ⟨2, ![1, 512]⟩
abbrev S4x8192x8x64 : Shape := ⟨4, ![4, 8192, 8, 64]⟩
abbrev S4x8x8192x64 : Shape := ⟨4, ![4, 8, 8192, 64]⟩
abbrev S4x4x2x8192 : Shape := ⟨4, ![4, 4, 2, 8192]⟩
abbrev S4x8x8192 : Shape := ⟨3, ![4, 8, 8192]⟩
abbrev S8192 : Shape := ⟨1, ![8192]⟩
abbrev S4x8x8192x8192 : Shape := ⟨4, ![4, 8, 8192, 8192]⟩
abbrev S4x8x8192x1 : Shape := ⟨4, ![4, 8, 8192, 1]⟩
abbrev S4x8x1x8192 : Shape := ⟨4, ![4, 8, 1, 8192]⟩
abbrev S1x8192 : Shape := ⟨2, ![1, 8192]⟩
abbrev S8192x1 : Shape := ⟨2, ![8192, 1]⟩
abbrev S8192x8192 : Shape := ⟨2, ![8192, 8192]⟩
abbrev S_ : Shape := ⟨0, ![]⟩
abbrev S4x8192x8 : Shape := ⟨3, ![4, 8192, 8]⟩
abbrev S4x8192x8x1 : Shape := ⟨4, ![4, 8192, 8, 1]⟩
abbrev S8x64 : Shape := ⟨2, ![8, 64]⟩
abbrev S1x1x8x64 : Shape := ⟨4, ![1, 1, 8, 64]⟩

abbrev nBuf : Space → Nat
  | .hbm => 69
  | .vmem => 0
  | .smem => 0
  | _ => 0

abbrev bufTy : (tb : Table) → Fin (tcTables nBuf tb) → BufTy
  | .hbm, ⟨0, _⟩ => ⟨S4x8192x512, .bf16⟩
  | .hbm, ⟨1, _⟩ => ⟨S4x8192x512, .bf16⟩
  | .hbm, ⟨2, _⟩ => ⟨S4x8192x512, .bf16⟩
  | .hbm, ⟨3, _⟩ => ⟨S4x4x8x8192, .f32⟩
  | .hbm, ⟨4, _⟩ => ⟨S1x512, .f32⟩
  | .hbm, ⟨5, _⟩ => ⟨S4x8192x512, .f32⟩
  | .hbm, ⟨6, _⟩ => ⟨S4x8192x8x64, .f32⟩
  | .hbm, ⟨7, _⟩ => ⟨S4x8x8192x64, .f32⟩
  | .hbm, ⟨8, _⟩ => ⟨S4x8192x512, .f32⟩
  | .hbm, ⟨9, _⟩ => ⟨S4x8192x8x64, .f32⟩
  | .hbm, ⟨10, _⟩ => ⟨S4x8x8192x64, .f32⟩
  | .hbm, ⟨11, _⟩ => ⟨S4x8192x512, .f32⟩
  | .hbm, ⟨12, _⟩ => ⟨S4x8192x8x64, .f32⟩
  | .hbm, ⟨13, _⟩ => ⟨S4x8x8192x64, .f32⟩
  | .hbm, ⟨14, _⟩ => ⟨S4x4x2x8192, .f32⟩
  | .hbm, ⟨15, _⟩ => ⟨S4x8x8192, .f32⟩
  | .hbm, ⟨16, _⟩ => ⟨S8192, .i32⟩
  | .hbm, ⟨17, _⟩ => ⟨S4x8x8192x8192, .f32⟩
  | .hbm, ⟨18, _⟩ => ⟨S4x8x8192x1, .f32⟩
  | .hbm, ⟨19, _⟩ => ⟨S4x8x8192x8192, .f32⟩
  | .hbm, ⟨20, _⟩ => ⟨S4x8x8192x8192, .f32⟩
  | .hbm, ⟨21, _⟩ => ⟨S4x8x1x8192, .f32⟩
  | .hbm, ⟨22, _⟩ => ⟨S4x8x8192x8192, .f32⟩
  | .hbm, ⟨23, _⟩ => ⟨S4x8x8192x8192, .f32⟩
  | .hbm, ⟨24, _⟩ => ⟨S1x8192, .i32⟩
  | .hbm, ⟨25, _⟩ => ⟨S8192x1, .i32⟩
  | .hbm, ⟨26, _⟩ => ⟨S8192x8192, .i32⟩
  | .hbm, ⟨27, _⟩ => ⟨S8192x8192, .i32⟩
  | .hbm, ⟨28, _⟩ => ⟨S8192x8192, .i1⟩
  | .hbm, ⟨29, _⟩ => ⟨S_, .f32⟩
  | .hbm, ⟨30, _⟩ => ⟨S_, .f32⟩
  | .hbm, ⟨31, _⟩ => ⟨S4x8x8192x8192, .i1⟩
  | .hbm, ⟨32, _⟩ => ⟨S4x8x8192x8192, .f32⟩
  | .hbm, ⟨33, _⟩ => ⟨S4x8x8192x8192, .f32⟩
  | .hbm, ⟨34, _⟩ => ⟨S_, .f32⟩
  | .hbm, ⟨35, _⟩ => ⟨S4x8x8192, .f32⟩
  | .hbm, ⟨36, _⟩ => ⟨S_, .f32⟩
  | .hbm, ⟨37, _⟩ => ⟨S4x8x8192, .f32⟩
  | .hbm, ⟨38, _⟩ => ⟨S4x8x8192, .f32⟩
  | .hbm, ⟨39, _⟩ => ⟨S4x8x8192x1, .f32⟩
  | .hbm, ⟨40, _⟩ => ⟨S4x8x8192x8192, .f32⟩
  | .hbm, ⟨41, _⟩ => ⟨S4x8x8192x8192, .f32⟩
  | .hbm, ⟨42, _⟩ => ⟨S4x8x8192x8192, .f32⟩
  | .hbm, ⟨43, _⟩ => ⟨S_, .f32⟩
  | .hbm, ⟨44, _⟩ => ⟨S4x8x8192, .f32⟩
  | .hbm, ⟨45, _⟩ => ⟨S4x8x8192x1, .f32⟩
  | .hbm, ⟨46, _⟩ => ⟨S4x8x8192x8192, .f32⟩
  | .hbm, ⟨47, _⟩ => ⟨S4x8x8192x8192, .f32⟩
  | .hbm, ⟨48, _⟩ => ⟨S4x8x8192x64, .f32⟩
  | .hbm, ⟨49, _⟩ => ⟨S4x8192x8x64, .f32⟩
  | .hbm, ⟨50, _⟩ => ⟨S4x8192x8x64, .f32⟩
  | .hbm, ⟨51, _⟩ => ⟨S_, .f32⟩
  | .hbm, ⟨52, _⟩ => ⟨S4x8192x8, .f32⟩
  | .hbm, ⟨53, _⟩ => ⟨S4x8192x8x1, .f32⟩
  | .hbm, ⟨54, _⟩ => ⟨S_, .f32⟩
  | .hbm, ⟨55, _⟩ => ⟨S4x8192x8x1, .f32⟩
  | .hbm, ⟨56, _⟩ => ⟨S4x8192x8x1, .f32⟩
  | .hbm, ⟨57, _⟩ => ⟨S_, .f32⟩
  | .hbm, ⟨58, _⟩ => ⟨S4x8192x8x1, .f32⟩
  | .hbm, ⟨59, _⟩ => ⟨S4x8192x8x1, .f32⟩
  | .hbm, ⟨60, _⟩ => ⟨S4x8192x8x1, .f32⟩
  | .hbm, ⟨61, _⟩ => ⟨S4x8192x8x64, .f32⟩
  | .hbm, ⟨62, _⟩ => ⟨S4x8192x8x64, .f32⟩
  | .hbm, ⟨63, _⟩ => ⟨S8x64, .f32⟩
  | .hbm, ⟨64, _⟩ => ⟨S1x1x8x64, .f32⟩
  | .hbm, ⟨65, _⟩ => ⟨S4x8192x8x64, .f32⟩
  | .hbm, ⟨66, _⟩ => ⟨S4x8192x8x64, .f32⟩
  | .hbm, ⟨67, _⟩ => ⟨S4x8192x512, .f32⟩
  | .hbm, ⟨68, _⟩ => ⟨S4x8192x512, .bf16⟩
  | _, _ => ⟨S4x8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_cst : Ref sig .tc := ⟨.hbm, 29, rfl⟩
abbrev main_call0_v0 : Ref sig .tc := ⟨.hbm, 30, rfl⟩
abbrev main_call0_v1 : Ref sig .tc := ⟨.hbm, 31, rfl⟩
abbrev main_call0_v2 : Ref sig .tc := ⟨.hbm, 32, rfl⟩
abbrev main_v24 : Ref sig .tc := ⟨.hbm, 33, rfl⟩
abbrev main_cst_0 : Ref sig .tc := ⟨.hbm, 34, rfl⟩
abbrev main_v25 : Ref sig .tc := ⟨.hbm, 35, rfl⟩
abbrev main_cst_1 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_2 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_cst_3 : Ref sig .tc := ⟨.hbm, 51, rfl⟩
abbrev main_v39 : Ref sig .tc := ⟨.hbm, 52, rfl⟩
abbrev main_v40 : Ref sig .tc := ⟨.hbm, 53, rfl⟩
abbrev main_cst_4 : Ref sig .tc := ⟨.hbm, 54, rfl⟩
abbrev main_v41 : Ref sig .tc := ⟨.hbm, 55, rfl⟩
abbrev main_v42 : Ref sig .tc := ⟨.hbm, 56, rfl⟩
abbrev main_cst_5 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩

abbrev nD : Nat := 1
abbrev τ : Topo := Topo.v7x

variable {F : FTy → Type} [FloatOps F]
-- ==== Kernel2.lean ====
abbrev S32768x1024 : Shape := ⟨2, ![32768, 1024]⟩
abbrev S11x1024x256 : Shape := ⟨3, ![11, 1024, 256]⟩
abbrev S2x11x8x256 : Shape := ⟨4, ![2, 11, 8, 256]⟩
abbrev S11x256x1024 : Shape := ⟨3, ![11, 256, 1024]⟩
abbrev S1x1024 : Shape := ⟨2, ![1, 1024]⟩
abbrev S512x1024 : Shape := ⟨2, ![512, 1024]⟩
abbrev S8x1024 : Shape := ⟨2, ![8, 1024]⟩
abbrev S520x1024 : Shape := ⟨2, ![520, 1024]⟩
abbrev S1x1024x256 : Shape := ⟨3, ![1, 1024, 256]⟩
abbrev S1024x256 : Shape := ⟨2, ![1024, 256]⟩
abbrev S520x256 : Shape := ⟨2, ![520, 256]⟩
abbrev S1x1x8x256 : Shape := ⟨4, ![1, 1, 8, 256]⟩
abbrev S8x256 : Shape := ⟨2, ![8, 256]⟩
abbrev S1x256 : Shape := ⟨2, ![1, 256]⟩
abbrev S512x256 : Shape := ⟨2, ![512, 256]⟩
abbrev S1x256x1024 : Shape := ⟨3, ![1, 256, 1024]⟩
abbrev S256x1024 : Shape := ⟨2, ![256, 1024]⟩
abbrev S512 : Shape := ⟨1, ![512]⟩
abbrev S512x1 : Shape := ⟨2, ![512, 1]⟩

abbrev nBuf : Space → Nat
  | .hbm => 8
  | .vmem => 13
  | .smem => 0
  | _ => 0

abbrev bufTy : (tb : Table) → Fin (tcTables nBuf tb) → BufTy
  | .hbm, ⟨0, _⟩ => ⟨S32768x1024, .f32⟩
  | .hbm, ⟨1, _⟩ => ⟨S11x1024x256, .bf16⟩
  | .hbm, ⟨2, _⟩ => ⟨S11x1024x256, .bf16⟩
  | .hbm, ⟨3, _⟩ => ⟨S2x11x8x256, .f32⟩
  | .hbm, ⟨4, _⟩ => ⟨S11x256x1024, .bf16⟩
  | .hbm, ⟨5, _⟩ => ⟨S1x1024, .f32⟩
  | .hbm, ⟨6, _⟩ => ⟨S1x1024, .f32⟩
  | .hbm, ⟨7, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S8x1024, .f32⟩
  | .local _ .vmem, ⟨3, _⟩ => ⟨S8x1024, .f32⟩
  | .local _ .vmem, ⟨4, _⟩ => ⟨S11x1024x256, .bf16⟩
  | .local _ .vmem, ⟨5, _⟩ => ⟨S11x1024x256, .bf16⟩
  | .local _ .vmem, ⟨6, _⟩ => ⟨S2x11x8x256, .f32⟩
  | .local _ .vmem, ⟨7, _⟩ => ⟨S11x256x1024, .bf16⟩
  | .local _ .vmem, ⟨8, _⟩ => ⟨S1x1024, .f32⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![64], ![false]⟩

@[reducible] def k0_t1_loop : Scf.Loop 32 :=
  let c0_i32_10 : BitVec 32 := 0#32
  let c11_i32 : BitVec 32 := 11#32
  let v21 : BitVec 32 := Scalar.addi c0_i32_10 c11_i32
  let c1_i32_11 : BitVec 32 := 1#32
  ⟨c0_i32_10, v21, c1_i32_11⟩
def k0_off1 (k0_t1 : Fin k0_t1_loop.trips) : Fin 3 → Nat :=
  let c0_i32_10 : BitVec 32 := 0#32
  let c1_i32_11 : BitVec 32 := 1#32
  let arg11 : BitVec 32 := Scf.iv c0_i32_10 c1_i32_11 k0_t1
  let v49 : Index := Scalar.indexCast arg11
  let c0_27 : Index := 0#32
  let c0_28 : Index := 0#32
  ![v49.toNat, 0, 0]
def k0_off2 (k0_t1 : Fin k0_t1_loop.trips) : Fin 4 → Nat :=
  let c0_33 : Index := 0#32
  let c0_i32_10 : BitVec 32 := 0#32
  let c1_i32_11 : BitVec 32 := 1#32
  let arg11 : BitVec 32 := Scf.iv c0_i32_10 c1_i32_11 k0_t1
  let v57 : Index := Scalar.indexCast arg11
  let c0_34 : Index := 0#32
  let c0_35 : Index := 0#32
  ![0, v57.toNat, 0, 0]
def k0_off3 (k0_t1 : Fin k0_t1_loop.trips) : Fin 4 → Nat :=
  let c1 : Index := 1#32
  let c0_i32_10 : BitVec 32 := 0#32
  let c1_i32_11 : BitVec 32 := 1#32
  let arg11 : BitVec 32 := Scf.iv c0_i32_10 c1_i32_11 k0_t1
  let v77 : Index := Scalar.indexCast arg11
  let c0_36 : Index := 0#32
  let c0_37 : Index := 0#32
  ![1, v77.toNat, 0, 0]
def k0_off4 (k0_t1 : Fin k0_t1_loop.trips) : Fin 3 → Nat :=
  let c0_i32_10 : BitVec 32 := 0#32
  let c1_i32_11 : BitVec 32 := 1#32
  let arg11 : BitVec 32 := Scf.iv c0_i32_10 c1_i32_11 k0_t1
  let v108 : Index := Scalar.indexCast arg11
  let c0_43 : Index := 0#32
  let c0_44 : Index := 0#32
  ![v108.toNat, 0, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S11x1024x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S11x1024x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2x11x8x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S11x256x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference2Ideal.lean ====
abbrev S32768x1024 : Shape := ⟨2, ![32768, 1024]⟩
abbrev S11x1024x256 : Shape := ⟨3, ![11, 1024, 256]⟩
abbrev S2x11x8x256 : Shape := ⟨4, ![2, 11, 8, 256]⟩
abbrev S11x256x1024 : Shape := ⟨3, ![11, 256, 1024]⟩
abbrev S1x1024 : Shape := ⟨2, ![1, 1024]⟩
abbrev S4x8192x1024 : Shape := ⟨3, ![4, 8192, 1024]⟩
abbrev S1x11x8x256 : Shape := ⟨4, ![1, 11, 8, 256]⟩
abbrev S11x8x256 : Shape := ⟨3, ![11, 8, 256]⟩
abbrev S1024x11x256 : Shape := ⟨3, ![1024, 11, 256]⟩
abbrev S1024x2816 : Shape := ⟨2, ![1024, 2816]⟩
abbrev S8x11x256 : Shape := ⟨3, ![8, 11, 256]⟩
abbrev S8x2816 : Shape := ⟨2, ![8, 2816]⟩
abbrev S4x8192x2816 : Shape := ⟨3, ![4, 8192, 2816]⟩
abbrev S_ : Shape := ⟨0, ![]⟩
abbrev S4x8194x2816 : Shape := ⟨3, ![4, 8194, 2816]⟩
abbrev S1x2816 : Shape := ⟨2, ![1, 2816]⟩
abbrev S2816 : Shape := ⟨1, ![2816]⟩
abbrev S1x1x2816 : Shape := ⟨3, ![1, 1, 2816]⟩
abbrev S2816x1024 : Shape := ⟨2, ![2816, 1024]⟩
abbrev S4x8192 : Shape := ⟨2, ![4, 8192]⟩
abbrev S4x8192x1 : Shape := ⟨3, ![4, 8192, 1]⟩
abbrev S1024 : Shape := ⟨1, ![1024]⟩
abbrev S1x1x1024 : Shape := ⟨3, ![1, 1, 1024]⟩

abbrev nBuf : Space → Nat
  | .hbm => 129
  | .vmem => 0
  | .smem => 0
  | _ => 0

abbrev hbmTy0_0 (i : Nat) : BufTy := match i % 128 with
  | 0 => ⟨S32768x1024, .f32⟩
  | 1 => ⟨S11x1024x256, .bf16⟩
  | 2 => ⟨S11x1024x256, .bf16⟩
  | 3 => ⟨S2x11x8x256, .f32⟩
  | 4 => ⟨S11x256x1024, .bf16⟩
  | 5 => ⟨S1x1024, .f32⟩
  | 6 => ⟨S1x1024, .f32⟩
  | 7 => ⟨S4x8192x1024, .f32⟩
  | 8 => ⟨S1x11x8x256, .f32⟩
  | 9 => ⟨S11x8x256, .f32⟩
  | 10 => ⟨S11x1024x256, .f32⟩
  | 11 => ⟨S1024x11x256, .f32⟩
  | 12 => ⟨S1024x2816, .f32⟩
  | 13 => ⟨S8x11x256, .f32⟩
  | 14 => ⟨S8x2816, .f32⟩
  | 15 => ⟨S4x8192x2816, .f32⟩
  | 16 => ⟨S_, .i32⟩
  | 17 => ⟨S_, .f32⟩
  | 18 => ⟨S4x8194x2816, .f32⟩
  | 19 => ⟨S1x2816, .f32⟩
  | 20 => ⟨S2816, .f32⟩
  | 21 => ⟨S1x2816, .f32⟩
  | 22 => ⟨S2816, .f32⟩
  | 23 => ⟨S4x8192x2816, .f32⟩
  | 24 => ⟨S1x1x2816, .f32⟩
  | 25 => ⟨S4x8192x2816, .f32⟩
  | 26 => ⟨S4x8192x2816, .f32⟩
  | 27 => ⟨S1x1x2816, .f32⟩
  | 28 => ⟨S4x8192x2816, .f32⟩
  | 29 => ⟨S4x8192x2816, .f32⟩
  | 30 => ⟨S1x2816, .f32⟩
  | 31 => ⟨S2816, .f32⟩
  | 32 => ⟨S4x8192x2816, .f32⟩
  | 33 => ⟨S1x1x2816, .f32⟩
  | 34 => ⟨S4x8192x2816, .f32⟩
  | 35 => ⟨S4x8192x2816, .f32⟩
  | 36 => ⟨S4x8192x2816, .f32⟩
  | 37 => ⟨S1x2816, .f32⟩
  | 38 => ⟨S2816, .f32⟩
  | 39 => ⟨S4x8192x2816, .f32⟩
  | 40 => ⟨S1x1x2816, .f32⟩
  | 41 => ⟨S4x8192x2816, .f32⟩
  | 42 => ⟨S4x8192x2816, .f32⟩
  | 43 => ⟨S4x8192x2816, .f32⟩
  | 44 => ⟨S1x11x8x256, .f32⟩
  | 45 => ⟨S11x8x256, .f32⟩
  | 46 => ⟨S11x1024x256, .f32⟩
  | 47 => ⟨S1024x11x256, .f32⟩
  | 48 => ⟨S1024x2816, .f32⟩
  | 49 => ⟨S8x11x256, .f32⟩
  | 50 => ⟨S8x2816, .f32⟩
  | 51 => ⟨S4x8192x2816, .f32⟩
  | 52 => ⟨S_, .i32⟩
  | 53 => ⟨S_, .f32⟩
  | 54 => ⟨S4x8194x2816, .f32⟩
  | 55 => ⟨S1x2816, .f32⟩
  | 56 => ⟨S2816, .f32⟩
  | 57 => ⟨S1x2816, .f32⟩
  | 58 => ⟨S2816, .f32⟩
  | 59 => ⟨S4x8192x2816, .f32⟩
  | 60 => ⟨S1x1x2816, .f32⟩
  | 61 => ⟨S4x8192x2816, .f32⟩
  | 62 => ⟨S4x8192x2816, .f32⟩
  | 63 => ⟨S1x1x2816, .f32⟩
  | 64 => ⟨S4x8192x2816, .f32⟩
  | 65 => ⟨S4x8192x2816, .f32⟩
  | 66 => ⟨S1x2816, .f32⟩
  | 67 => ⟨S2816, .f32⟩
  | 68 => ⟨S4x8192x2816, .f32⟩
  | 69 => ⟨S1x1x2816, .f32⟩
  | 70 => ⟨S4x8192x2816, .f32⟩
  | 71 => ⟨S4x8192x2816, .f32⟩
  | 72 => ⟨S4x8192x2816, .f32⟩
  | 73 => ⟨S1x2816, .f32⟩
  | 74 => ⟨S2816, .f32⟩
  | 75 => ⟨S4x8192x2816, .f32⟩
  | 76 => ⟨S1x1x2816, .f32⟩
  | 77 => ⟨S4x8192x2816, .f32⟩
  | 78 => ⟨S4x8192x2816, .f32⟩
  | 79 => ⟨S4x8192x2816, .f32⟩
  | 80 => ⟨S_, .f32⟩
  | 81 => ⟨S4x8192x2816, .f32⟩
  | 82 => ⟨S4x8192x2816, .f32⟩
  | 83 => ⟨S4x8192x2816, .f32⟩
  | 84 => ⟨S_, .f32⟩
  | 85 => ⟨S4x8192x2816, .f32⟩
  | 86 => ⟨S4x8192x2816, .f32⟩
  | 87 => ⟨S4x8192x2816, .f32⟩
  | 88 => ⟨S4x8192x2816, .f32⟩
  | 89 => ⟨S4x8192x2816, .f32⟩
  | 90 => ⟨S11x256x1024, .f32⟩
  | 91 => ⟨S2816x1024, .f32⟩
  | 92 => ⟨S4x8192x1024, .f32⟩
  | 93 => ⟨S_, .f32⟩
  | 94 => ⟨S4x8192x1024, .f32⟩
  | 95 => ⟨S4x8192x1024, .f32⟩
  | 96 => ⟨S4x8192x1024, .f32⟩
  | 97 => ⟨S_, .f32⟩
  | 98 => ⟨S4x8192, .f32⟩
  | 99 => ⟨S4x8192x1, .f32⟩
  | 100 => ⟨S_, .f32⟩
  | 101 => ⟨S4x8192x1, .f32⟩
  | 102 => ⟨S4x8192x1, .f32⟩
  | 103 => ⟨S4x8192x1024, .f32⟩
  | 104 => ⟨S4x8192x1024, .f32⟩
  | 105 => ⟨S4x8192x1024, .f32⟩
  | 106 => ⟨S_, .f32⟩
  | 107 => ⟨S4x8192, .f32⟩
  | 108 => ⟨S4x8192x1, .f32⟩
  | 109 => ⟨S_, .f32⟩
  | 110 => ⟨S4x8192x1, .f32⟩
  | 111 => ⟨S4x8192x1, .f32⟩
  | 112 => ⟨S4x8192x1024, .f32⟩
  | 113 => ⟨S4x8192x1024, .f32⟩
  | 114 => ⟨S_, .f32⟩
  | 115 => ⟨S4x8192x1, .f32⟩
  | 116 => ⟨S4x8192x1, .f32⟩
  | 117 => ⟨S4x8192x1, .f32⟩
  | 118 => ⟨S4x8192x1024, .f32⟩
  | 119 => ⟨S4x8192x1024, .f32⟩
  | 120 => ⟨S1024, .f32⟩
  | 121 => ⟨S1x1x1024, .f32⟩
  | 122 => ⟨S4x8192x1024, .f32⟩
  | 123 => ⟨S4x8192x1024, .f32⟩
  | 124 => ⟨S1024, .f32⟩
  | 125 => ⟨S1x1x1024, .f32⟩
  | 126 => ⟨S4x8192x1024, .f32⟩
  | 127 => ⟨S4x8192x1024, .f32⟩
  | _ => ⟨S32768x1024, .f32⟩

abbrev hbmTy0_1 (i : Nat) : BufTy := match i % 128 with
  | 0 => ⟨S32768x1024, .f32⟩
  | _ => ⟨S32768x1024, .f32⟩

abbrev hbmTy (i : Nat) : BufTy := match i / 128 with
  | 0 => hbmTy0_0 i
  | 1 => hbmTy0_1 i
  | _ => ⟨S32768x1024, .f32⟩

abbrev bufTy : (tb : Table) → Fin (tcTables nBuf tb) → BufTy
  | .hbm, ⟨i, _⟩ => hbmTy i
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c : Ref sig .tc := ⟨.hbm, 16, rfl⟩
abbrev main_call0_v0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_c_0 : Ref sig .tc := ⟨.hbm, 52, rfl⟩
abbrev main_call1_v0 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_cst : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_cst_1 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_cst_2 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩
abbrev main_cst_3 : Ref sig .tc := ⟨.hbm, 97, rfl⟩
abbrev main_v83 : Ref sig .tc := ⟨.hbm, 98, rfl⟩
abbrev main_v84 : Ref sig .tc := ⟨.hbm, 99, rfl⟩
abbrev main_cst_4 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_v88 : Ref sig .tc := ⟨.hbm, 104, rfl⟩
abbrev main_v89 : Ref sig .tc := ⟨.hbm, 105, rfl⟩
abbrev main_cst_5 : Ref sig .tc := ⟨.hbm, 106, rfl⟩
abbrev main_v90 : Ref sig .tc := ⟨.hbm, 107, rfl⟩
abbrev main_v91 : Ref sig .tc := ⟨.hbm, 108, rfl⟩
abbrev main_cst_6 : Ref sig .tc := ⟨.hbm, 109, rfl⟩
abbrev main_v92 : Ref sig .tc := ⟨.hbm, 110, rfl⟩
abbrev main_v93 : Ref sig .tc := ⟨.hbm, 111, rfl⟩
abbrev main_v94 : Ref sig .tc := ⟨.hbm, 112, rfl⟩
abbrev main_v95 : Ref sig .tc := ⟨.hbm, 113, rfl⟩
abbrev main_cst_7 : Ref sig .tc := ⟨.hbm, 114, rfl⟩
abbrev main_v96 : Ref sig .tc := ⟨.hbm, 115, rfl⟩
abbrev main_v97 : Ref sig .tc := ⟨.hbm, 116, rfl⟩
abbrev main_v98 : Ref sig .tc := ⟨.hbm, 117, rfl⟩
abbrev main_v99 : Ref sig .tc := ⟨.hbm, 118, rfl⟩
abbrev main_v100 : Ref sig .tc := ⟨.hbm, 119, rfl⟩
abbrev main_v101 : Ref sig .tc := ⟨.hbm, 120, rfl⟩
abbrev main_v102 : Ref sig .tc := ⟨.hbm, 121, rfl⟩
abbrev main_v103 : Ref sig .tc := ⟨.hbm, 122, rfl⟩
abbrev main_v104 : Ref sig .tc := ⟨.hbm, 123, rfl⟩
abbrev main_v105 : Ref sig .tc := ⟨.hbm, 124, rfl⟩
abbrev main_v106 : Ref sig .tc := ⟨.hbm, 125, rfl⟩
abbrev main_v107 : Ref sig .tc := ⟨.hbm, 126, rfl⟩
abbrev main_v108 : Ref sig .tc := ⟨.hbm, 127, rfl⟩
abbrev main_v109 : Ref sig .tc := ⟨.hbm, 128, rfl⟩

abbrev nD : Nat := 1
abbrev τ : Topo := Topo.v7x

variable {F : FTy → Type} [FloatOps F]
-- ==== Kernel3.lean ====
abbrev S32768x512 : Shape := ⟨2, ![32768, 512]⟩
abbrev S32768x1024 : Shape := ⟨2, ![32768, 1024]⟩
abbrev S512x1024 : Shape := ⟨2, ![512, 1024]⟩
abbrev S1x1024 : Shape := ⟨2, ![1, 1024]⟩
abbrev S512x512 : Shape := ⟨2, ![512, 512]⟩
abbrev S512 : Shape := ⟨1, ![512]⟩
abbrev S512x1 : Shape := ⟨2, ![512, 1]⟩

abbrev nBuf : Space → Nat
  | .hbm => 8
  | .vmem => 12
  | .smem => 0
  | _ => 0

abbrev bufTy : (tb : Table) → Fin (tcTables nBuf tb) → BufTy
  | .hbm, ⟨0, _⟩ => ⟨S32768x512, .bf16⟩
  | .hbm, ⟨1, _⟩ => ⟨S32768x512, .bf16⟩
  | .hbm, ⟨2, _⟩ => ⟨S32768x1024, .f32⟩
  | .hbm, ⟨3, _⟩ => ⟨S512x1024, .bf16⟩
  | .hbm, ⟨4, _⟩ => ⟨S512x1024, .bf16⟩
  | .hbm, ⟨5, _⟩ => ⟨S1x1024, .f32⟩
  | .hbm, ⟨6, _⟩ => ⟨S1x1024, .f32⟩
  | .hbm, ⟨7, _⟩ => ⟨S32768x1024, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x1024, .f32⟩
  | .local _ .vmem, ⟨5, _⟩ => ⟨S512x1024, .f32⟩
  | .local _ .vmem, ⟨6, _⟩ => ⟨S512x1024, .bf16⟩
  | .local _ .vmem, ⟨7, _⟩ => ⟨S512x1024, .bf16⟩
  | .local _ .vmem, ⟨8, _⟩ => ⟨S1x1024, .f32⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | _, _ => ⟨S32768x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference3Ideal.lean ====
abbrev S32768x512 : Shape := ⟨2, ![32768, 512]⟩
abbrev S32768x1024 : Shape := ⟨2, ![32768, 1024]⟩
abbrev S512x1024 : Shape := ⟨2, ![512, 1024]⟩
abbrev S1x1024 : Shape := ⟨2, ![1, 1024]⟩
abbrev S1024x1024 : Shape := ⟨2, ![1024, 1024]⟩
abbrev S_ : Shape := ⟨0, ![]⟩
abbrev S32768 : Shape := ⟨1, ![32768]⟩
abbrev S32768x1 : Shape := ⟨2, ![32768, 1]⟩
abbrev S1024 : Shape := ⟨1, ![1024]⟩

abbrev nBuf : Space → Nat
  | .hbm => 47
  | .vmem => 0
  | .smem => 0
  | _ => 0

abbrev bufTy : (tb : Table) → Fin (tcTables nBuf tb) → BufTy
  | .hbm, ⟨0, _⟩ => ⟨S32768x512, .bf16⟩
  | .hbm, ⟨1, _⟩ => ⟨S32768x512, .bf16⟩
  | .hbm, ⟨2, _⟩ => ⟨S32768x1024, .f32⟩
  | .hbm, ⟨3, _⟩ => ⟨S512x1024, .bf16⟩
  | .hbm, ⟨4, _⟩ => ⟨S512x1024, .bf16⟩
  | .hbm, ⟨5, _⟩ => ⟨S1x1024, .f32⟩
  | .hbm, ⟨6, _⟩ => ⟨S1x1024, .f32⟩
  | .hbm, ⟨7, _⟩ => ⟨S32768x1024, .bf16⟩
  | .hbm, ⟨8, _⟩ => ⟨S32768x1024, .f32⟩
  | .hbm, ⟨9, _⟩ => ⟨S1024x1024, .bf16⟩
  | .hbm, ⟨10, _⟩ => ⟨S1024x1024, .f32⟩
  | .hbm, ⟨11, _⟩ => ⟨S32768x1024, .f32⟩
  | .hbm, ⟨12, _⟩ => ⟨S_, .f32⟩
  | .hbm, ⟨13, _⟩ => ⟨S32768x1024, .f32⟩
  | .hbm, ⟨14, _⟩ => ⟨S32768x1024, .f32⟩
  | .hbm, ⟨15, _⟩ => ⟨S32768x1024, .f32⟩
  | .hbm, ⟨16, _⟩ => ⟨S_, .f32⟩
  | .hbm, ⟨17, _⟩ => ⟨S32768, .f32⟩
  | .hbm, ⟨18, _⟩ => ⟨S32768x1, .f32⟩
  | .hbm, ⟨19, _⟩ => ⟨S_, .f32⟩
  | .hbm, ⟨20, _⟩ => ⟨S32768x1, .f32⟩
  | .hbm, ⟨21, _⟩ => ⟨S32768x1, .f32⟩
  | .hbm, ⟨22, _⟩ => ⟨S32768x1024, .f32⟩
  | .hbm, ⟨23, _⟩ => ⟨S32768x1024, .f32⟩
  | .hbm, ⟨24, _⟩ => ⟨S32768x1024, .f32⟩
  | .hbm, ⟨25, _⟩ => ⟨S_, .f32⟩
  | .hbm, ⟨26, _⟩ => ⟨S32768, .f32⟩
  | .hbm, ⟨27, _⟩ => ⟨S32768x1, .f32⟩
  | .hbm, ⟨28, _⟩ => ⟨S_, .f32⟩
  | .hbm, ⟨29, _⟩ => ⟨S32768x1, .f32⟩
  | .hbm, ⟨30, _⟩ => ⟨S32768x1, .f32⟩
  | .hbm, ⟨31, _⟩ => ⟨S32768x1024, .f32⟩
  | .hbm, ⟨32, _⟩ => ⟨S32768x1024, .f32⟩
  | .hbm, ⟨33, _⟩ => ⟨S_, .f32⟩
  | .hbm, ⟨34, _⟩ => ⟨S32768x1, .f32⟩
  | .hbm, ⟨35, _⟩ => ⟨S32768x1, .f32⟩
  | .hbm, ⟨36, _⟩ => ⟨S32768x1, .f32⟩
  | .hbm, ⟨37, _⟩ => ⟨S32768x1024, .f32⟩
  | .hbm, ⟨38, _⟩ => ⟨S32768x1024, .f32⟩
  | .hbm, ⟨39, _⟩ => ⟨S1024, .f32⟩
  | .hbm, ⟨40, _⟩ => ⟨S1x1024, .f32⟩
  | .hbm, ⟨41, _⟩ => ⟨S32768x1024, .f32⟩
  | .hbm, ⟨42, _⟩ => ⟨S32768x1024, .f32⟩
  | .hbm, ⟨43, _⟩ => ⟨S1024, .f32⟩
  | .hbm, ⟨44, _⟩ => ⟨S1x1024, .f32⟩
  | .hbm, ⟨45, _⟩ => ⟨S32768x1024, .f32⟩
  | .hbm, ⟨46, _⟩ => ⟨S32768x1024, .f32⟩
  | _, _ => ⟨S32768x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩

abbrev nD : Nat := 1
abbrev τ : Topo := Topo.v7x

variable {F : FTy → Type} [FloatOps F]
-- ==== Kernel4.lean ====
abbrev S4x8192x1024 : Shape := ⟨3, ![4, 8192, 1024]⟩
abbrev S1x1024 : Shape := ⟨2, ![1, 1024]⟩
abbrev S1024x1536 : Shape := ⟨2, ![1024, 1536]⟩
abbrev S16x1024 : Shape := ⟨2, ![16, 1024]⟩
abbrev S8x1 : Shape := ⟨2, ![8, 1]⟩
abbrev S1024x2048 : Shape := ⟨2, ![1024, 2048]⟩
abbrev S2x512 : Shape := ⟨2, ![2, 512]⟩
abbrev S4x8192x512 : Shape := ⟨3, ![4, 8192, 512]⟩
abbrev S4x4x8x8192 : Shape := ⟨4, ![4, 4, 8, 8192]⟩
abbrev S1x512x1024 : Shape := ⟨3, ![1, 512, 1024]⟩
abbrev S1x512x512 : Shape := ⟨3, ![1, 512, 512]⟩
abbrev S1x4x8x512 : Shape := ⟨4, ![1, 4, 8, 512]⟩
abbrev S8x128 : Shape := ⟨2, ![8, 128]⟩
abbrev S512x1024 : Shape := ⟨2, ![512, 1024]⟩
abbrev S512 : Shape := ⟨1, ![512]⟩
abbrev S512x1 : Shape := ⟨2, ![512, 1]⟩
abbrev S512x1536 : Shape := ⟨2, ![512, 1536]⟩
abbrev S512x512 : Shape := ⟨2, ![512, 512]⟩
abbrev S16x512 : Shape := ⟨2, ![16, 512]⟩
abbrev S8x512 : Shape := ⟨2, ![8, 512]⟩
abbrev S1x1x8x512 : Shape := ⟨4, ![1, 1, 8, 512]⟩
abbrev S512x2048 : Shape := ⟨2, ![512, 2048]⟩

abbrev nBuf : Space → Nat
  | .hbm => 18
  | .vmem => 30
  | .smem => 0
  | _ => 0

abbrev bufTy : (tb : Table) → Fin (tcTables nBuf tb) → BufTy
  | .hbm, ⟨0, _⟩ => ⟨S4x8192x1024, .f32⟩
  | .hbm, ⟨1, _⟩ => ⟨S1x1024, .f32⟩
  | .hbm, ⟨2, _⟩ => ⟨S1x1024, .f32⟩
  | .hbm, ⟨3, _⟩ => ⟨S1024x1536, .bf16⟩
  | .hbm, ⟨4, _⟩ => ⟨S16x1024, .bf16⟩
  | .hbm, ⟨5, _⟩ => ⟨S8x1, .f32⟩
  | .hbm, ⟨6, _⟩ => ⟨S1024x2048, .bf16⟩
  | .hbm, ⟨7, _⟩ => ⟨S2x512, .f32⟩
  | .hbm, ⟨8, _⟩ => ⟨S4x8192x1024, .f32⟩
  | .hbm, ⟨9, _⟩ => ⟨S4x8192x512, .bf16⟩
  | .hbm, ⟨10, _⟩ => ⟨S4x8192x512, .bf16⟩
  | .hbm, ⟨11, _⟩ => ⟨S4x8192x512, .bf16⟩
  | .hbm, ⟨12, _⟩ => ⟨S4x4x8x8192, .f32⟩
  | .hbm, ⟨13, _⟩ => ⟨S4x8192x512, .bf16⟩
  | .hbm, ⟨14, _⟩ => ⟨S4x8192x512, .bf16⟩
  | .hbm, ⟨15, _⟩ => ⟨S4x8192x512, .bf16⟩
  | .hbm, ⟨16, _⟩ => ⟨S4x8192x512, .bf16⟩
  | .hbm, ⟨17, _⟩ => ⟨S4x8192x512, .f32⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1x1024, .f32⟩
  | .local _ .vmem, ⟨4, _⟩ => ⟨S1024x1536, .bf16⟩
  | .local _ .vmem, ⟨5, _⟩ => ⟨S16x1024, .bf16⟩
  | .local _ .vmem, ⟨6, _⟩ => ⟨S8x1, .f32⟩
  | .local _ .vmem, ⟨7, _⟩ => ⟨S1024x2048, .bf16⟩
  | .local _ .vmem, ⟨8, _⟩ => ⟨S2x512, .f32⟩
  | .local _ .vmem, ⟨9, _⟩ => ⟨S1x512x1024, .f32⟩
  | .local _ .vmem, ⟨10, _⟩ => ⟨S1x512x1024, .f32⟩
  | .local _ .vmem, ⟨11, _⟩ => ⟨S1x512x512, .bf16⟩
  | .local _ .vmem, ⟨12, _⟩ => ⟨S1x512x512, .bf16⟩
  | .local _ .vmem, ⟨13, _⟩ => ⟨S1x512x512, .bf16⟩
  | .local _ .vmem, ⟨14, _⟩ => ⟨S1x512x512, .bf16⟩
  | .local _ .vmem, ⟨15, _⟩ => ⟨S1x512x512, .bf16⟩
  | .local _ .vmem, ⟨16, _⟩ => ⟨S1x512x512, .bf16⟩
  | .local _ .vmem, ⟨17, _⟩ => ⟨S1x4x8x512, .f32⟩
  | .local _ .vmem, ⟨18, _⟩ => ⟨S1x4x8x512, .f32⟩
  | .local _ .vmem, ⟨19, _⟩ => ⟨S1x512x512, .bf16⟩
  | .local _ .vmem, ⟨20, _⟩ => ⟨S1x512x512, .bf16⟩
  | .local _ .vmem, ⟨21, _⟩ => ⟨S1x512x512, .bf16⟩
  | .local _ .vmem, ⟨22, _⟩ => ⟨S1x512x512, .bf16⟩
  | .local _ .vmem, ⟨23, _⟩ => ⟨S1x512x512, .bf16⟩
  | .local _ .vmem, ⟨24, _⟩ => ⟨S1x512x512, .bf16⟩
  | .local _ .vmem, ⟨25, _⟩ => ⟨S1x512x512, .bf16⟩
  | .local _ .vmem, ⟨26, _⟩ => ⟨S1x512x512, .bf16⟩
  | .local _ .vmem, ⟨27, _⟩ => ⟨S1x512x512, .f32⟩
  | .local _ .vmem, ⟨28, _⟩ => ⟨S1x512x512, .f32⟩
  | .local _ .vmem, ⟨29, _⟩ => ⟨S8x128, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v0_4 : Ref sig .tc := ⟨.hbm, 12, rfl⟩
abbrev main_v0_5 : Ref sig .tc := ⟨.hbm, 13, rfl⟩
abbrev main_v0_6 : Ref sig .tc := ⟨.hbm, 14, rfl⟩
abbrev main_v0_7 : Ref sig .tc := ⟨.hbm, 15, rfl⟩
abbrev main_v0_8 : Ref sig .tc := ⟨.hbm, 16, rfl⟩
abbrev main_v0_9 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_stg16_1 : Ref sig .tc := ⟨.vmem, 26, rfl⟩
abbrev cc0_stg17_0 : Ref sig .tc := ⟨.vmem, 27, rfl⟩
abbrev cc0_stg17_1 : Ref sig .tc := ⟨.vmem, 28, rfl⟩
abbrev cc0_scratch0 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem15_1 : DmaSem sig := 24
abbrev cc0_sem16_0 : DmaSem sig := 25
abbrev cc0_sem16_1 : DmaSem sig := 26
abbrev cc0_sem17_0 : DmaSem sig := 27
abbrev cc0_sem17_1 : DmaSem sig := 28

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1536 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S16x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S8x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S2x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x4x8x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x512x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x512x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x512x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x512x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x512x512 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]
-- ==== Reference4Ideal.lean ====
abbrev S4x8192x1024 : Shape := ⟨3, ![4, 8192, 1024]⟩
abbrev S1x1024 : Shape := ⟨2, ![1, 1024]⟩
abbrev S1024x1536 : Shape := ⟨2, ![1024, 1536]⟩
abbrev S16x1024 : Shape := ⟨2, ![16, 1024]⟩
abbrev S8x1 : Shape := ⟨2, ![8, 1]⟩
abbrev S1024x2048 : Shape := ⟨2, ![1024, 2048]⟩
abbrev S2x512 : Shape := ⟨2, ![2, 512]⟩
abbrev S_ : Shape := ⟨0, ![]⟩
abbrev S4x8192 : Shape := ⟨2, ![4, 8192]⟩
abbrev S4x8192x1 : Shape := ⟨3, ![4, 8192, 1]⟩
abbrev S1024 : Shape := ⟨1, ![1024]⟩
abbrev S1x1x1024 : Shape := ⟨3, ![1, 1, 1024]⟩
abbrev S4x8192x1536 : Shape := ⟨3, ![4, 8192, 1536]⟩
abbrev S4x8192x512 : Shape := ⟨3, ![4, 8192, 512]⟩
abbrev S8x1024 : Shape := ⟨2, ![8, 1024]⟩
abbrev S1024x8 : Shape := ⟨2, ![1024, 8]⟩
abbrev S4x8192x8 : Shape := ⟨3, ![4, 8192, 8]⟩
abbrev S8 : Shape := ⟨1, ![8]⟩
abbrev S1x1x8 : Shape := ⟨3, ![1, 1, 8]⟩
abbrev S4x8x8192 : Shape := ⟨3, ![4, 8, 8192]⟩
abbrev S4x4x2x8192 : Shape := ⟨4, ![4, 4, 2, 8192]⟩
abbrev S4x4x8x8192 : Shape := ⟨4, ![4, 4, 8, 8192]⟩
abbrev S4x8192x2048 : Shape := ⟨3, ![4, 8192, 2048]⟩
abbrev S512 : Shape := ⟨1, ![512]⟩
abbrev S1x1x512 : Shape := ⟨3, ![1, 1, 512]⟩

abbrev nBuf : Space → Nat
  | .hbm => 150
  | .vmem => 0
  | .smem => 0
  | _ => 0

abbrev hbmTy0_0 (i : Nat) : BufTy := match i % 128 with
  | 0 => ⟨S4x8192x1024, .f32⟩
  | 1 => ⟨S1x1024, .f32⟩
  | 2 => ⟨S1x1024, .f32⟩
  | 3 => ⟨S1024x1536, .bf16⟩
  | 4 => ⟨S16x1024, .bf16⟩
  | 5 => ⟨S8x1, .f32⟩
  | 6 => ⟨S1024x2048, .bf16⟩
  | 7 => ⟨S2x512, .f32⟩
  | 8 => ⟨S_, .f32⟩
  | 9 => ⟨S4x8192, .f32⟩
  | 10 => ⟨S4x8192x1, .f32⟩
  | 11 => ⟨S_, .f32⟩
  | 12 => ⟨S4x8192x1, .f32⟩
  | 13 => ⟨S4x8192x1, .f32⟩
  | 14 => ⟨S4x8192x1024, .f32⟩
  | 15 => ⟨S4x8192x1024, .f32⟩
  | 16 => ⟨S4x8192x1024, .f32⟩
  | 17 => ⟨S_, .f32⟩
  | 18 => ⟨S4x8192, .f32⟩
  | 19 => ⟨S4x8192x1, .f32⟩
  | 20 => ⟨S_, .f32⟩
  | 21 => ⟨S4x8192x1, .f32⟩
  | 22 => ⟨S4x8192x1, .f32⟩
  | 23 => ⟨S4x8192x1024, .f32⟩
  | 24 => ⟨S4x8192x1024, .f32⟩
  | 25 => ⟨S_, .f32⟩
  | 26 => ⟨S4x8192x1, .f32⟩
  | 27 => ⟨S4x8192x1, .f32⟩
  | 28 => ⟨S4x8192x1, .f32⟩
  | 29 => ⟨S4x8192x1024, .f32⟩
  | 30 => ⟨S4x8192x1024, .f32⟩
  | 31 => ⟨S1024, .f32⟩
  | 32 => ⟨S1x1x1024, .f32⟩
  | 33 => ⟨S4x8192x1024, .f32⟩
  | 34 => ⟨S4x8192x1024, .f32⟩
  | 35 => ⟨S1024, .f32⟩
  | 36 => ⟨S1x1x1024, .f32⟩
  | 37 => ⟨S4x8192x1024, .f32⟩
  | 38 => ⟨S4x8192x1024, .f32⟩
  | 39 => ⟨S1024x1536, .f32⟩
  | 40 => ⟨S4x8192x1536, .f32⟩
  | 41 => ⟨S4x8192x512, .f32⟩
  | 42 => ⟨S4x8192x512, .f32⟩
  | 43 => ⟨S4x8192x512, .f32⟩
  | 44 => ⟨S8x1024, .bf16⟩
  | 45 => ⟨S8x1024, .f32⟩
  | 46 => ⟨S1024x8, .f32⟩
  | 47 => ⟨S4x8192x8, .f32⟩
  | 48 => ⟨S8, .f32⟩
  | 49 => ⟨S1x1x8, .f32⟩
  | 50 => ⟨S4x8192x8, .f32⟩
  | 51 => ⟨S4x8192x8, .f32⟩
  | 52 => ⟨S4x8192x8, .f32⟩
  | 53 => ⟨S_, .f32⟩
  | 54 => ⟨S4x8192x8, .f32⟩
  | 55 => ⟨S4x8192x8, .f32⟩
  | 56 => ⟨S4x8192x8, .f32⟩
  | 57 => ⟨S4x8192x8, .f32⟩
  | 58 => ⟨S4x8192x8, .i1⟩
  | 59 => ⟨S4x8192x8, .f32⟩
  | 60 => ⟨S4x8192x8, .f32⟩
  | 61 => ⟨S4x8192x8, .f32⟩
  | 62 => ⟨S4x8192x8, .f32⟩
  | 63 => ⟨S4x8192x8, .f32⟩
  | 64 => ⟨S4x8192x8, .f32⟩
  | 65 => ⟨S4x8192x8, .f32⟩
  | 66 => ⟨S4x8192x8, .f32⟩
  | 67 => ⟨S4x8192x8, .f32⟩
  | 68 => ⟨S4x8x8192, .f32⟩
  | 69 => ⟨S_, .f32⟩
  | 70 => ⟨S_, .f32⟩
  | 71 => ⟨S4x8x8192, .f32⟩
  | 72 => ⟨S4x4x2x8192, .f32⟩
  | 73 => ⟨S_, .i32⟩
  | 74 => ⟨S_, .f32⟩
  | 75 => ⟨S4x4x8x8192, .f32⟩
  | 76 => ⟨S1024x2048, .f32⟩
  | 77 => ⟨S4x8192x2048, .f32⟩
  | 78 => ⟨S4x8192x512, .f32⟩
  | 79 => ⟨S4x8192x512, .f32⟩
  | 80 => ⟨S4x8192x512, .f32⟩
  | 81 => ⟨S4x8192x512, .f32⟩
  | 82 => ⟨S_, .f32⟩
  | 83 => ⟨S512, .f32⟩
  | 84 => ⟨S512, .f32⟩
  | 85 => ⟨S512, .f32⟩
  | 86 => ⟨S512, .f32⟩
  | 87 => ⟨S4x8192x512, .f32⟩
  | 88 => ⟨S_, .f32⟩
  | 89 => ⟨S4x8192x512, .f32⟩
  | 90 => ⟨S4x8192x512, .f32⟩
  | 91 => ⟨S4x8192x512, .f32⟩
  | 92 => ⟨S4x8192x512, .f32⟩
  | 93 => ⟨S4x8192x512, .i1⟩
  | 94 => ⟨S4x8192x512, .f32⟩
  | 95 => ⟨S4x8192x512, .f32⟩
  | 96 => ⟨S4x8192x512, .f32⟩
  | 97 => ⟨S4x8192x512, .f32⟩
  | 98 => ⟨S4x8192x512, .f32⟩
  | 99 => ⟨S4x8192x512, .f32⟩
  | 100 => ⟨S4x8192x512, .f32⟩
  | 101 => ⟨S4x8192x512, .f32⟩
  | 102 => ⟨S4x8192x512, .f32⟩
  | 103 => ⟨S1x1x512, .f32⟩
  | 104 => ⟨S4x8192x512, .f32⟩
  | 105 => ⟨S4x8192x512, .f32⟩
  | 106 => ⟨S1x1x512, .f32⟩
  | 107 => ⟨S4x8192x512, .f32⟩
  | 108 => ⟨S4x8192x512, .f32⟩
  | 109 => ⟨S4x8192x512, .f32⟩
  | 110 => ⟨S4x8192x512, .f32⟩
  | 111 => ⟨S4x8192x512, .i1⟩
  | 112 => ⟨S4x8192x512, .f32⟩
  | 113 => ⟨S4x8192x512, .f32⟩
  | 114 => ⟨S4x8192x512, .f32⟩
  | 115 => ⟨S4x8192x512, .f32⟩
  | 116 => ⟨S4x8192x512, .f32⟩
  | 117 => ⟨S4x8192x512, .f32⟩
  | 118 => ⟨S4x8192x512, .f32⟩
  | 119 => ⟨S4x8192x512, .f32⟩
  | 120 => ⟨S4x8192x512, .f32⟩
  | 121 => ⟨S4x8192x512, .f32⟩
  | 122 => ⟨S_, .f32⟩
  | 123 => ⟨S4x8192x512, .f32⟩
  | 124 => ⟨S4x8192x512, .f32⟩
  | 125 => ⟨S4x8192x512, .bf16⟩
  | 126 => ⟨S4x8192x512, .bf16⟩
  | 127 => ⟨S4x8192x512, .bf16⟩
  | _ => ⟨S4x8192x1024, .f32⟩

abbrev hbmTy0_1 (i : Nat) : BufTy := match i % 128 with
  | 0 => ⟨S4x8192x512, .f32⟩
  | 1 => ⟨S4x8192x512, .f32⟩
  | 2 => ⟨S_, .f32⟩
  | 3 => ⟨S4x8192x512, .f32⟩
  | 4 => ⟨S4x8192x512, .f32⟩
  | 5 => ⟨S_, .f32⟩
  | 6 => ⟨S4x8192x512, .f32⟩
  | 7 => ⟨S4x8192x512, .f32⟩
  | 8 => ⟨S4x8192x512, .f32⟩
  | 9 => ⟨S4x8192x512, .bf16⟩
  | 10 => ⟨S4x8192x512, .bf16⟩
  | 11 => ⟨S4x8192x512, .bf16⟩
  | 12 => ⟨S4x8192x512, .f32⟩
  | 13 => ⟨S4x8192x512, .f32⟩
  | 14 => ⟨S_, .f32⟩
  | 15 => ⟨S4x8192x512, .f32⟩
  | 16 => ⟨S4x8192x512, .f32⟩
  | 17 => ⟨S_, .f32⟩
  | 18 => ⟨S4x8192x512, .f32⟩
  | 19 => ⟨S4x8192x512, .f32⟩
  | 20 => ⟨S4x8192x512, .f32⟩
  | 21 => ⟨S4x8192x512, .bf16⟩
  | _ => ⟨S4x8192x1024, .f32⟩

abbrev hbmTy (i : Nat) : BufTy := match i / 128 with
  | 0 => hbmTy0_0 i
  | 1 => hbmTy0_1 i
  | _ => ⟨S4x8192x1024, .f32⟩

abbrev bufTy : (tb : Table) → Fin (tcTables nBuf tb) → BufTy
  | .hbm, ⟨i, _⟩ => hbmTy i
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_3 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_call0_v0 : Ref sig .tc := ⟨.hbm, 52, rfl⟩
abbrev main_call0_call0_cst : Ref sig .tc := ⟨.hbm, 53, rfl⟩
abbrev main_call0_call0_v0 : Ref sig .tc := ⟨.hbm, 54, rfl⟩
abbrev main_call0_call0_v1 : Ref sig .tc := ⟨.hbm, 55, rfl⟩
abbrev main_call0_call0_v2 : Ref sig .tc := ⟨.hbm, 56, rfl⟩
abbrev main_call0_call0_v3 : Ref sig .tc := ⟨.hbm, 57, rfl⟩
abbrev main_call0_call0_v4 : Ref sig .tc := ⟨.hbm, 58, rfl⟩
abbrev main_call0_call0_v5 : Ref sig .tc := ⟨.hbm, 59, rfl⟩
abbrev main_call0_call0_v6 : Ref sig .tc := ⟨.hbm, 60, rfl⟩
abbrev main_call0_call0_v7 : Ref sig .tc := ⟨.hbm, 61, rfl⟩
abbrev main_call0_call0_v8 : Ref sig .tc := ⟨.hbm, 62, rfl⟩
abbrev main_call0_call0_v9 : Ref sig .tc := ⟨.hbm, 63, rfl⟩
abbrev main_call0_call0_v10 : Ref sig .tc := ⟨.hbm, 64, rfl⟩
abbrev main_call0_call0_v11 : Ref sig .tc := ⟨.hbm, 65, rfl⟩
abbrev main_call0_v1 : Ref sig .tc := ⟨.hbm, 66, rfl⟩
abbrev main_v39 : Ref sig .tc := ⟨.hbm, 67, rfl⟩
abbrev main_v40 : Ref sig .tc := ⟨.hbm, 68, rfl⟩
abbrev main_call1_call0_cst : Ref sig .tc := ⟨.hbm, 69, rfl⟩
abbrev main_call1_call0_v0 : Ref sig .tc := ⟨.hbm, 70, rfl⟩
abbrev main_v41 : Ref sig .tc := ⟨.hbm, 71, rfl⟩
abbrev main_v42 : Ref sig .tc := ⟨.hbm, 72, rfl⟩
abbrev main_c : Ref sig .tc := ⟨.hbm, 73, rfl⟩
abbrev main_call2_v0 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_cst_4 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_call3_v0 : Ref sig .tc := ⟨.hbm, 87, rfl⟩
abbrev main_call3_call0_cst : Ref sig .tc := ⟨.hbm, 88, rfl⟩
abbrev main_call3_call0_v0 : Ref sig .tc := ⟨.hbm, 89, rfl⟩
abbrev main_call3_call0_v1 : Ref sig .tc := ⟨.hbm, 90, rfl⟩
abbrev main_call3_call0_v2 : Ref sig .tc := ⟨.hbm, 91, rfl⟩
abbrev main_call3_call0_v3 : Ref sig .tc := ⟨.hbm, 92, rfl⟩
abbrev main_call3_call0_v4 : Ref sig .tc := ⟨.hbm, 93, rfl⟩
abbrev main_call3_call0_v5 : Ref sig .tc := ⟨.hbm, 94, rfl⟩
abbrev main_call3_call0_v6 : Ref sig .tc := ⟨.hbm, 95, rfl⟩
abbrev main_call3_call0_v7 : Ref sig .tc := ⟨.hbm, 96, rfl⟩
abbrev main_call3_call0_v8 : Ref sig .tc := ⟨.hbm, 97, rfl⟩
abbrev main_call3_call0_v9 : Ref sig .tc := ⟨.hbm, 98, rfl⟩
abbrev main_call3_call0_v10 : Ref sig .tc := ⟨.hbm, 99, rfl⟩
abbrev main_call3_call0_v11 : Ref sig .tc := ⟨.hbm, 100, rfl⟩
abbrev main_call3_v1 : Ref sig .tc := ⟨.hbm, 101, rfl⟩
abbrev main_v54 : Ref sig .tc := ⟨.hbm, 102, rfl⟩
abbrev main_v55 : Ref sig .tc := ⟨.hbm, 103, rfl⟩
abbrev main_v56 : Ref sig .tc := ⟨.hbm, 104, rfl⟩
abbrev main_v57 : Ref sig .tc := ⟨.hbm, 105, rfl⟩
abbrev main_v58 : Ref sig .tc := ⟨.hbm, 106, rfl⟩
abbrev main_v59 : Ref sig .tc := ⟨.hbm, 107, rfl⟩
abbrev main_v60 : Ref sig .tc := ⟨.hbm, 108, rfl⟩
abbrev main_v61 : Ref sig .tc := ⟨.hbm, 109, rfl⟩
abbrev main_v62 : Ref sig .tc := ⟨.hbm, 110, rfl⟩
abbrev main_v63 : Ref sig .tc := ⟨.hbm, 111, rfl⟩
abbrev main_v64 : Ref sig .tc := ⟨.hbm, 112, rfl⟩
abbrev main_v65 : Ref sig .tc := ⟨.hbm, 113, rfl⟩
abbrev main_v66 : Ref sig .tc := ⟨.hbm, 114, rfl⟩
abbrev main_v67 : Ref sig .tc := ⟨.hbm, 115, rfl⟩
abbrev main_v68 : Ref sig .tc := ⟨.hbm, 116, rfl⟩
abbrev main_v69 : Ref sig .tc := ⟨.hbm, 117, rfl⟩
abbrev main_v70 : Ref sig .tc := ⟨.hbm, 118, rfl⟩
abbrev main_v71 : Ref sig .tc := ⟨.hbm, 119, rfl⟩
abbrev main_v72 : Ref sig .tc := ⟨.hbm, 120, rfl⟩
abbrev main_v73 : Ref sig .tc := ⟨.hbm, 121, rfl⟩
abbrev main_cst_5 : Ref sig .tc := ⟨.hbm, 122, rfl⟩
abbrev main_v74 : Ref sig .tc := ⟨.hbm, 123, rfl⟩
abbrev main_v75 : Ref sig .tc := ⟨.hbm, 124, rfl⟩
abbrev main_v76 : Ref sig .tc := ⟨.hbm, 125, rfl⟩
abbrev main_v77 : Ref sig .tc := ⟨.hbm, 126, rfl⟩
abbrev main_v78 : Ref sig .tc := ⟨.hbm, 127, rfl⟩
abbrev main_call4_v0 : Ref sig .tc := ⟨.hbm, 128, rfl⟩
abbrev main_call4_v1 : Ref sig .tc := ⟨.hbm, 129, rfl⟩
abbrev main_call4_cst : Ref sig .tc := ⟨.hbm, 130, rfl⟩
abbrev main_call4_v2 : Ref sig .tc := ⟨.hbm, 131, rfl⟩
abbrev main_call4_v3 : Ref sig .tc := ⟨.hbm, 132, rfl⟩
abbrev main_call4_cst_0 : Ref sig .tc := ⟨.hbm, 133, rfl⟩
abbrev main_call4_v4 : Ref sig .tc := ⟨.hbm, 134, rfl⟩
abbrev main_call4_v5 : Ref sig .tc := ⟨.hbm, 135, rfl⟩
abbrev main_v79 : Ref sig .tc := ⟨.hbm, 136, rfl⟩
abbrev main_v80 : Ref sig .tc := ⟨.hbm, 137, rfl⟩
abbrev main_v81 : Ref sig .tc := ⟨.hbm, 138, rfl⟩
abbrev main_v82 : Ref sig .tc := ⟨.hbm, 139, rfl⟩
abbrev main_call5_v0 : Ref sig .tc := ⟨.hbm, 140, rfl⟩
abbrev main_call5_v1 : Ref sig .tc := ⟨.hbm, 141, rfl⟩
abbrev main_call5_cst : Ref sig .tc := ⟨.hbm, 142, rfl⟩
abbrev main_call5_v2 : Ref sig .tc := ⟨.hbm, 143, rfl⟩
abbrev main_call5_v3 : Ref sig .tc := ⟨.hbm, 144, rfl⟩
abbrev main_call5_cst_0 : Ref sig .tc := ⟨.hbm, 145, rfl⟩
abbrev main_call5_v4 : Ref sig .tc := ⟨.hbm, 146, rfl⟩
abbrev main_call5_v5 : Ref sig .tc := ⟨.hbm, 147, rfl⟩
abbrev main_v83 : Ref sig .tc := ⟨.hbm, 148, rfl⟩
abbrev main_v84 : Ref sig .tc := ⟨.hbm, 149, rfl⟩

abbrev nD : Nat := 1
abbrev τ : Topo := Topo.v7x

variable {F : FTy → Type} [FloatOps F]
-- ==== Kernel5.lean ====
abbrev S4x8192x1024 : Shape := ⟨3, ![4, 8192, 1024]⟩
abbrev S1024x1536 : Shape := ⟨2, ![1024, 1536]⟩
abbrev S16x1024 : Shape := ⟨2, ![16, 1024]⟩
abbrev S8x1 : Shape := ⟨2, ![8, 1]⟩
abbrev S1024x2048 : Shape := ⟨2, ![1024, 2048]⟩
abbrev S2x512 : Shape := ⟨2, ![2, 512]⟩
abbrev S4x8192x512 : Shape := ⟨3, ![4, 8192, 512]⟩
abbrev S4x4x8x8192 : Shape := ⟨4, ![4, 4, 8, 8192]⟩
abbrev S1x512x1024 : Shape := ⟨3, ![1, 512, 1024]⟩
abbrev S1x512x512 : Shape := ⟨3, ![1, 512, 512]⟩
abbrev S1x4x8x512 : Shape := ⟨4, ![1, 4, 8, 512]⟩
abbrev S8x128 : Shape := ⟨2, ![8, 128]⟩
abbrev S512x1024 : Shape := ⟨2, ![512, 1024]⟩
abbrev S512x1536 : Shape := ⟨2, ![512, 1536]⟩
abbrev S512x512 : Shape := ⟨2, ![512, 512]⟩
abbrev S16x512 : Shape := ⟨2, ![16, 512]⟩
abbrev S8x512 : Shape := ⟨2, ![8, 512]⟩
abbrev S1x1x8x512 : Shape := ⟨4, ![1, 1, 8, 512]⟩
abbrev S512x2048 : Shape := ⟨2, ![512, 2048]⟩
abbrev S512 : Shape := ⟨1, ![512]⟩
abbrev S1x512 : Shape := ⟨2, ![1, 512]⟩

abbrev nBuf : Space → Nat
  | .hbm => 15
  | .vmem => 26
  | .smem => 0
  | _ => 0

abbrev bufTy : (tb : Table) → Fin (tcTables nBuf tb) → BufTy
  | .hbm, ⟨0, _⟩ => ⟨S4x8192x1024, .f32⟩
  | .hbm, ⟨1, _⟩ => ⟨S1024x1536, .bf16⟩
  | .hbm, ⟨2, _⟩ => ⟨S16x1024, .bf16⟩
  | .hbm, ⟨3, _⟩ => ⟨S8x1, .f32⟩
  | .hbm, ⟨4, _⟩ => ⟨S1024x2048, .bf16⟩
  | .hbm, ⟨5, _⟩ => ⟨S2x512, .f32⟩
  | .hbm, ⟨6, _⟩ => ⟨S4x8192x512, .bf16⟩
  | .hbm, ⟨7, _⟩ => ⟨S4x8192x512, .bf16⟩
  | .hbm, ⟨8, _⟩ => ⟨S4x8192x512, .bf16⟩
  | .hbm, ⟨9, _⟩ => ⟨S4x4x8x8192, .f32⟩
  | .hbm, ⟨10, _⟩ => ⟨S4x8192x512, .bf16⟩
  | .hbm, ⟨11, _⟩ => ⟨S4x8192x512, .bf16⟩
  | .hbm, ⟨12, _⟩ => ⟨S4x8192x512, .bf16⟩
  | .hbm, ⟨13, _⟩ => ⟨S4x8192x512, .bf16⟩
  | .hbm, ⟨14, _⟩ => ⟨S4x8192x512, .f32⟩
  | .local _ .vmem, ⟨0, _⟩ => ⟨S1x512x1024, .f32⟩
  | .local _ .vmem, ⟨1, _⟩ => ⟨S1x512x1024, .f32⟩
  | .local _ .vmem, ⟨2, _⟩ => ⟨S1024x1536, .bf16⟩
  | .local _ .vmem, ⟨3, _⟩ => ⟨S16x1024, .bf16⟩
  | .local _ .vmem, ⟨4, _⟩ => ⟨S8x1, .f32⟩
  | .local _ .vmem, ⟨5, _⟩ => ⟨S1024x2048, .bf16⟩
  | .local _ .vmem, ⟨6, _⟩ => ⟨S2x512, .f32⟩
  | .local _ .vmem, ⟨7, _⟩ => ⟨S1x512x512, .bf16⟩
  | .local _ .vmem, ⟨8, _⟩ => ⟨S1x512x512, .bf16⟩
  | .local _ .vmem, ⟨9, _⟩ => ⟨S1x512x512, .bf16⟩
  | .local _ .vmem, ⟨10, _⟩ => ⟨S1x512x512, .bf16⟩
  | .local _ .vmem, ⟨11, _⟩ => ⟨S1x512x512, .bf16⟩
  | .local _ .vmem, ⟨12, _⟩ => ⟨S1x512x512, .bf16⟩
  | .local _ .vmem, ⟨13, _⟩ => ⟨S1x4x8x512, .f32⟩
  | .local _ .vmem, ⟨14, _⟩ => ⟨S1x4x8x512, .f32⟩
  | .local _ .vmem, ⟨15, _⟩ => ⟨S1x512x512, .bf16⟩
  | .local _ .vmem, ⟨16, _⟩ => ⟨S1x512x512, .bf16⟩
  | .local _ .vmem, ⟨17, _⟩ => ⟨S1x512x512, .bf16⟩
  | .local _ .vmem, ⟨18, _⟩ => ⟨S1x512x512, .bf16⟩
  | .local _ .vmem, ⟨19, _⟩ => ⟨S1x512x512, .bf16⟩
  | .local _ .vmem, ⟨20, _⟩ => ⟨S1x512x512, .bf16⟩
  | .local _ .vmem, ⟨21, _⟩ => ⟨S1x512x512, .bf16⟩
  | .local _ .vmem, ⟨22, _⟩ => ⟨S1x512x512, .bf16⟩
  | .local _ .vmem, ⟨23, _⟩ => ⟨S1x512x512, .f32⟩
  | .local _ .vmem, ⟨24, _⟩ => ⟨S1x512x512, .f32⟩
  | .local _ .vmem, ⟨25, _⟩ => ⟨S8x128, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v0_4 : Ref sig .tc := ⟨.hbm, 10, rfl⟩
abbrev main_v0_5 : Ref sig .tc := ⟨.hbm, 11, rfl⟩
abbrev main_v0_6 : Ref sig .tc := ⟨.hbm, 12, rfl⟩
abbrev main_v0_7 : Ref sig .tc := ⟨.hbm, 13, rfl⟩
abbrev main_v0_8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_scratch0 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S16x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S8x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S2x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x4x8x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x512x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x512x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== Reference5Ideal.lean ====
abbrev S4x8192x1024 : Shape := ⟨3, ![4, 8192, 1024]⟩
abbrev S1024x1536 : Shape := ⟨2, ![1024, 1536]⟩
abbrev S16x1024 : Shape := ⟨2, ![16, 1024]⟩
abbrev S8x1 : Shape := ⟨2, ![8, 1]⟩
abbrev S1024x2048 : Shape := ⟨2, ![1024, 2048]⟩
abbrev S2x512 : Shape := ⟨2, ![2, 512]⟩
abbrev S4x8192x1536 : Shape := ⟨3, ![4, 8192, 1536]⟩
abbrev S4x8192x512 : Shape := ⟨3, ![4, 8192, 512]⟩
abbrev S8x1024 : Shape := ⟨2, ![8, 1024]⟩
abbrev S1024x8 : Shape := ⟨2, ![1024, 8]⟩
abbrev S4x8192x8 : Shape := ⟨3, ![4, 8192, 8]⟩
abbrev S8 : Shape := ⟨1, ![8]⟩
abbrev S1x1x8 : Shape := ⟨3, ![1, 1, 8]⟩
abbrev S_ : Shape := ⟨0, ![]⟩
abbrev S4x8x8192 : Shape := ⟨3, ![4, 8, 8192]⟩
abbrev S4x4x2x8192 : Shape := ⟨4, ![4, 4, 2, 8192]⟩
abbrev S4x4x8x8192 : Shape := ⟨4, ![4, 4, 8, 8192]⟩
abbrev S4x8192x2048 : Shape := ⟨3, ![4, 8192, 2048]⟩
abbrev S512 : Shape := ⟨1, ![512]⟩
abbrev S1x512 : Shape := ⟨2, ![1, 512]⟩
abbrev S1x1x512 : Shape := ⟨3, ![1, 1, 512]⟩

abbrev nBuf : Space → Nat
  | .hbm => 137
  | .vmem => 0
  | .smem => 0
  | _ => 0

abbrev hbmTy0_0 (i : Nat) : BufTy := match i % 128 with
  | 0 => ⟨S4x8192x1024, .f32⟩
  | 1 => ⟨S1024x1536, .bf16⟩
  | 2 => ⟨S16x1024, .bf16⟩
  | 3 => ⟨S8x1, .f32⟩
  | 4 => ⟨S1024x2048, .bf16⟩
  | 5 => ⟨S2x512, .f32⟩
  | 6 => ⟨S1024x1536, .f32⟩
  | 7 => ⟨S4x8192x1536, .f32⟩
  | 8 => ⟨S4x8192x512, .f32⟩
  | 9 => ⟨S4x8192x512, .f32⟩
  | 10 => ⟨S4x8192x512, .f32⟩
  | 11 => ⟨S8x1024, .bf16⟩
  | 12 => ⟨S8x1024, .f32⟩
  | 13 => ⟨S1024x8, .f32⟩
  | 14 => ⟨S4x8192x8, .f32⟩
  | 15 => ⟨S8, .f32⟩
  | 16 => ⟨S1x1x8, .f32⟩
  | 17 => ⟨S4x8192x8, .f32⟩
  | 18 => ⟨S4x8192x8, .f32⟩
  | 19 => ⟨S4x8192x8, .f32⟩
  | 20 => ⟨S_, .f32⟩
  | 21 => ⟨S4x8192x8, .f32⟩
  | 22 => ⟨S4x8192x8, .f32⟩
  | 23 => ⟨S4x8192x8, .f32⟩
  | 24 => ⟨S4x8192x8, .f32⟩
  | 25 => ⟨S4x8192x8, .i1⟩
  | 26 => ⟨S4x8192x8, .f32⟩
  | 27 => ⟨S4x8192x8, .f32⟩
  | 28 => ⟨S4x8192x8, .f32⟩
  | 29 => ⟨S4x8192x8, .f32⟩
  | 30 => ⟨S4x8192x8, .f32⟩
  | 31 => ⟨S4x8192x8, .f32⟩
  | 32 => ⟨S4x8192x8, .f32⟩
  | 33 => ⟨S4x8192x8, .f32⟩
  | 34 => ⟨S4x8192x8, .f32⟩
  | 35 => ⟨S4x8x8192, .f32⟩
  | 36 => ⟨S_, .f32⟩
  | 37 => ⟨S_, .f32⟩
  | 38 => ⟨S4x8x8192, .f32⟩
  | 39 => ⟨S4x4x2x8192, .f32⟩
  | 40 => ⟨S_, .i32⟩
  | 41 => ⟨S_, .f32⟩
  | 42 => ⟨S4x4x8x8192, .f32⟩
  | 43 => ⟨S1024x2048, .f32⟩
  | 44 => ⟨S4x8192x2048, .f32⟩
  | 45 => ⟨S4x8192x512, .f32⟩
  | 46 => ⟨S4x8192x512, .f32⟩
  | 47 => ⟨S4x8192x512, .f32⟩
  | 48 => ⟨S4x8192x512, .f32⟩
  | 49 => ⟨S_, .f32⟩
  | 50 => ⟨S512, .f32⟩
  | 51 => ⟨S_, .f32⟩
  | 52 => ⟨S512, .f32⟩
  | 53 => ⟨S512, .f32⟩
  | 54 => ⟨S1x512, .f32⟩
  | 55 => ⟨S2x512, .f32⟩
  | 56 => ⟨S2x512, .f32⟩
  | 57 => ⟨S2x512, .f32⟩
  | 58 => ⟨S_, .f32⟩
  | 59 => ⟨S512, .f32⟩
  | 60 => ⟨S1x512, .f32⟩
  | 61 => ⟨S2x512, .f32⟩
  | 62 => ⟨S2x512, .f32⟩
  | 63 => ⟨S_, .f32⟩
  | 64 => ⟨S_, .f32⟩
  | 65 => ⟨S2x512, .f32⟩
  | 66 => ⟨S1x512, .f32⟩
  | 67 => ⟨S2x512, .f32⟩
  | 68 => ⟨S2x512, .f32⟩
  | 69 => ⟨S1x512, .f32⟩
  | 70 => ⟨S512, .f32⟩
  | 71 => ⟨S512, .f32⟩
  | 72 => ⟨S512, .f32⟩
  | 73 => ⟨S512, .f32⟩
  | 74 => ⟨S4x8192x512, .f32⟩
  | 75 => ⟨S_, .f32⟩
  | 76 => ⟨S4x8192x512, .f32⟩
  | 77 => ⟨S4x8192x512, .f32⟩
  | 78 => ⟨S4x8192x512, .f32⟩
  | 79 => ⟨S4x8192x512, .f32⟩
  | 80 => ⟨S4x8192x512, .i1⟩
  | 81 => ⟨S4x8192x512, .f32⟩
  | 82 => ⟨S4x8192x512, .f32⟩
  | 83 => ⟨S4x8192x512, .f32⟩
  | 84 => ⟨S4x8192x512, .f32⟩
  | 85 => ⟨S4x8192x512, .f32⟩
  | 86 => ⟨S4x8192x512, .f32⟩
  | 87 => ⟨S4x8192x512, .f32⟩
  | 88 => ⟨S4x8192x512, .f32⟩
  | 89 => ⟨S4x8192x512, .f32⟩
  | 90 => ⟨S1x1x512, .f32⟩
  | 91 => ⟨S4x8192x512, .f32⟩
  | 92 => ⟨S4x8192x512, .f32⟩
  | 93 => ⟨S1x1x512, .f32⟩
  | 94 => ⟨S4x8192x512, .f32⟩
  | 95 => ⟨S4x8192x512, .f32⟩
  | 96 => ⟨S4x8192x512, .f32⟩
  | 97 => ⟨S4x8192x512, .f32⟩
  | 98 => ⟨S4x8192x512, .i1⟩
  | 99 => ⟨S4x8192x512, .f32⟩
  | 100 => ⟨S4x8192x512, .f32⟩
  | 101 => ⟨S4x8192x512, .f32⟩
  | 102 => ⟨S4x8192x512, .f32⟩
  | 103 => ⟨S4x8192x512, .f32⟩
  | 104 => ⟨S4x8192x512, .f32⟩
  | 105 => ⟨S4x8192x512, .f32⟩
  | 106 => ⟨S4x8192x512, .f32⟩
  | 107 => ⟨S4x8192x512, .f32⟩
  | 108 => ⟨S4x8192x512, .f32⟩
  | 109 => ⟨S_, .f32⟩
  | 110 => ⟨S4x8192x512, .f32⟩
  | 111 => ⟨S4x8192x512, .f32⟩
  | 112 => ⟨S4x8192x512, .bf16⟩
  | 113 => ⟨S4x8192x512, .bf16⟩
  | 114 => ⟨S4x8192x512, .bf16⟩
  | 115 => ⟨S4x8192x512, .f32⟩
  | 116 => ⟨S4x8192x512, .f32⟩
  | 117 => ⟨S_, .f32⟩
  | 118 => ⟨S4x8192x512, .f32⟩
  | 119 => ⟨S4x8192x512, .f32⟩
  | 120 => ⟨S_, .f32⟩
  | 121 => ⟨S4x8192x512, .f32⟩
  | 122 => ⟨S4x8192x512, .f32⟩
  | 123 => ⟨S4x8192x512, .f32⟩
  | 124 => ⟨S4x8192x512, .bf16⟩
  | 125 => ⟨S4x8192x512, .bf16⟩
  | 126 => ⟨S4x8192x512, .bf16⟩
  | 127 => ⟨S4x8192x512, .f32⟩
  | _ => ⟨S4x8192x1024, .f32⟩

abbrev hbmTy0_1 (i : Nat) : BufTy := match i % 128 with
  | 0 => ⟨S4x8192x512, .f32⟩
  | 1 => ⟨S_, .f32⟩
  | 2 => ⟨S4x8192x512, .f32⟩
  | 3 => ⟨S4x8192x512, .f32⟩
  | 4 => ⟨S_, .f32⟩
  | 5 => ⟨S4x8192x512, .f32⟩
  | 6 => ⟨S4x8192x512, .f32⟩
  | 7 => ⟨S4x8192x512, .f32⟩
  | 8 => ⟨S4x8192x512, .bf16⟩
  | _ => ⟨S4x8192x1024, .f32⟩

abbrev hbmTy (i : Nat) : BufTy := match i / 128 with
  | 0 => hbmTy0_0 i
  | 1 => hbmTy0_1 i
  | _ => ⟨S4x8192x1024, .f32⟩

abbrev bufTy : (tb : Table) → Fin (tcTables nBuf tb) → BufTy
  | .hbm, ⟨i, _⟩ => hbmTy i
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_call0_v0 : Ref sig .tc := ⟨.hbm, 19, rfl⟩
abbrev main_call0_call0_cst : Ref sig .tc := ⟨.hbm, 20, rfl⟩
abbrev main_call0_call0_v0 : Ref sig .tc := ⟨.hbm, 21, rfl⟩
abbrev main_call0_call0_v1 : Ref sig .tc := ⟨.hbm, 22, rfl⟩
abbrev main_call0_call0_v2 : Ref sig .tc := ⟨.hbm, 23, rfl⟩
abbrev main_call0_call0_v3 : Ref sig .tc := ⟨.hbm, 24, rfl⟩
abbrev main_call0_call0_v4 : Ref sig .tc := ⟨.hbm, 25, rfl⟩
abbrev main_call0_call0_v5 : Ref sig .tc := ⟨.hbm, 26, rfl⟩
abbrev main_call0_call0_v6 : Ref sig .tc := ⟨.hbm, 27, rfl⟩
abbrev main_call0_call0_v7 : Ref sig .tc := ⟨.hbm, 28, rfl⟩
abbrev main_call0_call0_v8 : Ref sig .tc := ⟨.hbm, 29, rfl⟩
abbrev main_call0_call0_v9 : Ref sig .tc := ⟨.hbm, 30, rfl⟩
abbrev main_call0_call0_v10 : Ref sig .tc := ⟨.hbm, 31, rfl⟩
abbrev main_call0_call0_v11 : Ref sig .tc := ⟨.hbm, 32, rfl⟩
abbrev main_call0_v1 : Ref sig .tc := ⟨.hbm, 33, rfl⟩
abbrev main_v13 : Ref sig .tc := ⟨.hbm, 34, rfl⟩
abbrev main_v14 : Ref sig .tc := ⟨.hbm, 35, rfl⟩
abbrev main_call1_call0_cst : Ref sig .tc := ⟨.hbm, 36, rfl⟩
abbrev main_call1_call0_v0 : Ref sig .tc := ⟨.hbm, 37, rfl⟩
abbrev main_v15 : Ref sig .tc := ⟨.hbm, 38, rfl⟩
abbrev main_v16 : Ref sig .tc := ⟨.hbm, 39, rfl⟩
abbrev main_c : Ref sig .tc := ⟨.hbm, 40, rfl⟩
abbrev main_call2_v0 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_cst : Ref sig .tc := ⟨.hbm, 49, rfl⟩
abbrev main_v24 : Ref sig .tc := ⟨.hbm, 50, rfl⟩
abbrev main_cst_0 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_cst_1 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_call3_call0_cst : Ref sig .tc := ⟨.hbm, 63, rfl⟩
abbrev main_call3_call0_v0 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_call4_v0 : Ref sig .tc := ⟨.hbm, 74, rfl⟩
abbrev main_call4_call0_cst : Ref sig .tc := ⟨.hbm, 75, rfl⟩
abbrev main_call4_call0_v0 : Ref sig .tc := ⟨.hbm, 76, rfl⟩
abbrev main_call4_call0_v1 : Ref sig .tc := ⟨.hbm, 77, rfl⟩
abbrev main_call4_call0_v2 : Ref sig .tc := ⟨.hbm, 78, rfl⟩
abbrev main_call4_call0_v3 : Ref sig .tc := ⟨.hbm, 79, rfl⟩
abbrev main_call4_call0_v4 : Ref sig .tc := ⟨.hbm, 80, rfl⟩
abbrev main_call4_call0_v5 : Ref sig .tc := ⟨.hbm, 81, rfl⟩
abbrev main_call4_call0_v6 : Ref sig .tc := ⟨.hbm, 82, rfl⟩
abbrev main_call4_call0_v7 : Ref sig .tc := ⟨.hbm, 83, rfl⟩
abbrev main_call4_call0_v8 : Ref sig .tc := ⟨.hbm, 84, rfl⟩
abbrev main_call4_call0_v9 : Ref sig .tc := ⟨.hbm, 85, rfl⟩
abbrev main_call4_call0_v10 : Ref sig .tc := ⟨.hbm, 86, rfl⟩
abbrev main_call4_call0_v11 : Ref sig .tc := ⟨.hbm, 87, rfl⟩
abbrev main_call4_v1 : Ref sig .tc := ⟨.hbm, 88, rfl⟩
abbrev main_v44 : Ref sig .tc := ⟨.hbm, 89, rfl⟩
abbrev main_v45 : Ref sig .tc := ⟨.hbm, 90, rfl⟩
abbrev main_v46 : Ref sig .tc := ⟨.hbm, 91, rfl⟩
abbrev main_v47 : Ref sig .tc := ⟨.hbm, 92, rfl⟩
abbrev main_v48 : Ref sig .tc := ⟨.hbm, 93, rfl⟩
abbrev main_v49 : Ref sig .tc := ⟨.hbm, 94, rfl⟩
abbrev main_v50 : Ref sig .tc := ⟨.hbm, 95, rfl⟩
abbrev main_v51 : Ref sig .tc := ⟨.hbm, 96, rfl⟩
abbrev main_v52 : Ref sig .tc := ⟨.hbm, 97, rfl⟩
abbrev main_v53 : Ref sig .tc := ⟨.hbm, 98, rfl⟩
abbrev main_v54 : Ref sig .tc := ⟨.hbm, 99, rfl⟩
abbrev main_v55 : Ref sig .tc := ⟨.hbm, 100, rfl⟩
abbrev main_v56 : Ref sig .tc := ⟨.hbm, 101, rfl⟩
abbrev main_v57 : Ref sig .tc := ⟨.hbm, 102, rfl⟩
abbrev main_v58 : Ref sig .tc := ⟨.hbm, 103, rfl⟩
abbrev main_v59 : Ref sig .tc := ⟨.hbm, 104, rfl⟩
abbrev main_v60 : Ref sig .tc := ⟨.hbm, 105, rfl⟩
abbrev main_v61 : Ref sig .tc := ⟨.hbm, 106, rfl⟩
abbrev main_v62 : Ref sig .tc := ⟨.hbm, 107, rfl⟩
abbrev main_v63 : Ref sig .tc := ⟨.hbm, 108, rfl⟩
abbrev main_cst_2 : Ref sig .tc := ⟨.hbm, 109, rfl⟩
abbrev main_v64 : Ref sig .tc := ⟨.hbm, 110, rfl⟩
abbrev main_v65 : Ref sig .tc := ⟨.hbm, 111, rfl⟩
abbrev main_v66 : Ref sig .tc := ⟨.hbm, 112, rfl⟩
abbrev main_v67 : Ref sig .tc := ⟨.hbm, 113, rfl⟩
abbrev main_v68 : Ref sig .tc := ⟨.hbm, 114, rfl⟩
abbrev main_call5_v0 : Ref sig .tc := ⟨.hbm, 115, rfl⟩
abbrev main_call5_v1 : Ref sig .tc := ⟨.hbm, 116, rfl⟩
abbrev main_call5_cst : Ref sig .tc := ⟨.hbm, 117, rfl⟩
abbrev main_call5_v2 : Ref sig .tc := ⟨.hbm, 118, rfl⟩
abbrev main_call5_v3 : Ref sig .tc := ⟨.hbm, 119, rfl⟩
abbrev main_call5_cst_0 : Ref sig .tc := ⟨.hbm, 120, rfl⟩
abbrev main_call5_v4 : Ref sig .tc := ⟨.hbm, 121, rfl⟩
abbrev main_call5_v5 : Ref sig .tc := ⟨.hbm, 122, rfl⟩
abbrev main_v69 : Ref sig .tc := ⟨.hbm, 123, rfl⟩
abbrev main_v70 : Ref sig .tc := ⟨.hbm, 124, rfl⟩
abbrev main_v71 : Ref sig .tc := ⟨.hbm, 125, rfl⟩
abbrev main_v72 : Ref sig .tc := ⟨.hbm, 126, rfl⟩
abbrev main_call6_v0 : Ref sig .tc := ⟨.hbm, 127, rfl⟩
abbrev main_call6_v1 : Ref sig .tc := ⟨.hbm, 128, rfl⟩
abbrev main_call6_cst : Ref sig .tc := ⟨.hbm, 129, rfl⟩
abbrev main_call6_v2 : Ref sig .tc := ⟨.hbm, 130, rfl⟩
abbrev main_call6_v3 : Ref sig .tc := ⟨.hbm, 131, rfl⟩
abbrev main_call6_cst_0 : Ref sig .tc := ⟨.hbm, 132, rfl⟩
abbrev main_call6_v4 : Ref sig .tc := ⟨.hbm, 133, rfl⟩
abbrev main_call6_v5 : Ref sig .tc := ⟨.hbm, 134, rfl⟩
abbrev main_v73 : Ref sig .tc := ⟨.hbm, 135, rfl⟩
abbrev main_v74 : Ref sig .tc := ⟨.hbm, 136, rfl⟩

abbrev nD : Nat := 1
abbrev τ : Topo := Topo.v7x

variable {F : FTy → Type} [FloatOps F]
-- ==== Kernel6.lean ====
abbrev S4x8192x512 : Shape := ⟨3, ![4, 8192, 512]⟩
abbrev S1x512 : Shape := ⟨2, ![1, 512]⟩
abbrev S1x512x512 : Shape := ⟨3, ![1, 512, 512]⟩
abbrev S4x128x128 : Shape := ⟨3, ![4, 128, 128]⟩
abbrev S512x128 : Shape := ⟨2, ![512, 128]⟩
abbrev S8x64x128 : Shape := ⟨3, ![8, 64, 128]⟩
abbrev S8x64x64 : Shape := ⟨3, ![8, 64, 64]⟩
abbrev S1x512x128 : Shape := ⟨3, ![1, 512, 128]⟩
abbrev S8x1x128 : Shape := ⟨3, ![8, 1, 128]⟩
abbrev S8x32x128 : Shape := ⟨3, ![8, 32, 128]⟩
abbrev S8x16x128 : Shape := ⟨3, ![8, 16, 128]⟩
abbrev S64x8x128 : Shape := ⟨3, ![64, 8, 128]⟩
abbrev S64x1x128 : Shape := ⟨3, ![64, 1, 128]⟩
abbrev S8x64 : Shape := ⟨2, ![8, 64]⟩
abbrev S8x64x1 : Shape := ⟨3, ![8, 64, 1]⟩
abbrev S1x128x128 : Shape := ⟨3, ![1, 128, 128]⟩
abbrev S128x128 : Shape := ⟨2, ![128, 128]⟩
abbrev S1x64x128 : Shape := ⟨3, ![1, 64, 128]⟩
abbrev S64x128 : Shape := ⟨2, ![64, 128]⟩
abbrev S1x1x128 : Shape := ⟨3, ![1, 1, 128]⟩
abbrev S1x128 : Shape := ⟨2, ![1, 128]⟩
abbrev S512 : Shape := ⟨1, ![512]⟩
abbrev S512x1 : Shape := ⟨2, ![512, 1]⟩

abbrev nBuf : Space → Nat
  | .hbm => 7
  | .vmem => 14
  | .smem => 0
  | _ => 0

abbrev bufTy : (tb : Table) → Fin (tcTables nBuf tb) → BufTy
  | .hbm, ⟨0, _⟩ => ⟨S4x8192x512, .bf16⟩
  | .hbm, ⟨1, _⟩ => ⟨S4x8192x512, .bf16⟩
  | .hbm, ⟨2, _⟩ => ⟨S4x8192x512, .bf16⟩
  | .hbm, ⟨3, _⟩ => ⟨S4x8192x512, .f32⟩
  | .hbm, ⟨4, _⟩ => ⟨S4x8192x512, .bf16⟩
  | .hbm, ⟨5, _⟩ => ⟨S1x512, .f32⟩
  | .hbm, ⟨6, _⟩ => ⟨S4x8192x512, .bf16⟩
  | .local _ .vmem, ⟨0, _⟩ => ⟨S1x512x512, .bf16⟩
  | .local _ .vmem, ⟨1, _⟩ => ⟨S1x512x512, .bf16⟩
  | .local _ .vmem, ⟨2, _⟩ => ⟨S1x512x512, .bf16⟩
  | .local _ .vmem, ⟨3, _⟩ => ⟨S1x512x512, .bf16⟩
  | .local _ .vmem, ⟨4, _⟩ => ⟨S1x512x512, .bf16⟩
  | .local _ .vmem, ⟨5, _⟩ => ⟨S1x512x512, .bf16⟩
  | .local _ .vmem, ⟨6, _⟩ => ⟨S1x512x512, .f32⟩
  | .local _ .vmem, ⟨7, _⟩ => ⟨S1x512x512, .f32⟩
  | .local _ .vmem, ⟨8, _⟩ => ⟨S1x512x512, .bf16⟩
  | .local _ .vmem, ⟨9, _⟩ => ⟨S1x512x512, .bf16⟩
  | .local _ .vmem, ⟨10, _⟩ => ⟨S1x512, .f32⟩
  | .local _ .vmem, ⟨11, _⟩ => ⟨S1x512x512, .bf16⟩
  | .local _ .vmem, ⟨12, _⟩ => ⟨S1x512x512, .bf16⟩
  | .local _ .vmem, ⟨13, _⟩ => ⟨S4x128x128, .f32⟩
  | _, _ => ⟨S4x8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Proof.Fox.Softmax.lean ====
/-
  Blockwise softmax on the extended reals. A row of logits `s` and a row of values `v` are read block by block:
  the largest logit so far, the sum of the exponentials taken against it, and the weighted sum of the values.
  Each step equation below holds at every extended real, so no row has to be finite.
-/
module

public import Idealize.ShloMosaic.PureOps.Ideal
public import Idealize.ShloMosaic.PureOps.Ideal.Laws
public import Mathlib.Data.EReal.Operations
public import Mathlib.Data.EReal.Inv
public import Mathlib.Algebra.BigOperators.Fin
public import Mathlib.Algebra.Order.BigOperators.Group.Finset

@[expose] public section

noncomputable section

namespace Cert.Fox

open Idealize.ShloMosaic
open Finset (range)

/-- The largest of the first `n` logits (`⊥` of none). -/
def mx (s : ℕ → EReal) (n : ℕ) : EReal := (range n).sup s

/-- The sum of the exponentials of the first `n` logits, taken against their largest. -/
def lx (s : ℕ → EReal) (n : ℕ) : EReal := ∑ j ∈ range n, Ideal.exp (s j - mx s n)

/-- The sum of the first `n` values, each weighted by its exponential. -/
def ax (s v : ℕ → EReal) (n : ℕ) : EReal := ∑ j ∈ range n, Ideal.exp (s j - mx s n) * v j

theorem exp_nonneg (x : EReal) : 0 ≤ Ideal.exp x := by
  induction x with
  | bot => exact le_refl _
  | top => exact le_top
  | coe r => exact EReal.coe_nonneg.mpr (Real.exp_pos r).le

theorem bot_sub (x : EReal) : (⊥ : EReal) - x = ⊥ := by rw [sub_eq_add_neg, EReal.bot_add]

theorem sub_top (x : EReal) : x - (⊤ : EReal) = ⊥ := by rw [sub_eq_add_neg, EReal.neg_top, EReal.add_bot]

theorem exp_bot : Ideal.exp ⊥ = 0 := rfl

/-- A difference of ordered extended reals has an exponential of at most one. -/
theorem exp_sub_le_one {a b : EReal} (h : a ≤ b) : Ideal.exp (a - b) ≤ 1 := by
  induction b with
  | top => rw [sub_top]; exact zero_le_one
  | bot => rw [le_bot_iff.mp h, bot_sub]; exact zero_le_one
  | coe y =>
    induction a with
    | bot => rw [bot_sub]; exact zero_le_one
    | top => exact absurd (top_le_iff.mp h) (EReal.coe_ne_top y)
    | coe x =>
      rw [← EReal.coe_sub]
      show ((Real.exp (x - y) : ℝ) : EReal) ≤ ((1 : ℝ) : EReal)
      rw [EReal.coe_le_coe_iff]
      exact Real.exp_le_one_iff.mpr (sub_nonpos.mpr (EReal.coe_le_coe_iff.mp h))

theorem exp_sub_ne_top {a b : EReal} (h : a ≤ b) : Ideal.exp (a - b) ≠ ⊤ := fun e => by
  have := exp_sub_le_one h
  rw [e] at this
  exact absurd (top_le_iff.mp this) (by exact EReal.coe_ne_top 1)

/-- Exponentials against an old largest logit, rescaled, are those against the new one. -/
theorem exp_rescale {x a b : EReal} (h : x ≤ a) (h' : a ≤ b) :
    Ideal.exp (a - b) * Ideal.exp (x - a) = Ideal.exp (x - b) := by
  induction b with
  | top => rw [sub_top, sub_top, exp_bot, zero_mul]
  | bot =>
    obtain rfl := le_bot_iff.mp h'
    obtain rfl := le_bot_iff.mp h
    rw [bot_sub, exp_bot, zero_mul]
  | coe z =>
    induction a with
    | top => exact absurd (top_le_iff.mp h') (EReal.coe_ne_top z)
    | bot => obtain rfl := le_bot_iff.mp h; rw [bot_sub, bot_sub, exp_bot, zero_mul]
    | coe y =>
      induction x with
      | top => exact absurd (top_le_iff.mp h) (EReal.coe_ne_top y)
      | bot => rw [bot_sub, bot_sub, exp_bot, mul_zero]
      | coe x =>
        rw [← EReal.coe_sub, ← EReal.coe_sub, ← EReal.coe_sub]
        show ((Real.exp (y - z) : ℝ) : EReal) * ((Real.exp (x - y) : ℝ) : EReal) = ((Real.exp (x - z) : ℝ) : EReal)
        rw [← EReal.coe_mul, ← Real.exp_add]
        congr 2
        ring

/-- A factor that is neither negative nor infinite goes into a sum. -/
theorem mul_sum_of {ι : Type*} (S : Finset ι) (f : ι → EReal) {x : EReal} (h0 : 0 ≤ x) (h1 : x ≠ ⊤) :
    x * ∑ j ∈ S, f j = ∑ j ∈ S, x * f j := by
  classical
  induction S using Finset.induction_on with
  | empty => rw [Finset.sum_empty, Finset.sum_empty, mul_zero]
  | insert a S ha ih =>
    rw [Finset.sum_insert ha, Finset.sum_insert ha, EReal.left_distrib_of_nonneg_of_ne_top h0 h1, ih]

theorem le_mx {s : ℕ → EReal} {n j : ℕ} (h : j < n) : s j ≤ mx s n :=
  Finset.le_sup (f := s) (Finset.mem_range.mpr h)

theorem mx_mono {s : ℕ → EReal} {n n' : ℕ} (h : n ≤ n') : mx s n ≤ mx s n' :=
  Finset.sup_mono (Finset.range_mono h)

/-- The largest of one block, as the running maximum from `⊥` that the program takes. -/
theorem fold_max_eq {T : ℕ} (t : Fin T → EReal) (s : ℕ → EReal) (n : ℕ) (h : ∀ k : Fin T, t k = s (n + k.val)) :
    max (mx s n) (Finset.univ.fold max ⊥ t) = mx s (n + T) := by
  have e : (Finset.univ.fold max ⊥ t : EReal) = Finset.univ.sup t := rfl
  rw [e]
  apply le_antisymm
  · refine max_le (mx_mono (Nat.le_add_right _ _)) (Finset.sup_le fun k _ => ?_)
    rw [h k]
    exact le_mx (Nat.add_lt_add_left k.isLt n)
  · refine Finset.sup_le fun j hj => ?_
    have hj := Finset.mem_range.mp hj
    by_cases hn : j < n
    · exact (le_mx hn).trans (le_max_left _ _)
    · refine le_trans ?_ (le_max_right _ _)
      have := Finset.le_sup (f := t) (Finset.mem_univ (⟨j - n, by omega⟩ : Fin T))
      rw [h] at this
      simpa [Nat.add_sub_cancel' (Nat.le_of_not_lt hn)] using this

/-- The step of the weighted sums by one block of `T` logits. -/
theorem ax_step {T : ℕ} (t w : Fin T → EReal) (s v : ℕ → EReal) (n : ℕ) (h : ∀ k : Fin T, t k = s (n + k.val))
    (hw : ∀ k : Fin T, w k = v (n + k.val)) :
    Ideal.exp (mx s n - mx s (n + T)) * ax s v n + ∑ k : Fin T, Ideal.exp (t k - mx s (n + T)) * w k
      = ax s v (n + T) := by
  have hm : mx s n ≤ mx s (n + T) := mx_mono (Nat.le_add_right _ _)
  unfold ax
  rw [mul_sum_of _ _ (exp_nonneg _) (exp_sub_ne_top hm), Finset.sum_range_add]
  congr 1
  · refine Finset.sum_congr rfl fun j hj => ?_
    rw [← mul_assoc, exp_rescale (le_mx (Finset.mem_range.mp hj)) hm]
  · rw [Finset.sum_range]
    refine Finset.sum_congr rfl fun k _ => ?_
    rw [h, hw]

theorem lx_eq_ax (s : ℕ → EReal) (n : ℕ) : lx s n = ax s (fun _ => 1) n := by
  unfold lx ax
  exact Finset.sum_congr rfl fun _ _ => (mul_one _).symm

/-- The step of the sum of exponentials by one block of `T` logits. -/
theorem lx_step {T : ℕ} (t : Fin T → EReal) (s : ℕ → EReal) (n : ℕ) (h : ∀ k : Fin T, t k = s (n + k.val)) :
    Ideal.exp (mx s n - mx s (n + T)) * lx s n + ∑ k : Fin T, Ideal.exp (t k - mx s (n + T)) = lx s (n + T) := by
  rw [lx_eq_ax, lx_eq_ax, ← ax_step t (fun _ => 1) s (fun _ => 1) n h (fun _ => rfl)]
  congr 1
  exact Finset.sum_congr rfl fun _ _ => (mul_one _).symm

/-- Logits at `⊥` past `n` raise no maximum. -/
theorem mx_tail {s : ℕ → EReal} {n N : ℕ} (hn : n ≤ N) (h : ∀ j, n ≤ j → j < N → s j = ⊥) : mx s N = mx s n := by
  apply le_antisymm _ (mx_mono hn)
  refine Finset.sup_le fun j hj => ?_
  by_cases hjn : j < n
  · exact le_mx hjn
  · rw [h j (Nat.le_of_not_lt hjn) (Finset.mem_range.mp hj)]; exact bot_le

/-- Logits at `⊥` past `n` weigh nothing. -/
theorem ax_tail {s : ℕ → EReal} (v : ℕ → EReal) {n N : ℕ} (hn : n ≤ N) (h : ∀ j, n ≤ j → j < N → s j = ⊥) :
    ax s v N = ax s v n := by
  unfold ax
  rw [mx_tail hn h]
  refine (Finset.sum_subset (Finset.range_mono hn) fun j hj hj' => ?_).symm
  rw [h j (by simpa using hj') (Finset.mem_range.mp hj), bot_sub, exp_bot, zero_mul]

theorem lx_tail {s : ℕ → EReal} {n N : ℕ} (hn : n ≤ N) (h : ∀ j, n ≤ j → j < N → s j = ⊥) : lx s N = lx s n := by
  rw [lx_eq_ax, lx_eq_ax, ax_tail _ hn h]

theorem lx_nonneg (s : ℕ → EReal) (n : ℕ) : 0 ≤ lx s n := Finset.sum_nonneg fun _ _ => exp_nonneg _

theorem lx_ne_top (s : ℕ → EReal) (n : ℕ) : lx s n ≠ ⊤ := by
  have key : ∀ S : Finset ℕ, S ⊆ range n → ∑ j ∈ S, Ideal.exp (s j - mx s n) ≠ ⊤ := by
    intro S
    induction S using Finset.induction_on with
    | empty => intro _; rw [Finset.sum_empty]; exact EReal.coe_ne_top 0
    | insert a S ha ih =>
      intro hS
      rw [Finset.sum_insert ha]
      have h1 := exp_sub_ne_top (le_mx (s := s) (Finset.mem_range.mp (hS (Finset.mem_insert_self a S))))
      have h2 := ih fun x hx => hS (Finset.mem_insert_of_mem hx)
      exact (EReal.add_lt_top h1 h2).ne
  exact key _ (Finset.Subset.refl _)

/-- Where the sum of the exponentials is zero each of them is. -/
theorem exp_eq_zero_of_lx {s : ℕ → EReal} {n : ℕ} (h : lx s n = 0) {j : ℕ} (hj : j < n) :
    Ideal.exp (s j - mx s n) = 0 :=
  (Finset.sum_eq_zero_iff_of_nonneg fun _ _ => exp_nonneg _).mp h j (Finset.mem_range.mpr hj)

/-- Dividing each weight first and dividing the weighted sum last agree where the divisor is not zero. -/
theorem div_ax {s : ℕ → EReal} (v : ℕ → EReal) {n : ℕ} (h : lx s n ≠ 0) :
    Ideal.div (ax s v n) (lx s n) = ∑ j ∈ range n, Ideal.div (Ideal.exp (s j - mx s n)) (lx s n) * v j := by
  have hi0 : 0 ≤ (lx s n)⁻¹ := EReal.inv_nonneg_of_nonneg (lx_nonneg s n)
  have hi1 : (lx s n)⁻¹ ≠ ⊤ := by
    have h0 := lx_nonneg s n
    have h1 := lx_ne_top s n
    generalize lx s n = l at *
    induction l with
    | bot => exact absurd (le_bot_iff.mp h0) (EReal.coe_ne_bot 0)
    | top => exact absurd rfl h1
    | coe r => rw [← EReal.coe_inv]; exact EReal.coe_ne_top _
  unfold Ideal.div
  rw [if_neg h, mul_comm]
  unfold ax
  rw [mul_sum_of _ _ hi0 hi1]
  refine Finset.sum_congr rfl fun j _ => ?_
  rw [if_neg h, ← mul_assoc, mul_comm (lx s n)⁻¹]

/-! ## The root-mean-square scale of one head -/

/-- One entry of a head's output scaled by the reciprocal root of the head's mean square. -/
def rms {D : ℕ} (o : Fin D → EReal) (c e : EReal) (d : Fin D) : EReal :=
  o d * Ideal.rsqrt (Ideal.div (∑ k : Fin D, o k * o k) c + e)

/-- Entries that are zero or infinite are scaled to zero. -/
theorem rms_eq_zero {D : ℕ} (o : Fin D → EReal) {c e : EReal} (hc : 0 < c) (hc' : c ≠ ⊤) (he : e ≠ ⊥)
    (ho : ∀ d, o d = ⊥ ∨ o d = 0 ∨ o d = ⊤) (d : Fin D) : rms o c e d = 0 := by
  unfold rms
  have sq : ∀ k, 0 ≤ o k * o k := fun k => by
    rcases ho k with h | h | h <;> rw [h]
    · rw [EReal.bot_mul_bot]; exact le_top
    · rw [mul_zero]
    · rw [EReal.top_mul_top]; exact le_top
  have inf : o d * o d = ⊤ → Ideal.rsqrt (Ideal.div (∑ k : Fin D, o k * o k) c + e) = 0 := fun h => by
    have hs : ∑ k : Fin D, o k * o k = ⊤ :=
      top_le_iff.mp (h ▸ Finset.single_le_sum (f := fun k => o k * o k) (fun k _ => sq k) (Finset.mem_univ d))
    have hd : Ideal.div ⊤ c = ⊤ := by
      unfold Ideal.div
      rw [if_neg hc.ne']
      refine EReal.top_mul_of_pos ?_
      induction c with
      | bot => exact absurd hc not_lt_bot
      | top => exact absurd rfl hc'
      | coe r => rw [← EReal.coe_inv]; exact EReal.coe_pos.mpr (inv_pos.mpr (EReal.coe_pos.mp hc))
    rw [hs, hd, EReal.top_add_of_ne_bot he]
    rfl
  rcases ho d with h | h | h
  · rw [inf (by rw [h, EReal.bot_mul_bot]), mul_zero]
  · rw [h, zero_mul]
  · rw [inf (by rw [h, EReal.top_mul_top]), mul_zero]

/-- A sum of terms that are zero or infinite is zero or infinite. -/
theorem sum_trichotomy {ι : Type*} (S : Finset ι) (f : ι → EReal) (h : ∀ j ∈ S, f j = ⊥ ∨ f j = 0 ∨ f j = ⊤) :
    ∑ j ∈ S, f j = ⊥ ∨ ∑ j ∈ S, f j = 0 ∨ ∑ j ∈ S, f j = ⊤ := by
  classical
  induction S using Finset.induction_on with
  | empty => exact .inr (.inl Finset.sum_empty)
  | insert a S ha ih =>
    rw [Finset.sum_insert ha]
    rcases h a (Finset.mem_insert_self _ _) with h1 | h1 | h1 <;>
      rcases ih (fun j hj => h j (Finset.mem_insert_of_mem hj)) with h2 | h2 | h2 <;> rw [h1, h2] <;> simp

theorem bot_mul_trichotomy (x : EReal) : ⊥ * x = ⊥ ∨ ⊥ * x = 0 ∨ ⊥ * x = ⊤ := by
  rcases lt_trichotomy x 0 with h | h | h
  · exact .inr (.inr (EReal.bot_mul_of_neg h))
  · exact .inr (.inl (by rw [h, mul_zero]))
  · exact .inl (EReal.bot_mul_of_pos h)

/-- A head's scaled output is the same whether the weighted sums are divided, or each weight is. -/
theorem rms_div {D : ℕ} (s : ℕ → EReal) (v : Fin D → ℕ → EReal) (n : ℕ) {c e : EReal} (hc : 0 < c) (hc' : c ≠ ⊤)
    (he : e ≠ ⊥) (d : Fin D) :
    rms (fun k => Ideal.div (ax s (v k) n) (lx s n)) c e d
      = rms (fun k => ∑ j ∈ range n, Ideal.div (Ideal.exp (s j - mx s n)) (lx s n) * v k j) c e d := by
  by_cases h : lx s n = 0
  · have hdiv : Ideal.div 0 0 = ⊥ := by unfold Ideal.div; rw [if_pos rfl, if_neg (lt_irrefl _)]
    rw [rms_eq_zero _ hc hc' he, rms_eq_zero _ hc hc' he]
    · intro k
      refine sum_trichotomy _ _ fun j hj => ?_
      rw [exp_eq_zero_of_lx h (Finset.mem_range.mp hj), h, hdiv]
      exact bot_mul_trichotomy _
    · intro k
      refine .inl ?_
      have : ax s (v k) n = 0 := Finset.sum_eq_zero fun j hj => by
        rw [exp_eq_zero_of_lx h (Finset.mem_range.mp hj), zero_mul]
      show Ideal.div (ax s (v k) n) (lx s n) = ⊥
      rw [this, h, hdiv]
  · congr 1
    funext k
    exact div_ax (v k) h

end Cert.Fox

end
-- ==== Proof.Fox.Tile.lean ====
/-
  One block of 512 keys against one block of 512 queries, read at an element: the logits the kernel forms, and its
  updates of the running maximum, the running sum and the running weighted values. The kernel writes these out four
  times (two heads, a block below the diagonal and the block on it); each is the step of Softmax.lean.
-/
module

public import proofs.«01_k».proof.Proof.Gen.KernelIdeal.Skeleton
public import proofs.«01_k».proof.Proof.Fox.Softmax
public import Idealize.ShloMosaic.Lib.Pointwise

@[expose] public section

set_option maxRecDepth 16384

noncomputable section

namespace Cert.Fox

open Idealize.ShloMosaic Cert.KernelIdeal Cert.KernelIdeal.Gen

/-! ## Constants -/

theorem ofBits_neg_inf : Ideal.ofBits .f32 0xFF800000#32 = ⊥ := by simp [Ideal.ofBits, Ideal.ieee]

theorem ofBits_64 : Ideal.ofBits .f32 0x42800000#32 = ((64 : ℝ) : EReal) := by
  simp [Ideal.ofBits, Ideal.ieee, -EReal.coe_mul]; norm_num

theorem ofBits_eps : Ideal.ofBits .f32 0x358637BD#32 ≠ ⊥ := by
  simp [Ideal.ofBits, Ideal.ieee, -EReal.coe_mul]

/-- The signed comparison of two small numbers is that of the numbers. -/
theorem slt_64 (d : Fin 128) : IntOp.cmpi .slt (BitVec.ofNat 32 d.val) 64#32 = BitVec.ofBool (decide (d.val < 64)) := by
  revert d; decide

theorem toInt_ofNat {a : ℕ} (ha : a < 2 ^ 31) : (BitVec.ofNat 32 a).toInt = (a : ℤ) := by
  rw [BitVec.toInt_ofNat']
  rw [Int.bmod_eq_of_le] <;> omega

theorem sle_ofNat {a b : ℕ} (ha : a < 2 ^ 31) (hb : b < 2 ^ 31) :
    IntOp.cmpi .sle (BitVec.ofNat 32 a) (BitVec.ofNat 32 b) = BitVec.ofBool (decide (a ≤ b)) := by
  show BitVec.ofBool (BitVec.sle _ _) = _
  congr 1
  rw [BitVec.sle_eq_decide, toInt_ofNat ha, toInt_ofNat hb]
  simp

theorem select_ofBool {α : Type} (p : Prop) [Decidable p] (x y : α) :
    Scalar.select (BitVec.ofBool (decide p)) x y = if p then x else y := by
  by_cases h : p <;> simp [Scalar.select, h]

/-! ## The logits of a block -/

/-- The logit of query row `r` and key row `j` of a block: the product of the rows plus the difference of the gates. -/
def logit (q : FVec Ideal S512x128 .bf16) (c : FVec Ideal S512x1 .f32) (kt : Vec Ideal S1x512x128 .bf16)
    (cr : Vec Ideal S1x1x1x512 .f32) (r j : Fin 512) : EReal :=
  ∑ x : Fin 128, q (ix2 r x) * kt (ix3 0 j x) + (c (ix2 r 0) - cr (ix4 0 0 0 j))

variable (q : FVec Ideal S512x128 .bf16) (c : FVec Ideal S512x1 .f32) (kt : Vec Ideal S1x512x128 .bf16)
  (cr : Vec Ideal S1x1x1x512 .f32) (mo lo : Vec Ideal S1x512x1 .f32) (ao vt : Vec Ideal S1x512x128 .f32)

theorem pay3_apply (r j : Fin 512) : k0_pay3 q c kt cr (ix2 r j) = logit q c kt cr r j := by
  pointwise [k0_pay3, k0_pay1]; rfl

theorem pay11_apply (r j : Fin 512) : k0_pay11 q c (k0_pay1 kt) cr (ix2 r j) = logit q c kt cr r j := by
  pointwise [k0_pay11, k0_pay1]; rfl

theorem pay52_apply (r j : Fin 512) :
    k0_pay52 q c kt cr (ix2 r j) = if j.val ≤ r.val then logit q c kt cr r j else ⊥ := by
  pointwise [k0_pay52, k0_pay50]
  rw [sle_ofNat (by omega) (by omega), select_ofBool, ofBits_neg_inf]
  rfl

theorem pay61_apply (r j : Fin 512) :
    k0_pay61 q c (k0_pay50 kt) cr (ix2 r j) = if j.val ≤ r.val then logit q c kt cr r j else ⊥ := by
  pointwise [k0_pay61, k0_pay50]
  rw [sle_ofNat (by omega) (by omega), select_ofBool, ofBits_neg_inf]
  rfl

/-! ## The running maximum, sum and weighted values

`s` is the row's logits, `v` the values of one lane; `n` keys were read before the block. -/

section

variable (r : Fin 512) (s : ℕ → EReal) (n : ℕ)

section
variable (hS : ∀ j : Fin 512, k0_pay3 q c kt cr (ix2 r j) = s (n + j.val)) (hm : mo (ix3 0 r 0) = mx s n)
include hS hm

theorem pay5_apply : k0_pay5 q c kt cr mo (ix2 r 0) = mx s (n + 512) := by
  pointwise [k0_pay5, k0_pay4]
  rw [ofBits_neg_inf, hm]
  exact fold_max_eq _ s n hS

theorem pay10_apply : k0_pay10 (k0_pay5 q c kt cr mo) (ix3 0 r 0) = mx s (n + 512) := by
  pointwise [k0_pay10]
  exact pay5_apply q c kt cr mo r s n hS hm

theorem pay8_apply (hl : lo (ix3 0 r 0) = lx s n) : k0_pay8 q c kt cr mo lo (ix3 0 r 0) = lx s (n + 512) := by
  pointwise [k0_pay8, k0_pay7, k0_pay6, k0_pay4]
  rw [pay5_apply q c kt cr mo r s n hS hm, hm, hl]
  exact lx_step _ s n hS

theorem pay9_apply (v : ℕ → EReal) (d : Fin 128) (hv : ∀ j : Fin 512, vt (ix3 0 j d) = v (n + j.val))
    (ha : ao (ix3 0 r d) = ax s v n) :
    k0_pay9 (k0_pay2 vt) (k0_pay6 q c kt cr mo) (k0_pay7 q c kt cr mo) ao (ix3 0 r d) = ax s v (n + 512) := by
  pointwise [k0_pay9, k0_pay2, k0_pay7, k0_pay6, k0_pay4]
  rw [pay5_apply q c kt cr mo r s n hS hm, hm, ha]
  exact ax_step (fun j => k0_pay3 q c kt cr (ix2 r j)) _ s v n hS hv
end

section
variable (hS : ∀ j : Fin 512, k0_pay11 q c (k0_pay1 kt) cr (ix2 r j) = s (n + j.val)) (hm : mo (ix3 0 r 0) = mx s n)
include hS hm

theorem pay13_apply : k0_pay13 q c (k0_pay1 kt) cr mo (ix2 r 0) = mx s (n + 512) := by
  pointwise [k0_pay13, k0_pay12]
  rw [ofBits_neg_inf, hm]
  exact fold_max_eq _ s n hS

theorem pay46_apply : k0_pay46 (k0_pay13 q c (k0_pay1 kt) cr mo) (ix3 0 r 0) = mx s (n + 512) := by
  pointwise [k0_pay46]
  exact pay13_apply q c kt cr mo r s n hS hm

theorem pay44_apply (hl : lo (ix3 0 r 0) = lx s n) :
    k0_pay44 (k0_pay16 q c (k0_pay1 kt) cr mo lo) (ix3 0 r 0) = lx s (n + 512) := by
  pointwise [k0_pay44, k0_pay16, k0_pay15, k0_pay14, k0_pay12]
  rw [pay13_apply q c kt cr mo r s n hS hm, hm, hl]
  exact lx_step _ s n hS

theorem pay45_apply (v : ℕ → EReal) (d : Fin 128) (hv : ∀ j : Fin 512, vt (ix3 0 j d) = v (n + j.val))
    (ha : ao (ix3 0 r d) = ax s v n) :
    k0_pay45 (k0_pay2 vt) (k0_pay14 q c (k0_pay1 kt) cr mo) (k0_pay15 q c (k0_pay1 kt) cr mo) ao (ix3 0 r d)
      = ax s v (n + 512) := by
  pointwise [k0_pay45, k0_pay2, k0_pay15, k0_pay14, k0_pay12]
  rw [pay13_apply q c kt cr mo r s n hS hm, hm, ha]
  exact ax_step (fun j => k0_pay11 q c (k0_pay1 kt) cr (ix2 r j)) _ s v n hS hv
end

section
variable (hS : ∀ j : Fin 512, k0_pay52 q c kt cr (ix2 r j) = s (n + j.val)) (hm : mo (ix3 0 r 0) = mx s n)
include hS hm

theorem pay54_apply : k0_pay54 q c kt cr mo (ix2 r 0) = mx s (n + 512) := by
  pointwise [k0_pay54, k0_pay53]
  rw [ofBits_neg_inf, hm]
  exact fold_max_eq _ s n hS

theorem pay58_apply (hl : lo (ix3 0 r 0) = lx s n) :
    k0_pay58 (k0_pay57 q c kt cr mo lo) (ix3 0 r 0) = lx s (n + 512) := by
  pointwise [k0_pay58, k0_pay57, k0_pay56, k0_pay55, k0_pay53]
  rw [pay54_apply q c kt cr mo r s n hS hm, hm, hl]
  exact lx_step _ s n hS

theorem pay59_apply (v : ℕ → EReal) (d : Fin 128) (hv : ∀ j : Fin 512, vt (ix3 0 j d) = v (n + j.val))
    (ha : ao (ix3 0 r d) = ax s v n) :
    k0_pay59 (k0_pay51 vt) (k0_pay55 q c kt cr mo) (k0_pay56 q c kt cr mo) ao (ix3 0 r d) = ax s v (n + 512) := by
  pointwise [k0_pay59, k0_pay51, k0_pay56, k0_pay55, k0_pay53]
  rw [pay54_apply q c kt cr mo r s n hS hm, hm, ha]
  exact ax_step (fun j => k0_pay52 q c kt cr (ix2 r j)) _ s v n hS hv
end

section
variable (hS : ∀ j : Fin 512, k0_pay61 q c (k0_pay50 kt) cr (ix2 r j) = s (n + j.val)) (hm : mo (ix3 0 r 0) = mx s n)
include hS hm

theorem pay63_apply : k0_pay63 q c (k0_pay50 kt) cr mo (ix2 r 0) = mx s (n + 512) := by
  pointwise [k0_pay63, k0_pay62]
  rw [ofBits_neg_inf, hm]
  exact fold_max_eq _ s n hS

theorem pay66_apply (hl : lo (ix3 0 r 0) = lx s n) :
    k0_pay66 (k0_pay61 q c (k0_pay50 kt) cr) (k0_pay63 q c (k0_pay50 kt) cr mo) (k0_pay64 q c (k0_pay50 kt) cr mo) lo
      (ix3 0 r 0) = lx s (n + 512) := by
  pointwise [k0_pay66, k0_pay65, k0_pay64, k0_pay62]
  rw [pay63_apply q c kt cr mo r s n hS hm, hm, hl]
  exact lx_step _ s n hS

theorem pay67_apply (v : ℕ → EReal) (d : Fin 128) (hv : ∀ j : Fin 512, vt (ix3 0 j d) = v (n + j.val))
    (ha : ao (ix3 0 r d) = ax s v n) :
    k0_pay67 (k0_pay51 vt) (k0_pay61 q c (k0_pay50 kt) cr) (k0_pay63 q c (k0_pay50 kt) cr mo)
      (k0_pay64 q c (k0_pay50 kt) cr mo) ao (ix3 0 r d) = ax s v (n + 512) := by
  pointwise [k0_pay67, k0_pay51, k0_pay65, k0_pay64, k0_pay62]
  rw [pay63_apply q c kt cr mo r s n hS hm, hm, ha]
  exact ax_step (fun j => k0_pay61 q c (k0_pay50 kt) cr (ix2 r j)) _ s v n hS hv
end

end

/-! ## The operands a grid point prepares -/

theorem pay36_apply (x : Vec Ideal S1x512x128 .bf16) (r : Fin 512) (d : Fin 128) :
    k0_pay36 x (ix2 r d) = if d.val < 64 then x (ix3 0 r d) else 0 := by
  pointwise [k0_pay36, k0_pay34, k0_pay33, k0_pay35]
  rw [slt_64, select_ofBool]

theorem pay37_apply (x : Vec Ideal S1x512x128 .bf16) (r : Fin 512) (d : Fin 128) :
    k0_pay37 x (ix2 r d) = if d.val < 64 then 0 else x (ix3 0 r d) := by
  pointwise [k0_pay37, k0_pay34, k0_pay33, k0_pay35]
  rw [slt_64, select_ofBool]

theorem pay39_apply (x : Vec Ideal S1x1x8x512 .f32) (r : Fin 512) : k0_pay39 x (ix2 r 0) = x (ix4 0 0 0 r) := by
  pointwise [k0_pay39, k0_pay38]

theorem pay40_apply (x : Vec Ideal S1x1x8x512 .f32) (r : Fin 512) : k0_pay40 x (ix2 r 0) = x (ix4 0 0 1 r) := by
  pointwise [k0_pay40, k0_pay38]

theorem pay41_apply (h : Fin 2) (r : Fin 512) : k0_pay41 (F := Ideal) (ix3 h r 0) = ⊥ := by
  pointwise [k0_pay41]
  exact ofBits_neg_inf

theorem pay42_apply (h : Fin 2) (r : Fin 512) : k0_pay42 (F := Ideal) (ix3 h r 0) = 0 := by
  pointwise [k0_pay42]

theorem pay43_apply (h : Fin 2) (r : Fin 512) (d : Fin 128) : k0_pay43 (F := Ideal) (ix3 h r d) = 0 := by
  pointwise [k0_pay43]

end Cert.Fox

end
-- ==== Proof.Fox.Words.lean ====
/-
  The index words of the attention kernel: how often its loops run, and where each block of keys starts.
-/
module

public import proofs.«01_k».proof.Proof.Gen.KernelIdeal.Skeleton

@[expose] public section

set_option maxRecDepth 16384

noncomputable section

namespace Cert.Fox

open Idealize.ShloMosaic Cert.KernelIdeal Cert.KernelIdeal.Gen

/-- The loop over the blocks below the diagonal runs once per block. -/
theorem trips1 (i : grid0.Coords) : (k0_t1_loop i).trips = (i 2).val := by
  have h : ∀ a : Fin 16, (⟨0#32, Scalar.addi 0#32 (Scalar.muli (Scalar.divsi (Scalar.subi (BitVec.ofNat 32 a.val) 0#32) 1#32) 1#32), 1#32⟩ : Scf.Loop 32).trips = a.val := by
    decide +kernel
  exact h (i 2)

/-- The remainder loop never runs. -/
theorem trips2 (i : grid0.Coords) : (k0_t2_loop i).trips = 0 := by
  have h : ∀ a : Fin 16, (⟨Scalar.addi 0#32 (Scalar.muli (Scalar.divsi (Scalar.subi (BitVec.ofNat 32 a.val) 0#32) 1#32) 1#32), Scalar.addi 0#32 (Scalar.subi (BitVec.ofNat 32 a.val) 0#32), 1#32⟩ : Scf.Loop 32).trips = 0 := by
    decide +kernel
  exact h (i 2)

theorem block_word (i : grid0.Coords) (k : Fin (k0_t1_loop i).trips) :
    (Scalar.indexCast (Scalar.muli (Scf.iv 0#32 1#32 k) 512#32) : Index).toNat = 512 * k.val := by
  have h : ∀ a : Fin 16, (Scalar.indexCast (Scalar.muli (Scf.iv 0#32 1#32 a) 512#32) : Index).toNat = 512 * a.val := by
    decide +kernel
  have hk : k.val < 16 := by
    have h1 := lt_of_lt_of_eq k.isLt (trips1 i)
    have h2 : (i 2).val < 16 := (i 2).isLt
    omega
  exact h ⟨k.val, hk⟩

theorem off1_eq (i : grid0.Coords) (k : Fin (k0_t1_loop i).trips) : k0_off1 i k = ![0, 512 * k.val, 0] := by
  rw [← block_word i k]; rfl

theorem off2_eq (i : grid0.Coords) (k : Fin (k0_t1_loop i).trips) : k0_off2 i k = ![0, 0, 0, 512 * k.val] := by
  rw [← block_word i k]; rfl

theorem off3_eq (i : grid0.Coords) (k : Fin (k0_t1_loop i).trips) : k0_off3 i k = ![0, 0, 1, 512 * k.val] := by
  rw [← block_word i k]; rfl

theorem diag_word (i : grid0.Coords) :
    (Scalar.indexCast (Scalar.muli (BitVec.ofNat 32 (i 2).val) 512#32) : Index).toNat = 512 * (i 2).val := by
  have h : ∀ a : Fin 16, (Scalar.indexCast (Scalar.muli (BitVec.ofNat 32 a.val) 512#32) : Index).toNat = 512 * a.val := by
    decide +kernel
  exact h (i 2)

theorem off7_eq (i : grid0.Coords) : k0_off7 i = ![0, 512 * (i 2).val, 0] := by
  rw [← diag_word i]; rfl

theorem off8_eq (i : grid0.Coords) : k0_off8 i = ![0, 0, 0, 512 * (i 2).val] := by
  rw [← diag_word i]; rfl

theorem off9_eq (i : grid0.Coords) : k0_off9 i = ![0, 0, 1, 512 * (i 2).val] := by
  rw [← diag_word i]; rfl

end Cert.Fox

end
-- ==== Proof.Fox.Trip.lean ====
/-
  One trip of the attention kernel's loop: from the running maximum, sum and weighted values of the keys before a block
  to those of the keys up to its end, for both heads.
-/
module

public import proofs.«01_k».proof.Proof.Gen.KernelIdeal.Loops
public import proofs.«01_k».proof.Proof.Fox.Tile
public import proofs.«01_k».proof.Proof.Fox.Words
public import Idealize.ShloMosaic.Lib.WritesUnit
public import Idealize.ShloMosaic.Lib.Pipeline.ValueKit

@[expose] public section

set_option maxRecDepth 16384

noncomputable section

namespace Cert.Fox

open Idealize.ShloMosaic Idealize.ShloMosaic.TcCoe Idealize.ShloMosaic.Tactic Idealize.SL Cert.KernelIdeal Cert.KernelIdeal.Gen

/-- The logit of query row `r` of a block and key row `j` of the whole sequence. -/
def rowLogit (q : FVec Ideal S512x128 .bf16) (c : FVec Ideal S512x1 .f32) (K : Vec Ideal S1x8192x128 .bf16)
    (C : Vec Ideal S1x1x8x8192 .f32) (h : Fin 8) (r : Fin 512) (j : Fin 8192) : EReal :=
  ∑ x : Fin 128, q (ix2 r x) * K (ix3 0 j x) + (c (ix2 r 0) - C (ix4 0 0 h j))

/-- The state of one head after `n` keys. -/
structure St (m l : Vec Ideal S2x512x1 .f32) (a : Vec Ideal S2x512x128 .f32) (h : Fin 2) (s : Fin 512 → ℕ → EReal)
    (v : Fin 128 → ℕ → EReal) (n : ℕ) : Prop where
  max : ∀ r, m (ix3 h r 0) = mx (s r) n
  sum : ∀ r, l (ix3 h r 0) = lx (s r) n
  val : ∀ r d, a (ix3 h r d) = ax (s r) (v d) n

theorem ld_k {f : FVec Ideal S1x8192x128 .bf16} {n : ℕ} {off : Fin 3 → ℕ} (ho : off = ![0, n, 0]) (inb) (j : Fin 512) (d : Fin 128)
    (hn : n + j.val < 8192) :
    View.ld (Val := Elt Ideal) (e' := .bf16) f (Rect.unit (s := S1x8192x128) off S1x512x128.size inb) (ix3 0 j d) = f (ix3 0 ⟨n + j.val, hn⟩ d) := by
  subst ho
  refine View.ld_unit_apply_of (Val := Elt Ideal) _ _ _ _ _ _ fun a => ?_
  match a with
  | 0 => rfl
  | 1 => rfl
  | 2 => exact (Nat.zero_add _).symm

theorem ld_c {f : FVec Ideal S1x1x8x8192 .f32} {n : ℕ} {h : Fin 8} {off : Fin 4 → ℕ} (ho : off = ![0, 0, h.val, n]) (inb) (j : Fin 512)
    (hn : n + j.val < 8192) :
    View.ld (Val := Elt Ideal) (e' := .f32) f (Rect.unit (s := S1x1x8x8192) off S1x1x1x512.size inb) (ix4 0 0 0 j) = f (ix4 0 0 h ⟨n + j.val, hn⟩) := by
  subst ho
  refine View.ld_unit_apply_of (Val := Elt Ideal) _ _ _ _ _ _ fun a => ?_
  match a with
  | 0 => rfl
  | 1 => rfl
  | 2 => rfl
  | 3 => rfl

/-- A block's logits are the sequence's. -/
theorem logit_tile (q : FVec Ideal S512x128 .bf16) (c : FVec Ideal S512x1 .f32) (K : FVec Ideal S1x8192x128 .bf16)
    (C : FVec Ideal S1x1x8x8192 .f32) (h : Fin 8) {n : ℕ} {off : Fin 3 → ℕ} {off' : Fin 4 → ℕ} (ho : off = ![0, n, 0])
    (ho' : off' = ![0, 0, h.val, n]) (inb inb') (r j : Fin 512) (hn : n + j.val < 8192) :
    logit q c (View.ld (Val := Elt Ideal) (e' := .bf16) K (Rect.unit (s := S1x8192x128) off S1x512x128.size inb))
      (View.ld (Val := Elt Ideal) (e' := .f32) C (Rect.unit (s := S1x1x8x8192) off' S1x1x1x512.size inb')) r j = rowLogit q c K C h r ⟨n + j.val, hn⟩ := by
  unfold logit rowLogit
  rw [ld_c ho' inb' j hn]
  congr 1
  refine Finset.sum_congr rfl fun x _ => ?_
  rw [ld_k ho inb j x hn]

theorem ld_m {f : FVec Ideal S2x512x1 .f32} (h : Fin 2) (inb) (r : Fin 512) :
    View.ld (Val := Elt Ideal) (e' := .f32) f (Rect.unit (s := S2x512x1) ![h.val, 0, 0] S1x512x1.size inb) (ix3 0 r 0) = f (ix3 h r 0) := by
  refine View.ld_unit_apply_of (Val := Elt Ideal) _ _ _ _ _ _ fun a => ?_
  match a with
  | 0 => rfl
  | 1 => exact (Nat.zero_add _).symm
  | 2 => rfl

theorem ld_a {f : FVec Ideal S2x512x128 .f32} (h : Fin 2) (inb) (r : Fin 512) (d : Fin 128) :
    View.ld (Val := Elt Ideal) (e' := .f32) f (Rect.unit (s := S2x512x128) ![h.val, 0, 0] S1x512x128.size inb) (ix3 0 r d) = f (ix3 h r d) := by
  refine View.ld_unit_apply_of (Val := Elt Ideal) _ _ _ _ _ _ fun a => ?_
  match a with
  | 0 => rfl
  | 1 => exact (Nat.zero_add _).symm
  | 2 => exact (Nat.zero_add _).symm

section

variable (𝒱 : Variants) (c : Dev nD) (bd : Option 𝒱.V)
  (i : grid0.Coords) (arg3 : Memref sig .tc .vmem S1x512x128 .bf16) (harg3 : arg3.IsWhole)
  (arg4 : Memref sig .tc .vmem S1x8192x128 .bf16) (harg4 : arg4.IsWhole) (arg5 : Memref sig .tc .vmem S1x8192x128 .bf16)
  (harg5 : arg5.IsWhole) (arg6 : Memref sig .tc .vmem S1x1x8x512 .f32) (harg6 : arg6.IsWhole)
  (arg7 : Memref sig .tc .vmem S1x1x8x8192 .f32) (harg7 : arg7.IsWhole) (arg8 : Memref sig .tc .vmem S1x128 .f32)
  (harg8 : arg8.IsWhole) (arg9 : Memref sig .tc .vmem S1x512x128 .bf16) (harg9 : arg9.IsWhole)
  (arg10 : Memref sig .tc .vmem S2x512x1 .f32) (harg10 : arg10.IsWhole) (arg11 : Memref sig .tc .vmem S2x512x1 .f32)
  (harg11 : arg11.IsWhole) (arg12 : Memref sig .tc .vmem S2x512x128 .f32) (harg12 : arg12.IsWhole)
  (arg2 : BitVec 32) (v6 : FVec Ideal S512x128 .bf16) (v7 : FVec Ideal S512x128 .bf16)
  (v11 : FVec Ideal S512x1 .f32) (v12 : FVec Ideal S512x1 .f32) (c0_i32_18 : BitVec 32)
  (v29 : BitVec 32) (X_arg4 : BufTy.Contents (Elt Ideal) arg4.view.ty) (X_arg5 : BufTy.Contents (Elt Ideal) arg5.view.ty)
  (X_arg7 : BufTy.Contents (Elt Ideal) arg7.view.ty) (k : Fin (k0_t1_loop i).trips)

section

variable (f10 : BufTy.Contents (Elt Ideal) arg10.view.ty) (f11 : BufTy.Contents (Elt Ideal) arg11.view.ty)
  (f12 : BufTy.Contents (Elt Ideal) arg12.view.ty) (k : Fin (k0_t1_loop i).trips)
  (s : Fin 512 → ℕ → EReal) (v : Fin 128 → ℕ → EReal)

/-- One trip, first head. -/
theorem trip_fst
    (hv : ∀ (d : Fin 128) (j : Fin 8192), arg5.view.read (Elt Ideal) X_arg5 (ix3 0 j d) = v d j.val)
    (hs : ∀ (r : Fin 512) (j : Fin 8192), j.val < 512 * (i 2).val →
      rowLogit v6 v11 (arg4.view.read (Elt Ideal) X_arg4) (arg7.view.read (Elt Ideal) X_arg7) 0 r j = s r j.val)
    (h : St (arg10.view.read (Elt Ideal) f10) (arg11.view.read (Elt Ideal) f11) (arg12.view.read (Elt Ideal) f12) 0 s v (512 * k.val)) :
    St (arg10.view.read (Elt Ideal) (arg10.view.writes (Elt Ideal) f10 (tripL_k0_t1 𝒱 c bd i arg3 harg3 arg4 harg4 arg5 harg5 arg6 harg6 arg7 harg7 arg8 harg8 arg9 harg9 arg10 harg10 arg11 harg11 arg12 harg12 arg2 v6 v7 v11 v12 c0_i32_18 v29 X_arg4 X_arg5 X_arg7 k f10 f11 f12).1))
      (arg11.view.read (Elt Ideal) (arg11.view.writes (Elt Ideal) f11 (tripL_k0_t1 𝒱 c bd i arg3 harg3 arg4 harg4 arg5 harg5 arg6 harg6 arg7 harg7 arg8 harg8 arg9 harg9 arg10 harg10 arg11 harg11 arg12 harg12 arg2 v6 v7 v11 v12 c0_i32_18 v29 X_arg4 X_arg5 X_arg7 k f10 f11 f12).2.1))
      (arg12.view.read (Elt Ideal) (arg12.view.writes (Elt Ideal) f12 (tripL_k0_t1 𝒱 c bd i arg3 harg3 arg4 harg4 arg5 harg5 arg6 harg6 arg7 harg7 arg8 harg8 arg9 harg9 arg10 harg10 arg11 harg11 arg12 harg12 arg2 v6 v7 v11 v12 c0_i32_18 v29 X_arg4 X_arg5 X_arg7 k f10 f11 f12).2.2)) 0 s v (512 * (k.val + 1)) := by
  have hk := lt_of_lt_of_eq k.isLt (trips1 i)
  have h16 : (i 2).val < 16 := (i 2).isLt
  have hS : ∀ (r j : Fin 512), k0_pay3 v6 v11 (View.ld (arg4.view.read (Elt Ideal) X_arg4) (Rect.unit (s := S1x8192x128) (k0_off1 i k) S1x512x128.size (k0_off1_inb i k)))
      (View.ld (arg7.view.read (Elt Ideal) X_arg7) (Rect.unit (s := S1x1x8x8192) (k0_off2 i k) S1x1x1x512.size (k0_off2_inb i k))) (ix2 r j) = s r (512 * k.val + j.val) := by
    intro r j
    rw [pay3_apply, logit_tile _ _ _ _ 0 (off1_eq i k) (off2_eq i k) _ _ r j (by omega)]
    exact hs r _ (show 512 * k.val + j.val < _ by omega)
  constructor
  · intro r
    unfold tripL_k0_t1 trip_k0_t1
    dsimp only
    sl_unfold_words
    rw [View.read_writes_cons_unit_of_not_mem _ _ _ _ _ _ rfl 0 (Or.inl Nat.zero_lt_one)]
    rw [View.read_writes_cons_unit_of_mem _ _ _ _ _ _ (ix3 0 r 0) rfl (by intro a; match a with | 0 => rfl | 1 => exact (Nat.zero_add _).symm | 2 => rfl)]
    exact pay10_apply _ _ _ _ _ r (s r) _ (hS r) ((ld_m 0 _ r).trans (h.max r))
  · intro r
    unfold tripL_k0_t1 trip_k0_t1
    dsimp only
    sl_unfold_words
    rw [View.read_writes_cons_unit_of_not_mem _ _ _ _ _ _ rfl 0 (Or.inl Nat.zero_lt_one)]
    rw [View.read_writes_cons_unit_of_mem _ _ _ _ _ _ (ix3 0 r 0) rfl (by intro a; match a with | 0 => rfl | 1 => exact (Nat.zero_add _).symm | 2 => rfl)]
    exact pay8_apply _ _ _ _ _ _ r (s r) _ (hS r) ((ld_m 0 _ r).trans (h.max r)) ((ld_m 0 _ r).trans (h.sum r))
  · intro r d
    unfold tripL_k0_t1 trip_k0_t1
    dsimp only
    sl_unfold_words
    rw [View.read_writes_cons_unit_of_not_mem _ _ _ _ _ _ rfl 0 (Or.inl Nat.zero_lt_one)]
    rw [View.read_writes_cons_unit_of_mem _ _ _ _ _ _ (ix3 0 r d) rfl (by intro a; match a with | 0 => rfl | 1 => exact (Nat.zero_add _).symm | 2 => exact (Nat.zero_add _).symm)]
    exact pay9_apply _ _ _ _ _ _ _ r (s r) _ (hS r) ((ld_m 0 _ r).trans (h.max r)) (v d) d
      (fun j => (ld_k (off1_eq i k) _ j d (by omega)).trans (hv d _)) ((ld_a 0 _ r d).trans (h.val r d))

/-- One trip, second head. -/
theorem trip_snd
    (hv : ∀ (d : Fin 128) (j : Fin 8192), arg5.view.read (Elt Ideal) X_arg5 (ix3 0 j d) = v d j.val)
    (hs : ∀ (r : Fin 512) (j : Fin 8192), j.val < 512 * (i 2).val →
      rowLogit v7 v12 (arg4.view.read (Elt Ideal) X_arg4) (arg7.view.read (Elt Ideal) X_arg7) 1 r j = s r j.val)
    (h : St (arg10.view.read (Elt Ideal) f10) (arg11.view.read (Elt Ideal) f11) (arg12.view.read (Elt Ideal) f12) 1 s v (512 * k.val)) :
    St (arg10.view.read (Elt Ideal) (arg10.view.writes (Elt Ideal) f10 (tripL_k0_t1 𝒱 c bd i arg3 harg3 arg4 harg4 arg5 harg5 arg6 harg6 arg7 harg7 arg8 harg8 arg9 harg9 arg10 harg10 arg11 harg11 arg12 harg12 arg2 v6 v7 v11 v12 c0_i32_18 v29 X_arg4 X_arg5 X_arg7 k f10 f11 f12).1))
      (arg11.view.read (Elt Ideal) (arg11.view.writes (Elt Ideal) f11 (tripL_k0_t1 𝒱 c bd i arg3 harg3 arg4 harg4 arg5 harg5 arg6 harg6 arg7 harg7 arg8 harg8 arg9 harg9 arg10 harg10 arg11 harg11 arg12 harg12 arg2 v6 v7 v11 v12 c0_i32_18 v29 X_arg4 X_arg5 X_arg7 k f10 f11 f12).2.1))
      (arg12.view.read (Elt Ideal) (arg12.view.writes (Elt Ideal) f12 (tripL_k0_t1 𝒱 c bd i arg3 harg3 arg4 harg4 arg5 harg5 arg6 harg6 arg7 harg7 arg8 harg8 arg9 harg9 arg10 harg10 arg11 harg11 arg12 harg12 arg2 v6 v7 v11 v12 c0_i32_18 v29 X_arg4 X_arg5 X_arg7 k f10 f11 f12).2.2)) 1 s v (512 * (k.val + 1)) := by
  have hk := lt_of_lt_of_eq k.isLt (trips1 i)
  have h16 : (i 2).val < 16 := (i 2).isLt
  have hS : ∀ (r j : Fin 512), k0_pay11 v7 v12 (k0_pay1 (View.ld (arg4.view.read (Elt Ideal) X_arg4) (Rect.unit (s := S1x8192x128) (k0_off1 i k) S1x512x128.size (k0_off1_inb i k))))
      (View.ld (arg7.view.read (Elt Ideal) X_arg7) (Rect.unit (s := S1x1x8x8192) (k0_off3 i k) S1x1x1x512.size (k0_off3_inb i k))) (ix2 r j) = s r (512 * k.val + j.val) := by
    intro r j
    rw [pay11_apply, logit_tile _ _ _ _ 1 (off1_eq i k) (off3_eq i k) _ _ r j (by omega)]
    exact hs r _ (show 512 * k.val + j.val < _ by omega)
  constructor
  · intro r
    unfold tripL_k0_t1 trip_k0_t1
    dsimp only
    sl_unfold_words
    rw [View.read_writes_cons_unit_of_mem _ _ _ _ _ _ (ix3 0 r 0) rfl (by intro a; match a with | 0 => rfl | 1 => exact (Nat.zero_add _).symm | 2 => rfl)]
    exact pay46_apply _ _ _ _ _ r (s r) _ (hS r) ((ld_m 1 _ r).trans (h.max r))
  · intro r
    unfold tripL_k0_t1 trip_k0_t1
    dsimp only
    sl_unfold_words
    rw [View.read_writes_cons_unit_of_mem _ _ _ _ _ _ (ix3 0 r 0) rfl (by intro a; match a with | 0 => rfl | 1 => exact (Nat.zero_add _).symm | 2 => rfl)]
    exact pay44_apply _ _ _ _ _ _ r (s r) _ (hS r) ((ld_m 1 _ r).trans (h.max r)) ((ld_m 1 _ r).trans (h.sum r))
  · intro r d
    unfold tripL_k0_t1 trip_k0_t1
    dsimp only
    sl_unfold_words
    rw [View.read_writes_cons_unit_of_mem _ _ _ _ _ _ (ix3 0 r d) rfl (by intro a; match a with | 0 => rfl | 1 => exact (Nat.zero_add _).symm | 2 => exact (Nat.zero_add _).symm)]
    exact pay45_apply _ _ _ _ _ _ _ r (s r) _ (hS r) ((ld_m 1 _ r).trans (h.max r)) (v d) d
      (fun j => (ld_k (off1_eq i k) _ j d (by omega)).trans (hv d _)) ((ld_a 1 _ r d).trans (h.val r d))

end

end

end Cert.Fox

end
-- ==== Proof.Fox.Loop.lean ====
/-
  The attention kernel's loop over the blocks below the diagonal: after it, the running maximum, sum and weighted values
  are those of all keys before the diagonal block.
-/
module

public import proofs.«01_k».proof.Proof.Fox.Trip

@[expose] public section

set_option maxRecDepth 16384

noncomputable section

namespace Cert.Fox

open Idealize.ShloMosaic Idealize.ShloMosaic.TcCoe Idealize.ShloMosaic.Tactic Idealize.SL Cert.KernelIdeal Cert.KernelIdeal.Gen

variable (𝒱 : Variants) (c : Dev nD) (bd : Option 𝒱.V)
  (i : grid0.Coords) (arg3 : Memref sig .tc .vmem S1x512x128 .bf16) (harg3 : arg3.IsWhole)
  (arg4 : Memref sig .tc .vmem S1x8192x128 .bf16) (harg4 : arg4.IsWhole) (arg5 : Memref sig .tc .vmem S1x8192x128 .bf16)
  (harg5 : arg5.IsWhole) (arg6 : Memref sig .tc .vmem S1x1x8x512 .f32) (harg6 : arg6.IsWhole)
  (arg7 : Memref sig .tc .vmem S1x1x8x8192 .f32) (harg7 : arg7.IsWhole) (arg8 : Memref sig .tc .vmem S1x128 .f32)
  (harg8 : arg8.IsWhole) (arg9 : Memref sig .tc .vmem S1x512x128 .bf16) (harg9 : arg9.IsWhole)
  (arg10 : Memref sig .tc .vmem S2x512x1 .f32) (harg10 : arg10.IsWhole) (arg11 : Memref sig .tc .vmem S2x512x1 .f32)
  (harg11 : arg11.IsWhole) (arg12 : Memref sig .tc .vmem S2x512x128 .f32) (harg12 : arg12.IsWhole)
  (arg2 : BitVec 32) (v6 : FVec Ideal S512x128 .bf16) (v7 : FVec Ideal S512x128 .bf16)
  (v11 : FVec Ideal S512x1 .f32) (v12 : FVec Ideal S512x1 .f32) (c0_i32_18 : BitVec 32)
  (v29 : BitVec 32) (X_arg4 : BufTy.Contents (Elt Ideal) arg4.view.ty) (X_arg5 : BufTy.Contents (Elt Ideal) arg5.view.ty)
  (X_arg7 : BufTy.Contents (Elt Ideal) arg7.view.ty) (k : Fin (k0_t1_loop i).trips)
  (s : Fin 512 → ℕ → EReal) (v : Fin 128 → ℕ → EReal)

section

variable (g10 : BufTy.Contents (Elt Ideal) arg10.view.ty) (g11 : BufTy.Contents (Elt Ideal) arg11.view.ty)
  (g12 : BufTy.Contents (Elt Ideal) arg12.view.ty)

/-- The loop, first head. -/
theorem loop_fst
    (hv : ∀ (d : Fin 128) (j : Fin 8192), arg5.view.read (Elt Ideal) X_arg5 (ix3 0 j d) = v d j.val)
    (hs : ∀ (r : Fin 512) (j : Fin 8192), j.val < 512 * (i 2).val →
      rowLogit v6 v11 (arg4.view.read (Elt Ideal) X_arg4) (arg7.view.read (Elt Ideal) X_arg7) 0 r j = s r j.val)
    (h : St (arg10.view.read (Elt Ideal) g10) (arg11.view.read (Elt Ideal) g11) (arg12.view.read (Elt Ideal) g12) 0 s v 0) (n : ℕ)
    (hn : n ≤ (i 2).val) :
    St (arg10.view.read (Elt Ideal) (arg10.view.writes (Elt Ideal) g10 (pb_k0_t1 𝒱 c bd i arg3 harg3 arg4 harg4 arg5 harg5 arg6 harg6 arg7 harg7 arg8 harg8 arg9 harg9 arg10 harg10 arg11 harg11 arg12 harg12 arg2 v6 v7 v11 v12 c0_i32_18 v29 X_arg4 X_arg5 X_arg7 g10 g11 g12 n).1))
      (arg11.view.read (Elt Ideal) (arg11.view.writes (Elt Ideal) g11 (pb_k0_t1 𝒱 c bd i arg3 harg3 arg4 harg4 arg5 harg5 arg6 harg6 arg7 harg7 arg8 harg8 arg9 harg9 arg10 harg10 arg11 harg11 arg12 harg12 arg2 v6 v7 v11 v12 c0_i32_18 v29 X_arg4 X_arg5 X_arg7 g10 g11 g12 n).2.1))
      (arg12.view.read (Elt Ideal) (arg12.view.writes (Elt Ideal) g12 (pb_k0_t1 𝒱 c bd i arg3 harg3 arg4 harg4 arg5 harg5 arg6 harg6 arg7 harg7 arg8 harg8 arg9 harg9 arg10 harg10 arg11 harg11 arg12 harg12 arg2 v6 v7 v11 v12 c0_i32_18 v29 X_arg4 X_arg5 X_arg7 g10 g11 g12 n).2.2)) 0 s v (512 * n) := by
  induction n with
  | zero => exact h
  | succ n ih =>
    have hk : n < (k0_t1_loop i).trips := by rw [trips1]; omega
    have h1 := trip_fst 𝒱 c bd i arg3 harg3 arg4 harg4 arg5 harg5 arg6 harg6 arg7 harg7 arg8 harg8 arg9 harg9 arg10 harg10 arg11 harg11 arg12 harg12 arg2 v6 v7 v11 v12 c0_i32_18 v29 X_arg4 X_arg5 X_arg7 _ _ _ ⟨n, hk⟩ s v hv hs (ih (by omega))
    rw [show pb_k0_t1 𝒱 c bd i arg3 harg3 arg4 harg4 arg5 harg5 arg6 harg6 arg7 harg7 arg8 harg8 arg9 harg9 arg10 harg10 arg11 harg11 arg12 harg12 arg2 v6 v7 v11 v12 c0_i32_18 v29 X_arg4 X_arg5 X_arg7 g10 g11 g12 (n + 1) = _ from pb_k0_t1_succ 𝒱 c bd i arg3 harg3 arg4 harg4 arg5 harg5 arg6 harg6 arg7 harg7 arg8 harg8 arg9 harg9 arg10 harg10 arg11 harg11 arg12 harg12 arg2 v6 v7 v11 v12 c0_i32_18 v29 X_arg4 X_arg5 X_arg7 g10 g11 g12 ⟨n, hk⟩]
    dsimp only
    rw [View.writes_append, View.writes_append, View.writes_append]
    exact h1

/-- The loop, second head. -/
theorem loop_snd
    (hv : ∀ (d : Fin 128) (j : Fin 8192), arg5.view.read (Elt Ideal) X_arg5 (ix3 0 j d) = v d j.val)
    (hs : ∀ (r : Fin 512) (j : Fin 8192), j.val < 512 * (i 2).val →
      rowLogit v7 v12 (arg4.view.read (Elt Ideal) X_arg4) (arg7.view.read (Elt Ideal) X_arg7) 1 r j = s r j.val)
    (h : St (arg10.view.read (Elt Ideal) g10) (arg11.view.read (Elt Ideal) g11) (arg12.view.read (Elt Ideal) g12) 1 s v 0) (n : ℕ)
    (hn : n ≤ (i 2).val) :
    St (arg10.view.read (Elt Ideal) (arg10.view.writes (Elt Ideal) g10 (pb_k0_t1 𝒱 c bd i arg3 harg3 arg4 harg4 arg5 harg5 arg6 harg6 arg7 harg7 arg8 harg8 arg9 harg9 arg10 harg10 arg11 harg11 arg12 harg12 arg2 v6 v7 v11 v12 c0_i32_18 v29 X_arg4 X_arg5 X_arg7 g10 g11 g12 n).1))
      (arg11.view.read (Elt Ideal) (arg11.view.writes (Elt Ideal) g11 (pb_k0_t1 𝒱 c bd i arg3 harg3 arg4 harg4 arg5 harg5 arg6 harg6 arg7 harg7 arg8 harg8 arg9 harg9 arg10 harg10 arg11 harg11 arg12 harg12 arg2 v6 v7 v11 v12 c0_i32_18 v29 X_arg4 X_arg5 X_arg7 g10 g11 g12 n).2.1))
      (arg12.view.read (Elt Ideal) (arg12.view.writes (Elt Ideal) g12 (pb_k0_t1 𝒱 c bd i arg3 harg3 arg4 harg4 arg5 harg5 arg6 harg6 arg7 harg7 arg8 harg8 arg9 harg9 arg10 harg10 arg11 harg11 arg12 harg12 arg2 v6 v7 v11 v12 c0_i32_18 v29 X_arg4 X_arg5 X_arg7 g10 g11 g12 n).2.2)) 1 s v (512 * n) := by
  induction n with
  | zero => exact h
  | succ n ih =>
    have hk : n < (k0_t1_loop i).trips := by rw [trips1]; omega
    have h1 := trip_snd 𝒱 c bd i arg3 harg3 arg4 harg4 arg5 harg5 arg6 harg6 arg7 harg7 arg8 harg8 arg9 harg9 arg10 harg10 arg11 harg11 arg12 harg12 arg2 v6 v7 v11 v12 c0_i32_18 v29 X_arg4 X_arg5 X_arg7 _ _ _ ⟨n, hk⟩ s v hv hs (ih (by omega))
    rw [show pb_k0_t1 𝒱 c bd i arg3 harg3 arg4 harg4 arg5 harg5 arg6 harg6 arg7 harg7 arg8 harg8 arg9 harg9 arg10 harg10 arg11 harg11 arg12 harg12 arg2 v6 v7 v11 v12 c0_i32_18 v29 X_arg4 X_arg5 X_arg7 g10 g11 g12 (n + 1) = _ from pb_k0_t1_succ 𝒱 c bd i arg3 harg3 arg4 harg4 arg5 harg5 arg6 harg6 arg7 harg7 arg8 harg8 arg9 harg9 arg10 harg10 arg11 harg11 arg12 harg12 arg2 v6 v7 v11 v12 c0_i32_18 v29 X_arg4 X_arg5 X_arg7 g10 g11 g12 ⟨n, hk⟩]
    dsimp only
    rw [View.writes_append, View.writes_append, View.writes_append]
    exact h1

theorem pb2_zero (n : ℕ) (hn : n = 0) : pb_k0_t2 𝒱 c bd i arg3 harg3 arg4 harg4 arg5 harg5 arg6 harg6 arg7 harg7 arg8 harg8 arg9 harg9 arg10 harg10 arg11 harg11 arg12 harg12 arg2 v6 v7 v11 v12 c0_i32_18 v29 X_arg4 X_arg5 X_arg7 g10 g11 g12 n = ([], [], []) := by
  subst hn
  rfl

end

section

variable (R10 R11 : List (View.Piece (Elt Ideal) S2x512x1 .f32)) (R12 : List (View.Piece (Elt Ideal) S2x512x128 .f32))

/-- Both loops, first head. -/
theorem loops_fst
    (hv : ∀ (d : Fin 128) (j : Fin 8192), arg5.view.read (Elt Ideal) X_arg5 (ix3 0 j d) = v d j.val)
    (hs : ∀ (r : Fin 512) (j : Fin 8192), j.val < 512 * (i 2).val →
      rowLogit v6 v11 (arg4.view.read (Elt Ideal) X_arg4) (arg7.view.read (Elt Ideal) X_arg7) 0 r j = s r j.val)
    (h : St (arg10.view.read (Elt Ideal) (arg10.view.writes (Elt Ideal) arg10.view.junk R10)) (arg11.view.read (Elt Ideal) (arg11.view.writes (Elt Ideal) arg11.view.junk R11))
      (arg12.view.read (Elt Ideal) (arg12.view.writes (Elt Ideal) arg12.view.junk R12)) 0 s v 0) :
    St (arg10.view.read (Elt Ideal) (arg10.view.writes (Elt Ideal) arg10.view.junk ((pb_k0_t2 𝒱 c bd i arg3 harg3 arg4 harg4 arg5 harg5 arg6 harg6 arg7 harg7 arg8 harg8 arg9 harg9 arg10 harg10 arg11 harg11 arg12 harg12 arg2 v6 v7 v11 v12 c0_i32_18 v29 X_arg4 X_arg5 X_arg7 (arg10.view.writes (Elt Ideal) arg10.view.junk ((pb_k0_t1 𝒱 c bd i arg3 harg3 arg4 harg4 arg5 harg5 arg6 harg6 arg7 harg7 arg8 harg8 arg9 harg9 arg10 harg10 arg11 harg11 arg12 harg12 arg2 v6 v7 v11 v12 c0_i32_18 v29 X_arg4 X_arg5 X_arg7 (arg10.view.writes (Elt Ideal) arg10.view.junk R10) (arg11.view.writes (Elt Ideal) arg11.view.junk R11) (arg12.view.writes (Elt Ideal) arg12.view.junk R12) (Scf.trips (k0_t1_loop i).lb (k0_t1_loop i).ub (k0_t1_loop i).st)).1 ++ R10)) (arg11.view.writes (Elt Ideal) arg11.view.junk ((pb_k0_t1 𝒱 c bd i arg3 harg3 arg4 harg4 arg5 harg5 arg6 harg6 arg7 harg7 arg8 harg8 arg9 harg9 arg10 harg10 arg11 harg11 arg12 harg12 arg2 v6 v7 v11 v12 c0_i32_18 v29 X_arg4 X_arg5 X_arg7 (arg10.view.writes (Elt Ideal) arg10.view.junk R10) (arg11.view.writes (Elt Ideal) arg11.view.junk R11) (arg12.view.writes (Elt Ideal) arg12.view.junk R12) (Scf.trips (k0_t1_loop i).lb (k0_t1_loop i).ub (k0_t1_loop i).st)).2.1 ++ R11)) (arg12.view.writes (Elt Ideal) arg12.view.junk ((pb_k0_t1 𝒱 c bd i arg3 harg3 arg4 harg4 arg5 harg5 arg6 harg6 arg7 harg7 arg8 harg8 arg9 harg9 arg10 harg10 arg11 harg11 arg12 harg12 arg2 v6 v7 v11 v12 c0_i32_18 v29 X_arg4 X_arg5 X_arg7 (arg10.view.writes (Elt Ideal) arg10.view.junk R10) (arg11.view.writes (Elt Ideal) arg11.view.junk R11) (arg12.view.writes (Elt Ideal) arg12.view.junk R12) (Scf.trips (k0_t1_loop i).lb (k0_t1_loop i).ub (k0_t1_loop i).st)).2.2 ++ R12)) (Scf.trips (k0_t2_loop i).lb (k0_t2_loop i).ub (k0_t2_loop i).st)).1 ++ ((pb_k0_t1 𝒱 c bd i arg3 harg3 arg4 harg4 arg5 harg5 arg6 harg6 arg7 harg7 arg8 harg8 arg9 harg9 arg10 harg10 arg11 harg11 arg12 harg12 arg2 v6 v7 v11 v12 c0_i32_18 v29 X_arg4 X_arg5 X_arg7 (arg10.view.writes (Elt Ideal) arg10.view.junk R10) (arg11.view.writes (Elt Ideal) arg11.view.junk R11) (arg12.view.writes (Elt Ideal) arg12.view.junk R12) (Scf.trips (k0_t1_loop i).lb (k0_t1_loop i).ub (k0_t1_loop i).st)).1 ++ R10))))
      (arg11.view.read (Elt Ideal) (arg11.view.writes (Elt Ideal) arg11.view.junk ((pb_k0_t2 𝒱 c bd i arg3 harg3 arg4 harg4 arg5 harg5 arg6 harg6 arg7 harg7 arg8 harg8 arg9 harg9 arg10 harg10 arg11 harg11 arg12 harg12 arg2 v6 v7 v11 v12 c0_i32_18 v29 X_arg4 X_arg5 X_arg7 (arg10.view.writes (Elt Ideal) arg10.view.junk ((pb_k0_t1 𝒱 c bd i arg3 harg3 arg4 harg4 arg5 harg5 arg6 harg6 arg7 harg7 arg8 harg8 arg9 harg9 arg10 harg10 arg11 harg11 arg12 harg12 arg2 v6 v7 v11 v12 c0_i32_18 v29 X_arg4 X_arg5 X_arg7 (arg10.view.writes (Elt Ideal) arg10.view.junk R10) (arg11.view.writes (Elt Ideal) arg11.view.junk R11) (arg12.view.writes (Elt Ideal) arg12.view.junk R12) (Scf.trips (k0_t1_loop i).lb (k0_t1_loop i).ub (k0_t1_loop i).st)).1 ++ R10)) (arg11.view.writes (Elt Ideal) arg11.view.junk ((pb_k0_t1 𝒱 c bd i arg3 harg3 arg4 harg4 arg5 harg5 arg6 harg6 arg7 harg7 arg8 harg8 arg9 harg9 arg10 harg10 arg11 harg11 arg12 harg12 arg2 v6 v7 v11 v12 c0_i32_18 v29 X_arg4 X_arg5 X_arg7 (arg10.view.writes (Elt Ideal) arg10.view.junk R10) (arg11.view.writes (Elt Ideal) arg11.view.junk R11) (arg12.view.writes (Elt Ideal) arg12.view.junk R12) (Scf.trips (k0_t1_loop i).lb (k0_t1_loop i).ub (k0_t1_loop i).st)).2.1 ++ R11)) (arg12.view.writes (Elt Ideal) arg12.view.junk ((pb_k0_t1 𝒱 c bd i arg3 harg3 arg4 harg4 arg5 harg5 arg6 harg6 arg7 harg7 arg8 harg8 arg9 harg9 arg10 harg10 arg11 harg11 arg12 harg12 arg2 v6 v7 v11 v12 c0_i32_18 v29 X_arg4 X_arg5 X_arg7 (arg10.view.writes (Elt Ideal) arg10.view.junk R10) (arg11.view.writes (Elt Ideal) arg11.view.junk R11) (arg12.view.writes (Elt Ideal) arg12.view.junk R12) (Scf.trips (k0_t1_loop i).lb (k0_t1_loop i).ub (k0_t1_loop i).st)).2.2 ++ R12)) (Scf.trips (k0_t2_loop i).lb (k0_t2_loop i).ub (k0_t2_loop i).st)).2.1 ++ ((pb_k0_t1 𝒱 c bd i arg3 harg3 arg4 harg4 arg5 harg5 arg6 harg6 arg7 harg7 arg8 harg8 arg9 harg9 arg10 harg10 arg11 harg11 arg12 harg12 arg2 v6 v7 v11 v12 c0_i32_18 v29 X_arg4 X_arg5 X_arg7 (arg10.view.writes (Elt Ideal) arg10.view.junk R10) (arg11.view.writes (Elt Ideal) arg11.view.junk R11) (arg12.view.writes (Elt Ideal) arg12.view.junk R12) (Scf.trips (k0_t1_loop i).lb (k0_t1_loop i).ub (k0_t1_loop i).st)).2.1 ++ R11))))
      (arg12.view.read (Elt Ideal) (arg12.view.writes (Elt Ideal) arg12.view.junk ((pb_k0_t2 𝒱 c bd i arg3 harg3 arg4 harg4 arg5 harg5 arg6 harg6 arg7 harg7 arg8 harg8 arg9 harg9 arg10 harg10 arg11 harg11 arg12 harg12 arg2 v6 v7 v11 v12 c0_i32_18 v29 X_arg4 X_arg5 X_arg7 (arg10.view.writes (Elt Ideal) arg10.view.junk ((pb_k0_t1 𝒱 c bd i arg3 harg3 arg4 harg4 arg5 harg5 arg6 harg6 arg7 harg7 arg8 harg8 arg9 harg9 arg10 harg10 arg11 harg11 arg12 harg12 arg2 v6 v7 v11 v12 c0_i32_18 v29 X_arg4 X_arg5 X_arg7 (arg10.view.writes (Elt Ideal) arg10.view.junk R10) (arg11.view.writes (Elt Ideal) arg11.view.junk R11) (arg12.view.writes (Elt Ideal) arg12.view.junk R12) (Scf.trips (k0_t1_loop i).lb (k0_t1_loop i).ub (k0_t1_loop i).st)).1 ++ R10)) (arg11.view.writes (Elt Ideal) arg11.view.junk ((pb_k0_t1 𝒱 c bd i arg3 harg3 arg4 harg4 arg5 harg5 arg6 harg6 arg7 harg7 arg8 harg8 arg9 harg9 arg10 harg10 arg11 harg11 arg12 harg12 arg2 v6 v7 v11 v12 c0_i32_18 v29 X_arg4 X_arg5 X_arg7 (arg10.view.writes (Elt Ideal) arg10.view.junk R10) (arg11.view.writes (Elt Ideal) arg11.view.junk R11) (arg12.view.writes (Elt Ideal) arg12.view.junk R12) (Scf.trips (k0_t1_loop i).lb (k0_t1_loop i).ub (k0_t1_loop i).st)).2.1 ++ R11)) (arg12.view.writes (Elt Ideal) arg12.view.junk ((pb_k0_t1 𝒱 c bd i arg3 harg3 arg4 harg4 arg5 harg5 arg6 harg6 arg7 harg7 arg8 harg8 arg9 harg9 arg10 harg10 arg11 harg11 arg12 harg12 arg2 v6 v7 v11 v12 c0_i32_18 v29 X_arg4 X_arg5 X_arg7 (arg10.view.writes (Elt Ideal) arg10.view.junk R10) (arg11.view.writes (Elt Ideal) arg11.view.junk R11) (arg12.view.writes (Elt Ideal) arg12.view.junk R12) (Scf.trips (k0_t1_loop i).lb (k0_t1_loop i).ub (k0_t1_loop i).st)).2.2 ++ R12)) (Scf.trips (k0_t2_loop i).lb (k0_t2_loop i).ub (k0_t2_loop i).st)).2.2 ++ ((pb_k0_t1 𝒱 c bd i arg3 harg3 arg4 harg4 arg5 harg5 arg6 harg6 arg7 harg7 arg8 harg8 arg9 harg9 arg10 harg10 arg11 harg11 arg12 harg12 arg2 v6 v7 v11 v12 c0_i32_18 v29 X_arg4 X_arg5 X_arg7 (arg10.view.writes (Elt Ideal) arg10.view.junk R10) (arg11.view.writes (Elt Ideal) arg11.view.junk R11) (arg12.view.writes (Elt Ideal) arg12.view.junk R12) (Scf.trips (k0_t1_loop i).lb (k0_t1_loop i).ub (k0_t1_loop i).st)).2.2 ++ R12)))) 0 s v (512 * (i 2).val) := by
  rw [pb2_zero 𝒱 c bd i arg3 harg3 arg4 harg4 arg5 harg5 arg6 harg6 arg7 harg7 arg8 harg8 arg9 harg9 arg10 harg10 arg11 harg11 arg12 harg12 arg2 v6 v7 v11 v12 c0_i32_18 v29 X_arg4 X_arg5 X_arg7 _ _ _ _ (trips2 i)]
  simp only [List.nil_append]
  rw [View.writes_append, View.writes_append, View.writes_append]
  rw [show Scf.trips (k0_t1_loop i).lb (k0_t1_loop i).ub (k0_t1_loop i).st = (i 2).val from trips1 i]
  exact loop_fst 𝒱 c bd i arg3 harg3 arg4 harg4 arg5 harg5 arg6 harg6 arg7 harg7 arg8 harg8 arg9 harg9 arg10 harg10 arg11 harg11 arg12 harg12 arg2 v6 v7 v11 v12 c0_i32_18 v29 X_arg4 X_arg5 X_arg7 s v _ _ _ hv hs h _ le_rfl

/-- Both loops, second head. -/
theorem loops_snd
    (hv : ∀ (d : Fin 128) (j : Fin 8192), arg5.view.read (Elt Ideal) X_arg5 (ix3 0 j d) = v d j.val)
    (hs : ∀ (r : Fin 512) (j : Fin 8192), j.val < 512 * (i 2).val →
      rowLogit v7 v12 (arg4.view.read (Elt Ideal) X_arg4) (arg7.view.read (Elt Ideal) X_arg7) 1 r j = s r j.val)
    (h : St (arg10.view.read (Elt Ideal) (arg10.view.writes (Elt Ideal) arg10.view.junk R10)) (arg11.view.read (Elt Ideal) (arg11.view.writes (Elt Ideal) arg11.view.junk R11))
      (arg12.view.read (Elt Ideal) (arg12.view.writes (Elt Ideal) arg12.view.junk R12)) 1 s v 0) :
    St (arg10.view.read (Elt Ideal) (arg10.view.writes (Elt Ideal) arg10.view.junk ((pb_k0_t2 𝒱 c bd i arg3 harg3 arg4 harg4 arg5 harg5 arg6 harg6 arg7 harg7 arg8 harg8 arg9 harg9 arg10 harg10 arg11 harg11 arg12 harg12 arg2 v6 v7 v11 v12 c0_i32_18 v29 X_arg4 X_arg5 X_arg7 (arg10.view.writes (Elt Ideal) arg10.view.junk ((pb_k0_t1 𝒱 c bd i arg3 harg3 arg4 harg4 arg5 harg5 arg6 harg6 arg7 harg7 arg8 harg8 arg9 harg9 arg10 harg10 arg11 harg11 arg12 harg12 arg2 v6 v7 v11 v12 c0_i32_18 v29 X_arg4 X_arg5 X_arg7 (arg10.view.writes (Elt Ideal) arg10.view.junk R10) (arg11.view.writes (Elt Ideal) arg11.view.junk R11) (arg12.view.writes (Elt Ideal) arg12.view.junk R12) (Scf.trips (k0_t1_loop i).lb (k0_t1_loop i).ub (k0_t1_loop i).st)).1 ++ R10)) (arg11.view.writes (Elt Ideal) arg11.view.junk ((pb_k0_t1 𝒱 c bd i arg3 harg3 arg4 harg4 arg5 harg5 arg6 harg6 arg7 harg7 arg8 harg8 arg9 harg9 arg10 harg10 arg11 harg11 arg12 harg12 arg2 v6 v7 v11 v12 c0_i32_18 v29 X_arg4 X_arg5 X_arg7 (arg10.view.writes (Elt Ideal) arg10.view.junk R10) (arg11.view.writes (Elt Ideal) arg11.view.junk R11) (arg12.view.writes (Elt Ideal) arg12.view.junk R12) (Scf.trips (k0_t1_loop i).lb (k0_t1_loop i).ub (k0_t1_loop i).st)).2.1 ++ R11)) (arg12.view.writes (Elt Ideal) arg12.view.junk ((pb_k0_t1 𝒱 c bd i arg3 harg3 arg4 harg4 arg5 harg5 arg6 harg6 arg7 harg7 arg8 harg8 arg9 harg9 arg10 harg10 arg11 harg11 arg12 harg12 arg2 v6 v7 v11 v12 c0_i32_18 v29 X_arg4 X_arg5 X_arg7 (arg10.view.writes (Elt Ideal) arg10.view.junk R10) (arg11.view.writes (Elt Ideal) arg11.view.junk R11) (arg12.view.writes (Elt Ideal) arg12.view.junk R12) (Scf.trips (k0_t1_loop i).lb (k0_t1_loop i).ub (k0_t1_loop i).st)).2.2 ++ R12)) (Scf.trips (k0_t2_loop i).lb (k0_t2_loop i).ub (k0_t2_loop i).st)).1 ++ ((pb_k0_t1 𝒱 c bd i arg3 harg3 arg4 harg4 arg5 harg5 arg6 harg6 arg7 harg7 arg8 harg8 arg9 harg9 arg10 harg10 arg11 harg11 arg12 harg12 arg2 v6 v7 v11 v12 c0_i32_18 v29 X_arg4 X_arg5 X_arg7 (arg10.view.writes (Elt Ideal) arg10.view.junk R10) (arg11.view.writes (Elt Ideal) arg11.view.junk R11) (arg12.view.writes (Elt Ideal) arg12.view.junk R12) (Scf.trips (k0_t1_loop i).lb (k0_t1_loop i).ub (k0_t1_loop i).st)).1 ++ R10))))
      (arg11.view.read (Elt Ideal) (arg11.view.writes (Elt Ideal) arg11.view.junk ((pb_k0_t2 𝒱 c bd i arg3 harg3 arg4 harg4 arg5 harg5 arg6 harg6 arg7 harg7 arg8 harg8 arg9 harg9 arg10 harg10 arg11 harg11 arg12 harg12 arg2 v6 v7 v11 v12 c0_i32_18 v29 X_arg4 X_arg5 X_arg7 (arg10.view.writes (Elt Ideal) arg10.view.junk ((pb_k0_t1 𝒱 c bd i arg3 harg3 arg4 harg4 arg5 harg5 arg6 harg6 arg7 harg7 arg8 harg8 arg9 harg9 arg10 harg10 arg11 harg11 arg12 harg12 arg2 v6 v7 v11 v12 c0_i32_18 v29 X_arg4 X_arg5 X_arg7 (arg10.view.writes (Elt Ideal) arg10.view.junk R10) (arg11.view.writes (Elt Ideal) arg11.view.junk R11) (arg12.view.writes (Elt Ideal) arg12.view.junk R12) (Scf.trips (k0_t1_loop i).lb (k0_t1_loop i).ub (k0_t1_loop i).st)).1 ++ R10)) (arg11.view.writes (Elt Ideal) arg11.view.junk ((pb_k0_t1 𝒱 c bd i arg3 harg3 arg4 harg4 arg5 harg5 arg6 harg6 arg7 harg7 arg8 harg8 arg9 harg9 arg10 harg10 arg11 harg11 arg12 harg12 arg2 v6 v7 v11 v12 c0_i32_18 v29 X_arg4 X_arg5 X_arg7 (arg10.view.writes (Elt Ideal) arg10.view.junk R10) (arg11.view.writes (Elt Ideal) arg11.view.junk R11) (arg12.view.writes (Elt Ideal) arg12.view.junk R12) (Scf.trips (k0_t1_loop i).lb (k0_t1_loop i).ub (k0_t1_loop i).st)).2.1 ++ R11)) (arg12.view.writes (Elt Ideal) arg12.view.junk ((pb_k0_t1 𝒱 c bd i arg3 harg3 arg4 harg4 arg5 harg5 arg6 harg6 arg7 harg7 arg8 harg8 arg9 harg9 arg10 harg10 arg11 harg11 arg12 harg12 arg2 v6 v7 v11 v12 c0_i32_18 v29 X_arg4 X_arg5 X_arg7 (arg10.view.writes (Elt Ideal) arg10.view.junk R10) (arg11.view.writes (Elt Ideal) arg11.view.junk R11) (arg12.view.writes (Elt Ideal) arg12.view.junk R12) (Scf.trips (k0_t1_loop i).lb (k0_t1_loop i).ub (k0_t1_loop i).st)).2.2 ++ R12)) (Scf.trips (k0_t2_loop i).lb (k0_t2_loop i).ub (k0_t2_loop i).st)).2.1 ++ ((pb_k0_t1 𝒱 c bd i arg3 harg3 arg4 harg4 arg5 harg5 arg6 harg6 arg7 harg7 arg8 harg8 arg9 harg9 arg10 harg10 arg11 harg11 arg12 harg12 arg2 v6 v7 v11 v12 c0_i32_18 v29 X_arg4 X_arg5 X_arg7 (arg10.view.writes (Elt Ideal) arg10.view.junk R10) (arg11.view.writes (Elt Ideal) arg11.view.junk R11) (arg12.view.writes (Elt Ideal) arg12.view.junk R12) (Scf.trips (k0_t1_loop i).lb (k0_t1_loop i).ub (k0_t1_loop i).st)).2.1 ++ R11))))
      (arg12.view.read (Elt Ideal) (arg12.view.writes (Elt Ideal) arg12.view.junk ((pb_k0_t2 𝒱 c bd i arg3 harg3 arg4 harg4 arg5 harg5 arg6 harg6 arg7 harg7 arg8 harg8 arg9 harg9 arg10 harg10 arg11 harg11 arg12 harg12 arg2 v6 v7 v11 v12 c0_i32_18 v29 X_arg4 X_arg5 X_arg7 (arg10.view.writes (Elt Ideal) arg10.view.junk ((pb_k0_t1 𝒱 c bd i arg3 harg3 arg4 harg4 arg5 harg5 arg6 harg6 arg7 harg7 arg8 harg8 arg9 harg9 arg10 harg10 arg11 harg11 arg12 harg12 arg2 v6 v7 v11 v12 c0_i32_18 v29 X_arg4 X_arg5 X_arg7 (arg10.view.writes (Elt Ideal) arg10.view.junk R10) (arg11.view.writes (Elt Ideal) arg11.view.junk R11) (arg12.view.writes (Elt Ideal) arg12.view.junk R12) (Scf.trips (k0_t1_loop i).lb (k0_t1_loop i).ub (k0_t1_loop i).st)).1 ++ R10)) (arg11.view.writes (Elt Ideal) arg11.view.junk ((pb_k0_t1 𝒱 c bd i arg3 harg3 arg4 harg4 arg5 harg5 arg6 harg6 arg7 harg7 arg8 harg8 arg9 harg9 arg10 harg10 arg11 harg11 arg12 harg12 arg2 v6 v7 v11 v12 c0_i32_18 v29 X_arg4 X_arg5 X_arg7 (arg10.view.writes (Elt Ideal) arg10.view.junk R10) (arg11.view.writes (Elt Ideal) arg11.view.junk R11) (arg12.view.writes (Elt Ideal) arg12.view.junk R12) (Scf.trips (k0_t1_loop i).lb (k0_t1_loop i).ub (k0_t1_loop i).st)).2.1 ++ R11)) (arg12.view.writes (Elt Ideal) arg12.view.junk ((pb_k0_t1 𝒱 c bd i arg3 harg3 arg4 harg4 arg5 harg5 arg6 harg6 arg7 harg7 arg8 harg8 arg9 harg9 arg10 harg10 arg11 harg11 arg12 harg12 arg2 v6 v7 v11 v12 c0_i32_18 v29 X_arg4 X_arg5 X_arg7 (arg10.view.writes (Elt Ideal) arg10.view.junk R10) (arg11.view.writes (Elt Ideal) arg11.view.junk R11) (arg12.view.writes (Elt Ideal) arg12.view.junk R12) (Scf.trips (k0_t1_loop i).lb (k0_t1_loop i).ub (k0_t1_loop i).st)).2.2 ++ R12)) (Scf.trips (k0_t2_loop i).lb (k0_t2_loop i).ub (k0_t2_loop i).st)).2.2 ++ ((pb_k0_t1 𝒱 c bd i arg3 harg3 arg4 harg4 arg5 harg5 arg6 harg6 arg7 harg7 arg8 harg8 arg9 harg9 arg10 harg10 arg11 harg11 arg12 harg12 arg2 v6 v7 v11 v12 c0_i32_18 v29 X_arg4 X_arg5 X_arg7 (arg10.view.writes (Elt Ideal) arg10.view.junk R10) (arg11.view.writes (Elt Ideal) arg11.view.junk R11) (arg12.view.writes (Elt Ideal) arg12.view.junk R12) (Scf.trips (k0_t1_loop i).lb (k0_t1_loop i).ub (k0_t1_loop i).st)).2.2 ++ R12)))) 1 s v (512 * (i 2).val) := by
  rw [pb2_zero 𝒱 c bd i arg3 harg3 arg4 harg4 arg5 harg5 arg6 harg6 arg7 harg7 arg8 harg8 arg9 harg9 arg10 harg10 arg11 harg11 arg12 harg12 arg2 v6 v7 v11 v12 c0_i32_18 v29 X_arg4 X_arg5 X_arg7 _ _ _ _ (trips2 i)]
  simp only [List.nil_append]
  rw [View.writes_append, View.writes_append, View.writes_append]
  rw [show Scf.trips (k0_t1_loop i).lb (k0_t1_loop i).ub (k0_t1_loop i).st = (i 2).val from trips1 i]
  exact loop_snd 𝒱 c bd i arg3 harg3 arg4 harg4 arg5 harg5 arg6 harg6 arg7 harg7 arg8 harg8 arg9 harg9 arg10 harg10 arg11 harg11 arg12 harg12 arg2 v6 v7 v11 v12 c0_i32_18 v29 X_arg4 X_arg5 X_arg7 s v _ _ _ hv hs h _ le_rfl

end

end Cert.Fox

end
-- ==== Proof.Fox.Last.lean ====
/-
  The last step of a grid point: each head's weighted values over its sum, each head's lanes scaled by the root of their
  mean square, times the gains.
-/
module

public import proofs.«01_k».proof.Proof.Fox.Tile
public import Idealize.ShloMosaic.Lib.Tactic.CleanTypes

@[expose] public section

set_option maxRecDepth 16384

noncomputable section

namespace Cert.Fox

open Idealize.ShloMosaic Cert.KernelIdeal Cert.KernelIdeal.Gen

/-- A sum over 128 lanes of which the upper 64 are zero. -/
theorem sum_low (f : Fin 128 → EReal) :
    ∑ x : Fin 128, (if x.val < 64 then f x else 0) = ∑ x : Fin 64, f ⟨x.val, by omega⟩ := by
  rw [Fin.sum_univ_add (a := 64) (b := 64) (f := fun x : Fin (64 + 64) => if x.val < 64 then f x else 0)]
  rw [Finset.sum_eq_zero (s := Finset.univ) (f := fun i : Fin 64 => if (Fin.natAdd 64 i).val < 64 then f (Fin.natAdd 64 i) else 0)]
  · rw [add_zero]
    refine Finset.sum_congr rfl fun x _ => ?_
    rw [if_pos (by simpa using x.isLt)]
    rfl
  · intro x _
    rw [if_neg (by simp)]

/-- A sum over 128 lanes of which the lower 64 are zero. -/
theorem sum_high (f : Fin 128 → EReal) :
    ∑ x : Fin 128, (if x.val < 64 then 0 else f x) = ∑ x : Fin 64, f ⟨64 + x.val, by omega⟩ := by
  rw [Fin.sum_univ_add (a := 64) (b := 64) (f := fun x : Fin (64 + 64) => if x.val < 64 then 0 else f x)]
  rw [Finset.sum_eq_zero (s := Finset.univ) (f := fun i : Fin 64 => if (Fin.castAdd 64 i).val < 64 then 0 else f (Fin.castAdd 64 i))]
  · rw [zero_add]
    refine Finset.sum_congr rfl fun x _ => ?_
    rw [if_neg (by simp)]
    rfl
  · intro x _
    rw [if_pos (by simpa using x.isLt)]

theorem slt_64' {a : ℕ} (ha : a < 128) : IntOp.cmpi .slt (BitVec.ofNat 32 a) 64#32 = BitVec.ofBool (decide (a < 64)) :=
  slt_64 ⟨a, ha⟩

/-- The last step at a lane of the first head. -/
theorem pay72_low (a0 a1 : Vec Ideal S1x512x128 .f32) (l0 l1 : Vec Ideal S1x512x1 .f32) (g : Vec Ideal S1x128 .f32)
    (r : Fin 512) (d : Fin 64) :
    k0_pay72 k0_pay69 (k0_pay70 a0) (k0_pay71 l0) a1 l1 g (ix3 0 r ⟨d.val, by omega⟩)
      = rms (fun k : Fin 64 => Ideal.div (a0 (ix3 0 r ⟨k.val, by omega⟩)) (l0 (ix3 0 r 0)))
          (Ideal.ofBits .f32 0x42800000#32) (Ideal.ofBits .f32 0x358637BD#32) d * g (ix2 0 ⟨d.val, by omega⟩) := by
  pointwise [k0_pay72, k0_pay69, k0_pay70, k0_pay71]
  clean_types
  simp only [slt_64, select_ofBool]
  rw [slt_64' (by omega)]
  simp only [select_ofBool, if_pos d.isLt]
  unfold rms
  congr 2
  rw [← sum_low (fun x => Ideal.div (a0 (ix3 0 r x)) (l0 (ix3 0 r 0)) * Ideal.div (a0 (ix3 0 r x)) (l0 (ix3 0 r 0)))]
  congr 3

/-- The last step at a lane of the second head. -/
theorem pay72_high (a0 a1 : Vec Ideal S1x512x128 .f32) (l0 l1 : Vec Ideal S1x512x1 .f32) (g : Vec Ideal S1x128 .f32)
    (r : Fin 512) (d : Fin 64) :
    k0_pay72 k0_pay69 (k0_pay70 a0) (k0_pay71 l0) a1 l1 g (ix3 0 r ⟨64 + d.val, by omega⟩)
      = rms (fun k : Fin 64 => Ideal.div (a1 (ix3 0 r ⟨64 + k.val, by omega⟩)) (l1 (ix3 0 r 0)))
          (Ideal.ofBits .f32 0x42800000#32) (Ideal.ofBits .f32 0x358637BD#32) d * g (ix2 0 ⟨64 + d.val, by omega⟩) := by
  have hd : ¬ 64 + d.val < 64 := by omega
  pointwise [k0_pay72, k0_pay69, k0_pay70, k0_pay71]
  clean_types
  simp only [slt_64, select_ofBool]
  rw [slt_64' (by omega)]
  simp only [select_ofBool, if_neg hd]
  unfold rms
  congr 2
  rw [← sum_high (fun x => Ideal.div (a1 (ix3 0 r x)) (l1 (ix3 0 r 0)) * Ideal.div (a1 (ix3 0 r x)) (l1 (ix3 0 r 0)))]
  congr 3

end Cert.Fox

end
-- ==== Proof.Fox.Point.lean ====
/-
  One grid point of the attention kernel: after the block on the diagonal the sums and weighted values are those of all
  keys up to the end of the block of queries, the later ones masked; the block stored is the last step of those.
-/
module

public import proofs.«01_k».proof.Proof.Fox.Loop
public import proofs.«01_k».proof.Proof.Fox.Last
public import proofs.«01_k».proof.Proof.Gen.KernelIdeal.Frame

@[expose] public section

set_option maxRecDepth 16384

noncomputable section

namespace Cert.Fox

open Idealize.ShloMosaic Idealize.ShloMosaic.TcCoe Idealize.ShloMosaic.Tactic Idealize.SL Cert.KernelIdeal Cert.KernelIdeal.Gen

variable (c : Dev nD) (i : grid0.Coords) (arg3 : Memref sig .tc .vmem S1x512x128 .bf16) (harg3 : arg3.IsWhole) (arg4 : Memref sig .tc .vmem S1x8192x128 .bf16) (harg4 : arg4.IsWhole) (arg5 : Memref sig .tc .vmem S1x8192x128 .bf16) (harg5 : arg5.IsWhole) (arg6 : Memref sig .tc .vmem S1x1x8x512 .f32) (harg6 : arg6.IsWhole) (arg7 : Memref sig .tc .vmem S1x1x8x8192 .f32) (harg7 : arg7.IsWhole) (arg8 : Memref sig .tc .vmem S1x128 .f32) (harg8 : arg8.IsWhole) (arg9 : Memref sig .tc .vmem S1x512x128 .bf16) (harg9 : arg9.IsWhole) (arg10 : Memref sig .tc .vmem S2x512x1 .f32) (harg10 : arg10.IsWhole) (arg11 : Memref sig .tc .vmem S2x512x1 .f32) (harg11 : arg11.IsWhole) (arg12 : Memref sig .tc .vmem S2x512x128 .f32) (harg12 : arg12.IsWhole)
    (x0 : Vec Ideal S1x512x128 .bf16) (x1 : Vec Ideal S1x8192x128 .bf16) (x2 : Vec Ideal S1x8192x128 .bf16) (x3 : Vec Ideal S1x1x8x512 .f32) (x4 : Vec Ideal S1x1x8x8192 .f32) (x5 : Vec Ideal S1x128 .f32)

theorem ld_x0 (inb) : View.ld (Val := Elt Ideal) (e' := .bf16) x0 (Rect.unit (s := S1x512x128) ![0, 0, 0] S1x512x128.size inb) = x0 :=
  funext fun x => View.ld_unit_apply_of (Val := Elt Ideal) _ _ _ _ x x fun a => by
    match a with
    | 0 => exact (Nat.zero_add _).symm
    | 1 => exact (Nat.zero_add _).symm
    | 2 => exact (Nat.zero_add _).symm

theorem ld_x3 (inb) : View.ld (Val := Elt Ideal) (e' := .f32) x3 (Rect.unit (s := S1x1x8x512) ![0, 0, 0, 0] S1x1x8x512.size inb) = x3 :=
  funext fun x => View.ld_unit_apply_of (Val := Elt Ideal) _ _ _ _ x x fun a => by
    match a with
    | 0 => exact (Nat.zero_add _).symm
    | 1 => exact (Nat.zero_add _).symm
    | 2 => exact (Nat.zero_add _).symm
    | 3 => exact (Nat.zero_add _).symm

theorem ld_x5 (inb) : View.ld (Val := Elt Ideal) (e' := .f32) x5 (Rect.unit (s := S1x128) ![0, 0] S1x128.size inb) = x5 :=
  funext fun x => View.ld_unit_apply_of (Val := Elt Ideal) _ _ _ _ x x fun a => by
    match a with
    | 0 => exact (Nat.zero_add _).symm
    | 1 => exact (Nat.zero_add _).symm

theorem q_fst : (kernelRun0_A.sl.r c arg3 harg3 x0) = k0_pay36 x0 := by
  show k0_pay36 (View.ld (Val := Elt Ideal) (e' := .bf16) (arg3.view.read (Elt Ideal) (harg3.unread x0)) (Rect.unit (s := S1x512x128) ![0, 0, 0] S1x512x128.size inb_S1x512x128_S1x512x128_0_0_0)) = _
  rw [harg3.read_unread, ld_x0]

theorem q_snd : (kernelRun0_A.sl.r_1 c arg3 harg3 x0) = k0_pay37 x0 := by
  show k0_pay37 (View.ld (Val := Elt Ideal) (e' := .bf16) (arg3.view.read (Elt Ideal) (harg3.unread x0)) (Rect.unit (s := S1x512x128) ![0, 0, 0] S1x512x128.size inb_S1x512x128_S1x512x128_0_0_0)) = _
  rw [harg3.read_unread, ld_x0]

theorem c_fst : (kernelRun0_A.sl.r_2 c arg6 harg6 x3) = k0_pay39 x3 := by
  show k0_pay39 (View.ld (Val := Elt Ideal) (e' := .f32) (arg6.view.read (Elt Ideal) (harg6.unread x3)) (Rect.unit (s := S1x1x8x512) ![0, 0, 0, 0] S1x1x8x512.size inb_S1x1x8x512_S1x1x8x512_0_0_0_0)) = _
  rw [harg6.read_unread, ld_x3]

theorem c_snd : (kernelRun0_A.sl.r_3 c arg6 harg6 x3) = k0_pay40 x3 := by
  show k0_pay40 (View.ld (Val := Elt Ideal) (e' := .f32) (arg6.view.read (Elt Ideal) (harg6.unread x3)) (Rect.unit (s := S1x1x8x512) ![0, 0, 0, 0] S1x1x8x512.size inb_S1x1x8x512_S1x1x8x512_0_0_0_0)) = _
  rw [harg6.read_unread, ld_x3]

/-- The buffers as the kernel resets them. -/
theorem reset (h : Fin 2) (s : Fin 512 → ℕ → EReal) (v : Fin 128 → ℕ → EReal) :
    St (arg10.view.read (Elt Ideal) (arg10.view.writes (Elt Ideal) arg10.view.junk (kernelRun0_A.sl.HS0_1 (F := Ideal))))
      (arg11.view.read (Elt Ideal) (arg11.view.writes (Elt Ideal) arg11.view.junk (kernelRun0_A.sl.HS1_1 (F := Ideal))))
      (arg12.view.read (Elt Ideal) (arg12.view.writes (Elt Ideal) arg12.view.junk (kernelRun0_A.sl.HS2_1 (F := Ideal)))) h s v 0 := by
  constructor
  · intro r
    unfold kernelRun0_A.sl.HS0_1
    rw [View.read_writes_cons_unit_of_mem _ _ _ _ _ _ (ix3 h r 0) rfl
      (by intro a; match a with | 0 => exact (Nat.zero_add _).symm | 1 => exact (Nat.zero_add _).symm | 2 => rfl)]
    exact (pay41_apply h r).trans (by simp [mx])
  · intro r
    unfold kernelRun0_A.sl.HS1_1
    rw [View.read_writes_cons_unit_of_mem _ _ _ _ _ _ (ix3 h r 0) rfl
      (by intro a; match a with | 0 => exact (Nat.zero_add _).symm | 1 => exact (Nat.zero_add _).symm | 2 => rfl)]
    exact (pay42_apply h r).trans (by simp [lx])
  · intro r d
    unfold kernelRun0_A.sl.HS2_1
    rw [View.read_writes_cons_unit_of_mem _ _ _ _ _ _ (ix3 h r d) rfl
      (by intro a; match a with | 0 => exact (Nat.zero_add _).symm | 1 => exact (Nat.zero_add _).symm | 2 => exact (Nat.zero_add _).symm)]
    exact (pay43_apply h r d).trans (by simp [ax])

/-- What one head's buffers hold once the diagonal block is done. -/
structure Done (l : Vec Ideal S1x512x1 .f32) (a : Vec Ideal S1x512x128 .f32) (s : Fin 512 → ℕ → EReal)
    (v : Fin 128 → ℕ → EReal) (n : ℕ) : Prop where
  sum : ∀ r, l (ix3 0 r 0) = lx (s r) n
  val : ∀ r d, a (ix3 0 r d) = ax (s r) (v d) n

/-- A row's logits for a block of queries: those of the rows before the block, and the block's own up to the row. -/
structure Row (q : FVec Ideal S512x128 .bf16) (c : FVec Ideal S512x1 .f32) (K : Vec Ideal S1x8192x128 .bf16)
    (C : Vec Ideal S1x1x8x8192 .f32) (h : Fin 8) (b : ℕ) (s : Fin 512 → ℕ → EReal) : Prop where
  below : ∀ (r : Fin 512) (j : Fin 8192), j.val < 512 * b → rowLogit q c K C h r j = s r j.val
  diag : ∀ (r j : Fin 512) (hj : 512 * b + j.val < 8192),
    (if j.val ≤ r.val then rowLogit q c K C h r ⟨512 * b + j.val, hj⟩ else ⊥) = s r (512 * b + j.val)

/-- The block a grid point stores. -/
theorem run_eq (s0 s1 : Fin 512 → ℕ → EReal) (v : Fin 128 → ℕ → EReal)
    (h0 : Row (k0_pay36 x0) (k0_pay39 x3) x1 x4 0 (i 2).val s0)
    (h1 : Row (k0_pay37 x0) (k0_pay40 x3) x1 x4 1 (i 2).val s1)
    (hv : ∀ (d : Fin 128) (j : Fin 8192), x2 (ix3 0 j d) = v d j.val) :
    ∃ (a0 : Vec Ideal S1x512x128 .f32) (l0 : Vec Ideal S1x512x1 .f32) (a1 : Vec Ideal S1x512x128 .f32) (l1 : Vec Ideal S1x512x1 .f32) (inb : _),
      (kernelRun0_A c i arg3 harg3 arg4 harg4 arg5 harg5 arg6 harg6 arg7 harg7 arg8 harg8 arg9 harg9 arg10 harg10 arg11 harg11 arg12 harg12 x0 x1 x2 x3 x4 x5).1 = [⟨Rect.unit (s := S1x512x128) ![0, 0, 0] S1x512x128.size inb, k0_pay72 k0_pay69 (k0_pay70 a0) (k0_pay71 l0) a1 l1 x5⟩]
      ∧ Done l0 a0 s0 v (512 * (i 2).val + 512) ∧ Done l1 a1 s1 v (512 * (i 2).val + 512) := by
  have h16 : (i 2).val < 16 := (i 2).isLt
  have hL0 := loops_fst Variants.none c none i arg3 harg3 arg4 harg4 arg5 harg5 arg6 harg6 arg7 harg7 arg8 harg8 arg9 harg9 arg10 harg10 arg11 harg11 arg12 harg12 (BitVec.ofNat 32 (i 2).val) (kernelRun0_A.sl.r c arg3 harg3 x0) (kernelRun0_A.sl.r_1 c arg3 harg3 x0) (kernelRun0_A.sl.r_2 c arg6 harg6 x3) (kernelRun0_A.sl.r_3 c arg6 harg6 x3) 0#32 (kernelRun0_A.sl.v29 i) (harg4.unread x1) (harg5.unread x2) (harg7.unread x4) s0 v _ _ _ (by rw [harg5.read_unread]; exact hv)
    (by rw [q_fst, c_fst, harg4.read_unread, harg7.read_unread]; exact h0.below) (reset arg10 arg11 arg12 0 s0 v)
  have hL1 := loops_snd Variants.none c none i arg3 harg3 arg4 harg4 arg5 harg5 arg6 harg6 arg7 harg7 arg8 harg8 arg9 harg9 arg10 harg10 arg11 harg11 arg12 harg12 (BitVec.ofNat 32 (i 2).val) (kernelRun0_A.sl.r c arg3 harg3 x0) (kernelRun0_A.sl.r_1 c arg3 harg3 x0) (kernelRun0_A.sl.r_2 c arg6 harg6 x3) (kernelRun0_A.sl.r_3 c arg6 harg6 x3) 0#32 (kernelRun0_A.sl.v29 i) (harg4.unread x1) (harg5.unread x2) (harg7.unread x4) s1 v _ _ _ (by rw [harg5.read_unread]; exact hv)
    (by rw [q_snd, c_snd, harg4.read_unread, harg7.read_unread]; exact h1.below) (reset arg10 arg11 arg12 1 s1 v)
  have hS0 : ∀ (r j : Fin 512), k0_pay52 (kernelRun0_A.sl.r c arg3 harg3 x0) (kernelRun0_A.sl.r_2 c arg6 harg6 x3) (View.ld (Val := Elt Ideal) (e' := .bf16) (arg4.view.read (Elt Ideal) (harg4.unread x1)) (Rect.unit (s := S1x8192x128) (k0_off7 i) S1x512x128.size (k0_off7_inb i))) (View.ld (Val := Elt Ideal) (e' := .f32) (arg7.view.read (Elt Ideal) (harg7.unread x4)) (Rect.unit (s := S1x1x8x8192) (k0_off8 i) S1x1x1x512.size (k0_off8_inb i))) (ix2 r j) = s0 r (512 * (i 2).val + j.val) := by
    intro r j
    rw [pay52_apply, logit_tile _ _ _ _ 0 (off7_eq i) (off8_eq i) _ _ r j (by omega), q_fst, c_fst, harg4.read_unread, harg7.read_unread]
    exact h0.diag r j _
  have hS1 : ∀ (r j : Fin 512), k0_pay61 (kernelRun0_A.sl.r_1 c arg3 harg3 x0) (kernelRun0_A.sl.r_3 c arg6 harg6 x3) (k0_pay50 (View.ld (Val := Elt Ideal) (e' := .bf16) (arg4.view.read (Elt Ideal) (harg4.unread x1)) (Rect.unit (s := S1x8192x128) (k0_off7 i) S1x512x128.size (k0_off7_inb i)))) (View.ld (Val := Elt Ideal) (e' := .f32) (arg7.view.read (Elt Ideal) (harg7.unread x4)) (Rect.unit (s := S1x1x8x8192) (k0_off9 i) S1x1x1x512.size (k0_off9_inb i))) (ix2 r j) = s1 r (512 * (i 2).val + j.val) := by
    intro r j
    rw [pay61_apply, logit_tile _ _ _ _ 1 (off7_eq i) (off9_eq i) _ _ r j (by omega), q_snd, c_snd, harg4.read_unread, harg7.read_unread]
    exact h1.diag r j _
  have hV : ∀ (d : Fin 128) (j : Fin 512), View.ld (Val := Elt Ideal) (e' := .bf16) (arg5.view.read (Elt Ideal) (harg5.unread x2))
      (Rect.unit (s := S1x8192x128) (k0_off7 i) S1x512x128.size (k0_off7_inb i)) (ix3 0 j d) = v d (512 * (i 2).val + j.val) := by
    intro d j
    rw [ld_k (off7_eq i) _ j d (by omega), harg5.read_unread]
    exact hv d _
  have hg : ∀ inb, View.ld (Val := Elt Ideal) (e' := .f32) (arg8.view.read (Elt Ideal) (harg8.unread x5)) (Rect.unit (s := S1x128) ![0, 0] S1x128.size inb) = x5 := by
    intro inb
    rw [harg8.read_unread, ld_x5]
  refine ⟨kernelRun0_A.sl.v131 c i arg3 harg3 arg4 harg4 arg5 harg5 arg6 harg6 arg7 harg7 arg8 harg8 arg9 harg9 arg10 harg10 arg11 harg11 arg12 harg12 x0 x1 x2 x3 x4, kernelRun0_A.sl.v133 c i arg3 harg3 arg4 harg4 arg5 harg5 arg6 harg6 arg7 harg7 arg8 harg8 arg9 harg9 arg10 harg10 arg11 harg11 arg12 harg12 x0 x1 x2 x3 x4,
    kernelRun0_A.sl.v137 c i arg3 harg3 arg4 harg4 arg5 harg5 arg6 harg6 arg7 harg7 arg8 harg8 arg9 harg9 arg10 harg10 arg11 harg11 arg12 harg12 x0 x1 x2 x3 x4, kernelRun0_A.sl.v139 c i arg3 harg3 arg4 harg4 arg5 harg5 arg6 harg6 arg7 harg7 arg8 harg8 arg9 harg9 arg10 harg10 arg11 harg11 arg12 harg12 x0 x1 x2 x3 x4,
    inb_S1x512x128_S1x512x128_0_0_0, ?_, ⟨?_, ?_⟩, ⟨?_, ?_⟩⟩
  · unfold kernelRun0_A
    exact congrArg (fun g => [(⟨Rect.unit (s := S1x512x128) ![0, 0, 0] S1x512x128.size inb_S1x512x128_S1x512x128_0_0_0,
      k0_pay72 k0_pay69 (k0_pay70 (kernelRun0_A.sl.v131 c i arg3 harg3 arg4 harg4 arg5 harg5 arg6 harg6 arg7 harg7 arg8 harg8 arg9 harg9 arg10 harg10 arg11 harg11 arg12 harg12 x0 x1 x2 x3 x4)) (k0_pay71 (kernelRun0_A.sl.v133 c i arg3 harg3 arg4 harg4 arg5 harg5 arg6 harg6 arg7 harg7 arg8 harg8 arg9 harg9 arg10 harg10 arg11 harg11 arg12 harg12 x0 x1 x2 x3 x4))
        (kernelRun0_A.sl.v137 c i arg3 harg3 arg4 harg4 arg5 harg5 arg6 harg6 arg7 harg7 arg8 harg8 arg9 harg9 arg10 harg10 arg11 harg11 arg12 harg12 x0 x1 x2 x3 x4) (kernelRun0_A.sl.v139 c i arg3 harg3 arg4 harg4 arg5 harg5 arg6 harg6 arg7 harg7 arg8 harg8 arg9 harg9 arg10 harg10 arg11 harg11 arg12 harg12 x0 x1 x2 x3 x4) g⟩ : View.Piece (Elt Ideal) S1x512x128 .bf16)]) (hg _)
  · intro r
    unfold kernelRun0_A.sl.v133
    refine (ld_m 0 _ r).trans ?_
    unfold kernelRun0_A.sl.HS1_2 kernelRun0_A.sl.HS1_1_1
    rw [View.read_writes_cons_unit_of_not_mem _ _ _ _ _ _ rfl 0 (Or.inl Nat.zero_lt_one)]
    rw [View.read_writes_cons_unit_of_mem _ _ _ _ _ _ (ix3 0 r 0) rfl (by intro a; match a with | 0 => rfl | 1 => exact (Nat.zero_add _).symm | 2 => rfl)]
    unfold kernelRun0_A.sl.r_9
    exact pay58_apply _ _ _ _ _ _ r (s0 r) _ (hS0 r) ((ld_m 0 _ r).trans (hL0.max r)) ((ld_m 0 _ r).trans (hL0.sum r))
  · intro r d
    unfold kernelRun0_A.sl.v131
    refine (ld_a 0 _ r d).trans ?_
    unfold kernelRun0_A.sl.HS2_2 kernelRun0_A.sl.HS2_1_1
    rw [View.read_writes_cons_unit_of_not_mem _ _ _ _ _ _ rfl 0 (Or.inl Nat.zero_lt_one)]
    rw [View.read_writes_cons_unit_of_mem _ _ _ _ _ _ (ix3 0 r d) rfl (by intro a; match a with | 0 => rfl | 1 => exact (Nat.zero_add _).symm | 2 => exact (Nat.zero_add _).symm)]
    unfold kernelRun0_A.sl.r_5 kernelRun0_A.sl.r_7 kernelRun0_A.sl.r_8
    exact pay59_apply _ _ _ _ _ _ _ r (s0 r) _ (hS0 r) ((ld_m 0 _ r).trans (hL0.max r)) (v d) d (hV d) ((ld_a 0 _ r d).trans (hL0.val r d))
  · intro r
    unfold kernelRun0_A.sl.v139
    refine (ld_m 1 _ r).trans ?_
    unfold kernelRun0_A.sl.HS1_2
    rw [View.read_writes_cons_unit_of_mem _ _ _ _ _ _ (ix3 0 r 0) rfl (by intro a; match a with | 0 => rfl | 1 => exact (Nat.zero_add _).symm | 2 => rfl)]
    have hm : kernelRun0_A.sl.v96 c i arg3 harg3 arg4 harg4 arg5 harg5 arg6 harg6 arg7 harg7 arg8 harg8 arg9 harg9 arg10 harg10 arg11 harg11 arg12 harg12 x0 x1 x2 x3 x4 (ix3 0 r 0) = mx (s1 r) (512 * (i 2).val) := by
      unfold kernelRun0_A.sl.v96
      refine (ld_m 1 _ r).trans ?_
      unfold kernelRun0_A.sl.HS0_1_1
      rw [View.read_writes_cons_unit_of_not_mem _ _ _ _ _ _ rfl 0 (Or.inr (Nat.le_refl 1))]
      exact hL1.max r
    have hl : kernelRun0_A.sl.v106 c i arg3 harg3 arg4 harg4 arg5 harg5 arg6 harg6 arg7 harg7 arg8 harg8 arg9 harg9 arg10 harg10 arg11 harg11 arg12 harg12 x0 x1 x2 x3 x4 (ix3 0 r 0) = lx (s1 r) (512 * (i 2).val) := by
      unfold kernelRun0_A.sl.v106
      refine (ld_m 1 _ r).trans ?_
      unfold kernelRun0_A.sl.HS1_1_1
      rw [View.read_writes_cons_unit_of_not_mem _ _ _ _ _ _ rfl 0 (Or.inr (Nat.le_refl 1))]
      exact hL1.sum r
    unfold kernelRun0_A.sl.r_10 kernelRun0_A.sl.r_11 kernelRun0_A.sl.r_12 kernelRun0_A.sl.r_4
    exact pay66_apply _ _ _ _ _ _ r (s1 r) _ (hS1 r) hm hl
  · intro r d
    unfold kernelRun0_A.sl.v137
    refine (ld_a 1 _ r d).trans ?_
    unfold kernelRun0_A.sl.HS2_2
    rw [View.read_writes_cons_unit_of_mem _ _ _ _ _ _ (ix3 0 r d) rfl (by intro a; match a with | 0 => rfl | 1 => exact (Nat.zero_add _).symm | 2 => exact (Nat.zero_add _).symm)]
    have hm : kernelRun0_A.sl.v96 c i arg3 harg3 arg4 harg4 arg5 harg5 arg6 harg6 arg7 harg7 arg8 harg8 arg9 harg9 arg10 harg10 arg11 harg11 arg12 harg12 x0 x1 x2 x3 x4 (ix3 0 r 0) = mx (s1 r) (512 * (i 2).val) := by
      unfold kernelRun0_A.sl.v96
      refine (ld_m 1 _ r).trans ?_
      unfold kernelRun0_A.sl.HS0_1_1
      rw [View.read_writes_cons_unit_of_not_mem _ _ _ _ _ _ rfl 0 (Or.inr (Nat.le_refl 1))]
      exact hL1.max r
    have ha : kernelRun0_A.sl.v115 c i arg3 harg3 arg4 harg4 arg5 harg5 arg6 harg6 arg7 harg7 arg8 harg8 arg9 harg9 arg10 harg10 arg11 harg11 arg12 harg12 x0 x1 x2 x3 x4 (ix3 0 r d) = ax (s1 r) (v d) (512 * (i 2).val) := by
      unfold kernelRun0_A.sl.v115
      refine (ld_a 1 _ r d).trans ?_
      unfold kernelRun0_A.sl.HS2_1_1
      rw [View.read_writes_cons_unit_of_not_mem _ _ _ _ _ _ rfl 0 (Or.inr (Nat.le_refl 1))]
      exact hL1.val r d
    unfold kernelRun0_A.sl.r_5 kernelRun0_A.sl.r_10 kernelRun0_A.sl.r_11 kernelRun0_A.sl.r_12 kernelRun0_A.sl.r_4
    exact pay67_apply _ _ _ _ _ _ _ r (s1 r) _ (hS1 r) hm (v d) d (hV d) ha

end Cert.Fox

end
-- ==== Proof.Fox.Head.lean ====
/-
  The forgetting attention as a formula over whole arrays, and the block a grid point stores as the part of it.
-/
module

public import proofs.«01_k».proof.Proof.Fox.Point

@[expose] public section

set_option maxRecDepth 16384

noncomputable section

namespace Cert.Fox

open Idealize.ShloMosaic Idealize.ShloMosaic.TcCoe Cert.KernelIdeal Cert.KernelIdeal.Gen

section Formula

variable (Q K V : Vec Ideal S4x8192x512 .bf16) (C : Vec Ideal S4x4x8x8192 .f32) (g : Vec Ideal S1x512 .f32)

/-- Lane `d` of head `h`. -/
abbrev lane (h : Fin 8) (d : Fin 64) : Fin 512 := ⟨64 * h.val + d.val, by omega⟩

/-- The cumulative gate of head `h` at a position: the heads lie in pairs. -/
abbrev gate (b : Fin 4) (h : Fin 8) (t : Fin 8192) : EReal :=
  C (ix4 b ⟨h.val / 2, by omega⟩ ⟨h.val % 2, by omega⟩ t)

/-- The logits of head `h` at query position `t`, as a sequence over key positions: `⊥` where the mask hides the key. -/
def logits (b : Fin 4) (h : Fin 8) (t : ℕ) (ht : t < 8192) (j : ℕ) : EReal :=
  if hj : j < 8192 ∧ j ≤ t then
    ∑ d : Fin 64, Q (ix3 b ⟨t, ht⟩ (lane h d)) * K (ix3 b ⟨j, hj.1⟩ (lane h d)) + (gate C b h ⟨t, ht⟩ - gate C b h ⟨j, hj.1⟩)
  else ⊥

/-- The values at one lane, as a sequence over key positions. -/
def vals (b : Fin 4) (w : Fin 512) (j : ℕ) : EReal := if hj : j < 8192 then V (ix3 b ⟨j, hj⟩ w) else 0

/-- The attention's result at a position and lane `d` of head `h`. -/
def fox (b : Fin 4) (t : ℕ) (ht : t < 8192) (h : Fin 8) (d : Fin 64) : EReal :=
  rms (fun k : Fin 64 => ∑ j ∈ Finset.range 8192,
      Ideal.div (Ideal.exp (logits Q K C b h t ht j - mx (logits Q K C b h t ht) 8192)) (lx (logits Q K C b h t ht) 8192)
        * vals V b (lane h k) j)
    (Ideal.ofBits .f32 0x42800000#32) (Ideal.ofBits .f32 0x358637BD#32) d * g (ix2 0 (lane h d))

theorem logits_tail (b : Fin 4) (h : Fin 8) (t : ℕ) (ht : t < 8192) (n : ℕ) (hn : t < n) (j : ℕ) (hj : n ≤ j) :
    logits Q K C b h t ht j = ⊥ := by
  unfold logits
  rw [dif_neg (by omega)]

/-- The formula from any prefix of the keys that the mask leaves. -/
theorem fox_eq (b : Fin 4) (t : ℕ) (ht : t < 8192) (h : Fin 8) (d : Fin 64) (n : ℕ) (hn : t < n) (hN : n ≤ 8192) :
    rms (fun k : Fin 64 => Ideal.div (ax (logits Q K C b h t ht) (vals V b (lane h k)) n) (lx (logits Q K C b h t ht) n))
      (Ideal.ofBits .f32 0x42800000#32) (Ideal.ofBits .f32 0x358637BD#32) d * g (ix2 0 (lane h d)) = fox Q K V C g b t ht h d := by
  have ht' : ∀ j, n ≤ j → j < 8192 → logits Q K C b h t ht j = ⊥ := fun j hj _ => logits_tail Q K C b h t ht n hn j hj
  unfold fox
  rw [← rms_div _ _ _ (by rw [ofBits_64]; exact_mod_cast (by norm_num : (0 : ℝ) < 64)) (by rw [ofBits_64]; exact EReal.coe_ne_top _) ofBits_eps]
  simp only [lx_tail hN ht', ax_tail _ hN ht']

end Formula

/-! ## One grid point -/

section Point

variable {Q K V : Vec Ideal S4x8192x512 .bf16} {C : Vec Ideal S4x4x8x8192 .f32} {g : Vec Ideal S1x512 .f32}
  {x0 : Vec Ideal S1x512x128 .bf16} {x1 x2 : Vec Ideal S1x8192x128 .bf16} {x3 : Vec Ideal S1x1x8x512 .f32}
  {x4 : Vec Ideal S1x1x8x8192 .f32} {x5 : Vec Ideal S1x128 .f32} {b : Fin 4} {p : Fin 4} {qi : ℕ}

/-- What the blocks of a grid point hold of the arrays. -/
structure Blocks (Q K V : Vec Ideal S4x8192x512 .bf16) (C : Vec Ideal S4x4x8x8192 .f32) (g : Vec Ideal S1x512 .f32)
    (x0 : Vec Ideal S1x512x128 .bf16) (x1 x2 : Vec Ideal S1x8192x128 .bf16) (x3 : Vec Ideal S1x1x8x512 .f32)
    (x4 : Vec Ideal S1x1x8x8192 .f32) (x5 : Vec Ideal S1x128 .f32) (b : Fin 4) (p : Fin 4) (qi : ℕ) : Prop where
  lt : qi < 16
  q : ∀ (r : Fin 512) (l : Fin 128), x0 (ix3 0 r l) = Q (ix3 b ⟨512 * qi + r.val, by omega⟩ ⟨128 * p.val + l.val, by omega⟩)
  k : ∀ (j : Fin 8192) (l : Fin 128), x1 (ix3 0 j l) = K (ix3 b j ⟨128 * p.val + l.val, by omega⟩)
  v : ∀ (j : Fin 8192) (l : Fin 128), x2 (ix3 0 j l) = V (ix3 b j ⟨128 * p.val + l.val, by omega⟩)
  cq : ∀ (u : Fin 8) (r : Fin 512), x3 (ix4 0 0 u r) = C (ix4 b p u ⟨512 * qi + r.val, by omega⟩)
  ck : ∀ (u : Fin 8) (j : Fin 8192), x4 (ix4 0 0 u j) = C (ix4 b p u j)
  gain : ∀ l : Fin 128, x5 (ix2 0 l) = g (ix2 0 ⟨128 * p.val + l.val, by omega⟩)

variable (B : Blocks Q K V C g x0 x1 x2 x3 x4 x5 b p qi)
include B

theorem row_fst (r : Fin 512) (j : Fin 8192) (ht : 512 * qi + r.val < 8192) (hj : j.val ≤ 512 * qi + r.val) :
    rowLogit (k0_pay36 x0) (k0_pay39 x3) x1 x4 0 r j = logits Q K C b ⟨2 * p.val, by omega⟩ (512 * qi + r.val) ht j.val := by
  unfold rowLogit logits
  rw [dif_pos ⟨j.isLt, hj⟩, pay39_apply, B.cq, B.ck]
  simp only [pay36_apply, ite_mul, zero_mul]
  rw [sum_low (fun x => x0 (ix3 0 r x) * x1 (ix3 0 j x))]
  congr 1
  · refine Finset.sum_congr rfl fun d _ => ?_
    rw [B.q, B.k]
    have e : (⟨128 * p.val + d.val, by omega⟩ : Fin 512) = lane ⟨2 * p.val, by omega⟩ d := Fin.ext (by show 128 * p.val + d.val = 64 * (2 * p.val) + d.val; omega)
    exact congrArg₂ (· * ·) (congrArg (fun w => Q (ix3 b _ w)) e) (congrArg (fun w => K (ix3 b j w)) e)
  · have e1 : p = (⟨2 * p.val / 2, by omega⟩ : Fin 4) := Fin.ext (by show p.val = 2 * p.val / 2; omega)
    have e2 : (0 : Fin 8) = ⟨2 * p.val % 2, by omega⟩ := Fin.ext (by show 0 = 2 * p.val % 2; omega)
    exact congrArg₂ (fun x y => C (ix4 b x y _) - C (ix4 b x y j)) e1 e2

theorem row_snd (r : Fin 512) (j : Fin 8192) (ht : 512 * qi + r.val < 8192) (hj : j.val ≤ 512 * qi + r.val) :
    rowLogit (k0_pay37 x0) (k0_pay40 x3) x1 x4 1 r j = logits Q K C b ⟨2 * p.val + 1, by omega⟩ (512 * qi + r.val) ht j.val := by
  unfold rowLogit logits
  rw [dif_pos ⟨j.isLt, hj⟩, pay40_apply, B.cq, B.ck]
  simp only [pay37_apply, ite_mul, zero_mul]
  rw [sum_high (fun x => x0 (ix3 0 r x) * x1 (ix3 0 j x))]
  congr 1
  · refine Finset.sum_congr rfl fun d _ => ?_
    rw [B.q, B.k]
    have e : (⟨128 * p.val + (64 + d.val), by omega⟩ : Fin 512) = lane ⟨2 * p.val + 1, by omega⟩ d := Fin.ext (by show 128 * p.val + (64 + d.val) = 64 * (2 * p.val + 1) + d.val; omega)
    exact congrArg₂ (· * ·) (congrArg (fun w => Q (ix3 b _ w)) e) (congrArg (fun w => K (ix3 b j w)) e)
  · have e1 : p = (⟨(2 * p.val + 1) / 2, by omega⟩ : Fin 4) := Fin.ext (by show p.val = (2 * p.val + 1) / 2; omega)
    have e2 : (1 : Fin 8) = ⟨(2 * p.val + 1) % 2, by omega⟩ := Fin.ext (by show 1 = (2 * p.val + 1) % 2; omega)
    exact congrArg₂ (fun x y => C (ix4 b x y _) - C (ix4 b x y j)) e1 e2

theorem rows_fst : Row (k0_pay36 x0) (k0_pay39 x3) x1 x4 0 qi
    (fun r => logits Q K C b ⟨2 * p.val, by omega⟩ (512 * qi + r.val) (by have := B.lt; omega)) where
  below r j hj := row_fst B r j _ (by omega)
  diag r j hj := by
    split
    · exact row_fst B r _ _ (by show 512 * qi + j.val ≤ _; omega)
    · exact (logits_tail Q K C b _ _ _ (512 * qi + r.val + 1) (by omega) _ (by omega)).symm

theorem rows_snd : Row (k0_pay37 x0) (k0_pay40 x3) x1 x4 1 qi
    (fun r => logits Q K C b ⟨2 * p.val + 1, by omega⟩ (512 * qi + r.val) (by have := B.lt; omega)) where
  below r j hj := row_snd B r j _ (by omega)
  diag r j hj := by
    split
    · exact row_snd B r _ _ (by show 512 * qi + j.val ≤ _; omega)
    · exact (logits_tail Q K C b _ _ _ (512 * qi + r.val + 1) (by omega) _ (by omega)).symm

theorem vals_eq (d : Fin 128) (j : Fin 8192) : x2 (ix3 0 j d) = vals V b ⟨128 * p.val + d.val, by omega⟩ j.val := by
  unfold vals
  rw [dif_pos j.isLt]
  exact B.v j d

variable {a0 a1 : Vec Ideal S1x512x128 .f32} {l0 l1 : Vec Ideal S1x512x1 .f32}

theorem out_fst
    (h0 : Done l0 a0 (fun r => logits Q K C b ⟨2 * p.val, by omega⟩ (512 * qi + r.val) (by have := B.lt; omega))
      (fun d => vals V b ⟨128 * p.val + d.val, by omega⟩) (512 * qi + 512)) (r : Fin 512) (d : Fin 64) :
    k0_pay72 k0_pay69 (k0_pay70 a0) (k0_pay71 l0) a1 l1 x5 (ix3 0 r ⟨d.val, by omega⟩)
      = fox Q K V C g b (512 * qi + r.val) (by have := B.lt; omega) ⟨2 * p.val, by omega⟩ d := by
  have hlt := B.lt
  have e : ∀ k : Fin 64, (⟨128 * p.val + k.val, by omega⟩ : Fin 512) = lane ⟨2 * p.val, by omega⟩ k :=
    fun k => Fin.ext (by show 128 * p.val + k.val = 64 * (2 * p.val) + k.val; omega)
  rw [pay72_low, B.gain, ← fox_eq Q K V C g b _ _ _ d (512 * qi + 512) (by omega) (by omega)]
  simp only [h0.sum, h0.val, e]

theorem out_snd
    (h1 : Done l1 a1 (fun r => logits Q K C b ⟨2 * p.val + 1, by omega⟩ (512 * qi + r.val) (by have := B.lt; omega))
      (fun d => vals V b ⟨128 * p.val + d.val, by omega⟩) (512 * qi + 512)) (r : Fin 512) (d : Fin 64) :
    k0_pay72 k0_pay69 (k0_pay70 a0) (k0_pay71 l0) a1 l1 x5 (ix3 0 r ⟨64 + d.val, by omega⟩)
      = fox Q K V C g b (512 * qi + r.val) (by have := B.lt; omega) ⟨2 * p.val + 1, by omega⟩ d := by
  have hlt := B.lt
  have e : ∀ k : Fin 64, (⟨128 * p.val + (64 + k.val), by omega⟩ : Fin 512) = lane ⟨2 * p.val + 1, by omega⟩ k :=
    fun k => Fin.ext (by show 128 * p.val + (64 + k.val) = 64 * (2 * p.val + 1) + k.val; omega)
  rw [pay72_high, B.gain, ← fox_eq Q K V C g b _ _ _ d (512 * qi + 512) (by omega) (by omega)]
  simp only [h1.sum, h1.val, e]

end Point

end Cert.Fox

end
-- ==== Proof.Fox.Array.lean ====
/-
  The attention kernel's whole result: every block a grid point stores is the block of the formula there, and the blocks
  cover the array.
-/
module

public import proofs.«01_k».proof.Proof.Gen.KernelIdeal.Value
public import proofs.«01_k».proof.Proof.Fox.Head
public import Idealize.ShloMosaic.Lib.Pipeline.Covers

@[expose] public section

set_option maxRecDepth 16384

noncomputable section

namespace Cert.Fox

open Idealize.ShloMosaic Idealize.ShloMosaic.TcCoe Idealize.SL.Sem Cert.KernelIdeal Cert.KernelIdeal.Gen

variable (m : (ℓ : Loc nD τ sig) → Buf (Elt Ideal) ℓ) (ρ : Dev nD → PrngReg) (c : Dev nD)

theorem index0 : ∀ t : Fin cfg0.N, win0_0.index t = ![(grid0.coords t 0).val, (grid0.coords t 2).val, (grid0.coords t 1).val] :=
  (by decide +kernel : ∀ t : Fin grid0.N, _)
theorem index1 : ∀ t : Fin cfg0.N, win0_1.index t = ![(grid0.coords t 0).val, 0, (grid0.coords t 1).val] :=
  (by decide +kernel : ∀ t : Fin grid0.N, _)
theorem index2 : ∀ t : Fin cfg0.N, win0_2.index t = ![(grid0.coords t 0).val, 0, (grid0.coords t 1).val] :=
  (by decide +kernel : ∀ t : Fin grid0.N, _)
theorem index3 : ∀ t : Fin cfg0.N, win0_3.index t = ![(grid0.coords t 0).val, (grid0.coords t 1).val, 0, (grid0.coords t 2).val] :=
  (by decide +kernel : ∀ t : Fin grid0.N, _)
theorem index4 : ∀ t : Fin cfg0.N, win0_4.index t = ![(grid0.coords t 0).val, (grid0.coords t 1).val, 0, 0] :=
  (by decide +kernel : ∀ t : Fin grid0.N, _)
theorem index5 : ∀ t : Fin cfg0.N, win0_5.index t = ![0, (grid0.coords t 1).val] :=
  (by decide +kernel : ∀ t : Fin grid0.N, _)
theorem index6 : ∀ t : Fin cfg0.N, win0_6.index t = ![(grid0.coords t 0).val, (grid0.coords t 2).val, (grid0.coords t 1).val] :=
  (by decide +kernel : ∀ t : Fin grid0.N, _)

/-- The blocks a grid point reads, of the arrays. -/
theorem blocks (t : Fin cfg0.N) :
    Blocks (m ((c : Thread nD τ).loc main_arg0)) (m ((c : Thread nD τ).loc main_arg1)) (m ((c : Thread nD τ).loc main_arg2))
      (m ((c : Thread nD τ).loc main_arg3)) (m ((c : Thread nD τ).loc main_arg4)) (iblk m c 0 t) (iblk m c 1 t) (iblk m c 2 t)
      (iblk m c 3 t) (iblk m c 4 t) (iblk m c 5 t) (grid0.coords t 0) (grid0.coords t 1) (grid0.coords t 2).val where
  lt := (grid0.coords t 2).isLt
  q r l := by blk_ext [iblk, V, index0 t]
  k j l := by blk_ext [iblk, V, index1 t]
  v j l := by blk_ext [iblk, V, index2 t]
  cq u r := by blk_ext [iblk, V, index3 t]
  ck u j := by blk_ext [iblk, V, index4 t]
  gain l := by blk_ext [iblk, V, index5 t]

/-- The attention's result as an array. -/
def foxArr (Q K V : Vec Ideal S4x8192x512 .bf16) (C : Vec Ideal S4x4x8x8192 .f32) (g : Vec Ideal S1x512 .f32) :
    Vec Ideal S4x8192x512 .bf16 := fun y =>
  fox Q K V C g (y 0) (y 1).val (y 1).isLt ⟨(y 2).val / 64, by have : (y 2).val < 512 := (y 2).isLt; omega⟩
    ⟨(y 2).val % 64, Nat.mod_lt _ (by norm_num)⟩

theorem foxArr_apply (Q K V : Vec Ideal S4x8192x512 .bf16) (C : Vec Ideal S4x4x8x8192 .f32) (g : Vec Ideal S1x512 .f32)
    (y : S4x8192x512.Idx) (b : Fin 4) (t : ℕ) (ht : t < 8192) (h : Fin 8) (d : Fin 64) (h0 : (y 0).val = b.val) (h1 : (y 1).val = t)
    (h2 : (y 2).val = 64 * h.val + d.val) : foxArr Q K V C g y = fox Q K V C g b t ht h d := by
  subst h1
  have e0 : y 0 = b := Fin.ext h0
  have e1 : (⟨(y 2).val / 64, by have : (y 2).val < 512 := (y 2).isLt; omega⟩ : Fin 8) = h := Fin.ext (by show (y 2).val / 64 = h.val; omega)
  have e2 : (⟨(y 2).val % 64, Nat.mod_lt _ (by norm_num)⟩ : Fin 64) = d := Fin.ext (by show (y 2).val % 64 = d.val; omega)
  show fox Q K V C g (y 0) (y 1).val (y 1).isLt _ _ = _
  rw [e0, e1, e2]

/-- What a grid point leaves at row `r`, lane `l` of its block. -/
theorem point (t : Fin cfg0.N) (r : Fin 512) (l : Fin 128) (y : S4x8192x512.Idx)
    (h0 : (y 0).val = (grid0.coords t 0).val) (h1 : (y 1).val = 512 * (grid0.coords t 2).val + r.val)
    (h2 : (y 2).val = 128 * (grid0.coords t 1).val + l.val) :
    outsAt0 m c t (ix3 0 r l) = foxArr (m ((c : Thread nD τ).loc main_arg0)) (m ((c : Thread nD τ).loc main_arg1))
      (m ((c : Thread nD τ).loc main_arg2)) (m ((c : Thread nD τ).loc main_arg3)) (m ((c : Thread nD τ).loc main_arg4)) y := by
  have B := blocks m c t
  have hlt := B.lt
  have hp : (grid0.coords t 1).val < 4 := (grid0.coords t 1).isLt
  obtain ⟨a0, l0, a1, l1, inb, he, d0, d1⟩ := run_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t)
    _ _ _ (rows_fst B) (rows_snd B) (vals_eq B)
  unfold outsAt0 out0_A_6
  rw [he]
  rw [View.read_writes_cons_unit_of_mem _ _ _ _ _ _ (ix3 0 r l) rfl (by intro a; match a with | 0 => rfl | 1 => exact (Nat.zero_add _).symm | 2 => exact (Nat.zero_add _).symm)]
  by_cases hl : l.val < 64
  · rw [foxArr_apply _ _ _ _ _ y (grid0.coords t 0) (512 * (grid0.coords t 2).val + r.val) (by omega) ⟨2 * (grid0.coords t 1).val, by omega⟩ ⟨l.val, hl⟩
      h0 h1 (by show _ = 64 * (2 * (grid0.coords t 1).val) + l.val; omega)]
    exact out_fst B d0 r ⟨l.val, hl⟩
  · rw [foxArr_apply _ _ _ _ _ y (grid0.coords t 0) (512 * (grid0.coords t 2).val + r.val) (by omega) ⟨2 * (grid0.coords t 1).val + 1, by omega⟩ ⟨l.val - 64, by omega⟩
      h0 h1 (by show _ = 64 * (2 * (grid0.coords t 1).val + 1) + (l.val - 64); omega)]
    have e : l = ⟨64 + (l.val - 64), by omega⟩ := Fin.ext (by show l.val = 64 + (l.val - 64); omega)
    exact (congrArg (fun w => k0_pay72 k0_pay69 (k0_pay70 a0) (k0_pay71 l0) a1 l1 (iblk m c 5 t) (ix3 0 r w)) e).trans
      (out_snd B d1 r ⟨l.val - 64, by omega⟩)

theorem covers6 : (cfg0.win 6).Covers := by
  refine Pipeline.Window.covers_of_indexMap_surj _ rfl (by decide) fun β => ?_
  have h0 : (β 0).val < 4 := (β 0).isLt
  have h1 : (β 1).val < 16 := (β 1).isLt
  have h2 : (β 2).val < 4 := (β 2).isLt
  have key : ∀ (x : Fin 4) (z : Fin 4) (y : Fin 16), ∃ i : grid0.Coords, cc0_transform_6 i = ![x.val, y.val, z.val] := by
    intro x z y
    refine ⟨fun a => match a with | 0 => x | 1 => z | 2 => y, ?_⟩
    revert x z y
    decide +kernel
  obtain ⟨i, hi⟩ := key ⟨_, h0⟩ ⟨_, h2⟩ ⟨_, h1⟩
  refine ⟨i, fun a => ?_⟩
  show cc0_transform_6 i a = _
  rw [hi]
  match a with
  | 0 => rfl
  | 1 => rfl
  | 2 => rfl

/-- The kernel's result. -/
theorem array : (dats m 0 c).arrAt 6 cfg0.N = foxArr (m ((c : Thread nD τ).loc main_arg0)) (m ((c : Thread nD τ).loc main_arg1))
      (m ((c : Thread nD τ).loc main_arg2)) (m ((c : Thread nD τ).loc main_arg3)) (m ((c : Thread nD τ).loc main_arg4)) := by
  refine (dats m 0 c).arrAt_eq_of_covers 6 _ covers6 fun t hf y => ?_
  blk_simp
  rw [after0_6]
  have hy : y = ix3 0 (y 1) (y 2) := by
    funext a
    match a with
    | 0 => exact Fin.ext (by have : (y 0).val < 1 := (y 0).isLt; show (y 0).val = 0; omega)
    | 1 => rfl
    | 2 => rfl
  have e0 : (((cfg0.win 6).blk t).view.emb y 0).val = (grid0.coords t 0).val := by
    have : (y 0).val < 1 := (y 0).isLt
    blk_simp [index6 t]
  have e1 : (((cfg0.win 6).blk t).view.emb y 1).val = 512 * (grid0.coords t 2).val + (y 1).val := by
    blk_simp [index6 t]
    omega
  have e2 : (((cfg0.win 6).blk t).view.emb y 2).val = 128 * (grid0.coords t 1).val + (y 2).val := by
    blk_simp [index6 t]
    omega
  exact (congrArg (outsAt0 m c t) hy).trans (point m c t (y 1) (y 2) _ e0 e1 e2)

/-- The kernel's run. -/
theorem kernel_run : θ_run defs (onTc (τ := τ) (main (F := Ideal))) ⟨m, fun _ => 0, ρ⟩ fun r => ∀ c : Dev nD,
      r.2.mem ((c : Thread nD τ).loc main_v0) = foxArr (m ((c : Thread nD τ).loc main_arg0)) (m ((c : Thread nD τ).loc main_arg1))
        (m ((c : Thread nD τ).loc main_arg2)) (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (array m c), (h c).2⟩) (Cert.KernelIdeal.Value.run_blocks (F := Ideal) m ρ)

end Cert.Fox

end
-- ==== Proof.Fox.Reference.lean ====
/-
  The reference's result, stage by stage, as the formula over whole arrays.
-/
module

public import proofs.«01_k».proof.Proof.Fox.Array
public import proofs.«01_k».proof.Proof.Gen.ReferenceIdeal.Read

@[expose] public section

set_option maxRecDepth 16384

noncomputable section

namespace Cert.Fox

open Idealize.ShloMosaic Idealize.ShloMosaic.TcCoe Cert.ReferenceIdeal Cert.ReferenceIdeal.Read

variable (Q K V : Vec Ideal Cert.KernelIdeal.S4x8192x512 .bf16) (C : Vec Ideal Cert.KernelIdeal.S4x4x8x8192 .f32)
  (g : Vec Ideal Cert.KernelIdeal.S1x512 .f32)

/-! ## The inputs by head -/

theorem ref_q (b : Fin 4) (h : Fin 8) (t : Fin 8192) (d : Fin 64) :
    val_main_v2 (F := Ideal) Q (ix4 b h t d) = Q (ix3 b t (lane h d)) := by
  rw [val_main_v2_apply, val_main_v1_apply]
  refine congrArg Q (funext fun a => Fin.ext ?_)
  match a with
  | ⟨0, _⟩ => show (((b.val * 8192 + t.val) * 8 + h.val) * 64 + d.val) / 4194304 = b.val; omega
  | ⟨1, _⟩ => show (((b.val * 8192 + t.val) * 8 + h.val) * 64 + d.val) / 512 % 8192 = t.val; omega
  | ⟨2, _⟩ => show (((b.val * 8192 + t.val) * 8 + h.val) * 64 + d.val) % 512 = 64 * h.val + d.val; omega

theorem ref_k (b : Fin 4) (h : Fin 8) (t : Fin 8192) (d : Fin 64) :
    val_main_v5 (F := Ideal) K (ix4 b h t d) = K (ix3 b t (lane h d)) := ref_q K b h t d

theorem ref_v (b : Fin 4) (h : Fin 8) (t : Fin 8192) (d : Fin 64) :
    val_main_v8 (F := Ideal) V (ix4 b h t d) = V (ix3 b t (lane h d)) := ref_q V b h t d

theorem ref_gate (b : Fin 4) (h : Fin 8) (t : Fin 8192) : val_main_v10 (F := Ideal) C (ix3 b h t) = gate C b h t := by
  rw [val_main_v10_apply, val_main_v9_apply]
  refine congrArg C (funext fun a => Fin.ext ?_)
  match a with
  | ⟨0, _⟩ => show ((b.val * 8 + h.val) * 8192 + t.val) / 65536 = b.val; omega
  | ⟨1, _⟩ => show ((b.val * 8 + h.val) * 8192 + t.val) / 16384 % 4 = h.val / 2; omega
  | ⟨2, _⟩ => show ((b.val * 8 + h.val) * 8192 + t.val) / 8192 % 2 = h.val % 2; omega
  | ⟨3, _⟩ => show ((b.val * 8 + h.val) * 8192 + t.val) % 8192 = t.val; omega

theorem ref_g (h : Fin 8) (d : Fin 64) : val_main_v48 (F := Ideal) g (ix2 h d) = g (ix2 0 (lane h d)) := by
  rw [val_main_v48_apply]
  refine congrArg g (funext fun a => Fin.ext ?_)
  match a with
  | ⟨0, _⟩ => rfl
  | ⟨1, _⟩ => show (h.val * 64 + d.val) % 512 = 64 * h.val + d.val; omega

/-! ## The logits -/

theorem ref_dot (b : Fin 4) (h : Fin 8) (t j : Fin 8192) :
    val_main_v12 (F := Ideal) Q K (ix4 b h t j) = ∑ d : Fin 64, Q (ix3 b t (lane h d)) * K (ix3 b j (lane h d)) := by
  rw [val_main_v12_apply]
  refine Finset.sum_congr rfl fun d _ => ?_
  refine congrArg₂ (· * ·) (Eq.trans (congrArg _ ?_) (ref_q Q b h t d)) (Eq.trans (congrArg _ ?_) (ref_k K b h j d)) <;>
    exact funext fun a => Fin.ext (by match a with | ⟨0, _⟩ => rfl | ⟨1, _⟩ => rfl | ⟨2, _⟩ => rfl | ⟨3, _⟩ => rfl)

theorem ref_gate_q (b : Fin 4) (h : Fin 8) (t j : Fin 8192) :
    val_main_v14 (F := Ideal) C (ix4 b h t j) = gate C b h t := by
  rw [val_main_v14_apply, val_main_v13_apply]
  refine Eq.trans (congrArg _ ?_) (ref_gate C b h t)
  exact funext fun a => Fin.ext (by match a with | ⟨0, _⟩ => rfl | ⟨1, _⟩ => rfl | ⟨2, _⟩ => rfl)

theorem ref_gate_k (b : Fin 4) (h : Fin 8) (t j : Fin 8192) :
    val_main_v17 (F := Ideal) C (ix4 b h t j) = gate C b h j := by
  rw [val_main_v17_apply, val_main_v16_apply]
  refine Eq.trans (congrArg _ ?_) (ref_gate C b h j)
  exact funext fun a => Fin.ext (by match a with | ⟨0, _⟩ => rfl | ⟨1, _⟩ => rfl | ⟨2, _⟩ => rfl)

theorem ref_mask (b : Fin 4) (h : Fin 8) (t j : Fin 8192) :
    val_main_call0_v1 (F := Ideal) (ix4 b h t j) = BitVec.ofBool (decide (j.val ≤ t.val)) := by
  rw [val_main_call0_v1_apply, val_main_v23_apply, val_main_v21_apply, val_main_v22_apply, val_main_v19_apply, val_main_v20_apply,
    val_main_v11_apply, val_main_v11_apply]
  exact sle_ofNat (a := j.val) (b := t.val) (by omega) (by omega)

theorem ref_logits (b : Fin 4) (h : Fin 8) (t j : Fin 8192) :
    val_main_v24 (F := Ideal) Q K C (ix4 b h t j) = logits Q K C b h t.val t.isLt j.val := by
  rw [val_main_v24_apply, ref_mask, select_ofBool, val_main_call0_v2_apply, val_main_call0_v0_apply, val_main_cst_apply,
    val_main_v18_apply, val_main_v15_apply, ref_dot, ref_gate_q, ref_gate_k]
  unfold logits
  by_cases hj : j.val ≤ t.val
  · rw [if_pos hj, dif_pos ⟨j.isLt, hj⟩]
    show _ + gate C b h t - gate C b h j = _
    rw [sub_eq_add_neg, sub_eq_add_neg, add_assoc]
  · rw [if_neg hj, dif_neg (by omega)]
    exact ofBits_neg_inf

/-! ## The softmax -/

theorem ref_fold (b : Fin 4) (h : Fin 8) (t : Fin 8192) :
    val_main_v25 (F := Ideal) Q K C (ix3 b h t) = mx (logits Q K C b h t.val t.isLt) 8192 := by
  have e := fold_max_eq (fun j : Fin 8192 => logits Q K C b h t.val t.isLt j.val) (logits Q K C b h t.val t.isLt) 0
    (fun k => by rw [Nat.zero_add])
  rw [Nat.zero_add] at e
  rw [← e]
  have e0 : mx (logits Q K C b h t.val t.isLt) 0 = ⊥ := rfl
  rw [e0, max_eq_right bot_le]
  have ej : ∀ j : Fin 8192, val_main_v24 (F := Ideal) Q K C (ix4 b h t j) = logits Q K C b h t.val t.isLt j.val := ref_logits Q K C b h t
  unfold val_main_v25
  generalize val_main_v24 (F := Ideal) Q K C = y at ej
  clean_types
  pointwise [val_main_cst_0]
  simp only [ej]
  rw [ofBits_neg_inf]

theorem ref_max (b : Fin 4) (h : Fin 8) (t j : Fin 8192) :
    val_main_v29 (F := Ideal) Q K C (ix4 b h t j) = mx (logits Q K C b h t.val t.isLt) 8192 := by
  rw [val_main_v29_apply, val_main_v28_apply, val_main_v27_apply, val_main_v26_apply, val_main_cst_1_apply]
  have e : idx_main_v28 (idx_main_v29 (ix4 b h t j)) = ix3 b h t :=
    funext fun a => Fin.ext (by match a with | ⟨0, _⟩ => rfl | ⟨1, _⟩ => rfl | ⟨2, _⟩ => rfl)
  rw [e, ref_fold]
  show max (Ideal.ofBits .f32 0xFF800000#32) _ = _
  rw [ofBits_neg_inf, max_eq_right bot_le]

theorem ref_exp (b : Fin 4) (h : Fin 8) (t j : Fin 8192) :
    val_main_v31 (F := Ideal) Q K C (ix4 b h t j)
      = Ideal.exp (logits Q K C b h t.val t.isLt j.val - mx (logits Q K C b h t.val t.isLt) 8192) := by
  rw [val_main_v31_apply, val_main_v30_apply, ref_logits, ref_max]
  rfl

theorem ref_sum (b : Fin 4) (h : Fin 8) (t j : Fin 8192) :
    val_main_v34 (F := Ideal) Q K C (ix4 b h t j) = lx (logits Q K C b h t.val t.isLt) 8192 := by
  rw [val_main_v34_apply, val_main_v33_apply, val_main_v32_apply, val_main_cst_2_apply]
  have e0 : FloatOps.ofBits (F := Ideal) .f32 0x00000000#32 = (0 : EReal) := by
    show Ideal.ofBits .f32 0x00000000#32 = 0
    simp [Ideal.ofBits, Ideal.ieee]
  rw [e0, zero_add]
  unfold lx
  rw [Finset.sum_range]
  refine Finset.sum_congr rfl fun k _ => ?_
  refine Eq.trans (congrArg _ ?_) (ref_exp Q K C b h t k)
  exact funext fun a => Fin.ext (by match a with | ⟨0, _⟩ => rfl | ⟨1, _⟩ => rfl | ⟨2, _⟩ => rfl | ⟨3, _⟩ => rfl)

/-- The attention's weighted values before the normalization. -/
def attn (b : Fin 4) (h : Fin 8) (t : Fin 8192) (d : Fin 64) : EReal :=
  ∑ j ∈ Finset.range 8192, Ideal.div (Ideal.exp (logits Q K C b h t.val t.isLt j - mx (logits Q K C b h t.val t.isLt) 8192))
    (lx (logits Q K C b h t.val t.isLt) 8192) * vals V b (lane h d) j

theorem ref_attn (b : Fin 4) (h : Fin 8) (t : Fin 8192) (d : Fin 64) :
    val_main_v37 (F := Ideal) Q K V C (ix4 b t h d) = attn Q K V C b h t d := by
  rw [val_main_v37_apply, val_main_v36_apply]
  unfold attn
  rw [Finset.sum_range]
  refine Finset.sum_congr rfl fun j _ => congrArg₂ (· * ·) ?_ ?_
  · have e : lidx_main_v36 (idx_main_v37 (ix4 b t h d)) j = ix4 b h t j :=
      funext fun a => Fin.ext (by match a with | ⟨0, _⟩ => rfl | ⟨1, _⟩ => rfl | ⟨2, _⟩ => rfl | ⟨3, _⟩ => rfl)
    rw [e, val_main_v35_apply, ref_exp, ref_sum]
    rfl
  · have e : ridx_main_v36 (idx_main_v37 (ix4 b t h d)) j = ix4 b h j d :=
      funext fun a => Fin.ext (by match a with | ⟨0, _⟩ => rfl | ⟨1, _⟩ => rfl | ⟨2, _⟩ => rfl | ⟨3, _⟩ => rfl)
    rw [e, ref_v]
    unfold vals
    rw [dif_pos j.isLt]

/-! ## The normalization -/

theorem ref_mean (b : Fin 4) (h : Fin 8) (t : Fin 8192) (d : Fin 64) :
    val_main_v46 (F := Ideal) Q K V C (ix4 b t h d)
      = Ideal.rsqrt (Ideal.div (∑ k : Fin 64, attn Q K V C b h t k * attn Q K V C b h t k) (Ideal.ofBits .f32 0x42800000#32)
          + Ideal.ofBits .f32 0x358637BD#32) := by
  rw [val_main_v46_apply, val_main_v45_apply, val_main_v44_apply, val_main_v43_apply, val_main_v42_apply, val_main_v41_apply,
    val_main_v40_apply, val_main_v39_apply, val_main_cst_3_apply, val_main_cst_4_apply, val_main_cst_5_apply]
  have e0 : FloatOps.ofBits (F := Ideal) .f32 0x00000000#32 = (0 : EReal) := by
    show Ideal.ofBits .f32 0x00000000#32 = 0
    simp [Ideal.ofBits, Ideal.ieee]
  rw [e0, zero_add]
  have es : ∀ k : Fin 64, val_main_v38 (F := Ideal) Q K V C (idx_main_v39 (idx_main_v40 (idx_main_v46 (ix4 b t h d))) k)
      = attn Q K V C b h t k * attn Q K V C b h t k := fun k => by
    have e : idx_main_v39 (idx_main_v40 (idx_main_v46 (ix4 b t h d))) k = ix4 b t h k :=
      funext fun a => Fin.ext (by match a with | ⟨0, _⟩ => rfl | ⟨1, _⟩ => rfl | ⟨2, _⟩ => rfl | ⟨3, _⟩ => rfl)
    rw [e, val_main_v38_apply, ref_attn]
    rfl
  rw [Finset.sum_congr rfl fun k _ => es k]
  rfl

theorem ref_at (b : Fin 4) (t : Fin 8192) (h : Fin 8) (d : Fin 64) :
    val_main_v51 (F := Ideal) Q K V C g (ix4 b t h d) = fox Q K V C g b t.val t.isLt h d := by
  rw [val_main_v51_apply, val_main_v47_apply, ref_attn, ref_mean, val_main_v50_apply, val_main_v49_apply]
  have e : idx_main_v49 (idx_main_v50 (ix4 b t h d)) = ix2 h d :=
    funext fun a => Fin.ext (by match a with | ⟨0, _⟩ => rfl | ⟨1, _⟩ => rfl)
  rw [e, ref_g]
  rfl

theorem ref_eq : val_main_v53 (F := Ideal) Q K V C g = foxArr Q K V C g := by
  funext y
  have h0 : (y 0).val < 4 := (y 0).isLt
  have h1 : (y 1).val < 8192 := (y 1).isLt
  have h2 : (y 2).val < 512 := (y 2).isLt
  rw [val_main_v53_apply, val_main_v52_apply]
  have e : idx_main_v52 y = ix4 (⟨(y 0).val, h0⟩ : Fin 4) (⟨(y 1).val, h1⟩ : Fin 8192) (⟨(y 2).val / 64, by omega⟩ : Fin 8)
      (⟨(y 2).val % 64, by omega⟩ : Fin 64) := funext fun a => Fin.ext (by
    match a with
    | ⟨0, _⟩ => show (((y 0).val * 8192 + (y 1).val) * 512 + (y 2).val) / 4194304 = (y 0).val; omega
    | ⟨1, _⟩ => show (((y 0).val * 8192 + (y 1).val) * 512 + (y 2).val) / 512 % 8192 = (y 1).val; omega
    | ⟨2, _⟩ => show (((y 0).val * 8192 + (y 1).val) * 512 + (y 2).val) / 64 % 8 = (y 2).val / 64; omega
    | ⟨3, _⟩ => show (((y 0).val * 8192 + (y 1).val) * 512 + (y 2).val) % 64 = (y 2).val % 64; omega)
  rw [e, ref_at]
  rfl

end Cert.Fox
-- ==== Proof.Ffn.Norm.lean ====
/-
  A layer norm of one row, and sums taken block by block.
-/
module

public import Idealize.ShloMosaic.PureOps.Ideal
public import Mathlib.Algebra.BigOperators.Fin

@[expose] public section

noncomputable section

namespace Cert.Ffn

open Idealize.ShloMosaic

/-- The mean of a row: its sum over `c`. -/
def mean {D : ℕ} (z : Fin D → EReal) (c : EReal) : EReal := Ideal.div (∑ k : Fin D, z k) c

/-- The layer norm of a row at one entry, with gain `g`, offset `b` and `e` added to the variance. -/
def lnorm {D : ℕ} (z g b : Fin D → EReal) (c e : EReal) (d : Fin D) : EReal :=
  (z d - mean z c) * Ideal.rsqrt (mean (fun k => (z k - mean z c) * (z k - mean z c)) c + e) * g d + b d

/-- A sum over `n` blocks of `T` terms is the sum over all of them. -/
theorem sum_blocks {n T N : ℕ} (hN : n * T = N) (f : Fin N → EReal) (F : ℕ → EReal)
    (hF : ∀ j : Fin n, F j.val = ∑ t : Fin T, f ⟨T * j.val + t.val, by
      have h1 := j.isLt; have h2 := t.isLt
      calc T * j.val + t.val < T * j.val + T := by omega
        _ = T * (j.val + 1) := by ring
        _ ≤ T * n := Nat.mul_le_mul_left T h1
        _ = N := by rw [Nat.mul_comm, hN]⟩) :
    ∑ j ∈ Finset.range n, F j = ∑ i : Fin N, f i := by
  subst hN
  rw [Finset.sum_range, ← Equiv.sum_comp finProdFinEquiv, Fintype.sum_prod_type]
  refine Finset.sum_congr rfl fun j _ => ?_
  rw [hF j]
  refine Finset.sum_congr rfl fun t _ => ?_
  congr 1
  exact Fin.ext (by show T * j.val + t.val = t.val + T * j.val; omega)

end Cert.Ffn

end
-- ==== Proof.Ffn.Tile.lean ====
/-
  The feed-forward kernel's stored values, read at an element: the rows with their halo, the convolution of one block of
  256 columns, the block's share of the down projection, and the layer norm.
-/
module

public import proofs.«01_k».proof.Proof.Gen.Kernel2Ideal.Skeleton
public import proofs.«01_k».proof.Proof.Ffn.Norm
public import Idealize.ShloMosaic.Lib.Pointwise

@[expose] public section

set_option maxRecDepth 16384

noncomputable section

namespace Cert.Ffn

open Idealize.ShloMosaic Cert.Kernel2Ideal Cert.Kernel2Ideal.Gen

theorem ofBits_zero : Ideal.ofBits .f32 0x00000000#32 = 0 := by simp [Ideal.ofBits, Ideal.ieee]

/-- One block of the up projection at a row. -/
def up (xe : FVec Ideal S520x1024 .bf16) (w : Vec Ideal S1x1024x256 .bf16) (r : Fin 520) (f : Fin 256) : EReal :=
  ∑ k : Fin 1024, xe (ix2 r k) * w (ix3 0 k f)

/-- The causal convolution of one block at row `r`: the rows two before, one before and at it, and the bias. -/
def conv (xe : FVec Ideal S520x1024 .bf16) (w : Vec Ideal S1x1024x256 .bf16) (cv : Vec Ideal S1x1x8x256 .f32)
    (r : Fin 512) (f : Fin 256) : EReal :=
  cv (ix4 0 0 3 f) + cv (ix4 0 0 0 f) * up xe w ⟨6 + r.val, by omega⟩ f + cv (ix4 0 0 1 f) * up xe w ⟨7 + r.val, by omega⟩ f
    + cv (ix4 0 0 2 f) * up xe w ⟨8 + r.val, by omega⟩ f

/-- The gate `a · Φ(a)`, as the kernel writes it. -/
def gelu (a : EReal) : EReal :=
  Ideal.ofBits .f32 0x3F000000#32 * a * (1 + Ideal.erf (a * Ideal.ofBits .f32 0x3F3504F3#32))

variable (xe : FVec Ideal S520x1024 .bf16) (wa wu : Vec Ideal S1x1024x256 .bf16) (ca cu : Vec Ideal S1x1x8x256 .f32)
  (acc : Vec Ideal S512x1024 .f32) (wd : Vec Ideal S1x256x1024 .bf16)

theorem pay3_apply (r : Fin 512) (f : Fin 256) : k0_pay3 xe wa ca (ix2 r f) = conv xe wa ca r f := by
  pointwise [k0_pay3]
  rfl

theorem pay56_apply (r : Fin 512) (f : Fin 256) :
    k0_pay5 xe wu cu (ix2 r f) + k0_pay6 xe wu cu (ix2 r f) = conv xe wu cu r f := by
  pointwise [k0_pay5, k0_pay6, k0_pay2, k0_pay4]
  rfl

theorem pay9_apply (r : Fin 512) (d : Fin 1024) :
    k0_pay9 (k0_pay3 xe wa ca) (k0_pay5 xe wu cu) (k0_pay6 xe wu cu) acc wd (ix2 r d)
      = acc (ix2 r d) + ∑ f : Fin 256, gelu (conv xe wa ca r f) * conv xe wu cu r f * wd (ix3 0 f d) := by
  pointwise [k0_pay9]
  refine congrArg (acc (ix2 r d) + ·) (Finset.sum_congr rfl fun x _ => ?_)
  rw [pay3_apply, pay56_apply]
  rfl

theorem pay8_apply (r : Fin 512) (d : Fin 1024) : k0_pay8 (F := Ideal) (ix2 r d) = 0 := by
  pointwise [k0_pay8]

/-- The kernel's test for the first block of a sequence: the block number is a multiple of 16. -/
theorem first_word (n : Fin 64) : (
        (Scalar.cmpi CmpIPredicate.eq
          (Scalar.select
            (Scalar.andi
              (Scalar.xori
                (Scalar.cmpi CmpIPredicate.slt
                  (Scalar.remsi (BitVec.ofNat 32 n.val)
                    (Scalar.select (Scalar.cmpi CmpIPredicate.eq 16#32 0#32) 1#32 16#32))
                  0#32)
                (Scalar.cmpi CmpIPredicate.slt (Scalar.select (Scalar.cmpi CmpIPredicate.eq 16#32 0#32) 1#32 16#32)
                  0#32))
              (Scalar.cmpi CmpIPredicate.ne
                (Scalar.remsi (BitVec.ofNat 32 n.val)
                  (Scalar.select (Scalar.cmpi CmpIPredicate.eq 16#32 0#32) 1#32 16#32))
                0#32))
            (Scalar.addi
              (Scalar.remsi (BitVec.ofNat 32 n.val)
                (Scalar.select (Scalar.cmpi CmpIPredicate.eq 16#32 0#32) 1#32 16#32))
              (Scalar.select (Scalar.cmpi CmpIPredicate.eq 16#32 0#32) 1#32 16#32))
            (Scalar.remsi (BitVec.ofNat 32 n.val)
              (Scalar.select (Scalar.cmpi CmpIPredicate.eq 16#32 0#32) 1#32 16#32)))
          0#32)) = BitVec.ofBool (decide (n.val % 16 = 0)) := by
  revert n; decide +kernel

theorem select_ofBool {α : Type} (p : Prop) [Decidable p] (x y : α) :
    Scalar.select (BitVec.ofBool (decide p)) x y = if p then x else y := by
  by_cases h : p <;> simp [Scalar.select, h]

theorem pay7_apply (i : grid0.Coords) (x : Vec Ideal S512x1024 .f32) (h : Vec Ideal S8x1024 .f32) (r : Fin 520) (k : Fin 1024) :
    k0_pay7 i x h (ix2 r k) = if hr : r.val < 8 then (if (i 0).val % 16 = 0 then 0 else h (ix2 ⟨r.val, hr⟩ k))
      else x (ix2 ⟨r.val - 8, by omega⟩ k) := by
  pointwise [k0_pay7]
  congr 1
  funext hr
  exact (congrArg (fun w => Scalar.select w 0 (h (ix2 ⟨r.val, hr⟩ k))) (first_word (i 0))).trans (select_ofBool _ _ _)

theorem pay1_apply (x : Vec Ideal S512x1024 .f32) (g b : Vec Ideal S1x1024 .f32) (r : Fin 512) (d : Fin 1024) :
    k0_pay1 (k0_pay10 x acc) g b (k0_pay11 x acc) (ix2 r d)
      = lnorm (fun k => Ideal.ofBits .f32 0x3FB504F3#32 * x (ix2 r k) + acc (ix2 r k)) (fun k => g (ix2 0 k)) (fun k => b (ix2 0 k))
          (Ideal.ofBits .f32 0x44800000#32) (Ideal.ofBits .f32 0x3727C5AC#32) d := by
  pointwise [k0_pay1, k0_pay10, k0_pay11]
  rfl

end Cert.Ffn

end
-- ==== Proof.Ffn.Formula.lean ====
/-
  The feed-forward layer at one token: the up projections and their causal convolutions over three tokens, the gate,
  the down projection added up over the blocks of 256 columns, the residual and the layer norm.
-/
module

public import proofs.«01_k».proof.Proof.Gen.Kernel2Ideal.Skeleton
public import proofs.«01_k».proof.Proof.Ffn.Tile

@[expose] public section

set_option maxRecDepth 16384

noncomputable section

namespace Cert.Ffn

open Idealize.ShloMosaic Cert.Kernel2Ideal Cert.Kernel2Ideal.Gen

/-- One token's row of features. -/
abbrev Row := Fin 1024 → EReal

/-- The up projection of one row, column `f` of block `j`. -/
def upRow (x : Row) (W : Vec Ideal S11x1024x256 .bf16) (j : Fin 11) (f : Fin 256) : EReal := ∑ k : Fin 1024, x k * W (ix3 j k f)

/-- The causal convolution over the rows two before, one before and at a token. -/
def convRow (x2 x1 x0 : Row) (W : Vec Ideal S11x1024x256 .bf16) (CV : Vec Ideal S2x11x8x256 .f32) (h : Fin 2) (j : Fin 11)
    (f : Fin 256) : EReal :=
  CV (ix4 h j 3 f) + CV (ix4 h j 0 f) * upRow x2 W j f + CV (ix4 h j 1 f) * upRow x1 W j f + CV (ix4 h j 2 f) * upRow x0 W j f

section

variable (x2 x1 x0 : Row) (WA WU : Vec Ideal S11x1024x256 .bf16) (CV : Vec Ideal S2x11x8x256 .f32)
  (WD : Vec Ideal S11x256x1024 .bf16) (G B : Vec Ideal S1x1024 .f32)

/-- What block `j` adds to feature `d` of the down projection. -/
def term (d : Fin 1024) (j : ℕ) : EReal :=
  if h : j < 11 then ∑ f : Fin 256, gelu (convRow x2 x1 x0 WA CV 0 ⟨j, h⟩ f) * convRow x2 x1 x0 WU CV 1 ⟨j, h⟩ f * WD (ix3 ⟨j, h⟩ f d)
  else 0

/-- The down projection after `n` blocks. -/
def part (n : ℕ) (d : Fin 1024) : EReal := ∑ j ∈ Finset.range n, term x2 x1 x0 WA WU CV WD d j

theorem part_succ (n : ℕ) (d : Fin 1024) :
    part x2 x1 x0 WA WU CV WD (n + 1) d = part x2 x1 x0 WA WU CV WD n d + term x2 x1 x0 WA WU CV WD d n := Finset.sum_range_succ _ _

theorem part_congr {x2 x1 x0 x2' x1' x0' : Row} {WA WU WA' WU' : Vec Ideal S11x1024x256 .bf16} {CV CV' : Vec Ideal S2x11x8x256 .f32}
    {WD WD' : Vec Ideal S11x256x1024 .bf16} (h2 : x2 = x2') (h1 : x1 = x1') (h0 : x0 = x0') (ha : WA = WA') (hu : WU = WU')
    (hc : CV = CV') (hd : WD = WD') (n : ℕ) (d : Fin 1024) :
    part x2 x1 x0 WA WU CV WD n d = part x2' x1' x0' WA' WU' CV' WD' n d := by
  subst h2 h1 h0 ha hu hc hd
  rfl

/-- The layer's result at one token. -/
def outRow (d : Fin 1024) : EReal :=
  lnorm (fun k => Ideal.ofBits .f32 0x3FB504F3#32 * x0 k + part x2 x1 x0 WA WU CV WD 11 k) (fun k => G (ix2 0 k)) (fun k => B (ix2 0 k))
    (Ideal.ofBits .f32 0x44800000#32) (Ideal.ofBits .f32 0x3727C5AC#32) d

end

/-- The row `s` tokens before token `n`, zero when that is before the start of the sequence. -/
def tok (X : Vec Ideal S32768x1024 .f32) (n : Fin 32768) (s : ℕ) : Row := fun k =>
  if s ≤ n.val % 8192 then X (ix2 ⟨n.val - s, by omega⟩ k) else 0

/-- The whole result. -/
def ffnArr (X : Vec Ideal S32768x1024 .f32) (WA WU : Vec Ideal S11x1024x256 .bf16) (CV : Vec Ideal S2x11x8x256 .f32)
    (WD : Vec Ideal S11x256x1024 .bf16) (G B : Vec Ideal S1x1024 .f32) : Vec Ideal S32768x1024 .f32 := fun y =>
  outRow (tok X (y 0) 2) (tok X (y 0) 1) (tok X (y 0) 0) WA WU CV WD G B (y 1)

end Cert.Ffn

end
-- ==== Proof.Ffn.Trip.lean ====
/-
  The feed-forward kernel's loop over the blocks of 256 columns: each trip adds its block's share of the down projection
  to the accumulator.
-/
module

public import proofs.«01_k».proof.Proof.Gen.Kernel2Ideal.Loops
public import proofs.«01_k».proof.Proof.Ffn.Formula
public import Idealize.ShloMosaic.Lib.WritesUnit
public import Idealize.ShloMosaic.Lib.Pipeline.ValueKit

@[expose] public section

set_option maxRecDepth 16384

noncomputable section

namespace Cert.Ffn

open Idealize.ShloMosaic Idealize.ShloMosaic.TcCoe Idealize.ShloMosaic.Tactic Idealize.SL Cert.Kernel2Ideal Cert.Kernel2Ideal.Gen

/-! ## Index words -/

theorem trips : k0_t1_loop.trips = 11 := by decide +kernel

theorem off1_eq (k : Fin k0_t1_loop.trips) : k0_off1 k = ![k.val, 0, 0] := by
  revert k; decide +kernel

theorem off2_eq (k : Fin k0_t1_loop.trips) : k0_off2 k = ![0, k.val, 0, 0] := by
  revert k; decide +kernel

theorem off3_eq (k : Fin k0_t1_loop.trips) : k0_off3 k = ![1, k.val, 0, 0] := by
  revert k; decide +kernel

theorem off4_eq (k : Fin k0_t1_loop.trips) : k0_off4 k = ![k.val, 0, 0] := by
  revert k; decide +kernel

/-! ## Blocks of the weights -/

theorem ld_w {W : FVec Ideal S11x1024x256 .bf16} {j : Fin 11} {off : Fin 3 → ℕ} (ho : off = ![j.val, 0, 0]) (inb) (k : Fin 1024) (f : Fin 256) :
    View.ld (Val := Elt Ideal) (e' := .bf16) W (Rect.unit (s := S11x1024x256) off S1x1024x256.size inb) (ix3 0 k f) = W (ix3 j k f) := by
  subst ho
  refine View.ld_unit_apply_of (Val := Elt Ideal) _ _ _ _ _ _ fun a => ?_
  match a with
  | 0 => rfl
  | 1 => exact (Nat.zero_add _).symm
  | 2 => exact (Nat.zero_add _).symm

theorem ld_d {W : FVec Ideal S11x256x1024 .bf16} {j : Fin 11} {off : Fin 3 → ℕ} (ho : off = ![j.val, 0, 0]) (inb) (f : Fin 256) (d : Fin 1024) :
    View.ld (Val := Elt Ideal) (e' := .bf16) W (Rect.unit (s := S11x256x1024) off S1x256x1024.size inb) (ix3 0 f d) = W (ix3 j f d) := by
  subst ho
  refine View.ld_unit_apply_of (Val := Elt Ideal) _ _ _ _ _ _ fun a => ?_
  match a with
  | 0 => rfl
  | 1 => exact (Nat.zero_add _).symm
  | 2 => exact (Nat.zero_add _).symm

theorem ld_cv {C : FVec Ideal S2x11x8x256 .f32} {h : Fin 2} {j : Fin 11} {off : Fin 4 → ℕ} (ho : off = ![h.val, j.val, 0, 0]) (inb) (t : Fin 8) (f : Fin 256) :
    View.ld (Val := Elt Ideal) (e' := .f32) C (Rect.unit (s := S2x11x8x256) off S1x1x8x256.size inb) (ix4 0 0 t f) = C (ix4 h j t f) := by
  subst ho
  refine View.ld_unit_apply_of (Val := Elt Ideal) _ _ _ _ _ _ fun a => ?_
  match a with
  | 0 => rfl
  | 1 => rfl
  | 2 => exact (Nat.zero_add _).symm
  | 3 => exact (Nat.zero_add _).symm

theorem ld_acc {A : FVec Ideal S512x1024 .f32} (inb) (r : Fin 512) (d : Fin 1024) :
    View.ld (Val := Elt Ideal) (e' := .f32) A (Rect.unit (s := S512x1024) ![0, 0] S512x1024.size inb) (ix2 r d) = A (ix2 r d) := by
  refine View.ld_unit_apply_of (Val := Elt Ideal) _ _ _ _ _ _ fun a => ?_
  match a with
  | 0 => exact (Nat.zero_add _).symm
  | 1 => exact (Nat.zero_add _).symm

/-- Row `n` of the rows with their halo. -/
def xrow (xe : FVec Ideal S520x1024 .bf16) (n : Fin 520) : Row := fun k => xe (ix2 n k)

/-- The rows two before, one before and at row `r` of the tile. -/
abbrev row2 (xe : FVec Ideal S520x1024 .bf16) (r : Fin 512) : Row := xrow xe ⟨6 + r.val, by omega⟩
abbrev row1 (xe : FVec Ideal S520x1024 .bf16) (r : Fin 512) : Row := xrow xe ⟨7 + r.val, by omega⟩
abbrev row0 (xe : FVec Ideal S520x1024 .bf16) (r : Fin 512) : Row := xrow xe ⟨8 + r.val, by omega⟩

theorem conv_tile (xe : FVec Ideal S520x1024 .bf16) (W : FVec Ideal S11x1024x256 .bf16) (C : FVec Ideal S2x11x8x256 .f32) (h : Fin 2) (j : Fin 11)
    {off : Fin 3 → ℕ} {off' : Fin 4 → ℕ} (ho : off = ![j.val, 0, 0]) (ho' : off' = ![h.val, j.val, 0, 0]) (inb inb') (r : Fin 512) (f : Fin 256) :
    conv xe (View.ld (Val := Elt Ideal) (e' := .bf16) W (Rect.unit (s := S11x1024x256) off S1x1024x256.size inb))
      (View.ld (Val := Elt Ideal) (e' := .f32) C (Rect.unit (s := S2x11x8x256) off' S1x1x8x256.size inb')) r f
      = convRow (row2 xe r) (row1 xe r) (row0 xe r) W C h j f := by
  have hu : ∀ n : Fin 520, up xe (View.ld (Val := Elt Ideal) (e' := .bf16) W (Rect.unit (s := S11x1024x256) off S1x1024x256.size inb)) n f
      = upRow (xrow xe n) W j f :=
    fun n => Finset.sum_congr rfl fun k _ => congrArg (xe (ix2 n k) * ·) (ld_w ho inb k f)
  unfold conv convRow
  rw [ld_cv ho' inb' 0 f, ld_cv ho' inb' 1 f, ld_cv ho' inb' 2 f, ld_cv ho' inb' 3 f, hu, hu, hu]

section

variable (𝒱 : Variants) (c : Dev nD) (bd : Option 𝒱.V) (i : grid0.Coords) (arg1 : Memref sig .tc .vmem S512x1024 .f32) (harg1 : arg1.IsWhole) (arg2 : Memref sig .tc .vmem S8x1024 .f32) (harg2 : arg2.IsWhole) (arg3 : Memref sig .tc .vmem S11x1024x256 .bf16) (harg3 : arg3.IsWhole) (arg4 : Memref sig .tc .vmem S11x1024x256 .bf16) (harg4 : arg4.IsWhole) (arg5 : Memref sig .tc .vmem S2x11x8x256 .f32) (harg5 : arg5.IsWhole) (arg6 : Memref sig .tc .vmem S11x256x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S512x1024 .f32) (harg9 : arg9.IsWhole) (arg10 : Memref sig .tc .vmem S512x1024 .f32) (harg10 : arg10.IsWhole)
  (v0 : Vec Ideal S512x1024 .f32) (v12 : Vec Ideal S8x1024 .f32) (X_arg3 : BufTy.Contents (Elt Ideal) arg3.view.ty) (X_arg4 : BufTy.Contents (Elt Ideal) arg4.view.ty)
  (X_arg5 : BufTy.Contents (Elt Ideal) arg5.view.ty) (X_arg6 : BufTy.Contents (Elt Ideal) arg6.view.ty)

/-- The accumulator holds the down projection after `n` blocks. -/
def Acc (xe : FVec Ideal S520x1024 .bf16) (WA WU : Vec Ideal S11x1024x256 .bf16) (CV : Vec Ideal S2x11x8x256 .f32) (WD : Vec Ideal S11x256x1024 .bf16)
    (A : Vec Ideal S512x1024 .f32) (n : ℕ) : Prop :=
  ∀ (r : Fin 512) (d : Fin 1024), A (ix2 r d) = part (row2 xe r) (row1 xe r) (row0 xe r) WA WU CV WD n d

/-- One trip. -/
theorem trip_acc (k : Fin k0_t1_loop.trips) (f10 : BufTy.Contents (Elt Ideal) arg10.view.ty)
    (h : Acc (k0_pay7 i v0 v12) (arg3.view.read (Elt Ideal) X_arg3) (arg4.view.read (Elt Ideal) X_arg4) (arg5.view.read (Elt Ideal) X_arg5)
      (arg6.view.read (Elt Ideal) X_arg6) (arg10.view.read (Elt Ideal) f10) k.val) :
    Acc (k0_pay7 i v0 v12) (arg3.view.read (Elt Ideal) X_arg3) (arg4.view.read (Elt Ideal) X_arg4) (arg5.view.read (Elt Ideal) X_arg5)
      (arg6.view.read (Elt Ideal) X_arg6) (arg10.view.read (Elt Ideal) (arg10.view.writes (Elt Ideal) f10 (tripL_k0_t1 𝒱 c bd i arg1 harg1 arg2 harg2 arg3 harg3 arg4 harg4 arg5 harg5 arg6 harg6 arg7 harg7 arg8 harg8 arg9 harg9 arg10 harg10 v0 v12 X_arg3 X_arg4 X_arg5 X_arg6 k f10))) (k.val + 1) := by
  have hk : k.val < 11 := lt_of_lt_of_eq k.isLt trips
  intro r d
  unfold tripL_k0_t1 trip_k0_t1
  dsimp only
  sl_unfold_words
  rw [View.read_writes_cons_unit_of_mem _ _ _ _ _ _ (ix2 r d) rfl (by intro a; match a with | 0 => exact (Nat.zero_add _).symm | 1 => exact (Nat.zero_add _).symm)]
  refine (pay9_apply _ _ _ _ _ _ _ r d).trans ?_
  rw [part_succ]
  refine congrArg₂ (· + ·) ((ld_acc _ r d).trans (h r d)) ?_
  unfold term
  rw [dif_pos hk]
  refine Finset.sum_congr rfl fun f _ => ?_
  refine congrArg₂ (· * ·) (congrArg₂ (· * ·) (congrArg gelu ?_) ?_) ?_
  · exact conv_tile _ _ _ 0 ⟨k.val, hk⟩ (off1_eq k) (off2_eq k) _ _ r f
  · exact conv_tile _ _ _ 1 ⟨k.val, hk⟩ (off1_eq k) (off3_eq k) _ _ r f
  · exact ld_d (j := ⟨k.val, hk⟩) (off4_eq k) _ f d

/-- The trips before `n`. -/
theorem loop_acc (G : BufTy.Contents (Elt Ideal) arg10.view.ty)
    (h : Acc (k0_pay7 i v0 v12) (arg3.view.read (Elt Ideal) X_arg3) (arg4.view.read (Elt Ideal) X_arg4) (arg5.view.read (Elt Ideal) X_arg5)
      (arg6.view.read (Elt Ideal) X_arg6) (arg10.view.read (Elt Ideal) G) 0) (n : ℕ) (hn : n ≤ 11) :
    Acc (k0_pay7 i v0 v12) (arg3.view.read (Elt Ideal) X_arg3) (arg4.view.read (Elt Ideal) X_arg4) (arg5.view.read (Elt Ideal) X_arg5)
      (arg6.view.read (Elt Ideal) X_arg6) (arg10.view.read (Elt Ideal) (arg10.view.writes (Elt Ideal) G (pb_k0_t1 𝒱 c bd i arg1 harg1 arg2 harg2 arg3 harg3 arg4 harg4 arg5 harg5 arg6 harg6 arg7 harg7 arg8 harg8 arg9 harg9 arg10 harg10 v0 v12 X_arg3 X_arg4 X_arg5 X_arg6 G n))) n := by
  induction n with
  | zero => exact h
  | succ n ih =>
    have hk : n < k0_t1_loop.trips := by rw [trips]; omega
    have h1 := trip_acc 𝒱 c bd i arg1 harg1 arg2 harg2 arg3 harg3 arg4 harg4 arg5 harg5 arg6 harg6 arg7 harg7 arg8 harg8 arg9 harg9 arg10 harg10 v0 v12 X_arg3 X_arg4 X_arg5 X_arg6 ⟨n, hk⟩ _ (ih (by omega))
    rw [show pb_k0_t1 𝒱 c bd i arg1 harg1 arg2 harg2 arg3 harg3 arg4 harg4 arg5 harg5 arg6 harg6 arg7 harg7 arg8 harg8 arg9 harg9 arg10 harg10 v0 v12 X_arg3 X_arg4 X_arg5 X_arg6 G (n + 1) = _ from pb_k0_t1_succ 𝒱 c bd i arg1 harg1 arg2 harg2 arg3 harg3 arg4 harg4 arg5 harg5 arg6 harg6 arg7 harg7 arg8 harg8 arg9 harg9 arg10 harg10 v0 v12 X_arg3 X_arg4 X_arg5 X_arg6 G ⟨n, hk⟩]
    rw [View.writes_append]
    exact h1

end

end Cert.Ffn

end
-- ==== Proof.Ffn.Point.lean ====
/-
  One grid point of the feed-forward kernel: the block it stores is the layer norm of the residual plus the down
  projection of all eleven blocks.
-/
module

public import proofs.«01_k».proof.Proof.Ffn.Trip
public import proofs.«01_k».proof.Proof.Gen.Kernel2Ideal.Frame

@[expose] public section

set_option maxRecDepth 16384

noncomputable section

namespace Cert.Ffn

open Idealize.ShloMosaic Idealize.ShloMosaic.TcCoe Idealize.ShloMosaic.Tactic Idealize.SL Cert.Kernel2Ideal Cert.Kernel2Ideal.Gen

theorem ld_tile (x : FVec Ideal S512x1024 .f32) (inb) : View.ld (Val := Elt Ideal) (e' := .f32) x (Rect.unit (s := S512x1024) ![0, 0] S512x1024.size inb) = x :=
  funext fun y => View.ld_unit_apply_of (Val := Elt Ideal) _ _ _ _ y y fun a => by
    match a with
    | 0 => exact (Nat.zero_add _).symm
    | 1 => exact (Nat.zero_add _).symm

theorem ld_halo (x : FVec Ideal S8x1024 .f32) (inb) : View.ld (Val := Elt Ideal) (e' := .f32) x (Rect.unit (s := S8x1024) ![0, 0] S8x1024.size inb) = x :=
  funext fun y => View.ld_unit_apply_of (Val := Elt Ideal) _ _ _ _ y y fun a => by
    match a with
    | 0 => exact (Nat.zero_add _).symm
    | 1 => exact (Nat.zero_add _).symm

theorem ld_vec (x : FVec Ideal S1x1024 .f32) (inb) : View.ld (Val := Elt Ideal) (e' := .f32) x (Rect.unit (s := S1x1024) ![0, 0] S1x1024.size inb) = x :=
  funext fun y => View.ld_unit_apply_of (Val := Elt Ideal) _ _ _ _ y y fun a => by
    match a with
    | 0 => exact (Nat.zero_add _).symm
    | 1 => exact (Nat.zero_add _).symm

variable (c : Dev nD) (i : grid0.Coords) (arg1 : Memref sig .tc .vmem S512x1024 .f32) (harg1 : arg1.IsWhole) (arg2 : Memref sig .tc .vmem S8x1024 .f32) (harg2 : arg2.IsWhole) (arg3 : Memref sig .tc .vmem S11x1024x256 .bf16) (harg3 : arg3.IsWhole) (arg4 : Memref sig .tc .vmem S11x1024x256 .bf16) (harg4 : arg4.IsWhole) (arg5 : Memref sig .tc .vmem S2x11x8x256 .f32) (harg5 : arg5.IsWhole) (arg6 : Memref sig .tc .vmem S11x256x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S512x1024 .f32) (harg9 : arg9.IsWhole) (arg10 : Memref sig .tc .vmem S512x1024 .f32) (harg10 : arg10.IsWhole)
    (x0 : Vec Ideal S512x1024 .f32) (x1 : Vec Ideal S8x1024 .f32) (x2 : Vec Ideal S11x1024x256 .bf16) (x3 : Vec Ideal S11x1024x256 .bf16) (x4 : Vec Ideal S2x11x8x256 .f32) (x5 : Vec Ideal S11x256x1024 .bf16) (x6 : Vec Ideal S1x1024 .f32) (x7 : Vec Ideal S1x1024 .f32)

/-- The accumulator as the kernel resets it. -/
theorem reset (xe : FVec Ideal S520x1024 .bf16) :
    Acc xe x2 x3 x4 x5 (arg10.view.read (Elt Ideal) (arg10.view.writes (Elt Ideal) arg10.view.junk (kernelRun0_A.sl.HS0_1 (F := Ideal)))) 0 := by
  intro r d
  unfold kernelRun0_A.sl.HS0_1
  rw [View.read_writes_cons_unit_of_mem _ _ _ _ _ _ (ix2 r d) rfl
    (by intro a; match a with | 0 => exact (Nat.zero_add _).symm | 1 => exact (Nat.zero_add _).symm)]
  exact (pay8_apply r d).trans (by simp [part])

/-- The block a grid point stores. -/
theorem run_eq : ∃ (A : Vec Ideal S512x1024 .f32) (inb : _),
      (kernelRun0_A c i arg1 harg1 arg2 harg2 arg3 harg3 arg4 harg4 arg5 harg5 arg6 harg6 arg7 harg7 arg8 harg8 arg9 harg9 arg10 harg10 x0 x1 x2 x3 x4 x5 x6 x7).1 = [⟨Rect.unit (s := S512x1024) ![0, 0] S512x1024.size inb, k0_pay1 (k0_pay10 x0 A) x6 x7 (k0_pay11 x0 A)⟩]
      ∧ Acc (k0_pay7 i x0 x1) x2 x3 x4 x5 A 11 := by
  have hL := loop_acc Variants.none c none i arg1 harg1 arg2 harg2 arg3 harg3 arg4 harg4 arg5 harg5 arg6 harg6 arg7 harg7 arg8 harg8 arg9 harg9 arg10 harg10 x0 x1 (harg3.unread x2) (harg4.unread x3) (harg5.unread x4) (harg6.unread x5)
    (arg10.view.writes (Elt Ideal) arg10.view.junk (kernelRun0_A.sl.HS0_1 (F := Ideal))) (by
      rw [harg3.read_unread, harg4.read_unread, harg5.read_unread, harg6.read_unread]
      exact reset arg10 x2 x3 x4 x5 _) 11 le_rfl
  rw [harg3.read_unread, harg4.read_unread, harg5.read_unread, harg6.read_unread] at hL
  have e0 : View.readAt (Elt Ideal) arg1.view (Rect.unit (s := S512x1024) ![0, 0] S512x1024.size inb_S512x1024_S512x1024_0_0).toLoadRect (harg1.unread x0) = x0 :=
    (congrArg (fun g => View.ld (Val := Elt Ideal) (e' := .f32) g (Rect.unit (s := S512x1024) ![0, 0] S512x1024.size inb_S512x1024_S512x1024_0_0)) (harg1.read_unread x0)).trans (ld_tile x0 _)
  have e1 : View.readAt (Elt Ideal) arg2.view (Rect.unit (s := S8x1024) ![0, 0] S8x1024.size inb_S8x1024_S8x1024_0_0).toLoadRect (harg2.unread x1) = x1 :=
    (congrArg (fun g => View.ld (Val := Elt Ideal) (e' := .f32) g (Rect.unit (s := S8x1024) ![0, 0] S8x1024.size inb_S8x1024_S8x1024_0_0)) (harg2.read_unread x1)).trans (ld_halo x1 _)
  have e6 : View.readAt (Elt Ideal) arg7.view (Rect.unit (s := S1x1024) ![0, 0] S1x1024.size inb_S1x1024_S1x1024_0_0).toLoadRect (harg7.unread x6) = x6 :=
    (congrArg (fun g => View.ld (Val := Elt Ideal) (e' := .f32) g (Rect.unit (s := S1x1024) ![0, 0] S1x1024.size inb_S1x1024_S1x1024_0_0)) (harg7.read_unread x6)).trans (ld_vec x6 _)
  have e7 : View.readAt (Elt Ideal) arg8.view (Rect.unit (s := S1x1024) ![0, 0] S1x1024.size inb_S1x1024_S1x1024_0_0).toLoadRect (harg8.unread x7) = x7 :=
    (congrArg (fun g => View.ld (Val := Elt Ideal) (e' := .f32) g (Rect.unit (s := S1x1024) ![0, 0] S1x1024.size inb_S1x1024_S1x1024_0_0)) (harg8.read_unread x7)).trans (ld_vec x7 _)
  unfold kernelRun0_A
  dsimp only
  sl_unfold_words
  rw [e0, e1, e6, e7]
  refine ⟨_, inb_S512x1024_S512x1024_0_0, rfl, fun r d => ?_⟩
  refine (ld_acc _ r d).trans ?_
  rw [View.writes_append]
  rw [show Scf.trips k0_t1_loop.lb k0_t1_loop.ub k0_t1_loop.st = 11 from trips]
  exact hL r d

end Cert.Ffn

end
-- ==== Proof.Ffn.Array.lean ====
/-
  The feed-forward kernel's whole result: every block a grid point stores is the block of the formula there, and the
  blocks cover the array.
-/
module

public import proofs.«01_k».proof.Proof.Gen.Kernel2Ideal.Value
public import proofs.«01_k».proof.Proof.Ffn.Point
public import Idealize.ShloMosaic.Lib.Pipeline.Covers

@[expose] public section

set_option maxRecDepth 16384

noncomputable section

namespace Cert.Ffn

open Idealize.ShloMosaic Idealize.ShloMosaic.TcCoe Idealize.SL.Sem Cert.Kernel2Ideal Cert.Kernel2Ideal.Gen

variable (m : (ℓ : Loc nD τ sig) → Buf (Elt Ideal) ℓ) (ρ : Dev nD → PrngReg) (c : Dev nD)

theorem index0 : ∀ t : Fin cfg0.N, win0_0.index t = ![(grid0.coords t 0).val, 0] := (by decide +kernel : ∀ t : Fin grid0.N, _)
theorem index1 : ∀ t : Fin cfg0.N, win0_1.index t = ![64 * (grid0.coords t 0).val - 1, 0] := (by decide +kernel : ∀ t : Fin grid0.N, _)
theorem index2 : ∀ t : Fin cfg0.N, win0_2.index t = ![0, 0, 0] := (by decide +kernel : ∀ t : Fin grid0.N, _)
theorem index3 : ∀ t : Fin cfg0.N, win0_3.index t = ![0, 0, 0] := (by decide +kernel : ∀ t : Fin grid0.N, _)
theorem index4 : ∀ t : Fin cfg0.N, win0_4.index t = ![0, 0, 0, 0] := (by decide +kernel : ∀ t : Fin grid0.N, _)
theorem index5 : ∀ t : Fin cfg0.N, win0_5.index t = ![0, 0, 0] := (by decide +kernel : ∀ t : Fin grid0.N, _)
theorem index6 : ∀ t : Fin cfg0.N, win0_6.index t = ![0, 0] := (by decide +kernel : ∀ t : Fin grid0.N, _)
theorem index7 : ∀ t : Fin cfg0.N, win0_7.index t = ![0, 0] := (by decide +kernel : ∀ t : Fin grid0.N, _)
theorem index8 : ∀ t : Fin cfg0.N, win0_8.index t = ![(grid0.coords t 0).val, 0] := (by decide +kernel : ∀ t : Fin grid0.N, _)

/-- The token at row `r` of block `n`. -/
abbrev token (n : Fin 64) (r : Fin 512) : Fin 32768 := ⟨512 * n.val + r.val, by omega⟩

section

variable (t : Fin cfg0.N)

theorem blk_x (r : Fin 512) (k : Fin 1024) :
    iblk m c 0 t (ix2 r k) = m ((c : Thread nD τ).loc main_arg0) (ix2 (token (grid0.coords t 0) r) k) := by
  blk_ext [iblk, V, index0 t]

theorem blk_h (r : Fin 8) (k : Fin 1024) (h : (grid0.coords t 0).val ≠ 0) (hn : 512 * (grid0.coords t 0).val - 8 + r.val < 32768) :
    iblk m c 1 t (ix2 r k) = m ((c : Thread nD τ).loc main_arg0) (ix2 ⟨512 * (grid0.coords t 0).val - 8 + r.val, hn⟩ k) := by
  blk_ext [iblk, V, index1 t]

theorem blk_wa : iblk m c 2 t = m ((c : Thread nD τ).loc main_arg1) := by
  funext y
  blk_ext [iblk, V, index2 t]

theorem blk_wu : iblk m c 3 t = m ((c : Thread nD τ).loc main_arg2) := by
  funext y
  blk_ext [iblk, V, index3 t]

theorem blk_cv : iblk m c 4 t = m ((c : Thread nD τ).loc main_arg3) := by
  funext y
  blk_ext [iblk, V, index4 t]

theorem blk_wd : iblk m c 5 t = m ((c : Thread nD τ).loc main_arg4) := by
  funext y
  blk_ext [iblk, V, index5 t]

theorem blk_g : iblk m c 6 t = m ((c : Thread nD τ).loc main_arg5) := by
  funext y
  blk_ext [iblk, V, index6 t]

theorem blk_b : iblk m c 7 t = m ((c : Thread nD τ).loc main_arg6) := by
  funext y
  blk_ext [iblk, V, index7 t]

/-- The rows the kernel reads are the tokens' own and the two before, zero before the start of a sequence. -/
theorem xrow_eq (r : Fin 512) (s : ℕ) (hs : s ≤ 2) (q : Fin 520) (hq : q.val + s = 8 + r.val) :
    xrow (k0_pay7 (grid0.coords t) (iblk m c 0 t) (iblk m c 1 t)) q = tok (m ((c : Thread nD τ).loc main_arg0)) (token (grid0.coords t 0) r) s := by
  funext k
  have hi : (grid0.coords t 0).val < 64 := (grid0.coords t 0).isLt
  refine (pay7_apply (grid0.coords t) (iblk m c 0 t) (iblk m c 1 t) q k).trans ?_
  unfold tok
  have hm : (token (grid0.coords t 0) r).val % 8192 = 512 * ((grid0.coords t 0).val % 16) + r.val := by
    show (512 * (grid0.coords t 0).val + r.val) % 8192 = _
    omega
  split
  · rename_i h8
    split
    · rename_i h0
      rw [if_neg (by omega)]
    · rename_i h0
      rw [if_pos (by omega), blk_h m c t ⟨q.val, h8⟩ k (by omega) (by show 512 * (grid0.coords t 0).val - 8 + q.val < 32768; omega)]
      congr 2
      exact Fin.ext (by show 512 * (grid0.coords t 0).val - 8 + q.val = 512 * (grid0.coords t 0).val + r.val - s; omega)
  · rename_i h8
    rw [if_pos (by omega), blk_x]
    congr 2
    exact Fin.ext (by show 512 * (grid0.coords t 0).val + (q.val - 8) = 512 * (grid0.coords t 0).val + r.val - s; omega)

end

/-- What a grid point leaves at row `r`, feature `d` of its block. -/
theorem point (t : Fin cfg0.N) (r : Fin 512) (d : Fin 1024) (y : S32768x1024.Idx)
    (h0 : (y 0).val = 512 * (grid0.coords t 0).val + r.val) (h1 : (y 1).val = d.val) :
    outsAt0 m c t (ix2 r d) = ffnArr (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) y := by
  obtain ⟨A, inb, he, hA⟩ := run_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (iblk m c 0 t) (iblk m c 1 t) (iblk m c 2 t) (iblk m c 3 t) (iblk m c 4 t) (iblk m c 5 t) (iblk m c 6 t) (iblk m c 7 t)
  unfold outsAt0 out0_A_8
  rw [he]
  rw [View.read_writes_cons_unit_of_mem _ _ _ _ _ _ (ix2 r d) rfl (by intro a; match a with | 0 => exact (Nat.zero_add _).symm | 1 => exact (Nat.zero_add _).symm)]
  refine (pay1_apply A (iblk m c 0 t) (iblk m c 6 t) (iblk m c 7 t) r d).trans ?_
  have e0 : y 0 = token (grid0.coords t 0) r := Fin.ext h0
  have e1 : y 1 = d := Fin.ext h1
  unfold ffnArr outRow
  rw [e0, e1]
  have hx : ∀ k, iblk m c 0 t (ix2 r k) = tok (m ((c : Thread nD τ).loc main_arg0)) (token (grid0.coords t 0) r) 0 k :=
    fun k => (blk_x m c t r k).trans (if_pos (Nat.zero_le _)).symm
  have hz : ∀ k, A (ix2 r k) = part (tok (m ((c : Thread nD τ).loc main_arg0)) (token (grid0.coords t 0) r) 2)
      (tok (m ((c : Thread nD τ).loc main_arg0)) (token (grid0.coords t 0) r) 1) (tok (m ((c : Thread nD τ).loc main_arg0)) (token (grid0.coords t 0) r) 0)
      (m ((c : Thread nD τ).loc main_arg1)) (m ((c : Thread nD τ).loc main_arg2)) (m ((c : Thread nD τ).loc main_arg3)) (m ((c : Thread nD τ).loc main_arg4)) 11 k := by
    intro k
    refine (hA r k).trans (part_congr (xrow_eq m c t r 2 (by omega) _ ?_) (xrow_eq m c t r 1 (by omega) _ ?_) (xrow_eq m c t r 0 (by omega) _ rfl)
      (blk_wa m c t) (blk_wu m c t) (blk_cv m c t) (blk_wd m c t) 11 k)
    · show 6 + r.val + 2 = 8 + r.val
      omega
    · show 7 + r.val + 1 = 8 + r.val
      omega
  simp only [hx, hz, blk_g, blk_b]

theorem covers8 : (cfg0.win 8).Covers := by
  refine Pipeline.Window.covers_of_indexMap_surj _ rfl (by decide) fun β => ?_
  have h0 : (β 0).val < 64 := (β 0).isLt
  have h1 : (β 1).val < 1 := (β 1).isLt
  have key : ∀ x : Fin 64, ∃ i : grid0.Coords, cc0_transform_8 i = ![x.val, 0] := by
    intro x
    refine ⟨fun a => match a with | 0 => x, ?_⟩
    revert x
    decide +kernel
  obtain ⟨i, hi⟩ := key ⟨_, h0⟩
  refine ⟨i, fun a => ?_⟩
  show cc0_transform_8 i a = _
  rw [hi]
  match a with
  | 0 => rfl
  | 1 => show 0 = (β 1).val; omega

/-- The kernel's result. -/
theorem array : (dats m 0 c).arrAt 8 cfg0.N = ffnArr (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) := by
  refine (dats m 0 c).arrAt_eq_of_covers 8 _ covers8 fun t hf y => ?_
  blk_simp
  rw [after0_8]
  have hy : y = ix2 (y 0) (y 1) := by
    funext a
    match a with
    | 0 => rfl
    | 1 => rfl
  have e0 : (((cfg0.win 8).blk t).view.emb y 0).val = 512 * (grid0.coords t 0).val + (y 0).val := by
    blk_simp [index8 t]
    omega
  have e1 : (((cfg0.win 8).blk t).view.emb y 1).val = (y 1).val := by
    blk_simp [index8 t]
  exact (congrArg (outsAt0 m c t) hy).trans (point m c t (y 0) (y 1) _ e0 e1)

/-- The kernel's run. -/
theorem kernel_run : θ_run defs (onTc (τ := τ) (main (F := Ideal))) ⟨m, fun _ => 0, ρ⟩ fun r => ∀ c : Dev nD,
      r.2.mem ((c : Thread nD τ).loc main_v0) = ffnArr (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (array m c), (h c).2⟩) (Cert.Kernel2Ideal.Value.run_blocks (F := Ideal) m ρ)

end Cert.Ffn

end
-- ==== Proof.Ffn.Reference.lean ====
/-
  The feed-forward reference's result, stage by stage, as the formula over whole arrays.
-/
module

public import proofs.«01_k».proof.Proof.Ffn.Array
public import proofs.«01_k».proof.Proof.Gen.Reference2Ideal.Read
public import Idealize.ShloMosaic.Lib.Tactic.CleanTypes

@[expose] public section

set_option maxRecDepth 16384

noncomputable section

namespace Cert.Ffn

open Idealize.ShloMosaic Idealize.ShloMosaic.TcCoe Cert.Reference2Ideal Cert.Reference2Ideal.Read

variable (X : Vec Ideal Cert.Kernel2Ideal.S32768x1024 .f32) (W WA WU : Vec Ideal Cert.Kernel2Ideal.S11x1024x256 .bf16)
  (CV : Vec Ideal Cert.Kernel2Ideal.S2x11x8x256 .f32) (WD : Vec Ideal Cert.Kernel2Ideal.S11x256x1024 .bf16)
  (G B : Vec Ideal Cert.Kernel2Ideal.S1x1024 .f32)

/-- The token at position `t` of sequence `b`. -/
abbrev seqTok (b : Fin 4) (t : Fin 8192) : Fin 32768 := ⟨8192 * b.val + t.val, by omega⟩

/-- Column `f` of block `j` among all columns. -/
abbrev col (j : Fin 11) (f : Fin 256) : Fin 2816 := ⟨256 * j.val + f.val, by omega⟩

/-! ## The inputs -/

theorem ref_x (b : Fin 4) (t : Fin 8192) (k : Fin 1024) : val_main_v0 (F := Ideal) X (ix3 b t k) = X (ix2 (seqTok b t) k) := by
  rw [val_main_v0_apply]
  refine congrArg X (funext fun a => Fin.ext ?_)
  match a with
  | ⟨0, _⟩ => show ((b.val * 8192 + t.val) * 1024 + k.val) / 1024 = 8192 * b.val + t.val; omega
  | ⟨1, _⟩ => show ((b.val * 8192 + t.val) * 1024 + k.val) % 1024 = k.val; omega

theorem ref_w (j : Fin 11) (f : Fin 256) (k : Fin 1024) : val_main_v5 (F := Ideal) W (ix2 k (col j f)) = W (ix3 j k f) := by
  rw [val_main_v5_apply, val_main_v4_apply, val_main_v3_apply]
  refine congrArg W (funext fun a => Fin.ext ?_)
  match a with
  | ⟨0, _⟩ => show (k.val * 2816 + (256 * j.val + f.val)) / 256 % 11 = j.val; omega
  | ⟨1, _⟩ => show (k.val * 2816 + (256 * j.val + f.val)) / 2816 = k.val; omega
  | ⟨2, _⟩ => show (k.val * 2816 + (256 * j.val + f.val)) % 256 = f.val; omega

theorem ref_wd (j : Fin 11) (f : Fin 256) (d : Fin 1024) : val_main_v78 (F := Ideal) WD (ix2 (col j f) d) = WD (ix3 j f d) := by
  rw [val_main_v78_apply, val_main_v77_apply]
  refine congrArg WD (funext fun a => Fin.ext ?_)
  match a with
  | ⟨0, _⟩ => show ((256 * j.val + f.val) * 1024 + d.val) / 262144 = j.val; omega
  | ⟨1, _⟩ => show ((256 * j.val + f.val) * 1024 + d.val) / 1024 % 256 = f.val; omega
  | ⟨2, _⟩ => show ((256 * j.val + f.val) * 1024 + d.val) % 1024 = d.val; omega

theorem ref_c (h : Fin 2) (j : Fin 11) (n : Fin 8) (f : Fin 256) :
    (if h = 0 then val_main_v2 (F := Ideal) CV (ix3 j n f) else val_main_v36 (F := Ideal) CV (ix3 j n f)) = CV (ix4 h j n f) := by
  match h with
  | 0 =>
    rw [if_pos rfl, val_main_v2_apply, val_main_v1_apply]
    refine congrArg CV (funext fun a => Fin.ext ?_)
    match a with
    | ⟨0, _⟩ => rfl
    | ⟨1, _⟩ => show ((j.val * 8 + n.val) * 256 + f.val) / 2048 % 11 = j.val; omega
    | ⟨2, _⟩ => show ((j.val * 8 + n.val) * 256 + f.val) / 256 % 8 = n.val; omega
    | ⟨3, _⟩ => show ((j.val * 8 + n.val) * 256 + f.val) % 256 = f.val; omega
  | 1 =>
    rw [if_neg (by decide), val_main_v36_apply, val_main_v35_apply]
    refine congrArg CV (funext fun a => Fin.ext ?_)
    match a with
    | ⟨0, _⟩ => rfl
    | ⟨1, _⟩ => show ((j.val * 8 + n.val) * 256 + f.val) / 2048 % 11 = j.val; omega
    | ⟨2, _⟩ => show ((j.val * 8 + n.val) * 256 + f.val) / 256 % 8 = n.val; omega
    | ⟨3, _⟩ => show ((j.val * 8 + n.val) * 256 + f.val) % 256 = f.val; omega

theorem ref_ca (n : Fin 8) (j : Fin 11) (f : Fin 256) : val_main_v7 (F := Ideal) CV (ix2 n (col j f)) = CV (ix4 0 j n f) := by
  rw [val_main_v7_apply, val_main_v6_apply]
  refine Eq.trans (congrArg _ (funext fun a => Fin.ext ?_)) (ref_c CV 0 j n f)
  match a with
  | ⟨0, _⟩ => show (n.val * 2816 + (256 * j.val + f.val)) / 256 % 11 = j.val; omega
  | ⟨1, _⟩ => show (n.val * 2816 + (256 * j.val + f.val)) / 2816 = n.val; omega
  | ⟨2, _⟩ => show (n.val * 2816 + (256 * j.val + f.val)) % 256 = f.val; omega

theorem ref_cu (n : Fin 8) (j : Fin 11) (f : Fin 256) : val_main_v41 (F := Ideal) CV (ix2 n (col j f)) = CV (ix4 1 j n f) := by
  rw [val_main_v41_apply, val_main_v40_apply]
  refine Eq.trans (congrArg _ (funext fun a => Fin.ext ?_)) (ref_c CV 1 j n f)
  match a with
  | ⟨0, _⟩ => show (n.val * 2816 + (256 * j.val + f.val)) / 256 % 11 = j.val; omega
  | ⟨1, _⟩ => show (n.val * 2816 + (256 * j.val + f.val)) / 2816 = n.val; omega
  | ⟨2, _⟩ => show (n.val * 2816 + (256 * j.val + f.val)) % 256 = f.val; omega

/-! ## The up projections and their convolutions -/

theorem ref_up (b : Fin 4) (t : Fin 8192) (j : Fin 11) (f : Fin 256) :
    val_main_v8 (F := Ideal) X W (ix3 b t (col j f)) = upRow (fun k => X (ix2 (seqTok b t) k)) W j f := by
  rw [val_main_v8_apply]
  refine Finset.sum_congr rfl fun k _ => ?_
  refine congrArg₂ (· * ·) (Eq.trans (congrArg _ ?_) (ref_x X b t k)) (Eq.trans (congrArg _ ?_) (ref_w W j f k))
  · exact funext fun a => Fin.ext (by match a with | ⟨0, _⟩ => rfl | ⟨1, _⟩ => rfl | ⟨2, _⟩ => rfl)
  · exact funext fun a => Fin.ext (by match a with | ⟨0, _⟩ => rfl | ⟨1, _⟩ => rfl)

theorem ref_pad (b : Fin 4) (t : Fin 8194) (e : Fin 2816) :
    val_main_v9 (F := Ideal) X W (ix3 b t e) = if h : 2 ≤ t.val then val_main_v8 (F := Ideal) X W (ix3 b ⟨t.val - 2, by omega⟩ e) else 0 := by
  unfold val_main_v9
  generalize val_main_v8 (F := Ideal) X W = y
  clean_types
  pointwise [val_main_call0_v0, val_main_c]
  by_cases h : 2 ≤ t.val
  · rw [dif_pos ⟨h, by omega⟩, dif_pos h]
  · rw [dif_neg (fun hh => h hh.1), dif_neg h]
    show ((((0#32 : BitVec 32).toInt : ℝ)) : EReal) = 0
    simp

/-- The padded rows are the rows some tokens before. -/
theorem ref_lag (b : Fin 4) (t : Fin 8192) (s : ℕ) (hs : s ≤ 2) (q : Fin 8194) (hq : q.val + s = t.val + 2) (j : Fin 11) (f : Fin 256) :
    val_main_v9 (F := Ideal) X W (ix3 b q (col j f)) = upRow (tok X (seqTok b t) s) W j f := by
  rw [ref_pad]
  have hm : (seqTok b t).val % 8192 = t.val := by
    show (8192 * b.val + t.val) % 8192 = t.val
    omega
  unfold upRow tok
  by_cases h : s ≤ t.val
  · rw [dif_pos (by omega), ref_up]
    refine Finset.sum_congr rfl fun k _ => ?_
    rw [if_pos (by omega)]
    refine congrArg (· * _) (congrArg X (funext fun a => Fin.ext ?_))
    match a with
    | ⟨0, _⟩ => show 8192 * b.val + (q.val - 2) = 8192 * b.val + t.val - s; omega
    | ⟨1, _⟩ => rfl
  · rw [dif_neg (by omega)]
    refine (Finset.sum_eq_zero fun k _ => ?_).symm
    rw [if_neg (by omega), zero_mul]

theorem ref_conv_a (b : Fin 4) (t : Fin 8192) (j : Fin 11) (f : Fin 256) :
    val_main_v34 (F := Ideal) X W CV (ix3 b t (col j f))
      = convRow (tok X (seqTok b t) 2) (tok X (seqTok b t) 1) (tok X (seqTok b t) 0) W CV 0 j f := by
  unfold convRow
  rw [← ref_lag X W b t 2 (by omega) ⟨t.val, by omega⟩ rfl j f, ← ref_lag X W b t 1 (by omega) ⟨1 + t.val, by omega⟩ (by show 1 + t.val + 1 = t.val + 2; omega) j f,
    ← ref_lag X W b t 0 (by omega) ⟨2 + t.val, by omega⟩ (by show 2 + t.val + 0 = t.val + 2; omega) j f]
  rw [← ref_ca CV 3, ← ref_ca CV 0, ← ref_ca CV 1, ← ref_ca CV 2]
  unfold val_main_v34 val_main_v33 val_main_v32 val_main_v31 val_main_v30 val_main_v29 val_main_v28 val_main_v27 val_main_v26 val_main_v25 val_main_v24 val_main_v23 val_main_v22 val_main_v21 val_main_v20 val_main_v19 val_main_v18 val_main_v17 val_main_v16 val_main_v15 val_main_v14 val_main_v13 val_main_v12 val_main_v11 val_main_v10
  generalize val_main_v7 (F := Ideal) CV = y
  generalize val_main_v9 (F := Ideal) X W = z
  clean_types
  pointwise

theorem ref_conv_u (b : Fin 4) (t : Fin 8192) (j : Fin 11) (f : Fin 256) :
    val_main_v68 (F := Ideal) X W CV (ix3 b t (col j f))
      = convRow (tok X (seqTok b t) 2) (tok X (seqTok b t) 1) (tok X (seqTok b t) 0) W CV 1 j f := by
  unfold convRow
  rw [← ref_lag X W b t 2 (by omega) ⟨t.val, by omega⟩ rfl j f, ← ref_lag X W b t 1 (by omega) ⟨1 + t.val, by omega⟩ (by show 1 + t.val + 1 = t.val + 2; omega) j f,
    ← ref_lag X W b t 0 (by omega) ⟨2 + t.val, by omega⟩ (by show 2 + t.val + 0 = t.val + 2; omega) j f]
  rw [← ref_cu CV 3, ← ref_cu CV 0, ← ref_cu CV 1, ← ref_cu CV 2]
  have e9 : val_main_v43 (F := Ideal) X W = val_main_v9 (F := Ideal) X W := rfl
  unfold val_main_v68 val_main_v67 val_main_v66 val_main_v65 val_main_v64 val_main_v63 val_main_v62 val_main_v61 val_main_v60 val_main_v59 val_main_v58 val_main_v57 val_main_v56 val_main_v55 val_main_v54 val_main_v53 val_main_v52 val_main_v51 val_main_v50 val_main_v49 val_main_v48 val_main_v47 val_main_v46 val_main_v45 val_main_v44
  rw [e9]
  generalize val_main_v41 (F := Ideal) CV = y
  generalize val_main_v9 (F := Ideal) X W = z
  clean_types
  pointwise

/-! ## The gate and the down projection -/

theorem ref_act (b : Fin 4) (t : Fin 8192) (j : Fin 11) (f : Fin 256) :
    val_main_v76 (F := Ideal) X WA WU CV (ix3 b t (col j f))
      = gelu (convRow (tok X (seqTok b t) 2) (tok X (seqTok b t) 1) (tok X (seqTok b t) 0) WA CV 0 j f)
        * convRow (tok X (seqTok b t) 2) (tok X (seqTok b t) 1) (tok X (seqTok b t) 0) WU CV 1 j f := by
  rw [val_main_v76_apply, val_main_v75_apply, val_main_v74_apply, val_main_v73_apply, val_main_v72_apply, val_main_v71_apply,
    val_main_v70_apply, val_main_v69_apply, val_main_cst_apply, val_main_cst_1_apply, ref_conv_a, ref_conv_u]
  show Ideal.ofBits .f32 0x3F000000#32 * _ * Ideal.erfc (-_ * Ideal.ofBits .f32 0x3F3504F3#32) * _ = _
  rw [neg_mul, Ideal.erfc_neg]
  rfl

theorem ref_down (b : Fin 4) (t : Fin 8192) (d : Fin 1024) :
    val_main_v79 (F := Ideal) X WA WU CV WD (ix3 b t d)
      = part (tok X (seqTok b t) 2) (tok X (seqTok b t) 1) (tok X (seqTok b t) 0) WA WU CV WD 11 d := by
  rw [val_main_v79_apply]
  refine (sum_blocks (n := 11) (T := 256) (N := 2816) rfl _ _ fun j => ?_).symm
  unfold term
  rw [dif_pos j.isLt]
  refine Finset.sum_congr rfl fun f _ => ?_
  rw [← ref_act, ← ref_wd WD]
  refine congrArg₂ (· * ·) (congrArg _ ?_) (congrArg _ ?_)
  · exact funext fun a => Fin.ext (by match a with | ⟨0, _⟩ => rfl | ⟨1, _⟩ => rfl | ⟨2, _⟩ => rfl)
  · exact funext fun a => Fin.ext (by match a with | ⟨0, _⟩ => rfl | ⟨1, _⟩ => rfl)

/-! ## The layer norm -/

theorem ref_z (b : Fin 4) (t : Fin 8192) (d : Fin 1024) :
    val_main_v82 (F := Ideal) X WA WU CV WD (ix3 b t d)
      = Ideal.ofBits .f32 0x3FB504F3#32 * tok X (seqTok b t) 0 d
        + part (tok X (seqTok b t) 2) (tok X (seqTok b t) 1) (tok X (seqTok b t) 0) WA WU CV WD 11 d := by
  rw [val_main_v82_apply, val_main_v81_apply, val_main_v80_apply, val_main_cst_2_apply, ref_x, ref_down]
  unfold tok
  rw [if_pos (Nat.zero_le _)]
  rfl

theorem ref_at (b : Fin 4) (t : Fin 8192) (d : Fin 1024) :
    val_main_v108 (F := Ideal) X WA WU CV WD G B (ix3 b t d)
      = outRow (tok X (seqTok b t) 2) (tok X (seqTok b t) 1) (tok X (seqTok b t) 0) WA WU CV WD G B d := by
  have ez := ref_z X WA WU CV WD b t
  unfold outRow
  unfold val_main_v108 val_main_v107 val_main_v106 val_main_v105 val_main_v104 val_main_v103 val_main_v102 val_main_v101 val_main_v100 val_main_v99 val_main_v98 val_main_v97 val_main_v96 val_main_v95 val_main_v94 val_main_v93 val_main_v92 val_main_v91 val_main_v90 val_main_v89 val_main_v88 val_main_v87 val_main_v86 val_main_v85 val_main_v84 val_main_v83
  generalize val_main_v82 (F := Ideal) X WA WU CV WD = z at ez
  clean_types
  pointwise [val_main_cst_3, val_main_cst_4, val_main_cst_5, val_main_cst_6, val_main_cst_7]
  simp only [ez]
  rfl

theorem ref_eq : val_main_v109 (F := Ideal) X WA WU CV WD G B = ffnArr X WA WU CV WD G B := by
  funext y
  have h0 : (y 0).val < 32768 := (y 0).isLt
  have h1 : (y 1).val < 1024 := (y 1).isLt
  rw [val_main_v109_apply]
  have e : idx_main_v109 y = ix3 (⟨(y 0).val / 8192, by omega⟩ : Fin 4) (⟨(y 0).val % 8192, by omega⟩ : Fin 8192) (⟨(y 1).val, h1⟩ : Fin 1024) :=
    funext fun a => Fin.ext (by
    match a with
    | ⟨0, _⟩ => show ((y 0).val * 1024 + (y 1).val) / 8388608 = (y 0).val / 8192; omega
    | ⟨1, _⟩ => show ((y 0).val * 1024 + (y 1).val) / 1024 % 8192 = (y 0).val % 8192; omega
    | ⟨2, _⟩ => show ((y 0).val * 1024 + (y 1).val) % 1024 = (y 1).val; omega)
  rw [e, ref_at]
  have et : seqTok (⟨(y 0).val / 8192, by omega⟩ : Fin 4) (⟨(y 0).val % 8192, by omega⟩ : Fin 8192) = y 0 :=
    Fin.ext (by show 8192 * ((y 0).val / 8192) + (y 0).val % 8192 = (y 0).val; omega)
  rw [et]
  rfl

end Cert.Ffn

end
-- ==== Proof.Out.Formula.lean ====
/-
  The output projection's result as one formula: each token's two head groups times their rows of the projection, added
  to the scaled residual, through a layer norm.
-/
module

public import proofs.«01_k».proof.Kernel3Ideal
public import proofs.«01_k».proof.Proof.Ffn.Norm
public import Idealize.ShloMosaic.Lib.Pointwise

@[expose] public section

noncomputable section

namespace Cert.Out

open Idealize.ShloMosaic Cert.Kernel3Ideal Cert.Ffn

/-- A token's mixed row: one product for each head group. -/
def mixRow (a r : Fin 512 → EReal) (WA WR : Vec Ideal S512x1024 .bf16) (d : Fin 1024) : EReal :=
  ∑ k : Fin 512, a k * WA (ix2 k d) + ∑ k : Fin 512, r k * WR (ix2 k d)

/-- A token's result. -/
def outRow (a r : Fin 512 → EReal) (x : Fin 1024 → EReal) (WA WR : Vec Ideal S512x1024 .bf16) (G B : Vec Ideal S1x1024 .f32)
    (d : Fin 1024) : EReal :=
  lnorm (fun k => Ideal.ofBits .f32 0x3FB504F3#32 * x k + mixRow a r WA WR k) (fun k => G (ix2 0 k)) (fun k => B (ix2 0 k))
    (Ideal.ofBits .f32 0x44800000#32) (Ideal.ofBits .f32 0x3727C5AC#32) d

/-- The whole result. -/
def outArr (OA OR : Vec Ideal S32768x512 .bf16) (X : Vec Ideal S32768x1024 .f32) (WA WR : Vec Ideal S512x1024 .bf16)
    (G B : Vec Ideal S1x1024 .f32) : Vec Ideal S32768x1024 .f32 := fun y =>
  outRow (fun k => OA (ix2 (y 0) k)) (fun k => OR (ix2 (y 0) k)) (fun k => X (ix2 (y 0) k)) WA WR G B (y 1)

end Cert.Out

end
-- ==== Proof.Out.Array.lean ====
/-
  The output projection kernel's whole result: every block a grid point stores is the block of the formula there, and the
  blocks cover the array.
-/
module

public import proofs.«01_k».proof.Proof.Gen.Kernel3Ideal.Value
public import proofs.«01_k».proof.Proof.Out.Formula
public import Idealize.ShloMosaic.Lib.Pipeline.Covers
public import Idealize.ShloMosaic.Lib.Pipeline.ValueKit

@[expose] public section

set_option maxRecDepth 16384

noncomputable section

namespace Cert.Out

open Idealize.ShloMosaic Idealize.ShloMosaic.TcCoe Idealize.SL.Sem Cert.Kernel3Ideal Cert.Kernel3Ideal.Gen Cert.Ffn

theorem pay1_apply (a r : Vec Ideal S512x512 .bf16) (wa wr : Vec Ideal S512x1024 .bf16) (x : Vec Ideal S512x1024 .f32)
    (g b : Vec Ideal S1x1024 .f32) (n : Fin 512) (d : Fin 1024) :
    k0_pay1 a wa r wr x g b (ix2 n d)
      = outRow (fun k => a (ix2 n k)) (fun k => r (ix2 n k)) (fun k => x (ix2 n k)) wa wr g b d := by
  pointwise [k0_pay1]
  rfl

theorem ld_half (x : FVec Ideal S512x512 .bf16) : View.ld (Val := Elt Ideal) (e' := .bf16) x r0_0 = x :=
  funext fun y => View.ld_unit_apply_of (Val := Elt Ideal) _ _ _ _ y y fun a => by
    match a with
    | 0 => exact (Nat.zero_add _).symm
    | 1 => exact (Nat.zero_add _).symm

theorem ld_weight (x : FVec Ideal S512x1024 .bf16) : View.ld (Val := Elt Ideal) (e' := .bf16) x r0_1 = x :=
  funext fun y => View.ld_unit_apply_of (Val := Elt Ideal) _ _ _ _ y y fun a => by
    match a with
    | 0 => exact (Nat.zero_add _).symm
    | 1 => exact (Nat.zero_add _).symm

theorem ld_rows (x : FVec Ideal S512x1024 .f32) : View.ld (Val := Elt Ideal) (e' := .f32) x r0_1 = x :=
  funext fun y => View.ld_unit_apply_of (Val := Elt Ideal) _ _ _ _ y y fun a => by
    match a with
    | 0 => exact (Nat.zero_add _).symm
    | 1 => exact (Nat.zero_add _).symm

theorem ld_gain (x : FVec Ideal S1x1024 .f32) : View.ld (Val := Elt Ideal) (e' := .f32) x r0_2 = x :=
  funext fun y => View.ld_unit_apply_of (Val := Elt Ideal) _ _ _ _ y y fun a => by
    match a with
    | 0 => exact (Nat.zero_add _).symm
    | 1 => exact (Nat.zero_add _).symm

/-- The block a grid point leaves. -/
theorem out_apply (x0 x1 : Vec Ideal S512x512 .bf16) (x2 : Vec Ideal S512x1024 .f32) (x3 x4 : Vec Ideal S512x1024 .bf16)
    (x5 x6 : Vec Ideal S1x1024 .f32) (n : Fin 512) (d : Fin 1024) :
    out0_7 x0 x1 x2 x3 x4 x5 x6 (ix2 n d)
      = outRow (fun k => x0 (ix2 n k)) (fun k => x1 (ix2 n k)) (fun k => x2 (ix2 n k)) x3 x4 x5 x6 d := by
  unfold out0_7
  rw [ld_half x0, ld_half x1, ld_weight x3, ld_weight x4, ld_rows x2, ld_gain x5, ld_gain x6]
  refine (congrFun (View.canon_cons_unit_zero (by funext a; match a with | 0 => rfl | 1 => rfl) _ _ _) (ix2 n d)).trans ?_
  exact pay1_apply x0 x1 x3 x4 x2 x5 x6 n d

variable (m : (ℓ : Loc nD τ sig) → Buf (Elt Ideal) ℓ) (ρ : Dev nD → PrngReg) (c : Dev nD)

theorem index0 : ∀ t : Fin cfg0.N, win0_0.index t = ![(grid0.coords t 0).val, 0] := (by decide +kernel : ∀ t : Fin grid0.N, _)
theorem index1 : ∀ t : Fin cfg0.N, win0_1.index t = ![(grid0.coords t 0).val, 0] := (by decide +kernel : ∀ t : Fin grid0.N, _)
theorem index2 : ∀ t : Fin cfg0.N, win0_2.index t = ![(grid0.coords t 0).val, 0] := (by decide +kernel : ∀ t : Fin grid0.N, _)
theorem index3 : ∀ t : Fin cfg0.N, win0_3.index t = ![0, 0] := (by decide +kernel : ∀ t : Fin grid0.N, _)
theorem index4 : ∀ t : Fin cfg0.N, win0_4.index t = ![0, 0] := (by decide +kernel : ∀ t : Fin grid0.N, _)
theorem index5 : ∀ t : Fin cfg0.N, win0_5.index t = ![0, 0] := (by decide +kernel : ∀ t : Fin grid0.N, _)
theorem index6 : ∀ t : Fin cfg0.N, win0_6.index t = ![0, 0] := (by decide +kernel : ∀ t : Fin grid0.N, _)
theorem index7 : ∀ t : Fin cfg0.N, win0_7.index t = ![(grid0.coords t 0).val, 0] := (by decide +kernel : ∀ t : Fin grid0.N, _)

/-- The token at row `r` of block `n`. -/
abbrev token (n : Fin 64) (r : Fin 512) : Fin 32768 := ⟨512 * n.val + r.val, by omega⟩

section

variable (t : Fin cfg0.N)

theorem blk_a (r : Fin 512) (k : Fin 512) :
    iblk m c 0 t (ix2 r k) = m ((c : Thread nD τ).loc main_arg0) (ix2 (token (grid0.coords t 0) r) k) := by
  blk_ext [iblk, V, index0 t]

theorem blk_r (r : Fin 512) (k : Fin 512) :
    iblk m c 1 t (ix2 r k) = m ((c : Thread nD τ).loc main_arg1) (ix2 (token (grid0.coords t 0) r) k) := by
  blk_ext [iblk, V, index1 t]

theorem blk_x (r : Fin 512) (k : Fin 1024) :
    iblk m c 2 t (ix2 r k) = m ((c : Thread nD τ).loc main_arg2) (ix2 (token (grid0.coords t 0) r) k) := by
  blk_ext [iblk, V, index2 t]

theorem blk_wa : iblk m c 3 t = m ((c : Thread nD τ).loc main_arg3) := by
  funext y
  blk_ext [iblk, V, index3 t]

theorem blk_wr : iblk m c 4 t = m ((c : Thread nD τ).loc main_arg4) := by
  funext y
  blk_ext [iblk, V, index4 t]

theorem blk_g : iblk m c 5 t = m ((c : Thread nD τ).loc main_arg5) := by
  funext y
  blk_ext [iblk, V, index5 t]

theorem blk_b : iblk m c 6 t = m ((c : Thread nD τ).loc main_arg6) := by
  funext y
  blk_ext [iblk, V, index6 t]

end

/-- What a grid point leaves at row `r`, feature `d` of its block. -/
theorem point (t : Fin cfg0.N) (r : Fin 512) (d : Fin 1024) (y : S32768x1024.Idx)
    (h0 : (y 0).val = 512 * (grid0.coords t 0).val + r.val) (h1 : (y 1).val = d.val) :
    out0_7 (iblk m c 0 t) (iblk m c 1 t) (iblk m c 2 t) (iblk m c 3 t) (iblk m c 4 t) (iblk m c 5 t) (iblk m c 6 t) (ix2 r d)
      = outArr (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) y := by
  refine (out_apply (iblk m c 0 t) (iblk m c 1 t) (iblk m c 2 t) (iblk m c 3 t) (iblk m c 4 t) (iblk m c 5 t) (iblk m c 6 t) r d).trans ?_
  have e0 : y 0 = token (grid0.coords t 0) r := Fin.ext h0
  have e1 : y 1 = d := Fin.ext h1
  unfold outArr
  rw [e0, e1]
  simp only [blk_a, blk_r, blk_x, blk_wa, blk_wr, blk_g, blk_b]

theorem covers7 : (cfg0.win 7).Covers := by
  refine Pipeline.Window.covers_of_indexMap_surj _ rfl (by decide) fun β => ?_
  have h0 : (β 0).val < 64 := (β 0).isLt
  have h1 : (β 1).val < 1 := (β 1).isLt
  have key : ∀ x : Fin 64, ∃ i : grid0.Coords, cc0_transform_7 i = ![x.val, 0] := by
    intro x
    refine ⟨fun a => match a with | 0 => x, ?_⟩
    revert x
    decide +kernel
  obtain ⟨i, hi⟩ := key ⟨_, h0⟩
  refine ⟨i, fun a => ?_⟩
  show cc0_transform_7 i a = _
  rw [hi]
  match a with
  | 0 => rfl
  | 1 => show 0 = (β 1).val; omega

/-- The kernel's result. -/
theorem array : (dats m 0 c).arrAt 7 cfg0.N = outArr (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) := by
  refine (dats m 0 c).arrAt_eq_of_covers 7 _ covers7 fun t hf y => ?_
  blk_simp
  rw [after0_7]
  have hy : y = ix2 (y 0) (y 1) := by
    funext a
    match a with
    | 0 => rfl
    | 1 => rfl
  have e0 : (((cfg0.win 7).blk t).view.emb y 0).val = 512 * (grid0.coords t 0).val + (y 0).val := by
    blk_simp [index7 t]
    omega
  have e1 : (((cfg0.win 7).blk t).view.emb y 1).val = (y 1).val := by
    blk_simp [index7 t]
  exact (congrArg (out0_7 (iblk m c 0 t) (iblk m c 1 t) (iblk m c 2 t) (iblk m c 3 t) (iblk m c 4 t) (iblk m c 5 t) (iblk m c 6 t)) hy).trans
    (point m c t (y 0) (y 1) _ e0 e1)

/-- The kernel's run. -/
theorem kernel_run : θ_run defs (onTc (τ := τ) (main (F := Ideal))) ⟨m, fun _ => 0, ρ⟩ fun r => ∀ c : Dev nD,
      r.2.mem ((c : Thread nD τ).loc main_v0) = outArr (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (array m c), (h c).2⟩) (Cert.Kernel3Ideal.Value.run_blocks (F := Ideal) m ρ)

end Cert.Out

end
-- ==== Proof.Out.Reference.lean ====
/-
  The reference of the output projection, read at an element: the product over both head groups' channels at once is the
  sum of the two groups' products.
-/
module

public import proofs.«01_k».proof.Proof.Gen.Reference3Ideal.Read
public import proofs.«01_k».proof.Proof.Out.Formula
public import Idealize.ShloMosaic.Lib.Tactic.CleanTypes

@[expose] public section

set_option maxRecDepth 16384

noncomputable section

namespace Cert.Out

open Idealize.ShloMosaic Cert.Reference3Ideal Cert.Reference3Ideal.Read Cert.Ffn

variable (OA OR : Vec Ideal Cert.Kernel3Ideal.S32768x512 .bf16) (X : Vec Ideal Cert.Kernel3Ideal.S32768x1024 .f32)
  (WA WR : Vec Ideal Cert.Kernel3Ideal.S512x1024 .bf16) (G B : Vec Ideal Cert.Kernel3Ideal.S1x1024 .f32)

theorem ref_o (n : Fin 32768) (k : Fin 1024) : val_main_v1 (F := Ideal) OA OR (ix2 n k)
    = if h : k.val < 512 then OA (ix2 n ⟨k.val, h⟩) else OR (ix2 n ⟨k.val - 512, by omega⟩) := by
  unfold val_main_v1 val_main_v0
  clean_types
  pointwise

theorem ref_w (k : Fin 1024) (d : Fin 1024) : val_main_v3 (F := Ideal) WA WR (ix2 k d)
    = if h : k.val < 512 then WA (ix2 ⟨k.val, h⟩ d) else WR (ix2 ⟨k.val - 512, by omega⟩ d) := by
  unfold val_main_v3 val_main_v2
  clean_types
  pointwise

theorem ref_mix (n : Fin 32768) (d : Fin 1024) : val_main_v4 (F := Ideal) OA OR WA WR (ix2 n d)
    = mixRow (fun k => OA (ix2 n k)) (fun k => OR (ix2 n k)) WA WR d := by
  rw [val_main_v4_apply]
  have e : ∀ k : Fin 1024, val_main_v1 (F := Ideal) OA OR (lidx_main_v4 (ix2 n d) k) * val_main_v3 (F := Ideal) WA WR (ridx_main_v4 (ix2 n d) k)
      = (if h : k.val < 512 then OA (ix2 n ⟨k.val, h⟩) else OR (ix2 n ⟨k.val - 512, by omega⟩))
        * (if h : k.val < 512 then WA (ix2 ⟨k.val, h⟩ d) else WR (ix2 ⟨k.val - 512, by omega⟩ d)) := by
    intro k
    rw [← ref_o, ← ref_w]
    refine congrArg₂ (· * ·) (congrArg _ ?_) (congrArg _ ?_)
    · exact funext fun a => Fin.ext (by match a with | ⟨0, _⟩ => rfl | ⟨1, _⟩ => rfl)
    · exact funext fun a => Fin.ext (by match a with | ⟨0, _⟩ => rfl | ⟨1, _⟩ => rfl)
  simp only [e]
  unfold mixRow
  refine (Fin.sum_univ_add (a := 512) (b := 512) _).trans (congrArg₂ (· + ·) (Finset.sum_congr rfl fun k _ => ?_) (Finset.sum_congr rfl fun k _ => ?_))
  · have h : (Fin.castAdd 512 k).val < 512 := k.isLt
    rw [dif_pos h, dif_pos h]
    rfl
  · have h : ¬ (Fin.natAdd 512 k).val < 512 := by show ¬ 512 + k.val < 512; omega
    have hk : (⟨(Fin.natAdd 512 k).val - 512, by show 512 + k.val - 512 < 512; omega⟩ : Fin 512) = k := Fin.ext (by show 512 + k.val - 512 = k.val; omega)
    rw [dif_neg h, dif_neg h, hk]

theorem ref_z (n : Fin 32768) (d : Fin 1024) : val_main_v7 (F := Ideal) OA OR X WA WR (ix2 n d)
    = Ideal.ofBits .f32 0x3FB504F3#32 * X (ix2 n d) + mixRow (fun k => OA (ix2 n k)) (fun k => OR (ix2 n k)) WA WR d := by
  rw [val_main_v7_apply, val_main_v6_apply, val_main_v5_apply, val_main_cst_apply, ref_mix]
  rfl

theorem ref_at (n : Fin 32768) (d : Fin 1024) : val_main_v33 (F := Ideal) OA OR X WA WR G B (ix2 n d)
    = outRow (fun k => OA (ix2 n k)) (fun k => OR (ix2 n k)) (fun k => X (ix2 n k)) WA WR G B d := by
  have ez := ref_z OA OR X WA WR n
  unfold outRow
  unfold val_main_v33 val_main_v32 val_main_v31 val_main_v30 val_main_v29 val_main_v28 val_main_v27 val_main_v26 val_main_v25 val_main_v24 val_main_v23 val_main_v22 val_main_v21 val_main_v20 val_main_v19 val_main_v18 val_main_v17 val_main_v16 val_main_v15 val_main_v14 val_main_v13 val_main_v12 val_main_v11 val_main_v10 val_main_v9 val_main_v8
  generalize val_main_v7 (F := Ideal) OA OR X WA WR = z at ez
  clean_types
  pointwise [val_main_cst_0, val_main_cst_1, val_main_cst_2, val_main_cst_3, val_main_cst_4]
  simp only [ez]
  rfl

theorem ref_eq : val_main_v33 (F := Ideal) OA OR X WA WR G B = outArr OA OR X WA WR G B := by
  funext y
  have hy : y = ix2 (y 0) (y 1) := by
    funext a
    match a with
    | 0 => rfl
    | 1 => rfl
  exact (congrArg _ hy).trans (ref_at OA OR X WA WR G B (y 0) (y 1))

end Cert.Out

end
-- ==== Proof.Proj.Scan.lean ====
/-
  A running sum by doubling: each step adds to every entry the entry a fixed distance before it, and the distance doubles.
-/
module

public import Idealize.ShloMosaic.PureOps.Ideal
public import Mathlib.Algebra.BigOperators.Intervals

@[expose] public section

noncomputable section

namespace Cert.Proj

/-- The sum of the last `s` entries up to `l`, fewer when there are fewer. -/
def win (f : ℕ → EReal) (s l : ℕ) : EReal := ∑ j ∈ Finset.range s, if j ≤ l then f (l - j) else 0

/-- The running sum up to and including `l`. -/
def prefixSum (f : ℕ → EReal) (l : ℕ) : EReal := ∑ j ∈ Finset.range (l + 1), f j

theorem win_one (f : ℕ → EReal) (l : ℕ) : win f 1 l = f l := by
  simp [win]

theorem win_double (f : ℕ → EReal) (s l : ℕ) : win f (s + s) l = win f s l + if s ≤ l then win f s (l - s) else 0 := by
  unfold win
  rw [Finset.sum_range_add]
  congr 1
  split
  · rename_i h
    refine Finset.sum_congr rfl fun j _ => ?_
    by_cases hj : j ≤ l - s
    · rw [if_pos hj, if_pos (by omega)]
      congr 1
      omega
    · rw [if_neg hj, if_neg (by omega)]
  · rename_i h
    refine Finset.sum_eq_zero fun j _ => ?_
    rw [if_neg (by omega)]

theorem win_full (f : ℕ → EReal) (s l : ℕ) (h : l < s) : win f s l = prefixSum f l := by
  unfold win prefixSum
  rw [← Finset.sum_range_reflect f (l + 1)]
  obtain ⟨d, rfl⟩ : ∃ d, s = (l + 1) + d := ⟨s - (l + 1), by omega⟩
  rw [Finset.sum_range_add]
  rw [Finset.sum_eq_zero (s := Finset.range d) (fun j _ => if_neg (by omega)), add_zero]
  refine Finset.sum_congr rfl fun j hj => ?_
  have hj := Finset.mem_range.mp hj
  rw [if_pos (by omega)]
  congr 1

/-- The running sum continues past a block: the sum through the block before, plus the block's own. -/
theorem prefixSum_add (f : ℕ → EReal) (n l : ℕ) : prefixSum (fun j => f (n + 1 + j)) l + prefixSum f n = prefixSum f (n + 1 + l) := by
  unfold prefixSum
  rw [show n + 1 + l + 1 = (n + 1) + (l + 1) from by omega, Finset.sum_range_add f (n + 1) (l + 1), add_comm]

theorem prefixSum_congr {f g : ℕ → EReal} (l : ℕ) (h : ∀ j, j ≤ l → f j = g j) : prefixSum f l = prefixSum g l :=
  Finset.sum_congr rfl fun j hj => h j (by have := Finset.mem_range.mp hj; omega)

end Cert.Proj

end
-- ==== Proof.Proj.Scalar.lean ====
/-
  The scalar functions of the input projection on the extended reals, in the two ways they are written.
-/
module

public import Idealize.ShloMosaic.PureOps.Ideal

@[expose] public section

noncomputable section

namespace Cert.Proj

open Idealize.ShloMosaic

/-- The logistic function of the negated argument's exponential: one over one plus `e` to the minus `z`. -/
def sigm (z : EReal) : EReal := Ideal.div 1 (1 + Ideal.exp (-z))

/-- The logarithm of the logistic function, written without overflow. -/
def logsig (z : EReal) : EReal := min z 0 - Ideal.log (1 + Ideal.exp (-max z (-z)))

theorem ofBits_zero' : Ideal.ofBits .f32 0x00000000#32 = 0 := by
  simp [Ideal.ofBits, Ideal.ieee]

theorem ofBits_one : Ideal.ofBits .f32 0x3F800000#32 = 1 := by
  simp [Ideal.ofBits, Ideal.ieee]
  rw [← EReal.coe_mul, ← EReal.coe_one]
  norm_num

theorem exp_bot : Ideal.exp ⊥ = 0 := rfl

theorem exp_zero : Ideal.exp 0 = 1 := by
  show ((Real.exp 0 : ℝ) : EReal) = 1
  rw [Real.exp_zero]
  rfl

theorem exp_top : Ideal.exp ⊤ = ⊤ := rfl

theorem log_one : Ideal.log 1 = 0 := by
  show (if (1 : ℝ) ≤ 0 then (⊥ : EReal) else ((Real.log 1 : ℝ) : EReal)) = 0
  rw [if_neg (by norm_num), Real.log_one]
  rfl

/-- The logarithm in `logsig` is a real number. -/
theorem tail_real (z : EReal) : ∃ r : ℝ, Ideal.log (1 + Ideal.exp (-max z (-z))) = (r : EReal) := by
  induction z with
  | bot => exact ⟨0, by simp [exp_bot, log_one]⟩
  | top => exact ⟨0, by simp [exp_bot, log_one]⟩
  | coe x =>
    refine ⟨Real.log (1 + Real.exp (-max x (-x))), ?_⟩
    have h : ((max x (-x) : ℝ) : EReal) = max (x : EReal) (-(x : EReal)) := by
      rw [← EReal.coe_neg]; exact EReal.coe_strictMono.monotone.map_max
    rw [← h, ← EReal.coe_neg]
    show Ideal.log (1 + ((Real.exp (-max x (-x)) : ℝ) : EReal)) = _
    rw [← EReal.coe_one, ← EReal.coe_add]
    show (if 1 + Real.exp (-max x (-x)) ≤ 0 then (⊥ : EReal) else _) = _
    rw [if_neg (not_le.mpr (by positivity))]

/-- Minus the softplus of minus `z`. -/
theorem logsig_eq (z : EReal) : -(max (-z) 0 + Ideal.log1p (Ideal.exp (-max (-z - 0) (-(-z - 0))))) = logsig z := by
  unfold logsig Ideal.log1p
  rw [sub_zero, neg_neg, max_comm (-z) z]
  obtain ⟨r, hr⟩ := tail_real z
  rw [hr, EReal.neg_add (Or.inr (EReal.coe_ne_top r)) (Or.inr (EReal.coe_ne_bot r))]
  congr 1
  induction z with
  | bot => simp
  | top => simp
  | coe x =>
    rcases le_total x 0 with h | h
    · rw [max_eq_left (by rw [← EReal.coe_neg]; exact_mod_cast neg_nonneg.mpr h), min_eq_left (by exact_mod_cast h), neg_neg]
    · rw [max_eq_right (by rw [← EReal.coe_neg]; exact_mod_cast neg_nonpos.mpr h), min_eq_right (by exact_mod_cast h), neg_zero]

/-- The logarithm of a sum of exponentials whose first term is nothing. -/
theorem logadd_bot (b : EReal) : max ⊥ b + Ideal.log1p (Ideal.exp (-max (⊥ - b) (-(⊥ - b)))) = b := by
  have h : (⊥ : EReal) - b = ⊥ := EReal.bot_add (-b)
  rw [h]
  simp [Ideal.log1p, exp_bot, log_one]

theorem log_zero : Ideal.log 0 = ⊥ := by
  rw [← EReal.coe_zero]
  show (if (0 : ℝ) ≤ 0 then (⊥ : EReal) else _) = ⊥
  rw [if_pos le_rfl]

theorem log1p_zero : Ideal.log1p (-0) = 0 := by
  simp [Ideal.log1p, log_one]

/-- One minus the logistic function is the logistic function of the negated argument. -/
theorem one_sub_sigm (z : EReal) : -(Ideal.exp (logsig z) - 1) = sigm (-z) := by
  induction z with
  | bot => simp [logsig, sigm, exp_bot, log_one, Ideal.div]
  | top =>
    have h1 : (1 + ⊤ : EReal) = ⊤ := EReal.add_top_of_ne_bot (by decide)
    have h2 : (1 - 1 : EReal) = 0 := by rw [← EReal.coe_one, ← EReal.coe_sub]; simp
    simp [logsig, sigm, exp_bot, exp_zero, exp_top, log_one, Ideal.div, h1, h2]
  | coe x =>
    have h : ((max x (-x) : ℝ) : EReal) = max (x : EReal) (-(x : EReal)) := by
      rw [← EReal.coe_neg]; exact EReal.coe_strictMono.monotone.map_max
    have h' : ((min x 0 : ℝ) : EReal) = min (x : EReal) 0 := by
      rw [← EReal.coe_zero]; exact EReal.coe_strictMono.monotone.map_min
    have e : logsig (x : EReal) = ((min x 0 - Real.log (1 + Real.exp (-max x (-x))) : ℝ) : EReal) := by
      unfold logsig
      rw [← h, ← h', ← EReal.coe_neg, EReal.coe_sub]
      congr 1
      show Ideal.log (1 + ((Real.exp (-max x (-x)) : ℝ) : EReal)) = _
      rw [← EReal.coe_one, ← EReal.coe_add]
      show (if 1 + Real.exp (-max x (-x)) ≤ 0 then (⊥ : EReal) else _) = _
      rw [if_neg (not_le.mpr (by positivity))]
    rw [e]
    unfold sigm Ideal.div
    rw [neg_neg]
    show -((Real.exp (min x 0 - Real.log (1 + Real.exp (-max x (-x)))) : ℝ) - 1 : EReal) = if (1 + ((Real.exp x : ℝ) : EReal)) = 0 then _ else 1 * (1 + ((Real.exp x : ℝ) : EReal))⁻¹
    rw [← EReal.coe_one, ← EReal.coe_add, ← EReal.coe_sub, ← EReal.coe_neg, if_neg (by
      rw [← EReal.coe_zero]; intro hh
      have := EReal.coe_injective hh
      have := Real.exp_pos x
      linarith), ← EReal.coe_inv, ← EReal.coe_mul]
    congr 1
    rw [Real.exp_sub, Real.exp_log (by positivity)]
    rcases le_total x 0 with hx | hx
    · rw [min_eq_left hx, max_eq_right (by linarith), neg_neg]
      have := Real.exp_pos x
      field_simp
      ring
    · rw [min_eq_right hx, max_eq_left (by linarith), Real.exp_zero, Real.exp_neg]
      have := Real.exp_pos x
      field_simp
      ring

end Cert.Proj

end
-- ==== Proof.Proj.Formula.lean ====
/-
  The input projection's results as formulas: the layer norm of each token, the columns of the projections, the gates, and
  the running sums of the forgetting attention's gate logarithms.
-/
module

public import proofs.«01_k».proof.Kernel4Ideal
public import proofs.«01_k».proof.Proof.Ffn.Norm
public import proofs.«01_k».proof.Proof.Proj.Scan
public import proofs.«01_k».proof.Proof.Proj.Scalar
public import Idealize.ShloMosaic.Lib.Pointwise

@[expose] public section

noncomputable section

namespace Cert.Proj

open Idealize.ShloMosaic Cert.Kernel4Ideal

variable (X : Vec Ideal S4x8192x1024 .f32) (G B : Vec Ideal S1x1024 .f32) (W : Vec Ideal S1024x1536 .bf16)
  (WF : Vec Ideal S16x1024 .bf16) (FB : Vec Ideal S8x1 .f32) (WR : Vec Ideal S1024x2048 .bf16)

/-- A token after the layer norm. -/
def xln (b : Fin 4) (n : Fin 8192) (d : Fin 1024) : EReal :=
  Cert.Ffn.lnorm (fun k => X (ix3 b n k)) (fun k => G (ix2 0 k)) (fun k => B (ix2 0 k))
    (Ideal.ofBits .f32 0x44800000#32) (Ideal.ofBits .f32 0x3727C5AC#32) d

/-- A token times one column of the attention's projection. -/
def acol (b : Fin 4) (n : Fin 8192) (j : Fin 1536) : EReal := ∑ k : Fin 1024, xln X G B b n k * W (ix2 k j)

/-- A token times one column of the recurrence's projection. -/
def rcol (b : Fin 4) (n : Fin 8192) (j : Fin 2048) : EReal := ∑ k : Fin 1024, xln X G B b n k * WR (ix2 k j)

/-- The logarithm of a token's forget gate at one head. -/
def gate (b : Fin 4) (h : Fin 8) (n : Fin 8192) : EReal :=
  logsig ((∑ k : Fin 1024, WF (ix2 ⟨h.val, by omega⟩ k) * xln X G B b n k) + FB (ix2 h 0))

/-- One head's gates along the sequence. -/
def gSeq (b : Fin 4) (h : Fin 8) (j : ℕ) : EReal := if hj : j < 8192 then gate X G B WF FB b h ⟨j, hj⟩ else 0

def xlnArr : Vec Ideal S4x8192x1024 .f32 := fun y => xln X G B (y 0) (y 1) (y 2)

def qArr : Vec Ideal S4x8192x512 .bf16 := fun y =>
  acol X G B W (y 0) (y 1) ⟨(y 2).val, by have h : (y 2).val < 512 := (y 2).isLt; omega⟩ * Ideal.ofBits .f32 0x3E000000#32

def kArr : Vec Ideal S4x8192x512 .bf16 := fun y =>
  acol X G B W (y 0) (y 1) ⟨512 + (y 2).val, by have h : (y 2).val < 512 := (y 2).isLt; omega⟩

def vArr : Vec Ideal S4x8192x512 .bf16 := fun y =>
  acol X G B W (y 0) (y 1) ⟨1024 + (y 2).val, by have h : (y 2).val < 512 := (y 2).isLt; omega⟩

/-- The running sums, two heads to a group of eight rows. -/
def ctArr : Vec Ideal S4x4x8x8192 .f32 := fun y =>
  if hu : (y 2).val < 2 then
    prefixSum (gSeq X G B WF FB (y 0) ⟨2 * (y 1).val + (y 2).val, by have h : (y 1).val < 4 := (y 1).isLt; omega⟩) (y 3).val
  else 0

def qrArr : Vec Ideal S4x8192x512 .bf16 := fun y =>
  rcol X G B WR (y 0) (y 1) ⟨(y 2).val, by have h : (y 2).val < 512 := (y 2).isLt; omega⟩
    * sigm (rcol X G B WR (y 0) (y 1) ⟨(y 2).val, by have h : (y 2).val < 512 := (y 2).isLt; omega⟩)

def krArr : Vec Ideal S4x8192x512 .bf16 := fun y =>
  sigm (-rcol X G B WR (y 0) (y 1) ⟨512 + (y 2).val, by have h : (y 2).val < 512 := (y 2).isLt; omega⟩)

def irArr : Vec Ideal S4x8192x512 .bf16 := fun y =>
  rcol X G B WR (y 0) (y 1) ⟨1024 + (y 2).val, by have h : (y 2).val < 512 := (y 2).isLt; omega⟩

def grArr : Vec Ideal S4x8192x512 .bf16 := fun y =>
  rcol X G B WR (y 0) (y 1) ⟨1536 + (y 2).val, by have h : (y 2).val < 512 := (y 2).isLt; omega⟩
    * sigm (rcol X G B WR (y 0) (y 1) ⟨1536 + (y 2).val, by have h : (y 2).val < 512 := (y 2).isLt; omega⟩)

def lfrArr : Vec Ideal S4x8192x512 .f32 := fun y =>
  logsig (rcol X G B WR (y 0) (y 1) ⟨512 + (y 2).val, by have h : (y 2).val < 512 := (y 2).isLt; omega⟩)

end Cert.Proj

end
-- ==== Proof.Proj.Tile.lean ====
/-
  The input projection's stored values, read at an element: the layer norm, the columns of the three matrix products,
  the recurrence's gates, and one doubling step of the running sum.
-/
module

public import proofs.«01_k».proof.Proof.Gen.Kernel4Ideal.Skeleton
public import proofs.«01_k».proof.Proof.Ffn.Norm
public import proofs.«01_k».proof.Proof.Proj.Scan
public import proofs.«01_k».proof.Proof.Proj.Scalar
public import Idealize.ShloMosaic.Lib.Pointwise

@[expose] public section

set_option maxRecDepth 16384

noncomputable section

namespace Cert.Proj

open Idealize.ShloMosaic Cert.Kernel4Ideal Cert.Kernel4Ideal.Gen

/-- One row of the block after the layer norm. -/
def normRow (x : Vec Ideal S1x512x1024 .f32) (g b : Vec Ideal S1x1024 .f32) (r : Fin 512) (d : Fin 1024) : EReal :=
  Cert.Ffn.lnorm (fun k => x (ix3 0 r k)) (fun k => g (ix2 0 k)) (fun k => b (ix2 0 k))
    (Ideal.ofBits .f32 0x44800000#32) (Ideal.ofBits .f32 0x3727C5AC#32) d

variable (x : Vec Ideal S1x512x1024 .f32) (g b : Vec Ideal S1x1024 .f32) (w : Vec Ideal S1024x1536 .bf16)
  (wf : Vec Ideal S16x1024 .bf16) (fb : Vec Ideal S8x1 .f32) (wr : Vec Ideal S1024x2048 .bf16)

theorem pay2_apply (r : Fin 512) (d : Fin 1024) : k0_pay2 x g b (ix2 r d) = normRow x g b r d := by
  pointwise [k0_pay2]
  rfl

theorem pay3_apply (r : Fin 512) (d : Fin 1024) : k0_pay3 x g b (ix3 0 r d) = normRow x g b r d := by
  pointwise [k0_pay3]
  exact pay2_apply x g b r d

theorem pay4_apply (r : Fin 512) (d : Fin 1024) : k0_pay4 x g b (ix2 r d) = normRow x g b r d := by
  pointwise [k0_pay4]
  exact pay2_apply x g b r d

theorem pay5_apply (r : Fin 512) (n : Fin 1536) : k0_pay5 x g b w (ix2 r n) = ∑ k : Fin 1024, normRow x g b r k * w (ix2 k n) := by
  pointwise [k0_pay5]
  simp only [pay4_apply]

theorem pay7_apply (r : Fin 512) (n : Fin 512) : k0_pay7 (k0_pay6 x g b w) (ix3 0 r n)
    = (∑ k : Fin 1024, normRow x g b r k * w (ix2 k ⟨n.val, by omega⟩)) * Ideal.ofBits .f32 0x3E000000#32 := by
  pointwise [k0_pay7, k0_pay6]
  rw [pay5_apply]

theorem pay8_apply (r : Fin 512) (n : Fin 512) : k0_pay8 (k0_pay5 x g b w) (ix3 0 r n)
    = ∑ k : Fin 1024, normRow x g b r k * w (ix2 k ⟨512 + n.val, by omega⟩) := by
  pointwise [k0_pay8]
  rw [pay5_apply]

theorem pay9_apply (r : Fin 512) (n : Fin 512) : k0_pay9 (k0_pay5 x g b w) (ix3 0 r n)
    = ∑ k : Fin 1024, normRow x g b r k * w (ix2 k ⟨1024 + n.val, by omega⟩) := by
  pointwise [k0_pay9]
  rw [pay5_apply]

theorem pay23_apply (r : Fin 512) (n : Fin 2048) : k0_pay23 (k0_pay4 x g b) wr (ix2 r n) = ∑ k : Fin 1024, normRow x g b r k * wr (ix2 k n) := by
  pointwise [k0_pay23]
  simp only [pay4_apply]

theorem pay24_apply (r : Fin 512) (n : Fin 512) : k0_pay24 (k0_pay4 x g b) wr (ix3 0 r n)
    = (∑ k : Fin 1024, normRow x g b r k * wr (ix2 k ⟨n.val, by omega⟩)) * sigm (∑ k : Fin 1024, normRow x g b r k * wr (ix2 k ⟨n.val, by omega⟩)) := by
  pointwise [k0_pay24]
  rw [pay23_apply]
  simp only [ofBits_zero', ofBits_one, zero_sub]
  rfl

theorem pay25_apply (r : Fin 512) (n : Fin 512) : k0_pay25 (k0_pay4 x g b) wr (ix2 r n)
    = ∑ k : Fin 1024, normRow x g b r k * wr (ix2 k ⟨512 + n.val, by omega⟩) := by
  pointwise [k0_pay25]
  rw [pay23_apply]

theorem pay28_apply (r : Fin 512) (n : Fin 512) : k0_pay28 (k0_pay26 (k0_pay4 x g b) wr) (k0_pay27 (k0_pay4 x g b) wr) (ix3 0 r n)
    = logsig (∑ k : Fin 1024, normRow x g b r k * wr (ix2 k ⟨512 + n.val, by omega⟩)) := by
  pointwise [k0_pay28, k0_pay26, k0_pay27]
  rw [pay25_apply]
  simp only [ofBits_zero', ofBits_one, zero_sub]
  rfl

theorem pay29_apply (r : Fin 512) (n : Fin 512) : k0_pay29 (k0_pay25 (k0_pay4 x g b) wr) (ix3 0 r n)
    = sigm (-∑ k : Fin 1024, normRow x g b r k * wr (ix2 k ⟨512 + n.val, by omega⟩)) := by
  pointwise [k0_pay29]
  rw [pay25_apply]
  simp only [ofBits_zero', ofBits_one, zero_sub]
  rfl

theorem pay30_apply (r : Fin 512) (n : Fin 512) : k0_pay30 (k0_pay23 (k0_pay4 x g b) wr) (ix3 0 r n)
    = ∑ k : Fin 1024, normRow x g b r k * wr (ix2 k ⟨1024 + n.val, by omega⟩) := by
  pointwise [k0_pay30]
  rw [pay23_apply]

theorem pay31_apply (r : Fin 512) (n : Fin 512) : k0_pay1 (k0_pay31 (k0_pay23 (k0_pay4 x g b) wr)) (ix3 0 r n)
    = (∑ k : Fin 1024, normRow x g b r k * wr (ix2 k ⟨1536 + n.val, by omega⟩)) * sigm (∑ k : Fin 1024, normRow x g b r k * wr (ix2 k ⟨1536 + n.val, by omega⟩)) := by
  pointwise [k0_pay1, k0_pay31]
  rw [pay23_apply]
  simp only [ofBits_zero', ofBits_one, zero_sub]
  rfl

/-- One doubling step of the running sum: each element gains the one `s` lanes before it. -/
def step (s : BitVec 32) (c : FVec Ideal S8x512 .f32) : FVec Ideal S8x512 .f32 :=
  addf c (select (cmpi .sge (iota .tc S8x512 32 [1] iota_S8x512_d1_w32) (broadcast S8x512 s))
    (dynamicRotate 1 s none c rotates_S8x512_d1) (broadcast S8x512 (Scalar.ofBits .f32 0x00000000#32)))

/-- A comparison's bit selects as the test it decides. -/
theorem select_test {α : Type} {w : BitVec 1} {p : Prop} [Decidable p] (hw : w = BitVec.ofBool (decide p)) (y z : α) :
    Scalar.select w y z = if p then y else z := by
  subst hw
  by_cases h : p <;> simp [Scalar.select, h]

/-- A window of `s` doubled by adding the element `s` lanes before. -/
theorem doubled (s : ℕ) (hs : s ≤ 512) (f : ℕ → EReal) (c : Fin 512 → EReal) (hc : ∀ l, c l = win f s l.val) (l i : Fin 512)
    (hi : i.val = (l.val + 512 - s) % 512) {w : BitVec 1} (hw : w = BitVec.ofBool (decide (s ≤ l.val))) :
    c l + Scalar.select w (c i) 0 = win f (s + s) l.val := by
  rw [select_test hw, win_double, hc l]
  congr 1
  split
  · rename_i h
    rw [hc i, hi]
    congr 1
    have := l.isLt
    rw [show l.val + 512 - s = (l.val - s) + 512 from by omega, Nat.add_mod_right, Nat.mod_eq_of_lt (by omega)]
  · rfl

theorem sge_1 (l : Fin 512) : IntOp.cmpi CmpIPredicate.sge (BitVec.ofNat 32 l.val) 1#32 = BitVec.ofBool (decide (1 ≤ l.val)) := by
  revert l; decide +kernel

theorem step_1 (f : ℕ → EReal) (c : FVec Ideal S8x512 .f32) (h : Fin 8) (hc : ∀ l : Fin 512, c (ix2 h l) = win f 1 l.val)
    (l : Fin 512) : step 1#32 c (ix2 h l) = win f 2 l.val := by
  pointwise [step]
  exact doubled 1 (by decide) f (fun l => c (ix2 h l)) hc l _ rfl (sge_1 l)

theorem sge_2 (l : Fin 512) : IntOp.cmpi CmpIPredicate.sge (BitVec.ofNat 32 l.val) 2#32 = BitVec.ofBool (decide (2 ≤ l.val)) := by
  revert l; decide +kernel

theorem step_2 (f : ℕ → EReal) (c : FVec Ideal S8x512 .f32) (h : Fin 8) (hc : ∀ l : Fin 512, c (ix2 h l) = win f 2 l.val)
    (l : Fin 512) : step 2#32 c (ix2 h l) = win f 4 l.val := by
  pointwise [step]
  exact doubled 2 (by decide) f (fun l => c (ix2 h l)) hc l _ rfl (sge_2 l)

theorem sge_4 (l : Fin 512) : IntOp.cmpi CmpIPredicate.sge (BitVec.ofNat 32 l.val) 4#32 = BitVec.ofBool (decide (4 ≤ l.val)) := by
  revert l; decide +kernel

theorem step_4 (f : ℕ → EReal) (c : FVec Ideal S8x512 .f32) (h : Fin 8) (hc : ∀ l : Fin 512, c (ix2 h l) = win f 4 l.val)
    (l : Fin 512) : step 4#32 c (ix2 h l) = win f 8 l.val := by
  pointwise [step]
  exact doubled 4 (by decide) f (fun l => c (ix2 h l)) hc l _ rfl (sge_4 l)

theorem sge_8 (l : Fin 512) : IntOp.cmpi CmpIPredicate.sge (BitVec.ofNat 32 l.val) 8#32 = BitVec.ofBool (decide (8 ≤ l.val)) := by
  revert l; decide +kernel

theorem step_8 (f : ℕ → EReal) (c : FVec Ideal S8x512 .f32) (h : Fin 8) (hc : ∀ l : Fin 512, c (ix2 h l) = win f 8 l.val)
    (l : Fin 512) : step 8#32 c (ix2 h l) = win f 16 l.val := by
  pointwise [step]
  exact doubled 8 (by decide) f (fun l => c (ix2 h l)) hc l _ rfl (sge_8 l)

theorem sge_16 (l : Fin 512) : IntOp.cmpi CmpIPredicate.sge (BitVec.ofNat 32 l.val) 16#32 = BitVec.ofBool (decide (16 ≤ l.val)) := by
  revert l; decide +kernel

theorem step_16 (f : ℕ → EReal) (c : FVec Ideal S8x512 .f32) (h : Fin 8) (hc : ∀ l : Fin 512, c (ix2 h l) = win f 16 l.val)
    (l : Fin 512) : step 16#32 c (ix2 h l) = win f 32 l.val := by
  pointwise [step]
  exact doubled 16 (by decide) f (fun l => c (ix2 h l)) hc l _ rfl (sge_16 l)

theorem sge_32 (l : Fin 512) : IntOp.cmpi CmpIPredicate.sge (BitVec.ofNat 32 l.val) 32#32 = BitVec.ofBool (decide (32 ≤ l.val)) := by
  revert l; decide +kernel

theorem step_32 (f : ℕ → EReal) (c : FVec Ideal S8x512 .f32) (h : Fin 8) (hc : ∀ l : Fin 512, c (ix2 h l) = win f 32 l.val)
    (l : Fin 512) : step 32#32 c (ix2 h l) = win f 64 l.val := by
  pointwise [step]
  exact doubled 32 (by decide) f (fun l => c (ix2 h l)) hc l _ rfl (sge_32 l)

theorem sge_64 (l : Fin 512) : IntOp.cmpi CmpIPredicate.sge (BitVec.ofNat 32 l.val) 64#32 = BitVec.ofBool (decide (64 ≤ l.val)) := by
  revert l; decide +kernel

theorem step_64 (f : ℕ → EReal) (c : FVec Ideal S8x512 .f32) (h : Fin 8) (hc : ∀ l : Fin 512, c (ix2 h l) = win f 64 l.val)
    (l : Fin 512) : step 64#32 c (ix2 h l) = win f 128 l.val := by
  pointwise [step]
  exact doubled 64 (by decide) f (fun l => c (ix2 h l)) hc l _ rfl (sge_64 l)

theorem sge_128 (l : Fin 512) : IntOp.cmpi CmpIPredicate.sge (BitVec.ofNat 32 l.val) 128#32 = BitVec.ofBool (decide (128 ≤ l.val)) := by
  revert l; decide +kernel

theorem step_128 (f : ℕ → EReal) (c : FVec Ideal S8x512 .f32) (h : Fin 8) (hc : ∀ l : Fin 512, c (ix2 h l) = win f 128 l.val)
    (l : Fin 512) : step 128#32 c (ix2 h l) = win f 256 l.val := by
  pointwise [step]
  exact doubled 128 (by decide) f (fun l => c (ix2 h l)) hc l _ rfl (sge_128 l)

theorem sge_256 (l : Fin 512) : IntOp.cmpi CmpIPredicate.sge (BitVec.ofNat 32 l.val) 256#32 = BitVec.ofBool (decide (256 ≤ l.val)) := by
  revert l; decide +kernel

theorem step_256 (f : ℕ → EReal) (c : FVec Ideal S8x512 .f32) (h : Fin 8) (hc : ∀ l : Fin 512, c (ix2 h l) = win f 256 l.val)
    (l : Fin 512) : step 256#32 c (ix2 h l) = win f 512 l.val := by
  pointwise [step]
  exact doubled 256 (by decide) f (fun l => c (ix2 h l)) hc l _ rfl (sge_256 l)

/-- The logarithm of the gate at a row and a token of the block. -/
def gateRow (x : Vec Ideal S1x512x1024 .f32) (g b : Vec Ideal S1x1024 .f32) (wf : Vec Ideal S16x1024 .bf16) (fb : Vec Ideal S8x1 .f32)
    (h : Fin 8) (r : Fin 512) : EReal :=
  logsig ((∑ k : Fin 1024, wf (ix2 ⟨h.val, by omega⟩ k) * normRow x g b r k) + fb (ix2 h 0))

/-- The gates of one row as a sequence. -/
def gateSeq (h : Fin 8) (j : ℕ) : EReal := if hj : j < 512 then gateRow x g b wf fb h ⟨j, hj⟩ else 0

/-- The gates of the block before the running sum. -/
def gates (v27 : FVec Ideal S512x1024 .bf16) (v47 : Vec Ideal S16x1024 .bf16) (v50 : Vec Ideal S8x1 .f32) : FVec Ideal S8x512 .f32 :=
  let z : FVec Ideal S8x512 .f32 := addf
    (extractStridedSlice S8x512 ![0, 0] (matmul (φ₁ := .bf16) dot_S16x1024_S512x1024_S16x512_1_1_0_0_n_n none v47 v27 (constant S16x512 .f32 0x00000000#32))
      slices_S16x512_o0_0_S8x512)
    (broadcastTo S8x512 v50 broadcasts_S8x1_S8x512)
  subf (minimumf z (broadcast S8x512 (Scalar.ofBits .f32 0x00000000#32)))
    (log (addf (broadcast S8x512 (Scalar.ofBits .f32 0x3F800000#32))
      (exp (subf (broadcast S8x512 (Scalar.ofBits .f32 0x00000000#32)) (absf z)))))

theorem gates_apply (h : Fin 8) (l : Fin 512) : gates (k0_pay4 x g b) wf fb (ix2 h l) = gateRow x g b wf fb h l := by
  pointwise [gates]
  simp only [pay4_apply, ofBits_zero', ofBits_one, zero_sub]
  rfl

theorem pay10_eq (v27 : FVec Ideal S512x1024 .bf16) (v47 : Vec Ideal S16x1024 .bf16) (v50 : Vec Ideal S8x1 .f32) :
    k0_pay10 v27 v47 v50 = step 1#32 (gates v27 v47 v50) := rfl

/-- The lane numbers. -/
def lanes : IVec S8x512 32 := iota .tc S8x512 32 [1] iota_S8x512_d1_w32

theorem pay12_eq (v27 : FVec Ideal S512x1024 .bf16) (v47 : Vec Ideal S16x1024 .bf16) (v50 : Vec Ideal S8x1 .f32) :
    k0_pay12 v27 v47 v50 = dynamicRotate 1 2#32 none (k0_pay10 v27 v47 v50) rotates_S8x512_d1 := rfl

theorem pay13_eq (c : FVec Ideal S8x512 .f32) :
    k0_pay13 lanes c k0_pay11 (dynamicRotate 1 2#32 none c rotates_S8x512_d1)
      = step 128#32 (step 64#32 (step 32#32 (step 16#32 (step 8#32 (step 4#32 (step 2#32 c)))))) := rfl

/-- The block's running sum with the carry added. -/
def tile (cy : Vec Ideal S8x1 .f32) : FVec Ideal S8x512 .f32 :=
  k0_pay16 lanes (k0_pay13 lanes (k0_pay10 (k0_pay4 x g b) wf fb) k0_pay11 (k0_pay12 (k0_pay4 x g b) wf fb)) k0_pay14 cy

theorem pay16_eq (c : FVec Ideal S8x512 .f32) (cy : Vec Ideal S8x1 .f32) :
    k0_pay16 lanes c k0_pay14 cy = addf (step 256#32 c) (broadcastTo S8x512 cy broadcasts_S8x1_S8x512) := rfl

theorem tile_apply (cy : Vec Ideal S8x1 .f32) (h : Fin 8) (l : Fin 512) :
    tile x g b wf fb cy (ix2 h l) = prefixSum (gateSeq x g b wf fb h) l.val + cy (ix2 h 0) := by
  unfold tile
  rw [pay16_eq, pay12_eq, pay13_eq, pay10_eq]
  have key : step 256#32 (step 128#32 (step 64#32 (step 32#32 (step 16#32 (step 8#32 (step 4#32 (step 2#32 (step 1#32
      (gates (k0_pay4 x g b) wf fb))))))))) (ix2 h l) = prefixSum (gateSeq x g b wf fb h) l.val := by
    refine (step_256 (gateSeq x g b wf fb h) _ h (step_128 _ _ h (step_64 _ _ h (step_32 _ _ h (step_16 _ _ h (step_8 _ _ h
      (step_4 _ _ h (step_2 _ _ h (step_1 _ _ h fun l => ?_)))))))) l).trans (win_full _ _ _ l.isLt)
    rw [gates_apply, win_one, gateSeq, dif_pos l.isLt]
  rw [← key]
  generalize step 256#32 _ = z
  pointwise []

variable (cy : Vec Ideal S8x1 .f32) (c : FVec Ideal S8x512 .f32)

theorem pay17_apply (h : Fin 8) (j : Fin 128) : k0_pay17 lanes c k0_pay14 cy (ix2 h j) = k0_pay16 lanes c k0_pay14 cy (ix2 h 511) := by
  pointwise [k0_pay17]

theorem slt_2 (u : Fin 8) : IntOp.cmpi CmpIPredicate.slt (BitVec.ofNat 32 u.val) 2#32 = BitVec.ofBool (decide (u.val < 2)) := by
  revert u; decide +kernel

theorem rows18 (u : Fin 8) (l : Fin 512) : k0_pay18 lanes c k0_pay14 cy (ix4 0 0 u l)
    = if hu : u.val < 2 then k0_pay16 lanes c k0_pay14 cy (ix2 ⟨u.val, by omega⟩ l) else 0 := by
  pointwise [k0_pay18]
  exact select_test (slt_2 u) _ _

theorem rows19 (u : Fin 8) (l : Fin 512) : k0_pay19 lanes c k0_pay14 cy (ix4 0 0 u l)
    = if hu : u.val < 2 then k0_pay16 lanes c k0_pay14 cy (ix2 ⟨2 + u.val, by omega⟩ l) else 0 := by
  pointwise [k0_pay19]
  rw [select_test (slt_2 u)]
  split
  · rename_i h
    exact congrArg (fun i => k0_pay16 lanes c k0_pay14 cy (ix2 i l)) (Fin.ext (by show (u.val + 8 - 6) % 8 = 2 + u.val; omega))
  · rfl

/-- The row numbers. -/
def rowIds : IVec S8x512 32 := iota .tc S8x512 32 [0] iota_S8x512_d0_w32

theorem rows21 (u : Fin 8) (l : Fin 512) : k0_pay21 rowIds (k0_pay20 lanes c k0_pay14 cy) (ix4 0 0 u l)
    = if hu : u.val < 2 then k0_pay16 lanes c k0_pay14 cy (ix2 ⟨4 + u.val, by omega⟩ l) else 0 := by
  pointwise [k0_pay21, k0_pay20, rowIds]
  rw [select_test (slt_2 u)]
  split
  · rename_i h
    exact congrArg (fun i => k0_pay16 lanes c k0_pay14 cy (ix2 i l)) (Fin.ext (by show (u.val + 8 - 4) % 8 = 4 + u.val; omega))
  · rfl

theorem rows22 (d : FVec Ideal S8x512 .f32) (u : Fin 8) (l : Fin 512) : k0_pay22 d rowIds (ix4 0 0 u l)
    = if hu : u.val < 2 then d (ix2 ⟨6 + u.val, by omega⟩ l) else 0 := by
  pointwise [k0_pay22, rowIds]
  rw [select_test (slt_2 u)]
  split
  · rename_i h
    exact congrArg (fun i => d (ix2 i l)) (Fin.ext (by show (u.val + 8 - 2) % 8 = 6 + u.val; omega))
  · rfl

end Cert.Proj

end
-- ==== Proof.Proj.Point.lean ====
/-
  One grid point of the input projection: what each stored block holds at an element, at a sequence's first block and at
  the others, and the carry it leaves.
-/
module

public import proofs.«01_k».proof.Proof.Gen.Kernel4Ideal.Frame
public import proofs.«01_k».proof.Proof.Proj.Tile
public import Idealize.ShloMosaic.Lib.Pipeline.ValueKit
public import Idealize.ShloMosaic.Lib.WritesUnit

@[expose] public section

set_option maxRecDepth 16384

noncomputable section

namespace Cert.Proj

open Idealize.ShloMosaic Idealize.ShloMosaic.TcCoe Idealize.ShloMosaic.Tactic Idealize.SL Cert.Kernel4Ideal Cert.Kernel4Ideal.Gen

/-- A first column of the carry. -/
def col (s : Vec Ideal S8x128 .f32) : Vec Ideal S8x1 .f32 := fun y => s (ix2 (y 0) 0)

theorem at_x (arg : Memref sig .tc .vmem S1x512x1024 .f32) (harg : arg.IsWhole) (x : Vec Ideal S1x512x1024 .f32) :
    View.readAt (Elt Ideal) arg.view (Rect.unit (s := S1x512x1024) ![0, 0, 0] S1x512x1024.size inb_S1x512x1024_S1x512x1024_0_0_0).toLoadRect (harg.unread x) = x := by
  refine (congrArg (fun g => View.ld (Val := Elt Ideal) (e' := .f32) g (Rect.unit (s := S1x512x1024) ![0, 0, 0] S1x512x1024.size inb_S1x512x1024_S1x512x1024_0_0_0)) (harg.read_unread x)).trans ?_
  exact funext fun y => View.ld_unit_apply_of (Val := Elt Ideal) _ _ _ _ y y fun a => by
    match a with
    | 0 => exact (Nat.zero_add _).symm
    | 1 => exact (Nat.zero_add _).symm
    | 2 => exact (Nat.zero_add _).symm

theorem at_gain (arg : Memref sig .tc .vmem S1x1024 .f32) (harg : arg.IsWhole) (x : Vec Ideal S1x1024 .f32) :
    View.readAt (Elt Ideal) arg.view (Rect.unit (s := S1x1024) ![0, 0] S1x1024.size inb_S1x1024_S1x1024_0_0).toLoadRect (harg.unread x) = x := by
  refine (congrArg (fun g => View.ld (Val := Elt Ideal) (e' := .f32) g (Rect.unit (s := S1x1024) ![0, 0] S1x1024.size inb_S1x1024_S1x1024_0_0)) (harg.read_unread x)).trans ?_
  exact funext fun y => View.ld_unit_apply_of (Val := Elt Ideal) _ _ _ _ y y fun a => by
    match a with
    | 0 => exact (Nat.zero_add _).symm
    | 1 => exact (Nat.zero_add _).symm

theorem at_w (arg : Memref sig .tc .vmem S1024x1536 .bf16) (harg : arg.IsWhole) (x : Vec Ideal S1024x1536 .bf16) :
    View.readAt (Elt Ideal) arg.view (Rect.unit (s := S1024x1536) ![0, 0] S1024x1536.size inb_S1024x1536_S1024x1536_0_0).toLoadRect (harg.unread x) = x := by
  refine (congrArg (fun g => View.ld (Val := Elt Ideal) (e' := .bf16) g (Rect.unit (s := S1024x1536) ![0, 0] S1024x1536.size inb_S1024x1536_S1024x1536_0_0)) (harg.read_unread x)).trans ?_
  exact funext fun y => View.ld_unit_apply_of (Val := Elt Ideal) _ _ _ _ y y fun a => by
    match a with
    | 0 => exact (Nat.zero_add _).symm
    | 1 => exact (Nat.zero_add _).symm

theorem at_wf (arg : Memref sig .tc .vmem S16x1024 .bf16) (harg : arg.IsWhole) (x : Vec Ideal S16x1024 .bf16) :
    View.readAt (Elt Ideal) arg.view (Rect.unit (s := S16x1024) ![0, 0] S16x1024.size inb_S16x1024_S16x1024_0_0).toLoadRect (harg.unread x) = x := by
  refine (congrArg (fun g => View.ld (Val := Elt Ideal) (e' := .bf16) g (Rect.unit (s := S16x1024) ![0, 0] S16x1024.size inb_S16x1024_S16x1024_0_0)) (harg.read_unread x)).trans ?_
  exact funext fun y => View.ld_unit_apply_of (Val := Elt Ideal) _ _ _ _ y y fun a => by
    match a with
    | 0 => exact (Nat.zero_add _).symm
    | 1 => exact (Nat.zero_add _).symm

theorem at_fb (arg : Memref sig .tc .vmem S8x1 .f32) (harg : arg.IsWhole) (x : Vec Ideal S8x1 .f32) :
    View.readAt (Elt Ideal) arg.view (Rect.unit (s := S8x1) ![0, 0] S8x1.size inb_S8x1_S8x1_0_0).toLoadRect (harg.unread x) = x := by
  refine (congrArg (fun g => View.ld (Val := Elt Ideal) (e' := .f32) g (Rect.unit (s := S8x1) ![0, 0] S8x1.size inb_S8x1_S8x1_0_0)) (harg.read_unread x)).trans ?_
  exact funext fun y => View.ld_unit_apply_of (Val := Elt Ideal) _ _ _ _ y y fun a => by
    match a with
    | 0 => exact (Nat.zero_add _).symm
    | 1 => exact (Nat.zero_add _).symm

theorem at_wr (arg : Memref sig .tc .vmem S1024x2048 .bf16) (harg : arg.IsWhole) (x : Vec Ideal S1024x2048 .bf16) :
    View.readAt (Elt Ideal) arg.view (Rect.unit (s := S1024x2048) ![0, 0] S1024x2048.size inb_S1024x2048_S1024x2048_0_0).toLoadRect (harg.unread x) = x := by
  refine (congrArg (fun g => View.ld (Val := Elt Ideal) (e' := .bf16) g (Rect.unit (s := S1024x2048) ![0, 0] S1024x2048.size inb_S1024x2048_S1024x2048_0_0)) (harg.read_unread x)).trans ?_
  exact funext fun y => View.ld_unit_apply_of (Val := Elt Ideal) _ _ _ _ y y fun a => by
    match a with
    | 0 => exact (Nat.zero_add _).symm
    | 1 => exact (Nat.zero_add _).symm

theorem ld_col (s : Vec Ideal S8x128 .f32) : View.ld (Val := Elt Ideal) (e' := .f32) s (Rect.unit (s := S8x128) ![0, 0] S8x1.size inb_S8x128_S8x1_0_0) = col s :=
  funext fun y => View.ld_unit_apply_of (Val := Elt Ideal) _ _ _ _ y (ix2 (y 0) 0) fun a => by
    match a with
    | 0 => exact (Nat.zero_add _).symm
    | 1 => exact (show (0 : ℕ) = 0 + (y 1).val by have h1 : (y 1).val < 1 := (y 1).isLt; omega)

theorem at_carry (arg : Memref sig .tc .vmem S8x128 .f32) (harg : arg.IsWhole) (s : Vec Ideal S8x128 .f32) :
    View.readAt (Elt Ideal) arg.view (Rect.unit (s := S8x128) ![0, 0] S8x1.size inb_S8x128_S8x1_0_0).toLoadRect (harg.unread s) = col s :=
  (congrArg (fun g => View.ld (Val := Elt Ideal) (e' := .f32) g (Rect.unit (s := S8x128) ![0, 0] S8x1.size inb_S8x128_S8x1_0_0)) (harg.read_unread s)).trans
    (ld_col s)

theorem pay15_apply (y : S8x128.Idx) : k0_pay15 (F := Ideal) y = 0 := by
  pointwise [k0_pay15]

theorem at_reset (arg : Memref sig .tc .vmem S8x128 .f32) :
    arg.view.readCov (Val := Elt Ideal) [⟨Rect.unit (s := S8x128) ![0, 0] S8x128.size inb_S8x128_S8x128_0_0, (k0_pay15 (F := Ideal) : S8x128.Idx → Elt Ideal .f32)⟩]
      (Rect.unit (s := S8x128) ![0, 0] S8x1.size inb_S8x128_S8x1_0_0).toLoadRect = fun _ => 0 := by
  refine (ld_col (arg.view.read (Elt Ideal) (arg.view.writes (Elt Ideal) arg.view.junk _))).trans (funext fun y => ?_)
  unfold col
  rw [View.read_writes_cons_unit_of_mem _ _ _ _ _ _ (ix2 (y 0) 0) rfl
    (by intro a; match a with | 0 => exact (Nat.zero_add _).symm | 1 => exact (Nat.zero_add _).symm)]
  exact pay15_apply _

/-- The block's running sum before its last doubling. -/
abbrev part (x : Vec Ideal S1x512x1024 .f32) (g b : Vec Ideal S1x1024 .f32) (wf : Vec Ideal S16x1024 .bf16) (fb : Vec Ideal S8x1 .f32) :
    FVec Ideal S8x512 .f32 :=
  k0_pay13 lanes (k0_pay10 (k0_pay4 x g b) wf fb) k0_pay11 (k0_pay12 (k0_pay4 x g b) wf fb)

/-- The four stored pieces of the running sums: rows `2p` and `2p + 1` in the first two of eight rows, the others zero. -/
theorem ct_pieces (V : View sig .tc .vmem S1x4x8x512 .f32) (f) (x : Vec Ideal S1x512x1024 .f32) (g b : Vec Ideal S1x1024 .f32)
    (wf : Vec Ideal S16x1024 .bf16) (fb : Vec Ideal S8x1 .f32) (cy : Vec Ideal S8x1 .f32) (p : Fin 4) (u : Fin 8) (l : Fin 512) :
    V.read (Elt Ideal) (V.writes (Elt Ideal) f
      [⟨Rect.unit (s := S1x4x8x512) ![0, 3, 0, 0] ![1, 1, 8, 512] inb_S1x4x8x512_S1x1x8x512_0_3_0_0, k0_pay22 (tile x g b wf fb cy) rowIds⟩,
       ⟨Rect.unit (s := S1x4x8x512) ![0, 2, 0, 0] ![1, 1, 8, 512] inb_S1x4x8x512_S1x1x8x512_0_2_0_0, k0_pay21 rowIds (k0_pay20 lanes (part x g b wf fb) k0_pay14 cy)⟩,
       ⟨Rect.unit (s := S1x4x8x512) ![0, 1, 0, 0] ![1, 1, 8, 512] inb_S1x4x8x512_S1x1x8x512_0_1_0_0, k0_pay19 lanes (part x g b wf fb) k0_pay14 cy⟩,
       ⟨Rect.unit (s := S1x4x8x512) ![0, 0, 0, 0] ![1, 1, 8, 512] inb_S1x4x8x512_S1x1x8x512_0_0_0_0, k0_pay18 lanes (part x g b wf fb) k0_pay14 cy⟩])
      (ix4 0 p u l)
    = if hu : u.val < 2 then tile x g b wf fb cy (ix2 ⟨2 * p.val + u.val, by omega⟩ l) else 0 := by
  match p with
  | 3 =>
    rw [View.read_writes_cons_unit_of_mem _ _ _ _ _ _ (ix4 0 0 u l) rfl
      (by intro a; match a with | 0 => exact (Nat.zero_add _).symm | 1 => rfl | 2 => exact (Nat.zero_add _).symm | 3 => exact (Nat.zero_add _).symm)]
    exact rows22 (tile x g b wf fb cy) u l
  | 2 =>
    rw [View.read_writes_cons_unit_of_not_mem _ _ _ _ _ _ rfl 1 (Or.inl (by show 2 < 3; omega))]
    rw [View.read_writes_cons_unit_of_mem _ _ _ _ _ _ (ix4 0 0 u l) rfl
      (by intro a; match a with | 0 => exact (Nat.zero_add _).symm | 1 => rfl | 2 => exact (Nat.zero_add _).symm | 3 => exact (Nat.zero_add _).symm)]
    exact rows21 cy (part x g b wf fb) u l
  | 1 =>
    rw [View.read_writes_cons_unit_of_not_mem _ _ _ _ _ _ rfl 1 (Or.inl (by show 1 < 3; omega))]
    rw [View.read_writes_cons_unit_of_not_mem _ _ _ _ _ _ rfl 1 (Or.inl (by show 1 < 2; omega))]
    rw [View.read_writes_cons_unit_of_mem _ _ _ _ _ _ (ix4 0 0 u l) rfl
      (by intro a; match a with | 0 => exact (Nat.zero_add _).symm | 1 => rfl | 2 => exact (Nat.zero_add _).symm | 3 => exact (Nat.zero_add _).symm)]
    exact rows19 cy (part x g b wf fb) u l
  | 0 =>
    rw [View.read_writes_cons_unit_of_not_mem _ _ _ _ _ _ rfl 1 (Or.inl (by show 0 < 3; omega))]
    rw [View.read_writes_cons_unit_of_not_mem _ _ _ _ _ _ rfl 1 (Or.inl (by show 0 < 2; omega))]
    rw [View.read_writes_cons_unit_of_not_mem _ _ _ _ _ _ rfl 1 (Or.inl (by show 0 < 1; omega))]
    rw [View.read_writes_cons_unit_of_mem _ _ _ _ _ _ (ix4 0 0 u l) rfl
      (by intro a; match a with | 0 => exact (Nat.zero_add _).symm | 1 => rfl | 2 => exact (Nat.zero_add _).symm | 3 => exact (Nat.zero_add _).symm)]
    refine (rows18 cy (part x g b wf fb) u l).trans (dite_congr rfl (fun hu => congrArg (fun i => tile x g b wf fb cy (ix2 i l)) (Fin.ext ?_)) fun _ => rfl)
    show u.val = 2 * 0 + u.val
    omega

section

variable (c : Dev nD) (i : grid0.Coords) (arg2 : Memref sig .tc .vmem S1x512x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1024x1536 .bf16) (harg5 : arg5.IsWhole) (arg6 : Memref sig .tc .vmem S16x1024 .bf16) (harg6 : arg6.IsWhole) (arg7 : Memref sig .tc .vmem S8x1 .f32) (harg7 : arg7.IsWhole) (arg8 : Memref sig .tc .vmem S1024x2048 .bf16) (harg8 : arg8.IsWhole) (arg9 : Memref sig .tc .vmem S2x512 .f32) (harg9 : arg9.IsWhole) (arg10 : Memref sig .tc .vmem S1x512x1024 .f32) (harg10 : arg10.IsWhole) (arg11 : Memref sig .tc .vmem S1x512x512 .bf16) (harg11 : arg11.IsWhole) (arg12 : Memref sig .tc .vmem S1x512x512 .bf16) (harg12 : arg12.IsWhole) (arg13 : Memref sig .tc .vmem S1x512x512 .bf16) (harg13 : arg13.IsWhole) (arg14 : Memref sig .tc .vmem S1x4x8x512 .f32) (harg14 : arg14.IsWhole) (arg15 : Memref sig .tc .vmem S1x512x512 .bf16) (harg15 : arg15.IsWhole) (arg16 : Memref sig .tc .vmem S1x512x512 .bf16) (harg16 : arg16.IsWhole) (arg17 : Memref sig .tc .vmem S1x512x512 .bf16) (harg17 : arg17.IsWhole) (arg18 : Memref sig .tc .vmem S1x512x512 .bf16) (harg18 : arg18.IsWhole) (arg19 : Memref sig .tc .vmem S1x512x512 .f32) (harg19 : arg19.IsWhole) (arg20 : Memref sig .tc .vmem S8x128 .f32) (harg20 : arg20.IsWhole)
    (x0 : Vec Ideal S1x512x1024 .f32) (x1 : Vec Ideal S1x1024 .f32) (x2 : Vec Ideal S1x1024 .f32) (x3 : Vec Ideal S1024x1536 .bf16) (x4 : Vec Ideal S16x1024 .bf16) (x5 : Vec Ideal S8x1 .f32) (x6 : Vec Ideal S1024x2048 .bf16) (x7 : Vec Ideal S2x512 .f32)

theorem xln_A (hc0 : cond0_0 i) (r : Fin 512) (d : Fin 1024) : out0_A_8 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 (ix3 0 r d)
    = normRow x0 x1 x2 r d := by
  unfold out0_A_8 kernelRun0_A
  dsimp only
  sl_unfold_words
  rw [at_x arg2 harg2 x0, at_gain arg3 harg3 x1, at_gain arg4 harg4 x2]
  rw [View.read_writes_cons_unit_of_mem _ _ _ _ _ _ (ix3 0 r d) rfl
    (by intro a; match a with | 0 => exact (Nat.zero_add _).symm | 1 => exact (Nat.zero_add _).symm | 2 => exact (Nat.zero_add _).symm)]
  exact pay3_apply x0 x1 x2 r d

theorem q_A (hc0 : cond0_0 i) (r n : Fin 512) : out0_A_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 (ix3 0 r n)
    = (∑ k : Fin 1024, normRow x0 x1 x2 r k * x3 (ix2 k ⟨n.val, by omega⟩)) * Ideal.ofBits .f32 0x3E000000#32 := by
  unfold out0_A_9 kernelRun0_A
  dsimp only
  sl_unfold_words
  rw [at_x arg2 harg2 x0, at_gain arg3 harg3 x1, at_gain arg4 harg4 x2, at_w arg5 harg5 x3]
  rw [View.read_writes_cons_unit_of_mem _ _ _ _ _ _ (ix3 0 r n) rfl
    (by intro a; match a with | 0 => exact (Nat.zero_add _).symm | 1 => exact (Nat.zero_add _).symm | 2 => exact (Nat.zero_add _).symm)]
  exact pay7_apply x0 x1 x2 x3 r n

theorem k_A (hc0 : cond0_0 i) (r n : Fin 512) : out0_A_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 (ix3 0 r n)
    = ∑ k : Fin 1024, normRow x0 x1 x2 r k * x3 (ix2 k ⟨512 + n.val, by omega⟩) := by
  unfold out0_A_10 kernelRun0_A
  dsimp only
  sl_unfold_words
  rw [at_x arg2 harg2 x0, at_gain arg3 harg3 x1, at_gain arg4 harg4 x2, at_w arg5 harg5 x3]
  rw [View.read_writes_cons_unit_of_mem _ _ _ _ _ _ (ix3 0 r n) rfl
    (by intro a; match a with | 0 => exact (Nat.zero_add _).symm | 1 => exact (Nat.zero_add _).symm | 2 => exact (Nat.zero_add _).symm)]
  exact pay8_apply x0 x1 x2 x3 r n

theorem v_A (hc0 : cond0_0 i) (r n : Fin 512) : out0_A_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 (ix3 0 r n)
    = ∑ k : Fin 1024, normRow x0 x1 x2 r k * x3 (ix2 k ⟨1024 + n.val, by omega⟩) := by
  unfold out0_A_11 kernelRun0_A
  dsimp only
  sl_unfold_words
  rw [at_x arg2 harg2 x0, at_gain arg3 harg3 x1, at_gain arg4 harg4 x2, at_w arg5 harg5 x3]
  rw [View.read_writes_cons_unit_of_mem _ _ _ _ _ _ (ix3 0 r n) rfl
    (by intro a; match a with | 0 => exact (Nat.zero_add _).symm | 1 => exact (Nat.zero_add _).symm | 2 => exact (Nat.zero_add _).symm)]
  exact pay9_apply x0 x1 x2 x3 r n

theorem qr_A (hc0 : cond0_0 i) (r n : Fin 512) : out0_A_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 (ix3 0 r n)
    = (∑ k : Fin 1024, normRow x0 x1 x2 r k * x6 (ix2 k ⟨n.val, by omega⟩)) * sigm (∑ k : Fin 1024, normRow x0 x1 x2 r k * x6 (ix2 k ⟨n.val, by omega⟩)) := by
  unfold out0_A_13 kernelRun0_A
  dsimp only
  sl_unfold_words
  rw [at_x arg2 harg2 x0, at_gain arg3 harg3 x1, at_gain arg4 harg4 x2, at_wr arg8 harg8 x6]
  rw [View.read_writes_cons_unit_of_mem _ _ _ _ _ _ (ix3 0 r n) rfl
    (by intro a; match a with | 0 => exact (Nat.zero_add _).symm | 1 => exact (Nat.zero_add _).symm | 2 => exact (Nat.zero_add _).symm)]
  exact pay24_apply x0 x1 x2 x6 r n

theorem kr_A (hc0 : cond0_0 i) (r n : Fin 512) : out0_A_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 (ix3 0 r n)
    = sigm (-(∑ k : Fin 1024, normRow x0 x1 x2 r k * x6 (ix2 k ⟨512 + n.val, by omega⟩))) := by
  unfold out0_A_14 kernelRun0_A
  dsimp only
  sl_unfold_words
  rw [at_x arg2 harg2 x0, at_gain arg3 harg3 x1, at_gain arg4 harg4 x2, at_wr arg8 harg8 x6]
  rw [View.read_writes_cons_unit_of_mem _ _ _ _ _ _ (ix3 0 r n) rfl
    (by intro a; match a with | 0 => exact (Nat.zero_add _).symm | 1 => exact (Nat.zero_add _).symm | 2 => exact (Nat.zero_add _).symm)]
  exact pay29_apply x0 x1 x2 x6 r n

theorem ir_A (hc0 : cond0_0 i) (r n : Fin 512) : out0_A_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 (ix3 0 r n)
    = ∑ k : Fin 1024, normRow x0 x1 x2 r k * x6 (ix2 k ⟨1024 + n.val, by omega⟩) := by
  unfold out0_A_15 kernelRun0_A
  dsimp only
  sl_unfold_words
  rw [at_x arg2 harg2 x0, at_gain arg3 harg3 x1, at_gain arg4 harg4 x2, at_wr arg8 harg8 x6]
  rw [View.read_writes_cons_unit_of_mem _ _ _ _ _ _ (ix3 0 r n) rfl
    (by intro a; match a with | 0 => exact (Nat.zero_add _).symm | 1 => exact (Nat.zero_add _).symm | 2 => exact (Nat.zero_add _).symm)]
  exact pay30_apply x0 x1 x2 x6 r n

theorem gr_A (hc0 : cond0_0 i) (r n : Fin 512) : out0_A_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 (ix3 0 r n)
    = (∑ k : Fin 1024, normRow x0 x1 x2 r k * x6 (ix2 k ⟨1536 + n.val, by omega⟩)) * sigm (∑ k : Fin 1024, normRow x0 x1 x2 r k * x6 (ix2 k ⟨1536 + n.val, by omega⟩)) := by
  unfold out0_A_16 kernelRun0_A
  dsimp only
  sl_unfold_words
  rw [at_x arg2 harg2 x0, at_gain arg3 harg3 x1, at_gain arg4 harg4 x2, at_wr arg8 harg8 x6]
  rw [View.read_writes_cons_unit_of_mem _ _ _ _ _ _ (ix3 0 r n) rfl
    (by intro a; match a with | 0 => exact (Nat.zero_add _).symm | 1 => exact (Nat.zero_add _).symm | 2 => exact (Nat.zero_add _).symm)]
  exact pay31_apply x0 x1 x2 x6 r n

theorem lfr_A (hc0 : cond0_0 i) (r n : Fin 512) : out0_A_17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 (ix3 0 r n)
    = logsig (∑ k : Fin 1024, normRow x0 x1 x2 r k * x6 (ix2 k ⟨512 + n.val, by omega⟩)) := by
  unfold out0_A_17 kernelRun0_A
  dsimp only
  sl_unfold_words
  rw [at_x arg2 harg2 x0, at_gain arg3 harg3 x1, at_gain arg4 harg4 x2, at_wr arg8 harg8 x6]
  rw [View.read_writes_cons_unit_of_mem _ _ _ _ _ _ (ix3 0 r n) rfl
    (by intro a; match a with | 0 => exact (Nat.zero_add _).symm | 1 => exact (Nat.zero_add _).symm | 2 => exact (Nat.zero_add _).symm)]
  exact pay28_apply x0 x1 x2 x6 r n

theorem ct_A (hc0 : cond0_0 i) (p : Fin 4) (u : Fin 8) (l : Fin 512) :
    out0_A_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 (ix4 0 p u l)
    = if hu : u.val < 2 then tile x0 x1 x2 x4 x5 (fun _ => 0) (ix2 ⟨2 * p.val + u.val, by omega⟩ l) else 0 := by
  unfold out0_A_12 kernelRun0_A
  dsimp only
  sl_unfold_words
  rw [at_x arg2 harg2 x0, at_gain arg3 harg3 x1, at_gain arg4 harg4 x2, at_wf arg6 harg6 x4, at_fb arg7 harg7 x5, at_reset arg20]
  exact ct_pieces VO0_12 VO0_12.junk x0 x1 x2 x4 x5 (fun _ => 0) p u l

theorem carry_A (hc0 : cond0_0 i) (h : Fin 8) (j : Fin 128) :
    sout0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 (ix2 h j)
    = tile x0 x1 x2 x4 x5 (fun _ => 0) (ix2 h 511) := by
  unfold sout0_A_0 kernelRun0_A
  dsimp only
  sl_unfold_words
  rw [at_x arg2 harg2 x0, at_gain arg3 harg3 x1, at_gain arg4 harg4 x2, at_wf arg6 harg6 x4, at_fb arg7 harg7 x5, at_reset arg20]
  rw [View.read_writes_cons_unit_of_mem _ _ _ _ _ _ (ix2 h j) rfl
    (by intro a; match a with | 0 => exact (Nat.zero_add _).symm | 1 => exact (Nat.zero_add _).symm)]
  exact pay17_apply _ _ h j

theorem xln_B (hc0 : ¬cond0_0 i) (xs0 : Vec Ideal S8x128 .f32) (r : Fin 512) (d : Fin 1024) : out0_B_8 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 xs0 (ix3 0 r d)
    = normRow x0 x1 x2 r d := by
  unfold out0_B_8 kernelRun0_B
  dsimp only
  sl_unfold_words
  rw [at_x arg2 harg2 x0, at_gain arg3 harg3 x1, at_gain arg4 harg4 x2]
  rw [View.read_writes_cons_unit_of_mem _ _ _ _ _ _ (ix3 0 r d) rfl
    (by intro a; match a with | 0 => exact (Nat.zero_add _).symm | 1 => exact (Nat.zero_add _).symm | 2 => exact (Nat.zero_add _).symm)]
  exact pay3_apply x0 x1 x2 r d

theorem q_B (hc0 : ¬cond0_0 i) (xs0 : Vec Ideal S8x128 .f32) (r n : Fin 512) : out0_B_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 xs0 (ix3 0 r n)
    = (∑ k : Fin 1024, normRow x0 x1 x2 r k * x3 (ix2 k ⟨n.val, by omega⟩)) * Ideal.ofBits .f32 0x3E000000#32 := by
  unfold out0_B_9 kernelRun0_B
  dsimp only
  sl_unfold_words
  rw [at_x arg2 harg2 x0, at_gain arg3 harg3 x1, at_gain arg4 harg4 x2, at_w arg5 harg5 x3]
  rw [View.read_writes_cons_unit_of_mem _ _ _ _ _ _ (ix3 0 r n) rfl
    (by intro a; match a with | 0 => exact (Nat.zero_add _).symm | 1 => exact (Nat.zero_add _).symm | 2 => exact (Nat.zero_add _).symm)]
  exact pay7_apply x0 x1 x2 x3 r n

theorem k_B (hc0 : ¬cond0_0 i) (xs0 : Vec Ideal S8x128 .f32) (r n : Fin 512) : out0_B_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 xs0 (ix3 0 r n)
    = ∑ k : Fin 1024, normRow x0 x1 x2 r k * x3 (ix2 k ⟨512 + n.val, by omega⟩) := by
  unfold out0_B_10 kernelRun0_B
  dsimp only
  sl_unfold_words
  rw [at_x arg2 harg2 x0, at_gain arg3 harg3 x1, at_gain arg4 harg4 x2, at_w arg5 harg5 x3]
  rw [View.read_writes_cons_unit_of_mem _ _ _ _ _ _ (ix3 0 r n) rfl
    (by intro a; match a with | 0 => exact (Nat.zero_add _).symm | 1 => exact (Nat.zero_add _).symm | 2 => exact (Nat.zero_add _).symm)]
  exact pay8_apply x0 x1 x2 x3 r n

theorem v_B (hc0 : ¬cond0_0 i) (xs0 : Vec Ideal S8x128 .f32) (r n : Fin 512) : out0_B_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 xs0 (ix3 0 r n)
    = ∑ k : Fin 1024, normRow x0 x1 x2 r k * x3 (ix2 k ⟨1024 + n.val, by omega⟩) := by
  unfold out0_B_11 kernelRun0_B
  dsimp only
  sl_unfold_words
  rw [at_x arg2 harg2 x0, at_gain arg3 harg3 x1, at_gain arg4 harg4 x2, at_w arg5 harg5 x3]
  rw [View.read_writes_cons_unit_of_mem _ _ _ _ _ _ (ix3 0 r n) rfl
    (by intro a; match a with | 0 => exact (Nat.zero_add _).symm | 1 => exact (Nat.zero_add _).symm | 2 => exact (Nat.zero_add _).symm)]
  exact pay9_apply x0 x1 x2 x3 r n

theorem qr_B (hc0 : ¬cond0_0 i) (xs0 : Vec Ideal S8x128 .f32) (r n : Fin 512) : out0_B_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 xs0 (ix3 0 r n)
    = (∑ k : Fin 1024, normRow x0 x1 x2 r k * x6 (ix2 k ⟨n.val, by omega⟩)) * sigm (∑ k : Fin 1024, normRow x0 x1 x2 r k * x6 (ix2 k ⟨n.val, by omega⟩)) := by
  unfold out0_B_13 kernelRun0_B
  dsimp only
  sl_unfold_words
  rw [at_x arg2 harg2 x0, at_gain arg3 harg3 x1, at_gain arg4 harg4 x2, at_wr arg8 harg8 x6]
  rw [View.read_writes_cons_unit_of_mem _ _ _ _ _ _ (ix3 0 r n) rfl
    (by intro a; match a with | 0 => exact (Nat.zero_add _).symm | 1 => exact (Nat.zero_add _).symm | 2 => exact (Nat.zero_add _).symm)]
  exact pay24_apply x0 x1 x2 x6 r n

theorem kr_B (hc0 : ¬cond0_0 i) (xs0 : Vec Ideal S8x128 .f32) (r n : Fin 512) : out0_B_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 xs0 (ix3 0 r n)
    = sigm (-(∑ k : Fin 1024, normRow x0 x1 x2 r k * x6 (ix2 k ⟨512 + n.val, by omega⟩))) := by
  unfold out0_B_14 kernelRun0_B
  dsimp only
  sl_unfold_words
  rw [at_x arg2 harg2 x0, at_gain arg3 harg3 x1, at_gain arg4 harg4 x2, at_wr arg8 harg8 x6]
  rw [View.read_writes_cons_unit_of_mem _ _ _ _ _ _ (ix3 0 r n) rfl
    (by intro a; match a with | 0 => exact (Nat.zero_add _).symm | 1 => exact (Nat.zero_add _).symm | 2 => exact (Nat.zero_add _).symm)]
  exact pay29_apply x0 x1 x2 x6 r n

theorem ir_B (hc0 : ¬cond0_0 i) (xs0 : Vec Ideal S8x128 .f32) (r n : Fin 512) : out0_B_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 xs0 (ix3 0 r n)
    = ∑ k : Fin 1024, normRow x0 x1 x2 r k * x6 (ix2 k ⟨1024 + n.val, by omega⟩) := by
  unfold out0_B_15 kernelRun0_B
  dsimp only
  sl_unfold_words
  rw [at_x arg2 harg2 x0, at_gain arg3 harg3 x1, at_gain arg4 harg4 x2, at_wr arg8 harg8 x6]
  rw [View.read_writes_cons_unit_of_mem _ _ _ _ _ _ (ix3 0 r n) rfl
    (by intro a; match a with | 0 => exact (Nat.zero_add _).symm | 1 => exact (Nat.zero_add _).symm | 2 => exact (Nat.zero_add _).symm)]
  exact pay30_apply x0 x1 x2 x6 r n

theorem gr_B (hc0 : ¬cond0_0 i) (xs0 : Vec Ideal S8x128 .f32) (r n : Fin 512) : out0_B_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 xs0 (ix3 0 r n)
    = (∑ k : Fin 1024, normRow x0 x1 x2 r k * x6 (ix2 k ⟨1536 + n.val, by omega⟩)) * sigm (∑ k : Fin 1024, normRow x0 x1 x2 r k * x6 (ix2 k ⟨1536 + n.val, by omega⟩)) := by
  unfold out0_B_16 kernelRun0_B
  dsimp only
  sl_unfold_words
  rw [at_x arg2 harg2 x0, at_gain arg3 harg3 x1, at_gain arg4 harg4 x2, at_wr arg8 harg8 x6]
  rw [View.read_writes_cons_unit_of_mem _ _ _ _ _ _ (ix3 0 r n) rfl
    (by intro a; match a with | 0 => exact (Nat.zero_add _).symm | 1 => exact (Nat.zero_add _).symm | 2 => exact (Nat.zero_add _).symm)]
  exact pay31_apply x0 x1 x2 x6 r n

theorem lfr_B (hc0 : ¬cond0_0 i) (xs0 : Vec Ideal S8x128 .f32) (r n : Fin 512) : out0_B_17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 xs0 (ix3 0 r n)
    = logsig (∑ k : Fin 1024, normRow x0 x1 x2 r k * x6 (ix2 k ⟨512 + n.val, by omega⟩)) := by
  unfold out0_B_17 kernelRun0_B
  dsimp only
  sl_unfold_words
  rw [at_x arg2 harg2 x0, at_gain arg3 harg3 x1, at_gain arg4 harg4 x2, at_wr arg8 harg8 x6]
  rw [View.read_writes_cons_unit_of_mem _ _ _ _ _ _ (ix3 0 r n) rfl
    (by intro a; match a with | 0 => exact (Nat.zero_add _).symm | 1 => exact (Nat.zero_add _).symm | 2 => exact (Nat.zero_add _).symm)]
  exact pay28_apply x0 x1 x2 x6 r n

theorem ct_B (hc0 : ¬cond0_0 i) (xs0 : Vec Ideal S8x128 .f32) (p : Fin 4) (u : Fin 8) (l : Fin 512) :
    out0_B_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 xs0 (ix4 0 p u l)
    = if hu : u.val < 2 then tile x0 x1 x2 x4 x5 (col xs0) (ix2 ⟨2 * p.val + u.val, by omega⟩ l) else 0 := by
  unfold out0_B_12 kernelRun0_B
  dsimp only
  sl_unfold_words
  rw [at_x arg2 harg2 x0, at_gain arg3 harg3 x1, at_gain arg4 harg4 x2, at_wf arg6 harg6 x4, at_fb arg7 harg7 x5, at_carry arg20 harg20 xs0]
  exact ct_pieces VO0_12 VO0_12.junk x0 x1 x2 x4 x5 (col xs0) p u l

theorem carry_B (hc0 : ¬cond0_0 i) (xs0 : Vec Ideal S8x128 .f32) (h : Fin 8) (j : Fin 128) :
    sout0_B_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 xs0 (ix2 h j)
    = tile x0 x1 x2 x4 x5 (col xs0) (ix2 h 511) := by
  unfold sout0_B_0 kernelRun0_B
  dsimp only
  sl_unfold_words
  rw [at_x arg2 harg2 x0, at_gain arg3 harg3 x1, at_gain arg4 harg4 x2, at_wf arg6 harg6 x4, at_fb arg7 harg7 x5, at_carry arg20 harg20 xs0]
  rw [View.read_writes_cons_unit_of_mem _ _ _ _ _ _ (ix2 h j) rfl
    (by intro a; match a with | 0 => exact (Nat.zero_add _).symm | 1 => exact (Nat.zero_add _).symm)]
  exact pay17_apply _ _ h j

end

end Cert.Proj

end
-- ==== Proof.Proj.Block.lean ====
/-
  The blocks of the input projection's grid: what a point reads of the arrays, and the running sums it carries to the next
  block of the sequence.
-/
module

public import proofs.«01_k».proof.Proof.Gen.Kernel4Ideal.Value
public import proofs.«01_k».proof.Proof.Proj.Formula
public import proofs.«01_k».proof.Proof.Proj.Point
public import Idealize.ShloMosaic.Lib.Pipeline.Covers
public import Idealize.ShloMosaic.Lib.Pipeline.ValueKit

@[expose] public section

set_option maxRecDepth 16384

noncomputable section

namespace Cert.Proj

open Idealize.ShloMosaic Idealize.ShloMosaic.TcCoe Idealize.SL.Sem Cert.Kernel4Ideal Cert.Kernel4Ideal.Gen

variable (m : (ℓ : Loc nD τ sig) → Buf (Elt Ideal) ℓ) (c : Dev nD)

abbrev aX : Vec Ideal S4x8192x1024 .f32 := m ((c : Thread nD τ).loc main_arg0)
abbrev aG : Vec Ideal S1x1024 .f32 := m ((c : Thread nD τ).loc main_arg1)
abbrev aB : Vec Ideal S1x1024 .f32 := m ((c : Thread nD τ).loc main_arg2)
abbrev aW : Vec Ideal S1024x1536 .bf16 := m ((c : Thread nD τ).loc main_arg3)
abbrev aWF : Vec Ideal S16x1024 .bf16 := m ((c : Thread nD τ).loc main_arg4)
abbrev aFB : Vec Ideal S8x1 .f32 := m ((c : Thread nD τ).loc main_arg5)
abbrev aWR : Vec Ideal S1024x2048 .bf16 := m ((c : Thread nD τ).loc main_arg6)

theorem index0 : ∀ t : Fin cfg0.N, win0_0.index t = ![(grid0.coords t 0).val, (grid0.coords t 1).val, 0] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![0, 0] := (by decide +kernel : ∀ t : Fin grid0.N, _)
theorem index3 : ∀ t : Fin cfg0.N, win0_3.index t = ![0, 0] := (by decide +kernel : ∀ t : Fin grid0.N, _)
theorem index4 : ∀ t : Fin cfg0.N, win0_4.index t = ![0, 0] := (by decide +kernel : ∀ t : Fin grid0.N, _)
theorem index5 : ∀ t : Fin cfg0.N, win0_5.index t = ![0, 0] := (by decide +kernel : ∀ t : Fin grid0.N, _)
theorem index6 : ∀ t : Fin cfg0.N, win0_6.index t = ![0, 0] := (by decide +kernel : ∀ t : Fin grid0.N, _)

theorem coord0 : ∀ t : Fin cfg0.N, (grid0.coords t 0).val = t.val / 16 := (by decide +kernel : ∀ t : Fin grid0.N, _)
theorem coord1 : ∀ t : Fin cfg0.N, (grid0.coords t 1).val = t.val % 16 := (by decide +kernel : ∀ t : Fin grid0.N, _)

/-- The token at row `r` of block `s`. -/
abbrev token (s : Fin 16) (r : Fin 512) : Fin 8192 := ⟨512 * s.val + r.val, by omega⟩

section

variable (t : Fin cfg0.N)

theorem blk_x (r : Fin 512) (k : Fin 1024) :
    iblk m c 0 t (ix3 0 r k) = aX m c (ix3 (grid0.coords t 0) (token (grid0.coords t 1) r) k) := by
  blk_ext [iblk, V, index0 t]

theorem blk_g : iblk m c 1 t = aG m c := by
  funext y
  blk_ext [iblk, V, index1 t]

theorem blk_b : iblk m c 2 t = aB m c := by
  funext y
  blk_ext [iblk, V, index2 t]

theorem blk_w : iblk m c 3 t = aW m c := by
  funext y
  blk_ext [iblk, V, index3 t]

theorem blk_wf : iblk m c 4 t = aWF m c := by
  funext y
  blk_ext [iblk, V, index4 t]

theorem blk_fb : iblk m c 5 t = aFB m c := by
  funext y
  blk_ext [iblk, V, index5 t]

theorem blk_wr : iblk m c 6 t = aWR m c := by
  funext y
  blk_ext [iblk, V, index6 t]

theorem norm_eq (r : Fin 512) (d : Fin 1024) : normRow (iblk m c 0 t) (iblk m c 1 t) (iblk m c 2 t) r d
    = xln (aX m c) (aG m c) (aB m c) (grid0.coords t 0) (token (grid0.coords t 1) r) d := by
  unfold normRow xln
  rw [blk_g, blk_b]
  simp only [blk_x]

/-- The gates of one head along the sequence the point belongs to. -/
abbrev seq (h : Fin 8) : ℕ → EReal := gSeq (aX m c) (aG m c) (aB m c) (aWF m c) (aFB m c) (grid0.coords t 0) h

theorem gates_eq (h : Fin 8) (j : ℕ) (hj : j < 512) :
    gateSeq (iblk m c 0 t) (iblk m c 1 t) (iblk m c 2 t) (iblk m c 4 t) (iblk m c 5 t) h j
      = seq m c t h (512 * (grid0.coords t 1).val + j) := by
  have h1 : (grid0.coords t 1).val < 16 := (grid0.coords t 1).isLt
  unfold gateSeq seq gSeq
  rw [dif_pos hj, dif_pos (by omega)]
  unfold gateRow gate
  simp only [norm_eq, blk_wf, blk_fb]

theorem tile_first (h0 : t.val % 16 = 0) (h : Fin 8) (l : Fin 512) :
    tile (iblk m c 0 t) (iblk m c 1 t) (iblk m c 2 t) (iblk m c 4 t) (iblk m c 5 t) (fun _ => 0) (ix2 h l)
      = prefixSum (seq m c t h) (512 * (grid0.coords t 1).val + l.val) := by
  refine (tile_apply _ _ _ _ _ _ h l).trans ?_
  have e : (grid0.coords t 1).val = 0 := (coord1 t).trans h0
  rw [add_zero, e, Nat.mul_zero, Nat.zero_add]
  exact prefixSum_congr _ fun j hj => (gates_eq m c t h j (by omega)).trans (by rw [e, Nat.mul_zero, Nat.zero_add])

theorem tile_later (h0 : ¬t.val % 16 = 0) (s : Vec Ideal S8x128 .f32) (h : Fin 8) (l : Fin 512)
    (hs : s (ix2 h 0) = prefixSum (seq m c t h) (512 * (grid0.coords t 1).val - 1)) :
    tile (iblk m c 0 t) (iblk m c 1 t) (iblk m c 2 t) (iblk m c 4 t) (iblk m c 5 t) (col s) (ix2 h l)
      = prefixSum (seq m c t h) (512 * (grid0.coords t 1).val + l.val) := by
  refine (tile_apply _ _ _ _ _ _ h l).trans ?_
  have e : (grid0.coords t 1).val = t.val % 16 := coord1 t
  have e1 : 512 * (grid0.coords t 1).val - 1 + 1 = 512 * (grid0.coords t 1).val := by omega
  have e2 : col s (ix2 h 0) = s (ix2 h 0) := rfl
  rw [e2, hs, ← e1, ← prefixSum_add, e1]
  refine congrArg (· + _) (prefixSum_congr _ fun j hj => gates_eq m c t h j (by omega))

end

theorem seq_before (t : Fin cfg0.N) (h0 : ¬t.val % 16 = 0) (hn : t.val - 1 < cfg0.N) (h : Fin 8) :
    prefixSum (seq m c ⟨t.val - 1, hn⟩ h) (512 * (grid0.coords ⟨t.val - 1, hn⟩ 1).val + 511)
      = prefixSum (seq m c t h) (512 * (grid0.coords t 1).val - 1) := by
  have a0 := coord0 ⟨t.val - 1, hn⟩
  have a1 := coord1 ⟨t.val - 1, hn⟩
  have b0 := coord0 t
  have b1 := coord1 t
  have e0 : grid0.coords ⟨t.val - 1, hn⟩ 0 = grid0.coords t 0 := Fin.ext (by rw [a0, b0]; show (t.val - 1) / 16 = t.val / 16; omega)
  have e1 : 512 * (grid0.coords ⟨t.val - 1, hn⟩ 1).val + 511 = 512 * (grid0.coords t 1).val - 1 := by
    rw [a1, b1]
    show 512 * ((t.val - 1) % 16) + 511 = 512 * (t.val % 16) - 1
    omega
  unfold seq
  rw [e0, e1]

/-- The carry after a point: the sums through the last token of its block. -/
theorem carry_at : ∀ (n : ℕ) (t : Fin cfg0.N), t.val = n → ∀ (h : Fin 8) (j : Fin 128),
    (outsAt0 m c t.val t.isLt).2.2.2.2.2.2.2.2.2.2 (ix2 h j)
      = prefixSum (seq m c t h) (512 * (grid0.coords t 1).val + 511) := by
  intro n
  induction n with
  | zero =>
    intro t ht h j
    have h0 : t.val % 16 = 0 := by omega
    rw [outsAt0_A m c t h0]
    dsimp only
    rw [carry_A]
    exact tile_first m c t h0 h 511
  | succ n ih =>
    intro t ht h j
    by_cases h0 : t.val % 16 = 0
    · rw [outsAt0_A m c t h0]
      dsimp only
      rw [carry_A]
      exact tile_first m c t h0 h 511
    · rw [outsAt0_B m c t h0]
      dsimp only
      rw [carry_B]
      have hn : t.val - 1 < cfg0.N := lt_of_le_of_lt (Nat.sub_le _ _) t.isLt
      exact tile_later m c t h0 _ h 511 ((ih ⟨t.val - 1, hn⟩ (by show t.val - 1 = n; omega) h 0).trans (seq_before m c t h0 hn h))

theorem carry_before (t : Fin cfg0.N) (h0 : ¬t.val % 16 = 0) (hn : t.val - 1 < cfg0.N) (h : Fin 8) :
    (outsAt0 m c (t.val - 1) hn).2.2.2.2.2.2.2.2.2.2 (ix2 h 0)
      = prefixSum (seq m c t h) (512 * (grid0.coords t 1).val - 1) :=
  (carry_at m c _ ⟨t.val - 1, hn⟩ rfl h 0).trans (seq_before m c t h0 hn h)

end Cert.Proj

end
-- ==== Proof.Proj.Array.lean ====
/-
  The input projection's whole results: every block a grid point stores is the block of its formula there, and the blocks
  cover each array.
-/
module

public import proofs.«01_k».proof.Proof.Proj.Block

@[expose] public section

set_option maxRecDepth 16384

noncomputable section

namespace Cert.Proj

open Idealize.ShloMosaic Idealize.ShloMosaic.TcCoe Idealize.SL.Sem Cert.Kernel4Ideal Cert.Kernel4Ideal.Gen

variable (m : (ℓ : Loc nD τ sig) → Buf (Elt Ideal) ℓ) (ρ : Dev nD → PrngReg) (c : Dev nD)

theorem index8 : ∀ t : Fin cfg0.N, win0_8.index t = ![(grid0.coords t 0).val, (grid0.coords t 1).val, 0] := (by decide +kernel : ∀ t : Fin grid0.N, _)
theorem index9 : ∀ t : Fin cfg0.N, win0_9.index t = ![(grid0.coords t 0).val, (grid0.coords t 1).val, 0] := (by decide +kernel : ∀ t : Fin grid0.N, _)
theorem index10 : ∀ t : Fin cfg0.N, win0_10.index t = ![(grid0.coords t 0).val, (grid0.coords t 1).val, 0] := (by decide +kernel : ∀ t : Fin grid0.N, _)
theorem index11 : ∀ t : Fin cfg0.N, win0_11.index t = ![(grid0.coords t 0).val, (grid0.coords t 1).val, 0] := (by decide +kernel : ∀ t : Fin grid0.N, _)
theorem index12 : ∀ t : Fin cfg0.N, win0_12.index t = ![(grid0.coords t 0).val, 0, 0, (grid0.coords t 1).val] := (by decide +kernel : ∀ t : Fin grid0.N, _)
theorem index13 : ∀ t : Fin cfg0.N, win0_13.index t = ![(grid0.coords t 0).val, (grid0.coords t 1).val, 0] := (by decide +kernel : ∀ t : Fin grid0.N, _)
theorem index14 : ∀ t : Fin cfg0.N, win0_14.index t = ![(grid0.coords t 0).val, (grid0.coords t 1).val, 0] := (by decide +kernel : ∀ t : Fin grid0.N, _)
theorem index15 : ∀ t : Fin cfg0.N, win0_15.index t = ![(grid0.coords t 0).val, (grid0.coords t 1).val, 0] := (by decide +kernel : ∀ t : Fin grid0.N, _)
theorem index16 : ∀ t : Fin cfg0.N, win0_16.index t = ![(grid0.coords t 0).val, (grid0.coords t 1).val, 0] := (by decide +kernel : ∀ t : Fin grid0.N, _)
theorem index17 : ∀ t : Fin cfg0.N, win0_17.index t = ![(grid0.coords t 0).val, (grid0.coords t 1).val, 0] := (by decide +kernel : ∀ t : Fin grid0.N, _)

theorem point8 (t : Fin cfg0.N) (r : Fin 512) (n : Fin 1024) :
    (outsAt0 m c t.val t.isLt).1 (ix3 0 r n) = xln (aX m c) (aG m c) (aB m c) (grid0.coords t 0) (token (grid0.coords t 1) r) n := by
  by_cases h0 : t.val % 16 = 0
  · rw [outsAt0_A m c t h0]
    dsimp only
    rw [xln_A]
    simp only [norm_eq]
  · rw [outsAt0_B m c t h0]
    dsimp only
    rw [xln_B]
    simp only [norm_eq]

theorem point9 (t : Fin cfg0.N) (r : Fin 512) (n : Fin 512) :
    (outsAt0 m c t.val t.isLt).2.1 (ix3 0 r n) = acol (aX m c) (aG m c) (aB m c) (aW m c) (grid0.coords t 0) (token (grid0.coords t 1) r) ⟨n.val, by omega⟩ * Ideal.ofBits .f32 0x3E000000#32 := by
  by_cases h0 : t.val % 16 = 0
  · rw [outsAt0_A m c t h0]
    dsimp only
    rw [q_A]
    simp only [norm_eq, blk_w]
    rfl
  · rw [outsAt0_B m c t h0]
    dsimp only
    rw [q_B]
    simp only [norm_eq, blk_w]
    rfl

theorem point10 (t : Fin cfg0.N) (r : Fin 512) (n : Fin 512) :
    (outsAt0 m c t.val t.isLt).2.2.1 (ix3 0 r n) = acol (aX m c) (aG m c) (aB m c) (aW m c) (grid0.coords t 0) (token (grid0.coords t 1) r) ⟨512 + n.val, by omega⟩ := by
  by_cases h0 : t.val % 16 = 0
  · rw [outsAt0_A m c t h0]
    dsimp only
    rw [k_A]
    simp only [norm_eq, blk_w]
    rfl
  · rw [outsAt0_B m c t h0]
    dsimp only
    rw [k_B]
    simp only [norm_eq, blk_w]
    rfl

theorem point11 (t : Fin cfg0.N) (r : Fin 512) (n : Fin 512) :
    (outsAt0 m c t.val t.isLt).2.2.2.1 (ix3 0 r n) = acol (aX m c) (aG m c) (aB m c) (aW m c) (grid0.coords t 0) (token (grid0.coords t 1) r) ⟨1024 + n.val, by omega⟩ := by
  by_cases h0 : t.val % 16 = 0
  · rw [outsAt0_A m c t h0]
    dsimp only
    rw [v_A]
    simp only [norm_eq, blk_w]
    rfl
  · rw [outsAt0_B m c t h0]
    dsimp only
    rw [v_B]
    simp only [norm_eq, blk_w]
    rfl

theorem point12 (t : Fin cfg0.N) (p : Fin 4) (u : Fin 8) (l : Fin 512) :
    (outsAt0 m c t.val t.isLt).2.2.2.2.1 (ix4 0 p u l)
      = if hu : u.val < 2 then prefixSum (seq m c t ⟨2 * p.val + u.val, by omega⟩) (512 * (grid0.coords t 1).val + l.val) else 0 := by
  by_cases h0 : t.val % 16 = 0
  · rw [outsAt0_A m c t h0]
    dsimp only
    rw [ct_A]
    exact dite_congr rfl (fun hu => tile_first m c t h0 _ l) fun _ => rfl
  · rw [outsAt0_B m c t h0]
    dsimp only
    rw [ct_B]
    exact dite_congr rfl (fun hu => tile_later m c t h0 _ _ l (carry_before m c t h0 _ _)) fun _ => rfl

theorem point13 (t : Fin cfg0.N) (r : Fin 512) (n : Fin 512) :
    (outsAt0 m c t.val t.isLt).2.2.2.2.2.1 (ix3 0 r n) = rcol (aX m c) (aG m c) (aB m c) (aWR m c) (grid0.coords t 0) (token (grid0.coords t 1) r) ⟨n.val, by omega⟩ * sigm (rcol (aX m c) (aG m c) (aB m c) (aWR m c) (grid0.coords t 0) (token (grid0.coords t 1) r) ⟨n.val, by omega⟩) := by
  by_cases h0 : t.val % 16 = 0
  · rw [outsAt0_A m c t h0]
    dsimp only
    rw [qr_A]
    simp only [norm_eq, blk_wr]
    rfl
  · rw [outsAt0_B m c t h0]
    dsimp only
    rw [qr_B]
    simp only [norm_eq, blk_wr]
    rfl

theorem point14 (t : Fin cfg0.N) (r : Fin 512) (n : Fin 512) :
    (outsAt0 m c t.val t.isLt).2.2.2.2.2.2.1 (ix3 0 r n) = sigm (-rcol (aX m c) (aG m c) (aB m c) (aWR m c) (grid0.coords t 0) (token (grid0.coords t 1) r) ⟨512 + n.val, by omega⟩) := by
  by_cases h0 : t.val % 16 = 0
  · rw [outsAt0_A m c t h0]
    dsimp only
    rw [kr_A]
    simp only [norm_eq, blk_wr]
    rfl
  · rw [outsAt0_B m c t h0]
    dsimp only
    rw [kr_B]
    simp only [norm_eq, blk_wr]
    rfl

theorem point15 (t : Fin cfg0.N) (r : Fin 512) (n : Fin 512) :
    (outsAt0 m c t.val t.isLt).2.2.2.2.2.2.2.1 (ix3 0 r n) = rcol (aX m c) (aG m c) (aB m c) (aWR m c) (grid0.coords t 0) (token (grid0.coords t 1) r) ⟨1024 + n.val, by omega⟩ := by
  by_cases h0 : t.val % 16 = 0
  · rw [outsAt0_A m c t h0]
    dsimp only
    rw [ir_A]
    simp only [norm_eq, blk_wr]
    rfl
  · rw [outsAt0_B m c t h0]
    dsimp only
    rw [ir_B]
    simp only [norm_eq, blk_wr]
    rfl

theorem point16 (t : Fin cfg0.N) (r : Fin 512) (n : Fin 512) :
    (outsAt0 m c t.val t.isLt).2.2.2.2.2.2.2.2.1 (ix3 0 r n) = rcol (aX m c) (aG m c) (aB m c) (aWR m c) (grid0.coords t 0) (token (grid0.coords t 1) r) ⟨1536 + n.val, by omega⟩ * sigm (rcol (aX m c) (aG m c) (aB m c) (aWR m c) (grid0.coords t 0) (token (grid0.coords t 1) r) ⟨1536 + n.val, by omega⟩) := by
  by_cases h0 : t.val % 16 = 0
  · rw [outsAt0_A m c t h0]
    dsimp only
    rw [gr_A]
    simp only [norm_eq, blk_wr]
    rfl
  · rw [outsAt0_B m c t h0]
    dsimp only
    rw [gr_B]
    simp only [norm_eq, blk_wr]
    rfl

theorem point17 (t : Fin cfg0.N) (r : Fin 512) (n : Fin 512) :
    (outsAt0 m c t.val t.isLt).2.2.2.2.2.2.2.2.2.1 (ix3 0 r n) = logsig (rcol (aX m c) (aG m c) (aB m c) (aWR m c) (grid0.coords t 0) (token (grid0.coords t 1) r) ⟨512 + n.val, by omega⟩) := by
  by_cases h0 : t.val % 16 = 0
  · rw [outsAt0_A m c t h0]
    dsimp only
    rw [lfr_A]
    simp only [norm_eq, blk_wr]
    rfl
  · rw [outsAt0_B m c t h0]
    dsimp only
    rw [lfr_B]
    simp only [norm_eq, blk_wr]
    rfl

theorem covers8 : (cfg0.win 8).Covers := by
  refine Pipeline.Window.covers_of_indexMap_surj _ rfl (by decide) fun β => ?_
  have h0 : (β 0).val < 4 := (β 0).isLt
  have h1 : (β 1).val < 16 := (β 1).isLt
  have h2 : (β 2).val < 1 := (β 2).isLt
  have key : ∀ (x : Fin 4) (y : Fin 16), ∃ i : grid0.Coords, cc0_transform_8 i = ![x.val, y.val, 0] := by
    intro x y
    refine ⟨fun a => match a with | 0 => x | 1 => y, ?_⟩
    revert x y
    decide +kernel
  obtain ⟨i, hi⟩ := key ⟨_, h0⟩ ⟨_, h1⟩
  refine ⟨i, fun a => ?_⟩
  show cc0_transform_8 i a = _
  rw [hi]
  match a with
  | 0 => rfl
  | 1 => rfl
  | 2 => show 0 = (β 2).val; omega

theorem array8 : (dats m 0 c).arrAt 8 cfg0.N = xlnArr (aX m c) (aG m c) (aB m c) := by
  refine (dats m 0 c).arrAt_eq_of_covers 8 _ covers8 fun t hf y => ?_
  blk_simp
  rw [after0_8]
  have hy : y = ix3 0 (y 1) (y 2) := by
    funext a
    match a with
    | 0 => exact Fin.ext (by have h : (y 0).val < 1 := (y 0).isLt; show (y 0).val = 0; omega)
    | 1 => rfl
    | 2 => rfl
  have e1 : (((cfg0.win 8).blk t).view.emb y 1).val = 512 * (grid0.coords t 1).val + (y 1).val := by
    blk_simp [index8 t]
    omega
  have e : ((cfg0.win 8).blk t).view.emb y = ix3 (grid0.coords t 0) (token (grid0.coords t 1) (y 1)) (y 2) := by
    funext a
    have h : (y 0).val < 1 := (y 0).isLt
    match a with
    | 0 => exact Fin.ext (by blk_simp [index8 t])
    | 1 => exact Fin.ext e1
    | 2 => exact Fin.ext (by blk_simp [index8 t])
  refine (congrArg ((outsAt0 m c t.val t.isLt).1) hy).trans ((point8 m c t (y 1) (y 2)).trans ?_)
  exact (congrArg (xlnArr (aX m c) (aG m c) (aB m c)) e).symm

theorem covers9 : (cfg0.win 9).Covers := by
  refine Pipeline.Window.covers_of_indexMap_surj _ rfl (by decide) fun β => ?_
  have h0 : (β 0).val < 4 := (β 0).isLt
  have h1 : (β 1).val < 16 := (β 1).isLt
  have h2 : (β 2).val < 1 := (β 2).isLt
  have key : ∀ (x : Fin 4) (y : Fin 16), ∃ i : grid0.Coords, cc0_transform_9 i = ![x.val, y.val, 0] := by
    intro x y
    refine ⟨fun a => match a with | 0 => x | 1 => y, ?_⟩
    revert x y
    decide +kernel
  obtain ⟨i, hi⟩ := key ⟨_, h0⟩ ⟨_, h1⟩
  refine ⟨i, fun a => ?_⟩
  show cc0_transform_9 i a = _
  rw [hi]
  match a with
  | 0 => rfl
  | 1 => rfl
  | 2 => show 0 = (β 2).val; omega

theorem array9 : (dats m 0 c).arrAt 9 cfg0.N = qArr (aX m c) (aG m c) (aB m c) (aW m c) := by
  refine (dats m 0 c).arrAt_eq_of_covers 9 _ covers9 fun t hf y => ?_
  blk_simp
  rw [after0_9]
  have hy : y = ix3 0 (y 1) (y 2) := by
    funext a
    match a with
    | 0 => exact Fin.ext (by have h : (y 0).val < 1 := (y 0).isLt; show (y 0).val = 0; omega)
    | 1 => rfl
    | 2 => rfl
  have e1 : (((cfg0.win 9).blk t).view.emb y 1).val = 512 * (grid0.coords t 1).val + (y 1).val := by
    blk_simp [index9 t]
    omega
  have e : ((cfg0.win 9).blk t).view.emb y = ix3 (grid0.coords t 0) (token (grid0.coords t 1) (y 1)) (y 2) := by
    funext a
    have h : (y 0).val < 1 := (y 0).isLt
    match a with
    | 0 => exact Fin.ext (by blk_simp [index9 t])
    | 1 => exact Fin.ext e1
    | 2 => exact Fin.ext (by blk_simp [index9 t])
  refine (congrArg ((outsAt0 m c t.val t.isLt).2.1) hy).trans ((point9 m c t (y 1) (y 2)).trans ?_)
  exact (congrArg (qArr (aX m c) (aG m c) (aB m c) (aW m c)) e).symm

theorem covers10 : (cfg0.win 10).Covers := by
  refine Pipeline.Window.covers_of_indexMap_surj _ rfl (by decide) fun β => ?_
  have h0 : (β 0).val < 4 := (β 0).isLt
  have h1 : (β 1).val < 16 := (β 1).isLt
  have h2 : (β 2).val < 1 := (β 2).isLt
  have key : ∀ (x : Fin 4) (y : Fin 16), ∃ i : grid0.Coords, cc0_transform_10 i = ![x.val, y.val, 0] := by
    intro x y
    refine ⟨fun a => match a with | 0 => x | 1 => y, ?_⟩
    revert x y
    decide +kernel
  obtain ⟨i, hi⟩ := key ⟨_, h0⟩ ⟨_, h1⟩
  refine ⟨i, fun a => ?_⟩
  show cc0_transform_10 i a = _
  rw [hi]
  match a with
  | 0 => rfl
  | 1 => rfl
  | 2 => show 0 = (β 2).val; omega

theorem array10 : (dats m 0 c).arrAt 10 cfg0.N = kArr (aX m c) (aG m c) (aB m c) (aW m c) := by
  refine (dats m 0 c).arrAt_eq_of_covers 10 _ covers10 fun t hf y => ?_
  blk_simp
  rw [after0_10]
  have hy : y = ix3 0 (y 1) (y 2) := by
    funext a
    match a with
    | 0 => exact Fin.ext (by have h : (y 0).val < 1 := (y 0).isLt; show (y 0).val = 0; omega)
    | 1 => rfl
    | 2 => rfl
  have e1 : (((cfg0.win 10).blk t).view.emb y 1).val = 512 * (grid0.coords t 1).val + (y 1).val := by
    blk_simp [index10 t]
    omega
  have e : ((cfg0.win 10).blk t).view.emb y = ix3 (grid0.coords t 0) (token (grid0.coords t 1) (y 1)) (y 2) := by
    funext a
    have h : (y 0).val < 1 := (y 0).isLt
    match a with
    | 0 => exact Fin.ext (by blk_simp [index10 t])
    | 1 => exact Fin.ext e1
    | 2 => exact Fin.ext (by blk_simp [index10 t])
  refine (congrArg ((outsAt0 m c t.val t.isLt).2.2.1) hy).trans ((point10 m c t (y 1) (y 2)).trans ?_)
  exact (congrArg (kArr (aX m c) (aG m c) (aB m c) (aW m c)) e).symm

theorem covers11 : (cfg0.win 11).Covers := by
  refine Pipeline.Window.covers_of_indexMap_surj _ rfl (by decide) fun β => ?_
  have h0 : (β 0).val < 4 := (β 0).isLt
  have h1 : (β 1).val < 16 := (β 1).isLt
  have h2 : (β 2).val < 1 := (β 2).isLt
  have key : ∀ (x : Fin 4) (y : Fin 16), ∃ i : grid0.Coords, cc0_transform_11 i = ![x.val, y.val, 0] := by
    intro x y
    refine ⟨fun a => match a with | 0 => x | 1 => y, ?_⟩
    revert x y
    decide +kernel
  obtain ⟨i, hi⟩ := key ⟨_, h0⟩ ⟨_, h1⟩
  refine ⟨i, fun a => ?_⟩
  show cc0_transform_11 i a = _
  rw [hi]
  match a with
  | 0 => rfl
  | 1 => rfl
  | 2 => show 0 = (β 2).val; omega

theorem array11 : (dats m 0 c).arrAt 11 cfg0.N = vArr (aX m c) (aG m c) (aB m c) (aW m c) := by
  refine (dats m 0 c).arrAt_eq_of_covers 11 _ covers11 fun t hf y => ?_
  blk_simp
  rw [after0_11]
  have hy : y = ix3 0 (y 1) (y 2) := by
    funext a
    match a with
    | 0 => exact Fin.ext (by have h : (y 0).val < 1 := (y 0).isLt; show (y 0).val = 0; omega)
    | 1 => rfl
    | 2 => rfl
  have e1 : (((cfg0.win 11).blk t).view.emb y 1).val = 512 * (grid0.coords t 1).val + (y 1).val := by
    blk_simp [index11 t]
    omega
  have e : ((cfg0.win 11).blk t).view.emb y = ix3 (grid0.coords t 0) (token (grid0.coords t 1) (y 1)) (y 2) := by
    funext a
    have h : (y 0).val < 1 := (y 0).isLt
    match a with
    | 0 => exact Fin.ext (by blk_simp [index11 t])
    | 1 => exact Fin.ext e1
    | 2 => exact Fin.ext (by blk_simp [index11 t])
  refine (congrArg ((outsAt0 m c t.val t.isLt).2.2.2.1) hy).trans ((point11 m c t (y 1) (y 2)).trans ?_)
  exact (congrArg (vArr (aX m c) (aG m c) (aB m c) (aW m c)) e).symm

theorem covers12 : (cfg0.win 12).Covers := by
  refine Pipeline.Window.covers_of_indexMap_surj _ rfl (by decide) fun β => ?_
  have h0 : (β 0).val < 4 := (β 0).isLt
  have h1 : (β 1).val < 1 := (β 1).isLt
  have h2 : (β 2).val < 1 := (β 2).isLt
  have h3 : (β 3).val < 16 := (β 3).isLt
  have key : ∀ (x : Fin 4) (y : Fin 16), ∃ i : grid0.Coords, cc0_transform_12 i = ![x.val, 0, 0, y.val] := by
    intro x y
    refine ⟨fun a => match a with | 0 => x | 1 => y, ?_⟩
    revert x y
    decide +kernel
  obtain ⟨i, hi⟩ := key ⟨_, h0⟩ ⟨_, h3⟩
  refine ⟨i, fun a => ?_⟩
  show cc0_transform_12 i a = _
  rw [hi]
  match a with
  | 0 => rfl
  | 1 => show 0 = (β 1).val; omega
  | 2 => show 0 = (β 2).val; omega
  | 3 => rfl

theorem array12 : (dats m 0 c).arrAt 12 cfg0.N = ctArr (aX m c) (aG m c) (aB m c) (aWF m c) (aFB m c) := by
  refine (dats m 0 c).arrAt_eq_of_covers 12 _ covers12 fun t hf y => ?_
  blk_simp
  rw [after0_12]
  have hy : y = ix4 0 (y 1) (y 2) (y 3) := by
    funext a
    match a with
    | 0 => exact Fin.ext (by have h : (y 0).val < 1 := (y 0).isLt; show (y 0).val = 0; omega)
    | 1 => rfl
    | 2 => rfl
    | 3 => rfl
  have e3 : (((cfg0.win 12).blk t).view.emb y 3).val = 512 * (grid0.coords t 1).val + (y 3).val := by
    blk_simp [index12 t]
    omega
  have e : ((cfg0.win 12).blk t).view.emb y = ix4 (grid0.coords t 0) (y 1) (y 2) (token (grid0.coords t 1) (y 3)) := by
    funext a
    have h : (y 0).val < 1 := (y 0).isLt
    match a with
    | 0 => exact Fin.ext (by blk_simp [index12 t])
    | 1 => exact Fin.ext (by blk_simp [index12 t])
    | 2 => exact Fin.ext (by blk_simp [index12 t])
    | 3 => exact Fin.ext e3
  refine (congrArg ((outsAt0 m c t.val t.isLt).2.2.2.2.1) hy).trans ((point12 m c t (y 1) (y 2) (y 3)).trans ?_)
  exact (congrArg (ctArr (aX m c) (aG m c) (aB m c) (aWF m c) (aFB m c)) e).symm

theorem covers13 : (cfg0.win 13).Covers := by
  refine Pipeline.Window.covers_of_indexMap_surj _ rfl (by decide) fun β => ?_
  have h0 : (β 0).val < 4 := (β 0).isLt
  have h1 : (β 1).val < 16 := (β 1).isLt
  have h2 : (β 2).val < 1 := (β 2).isLt
  have key : ∀ (x : Fin 4) (y : Fin 16), ∃ i : grid0.Coords, cc0_transform_13 i = ![x.val, y.val, 0] := by
    intro x y
    refine ⟨fun a => match a with | 0 => x | 1 => y, ?_⟩
    revert x y
    decide +kernel
  obtain ⟨i, hi⟩ := key ⟨_, h0⟩ ⟨_, h1⟩
  refine ⟨i, fun a => ?_⟩
  show cc0_transform_13 i a = _
  rw [hi]
  match a with
  | 0 => rfl
  | 1 => rfl
  | 2 => show 0 = (β 2).val; omega

theorem array13 : (dats m 0 c).arrAt 13 cfg0.N = qrArr (aX m c) (aG m c) (aB m c) (aWR m c) := by
  refine (dats m 0 c).arrAt_eq_of_covers 13 _ covers13 fun t hf y => ?_
  blk_simp
  rw [after0_13]
  have hy : y = ix3 0 (y 1) (y 2) := by
    funext a
    match a with
    | 0 => exact Fin.ext (by have h : (y 0).val < 1 := (y 0).isLt; show (y 0).val = 0; omega)
    | 1 => rfl
    | 2 => rfl
  have e1 : (((cfg0.win 13).blk t).view.emb y 1).val = 512 * (grid0.coords t 1).val + (y 1).val := by
    blk_simp [index13 t]
    omega
  have e : ((cfg0.win 13).blk t).view.emb y = ix3 (grid0.coords t 0) (token (grid0.coords t 1) (y 1)) (y 2) := by
    funext a
    have h : (y 0).val < 1 := (y 0).isLt
    match a with
    | 0 => exact Fin.ext (by blk_simp [index13 t])
    | 1 => exact Fin.ext e1
    | 2 => exact Fin.ext (by blk_simp [index13 t])
  refine (congrArg ((outsAt0 m c t.val t.isLt).2.2.2.2.2.1) hy).trans ((point13 m c t (y 1) (y 2)).trans ?_)
  exact (congrArg (qrArr (aX m c) (aG m c) (aB m c) (aWR m c)) e).symm

theorem covers14 : (cfg0.win 14).Covers := by
  refine Pipeline.Window.covers_of_indexMap_surj _ rfl (by decide) fun β => ?_
  have h0 : (β 0).val < 4 := (β 0).isLt
  have h1 : (β 1).val < 16 := (β 1).isLt
  have h2 : (β 2).val < 1 := (β 2).isLt
  have key : ∀ (x : Fin 4) (y : Fin 16), ∃ i : grid0.Coords, cc0_transform_14 i = ![x.val, y.val, 0] := by
    intro x y
    refine ⟨fun a => match a with | 0 => x | 1 => y, ?_⟩
    revert x y
    decide +kernel
  obtain ⟨i, hi⟩ := key ⟨_, h0⟩ ⟨_, h1⟩
  refine ⟨i, fun a => ?_⟩
  show cc0_transform_14 i a = _
  rw [hi]
  match a with
  | 0 => rfl
  | 1 => rfl
  | 2 => show 0 = (β 2).val; omega

theorem array14 : (dats m 0 c).arrAt 14 cfg0.N = krArr (aX m c) (aG m c) (aB m c) (aWR m c) := by
  refine (dats m 0 c).arrAt_eq_of_covers 14 _ covers14 fun t hf y => ?_
  blk_simp
  rw [after0_14]
  have hy : y = ix3 0 (y 1) (y 2) := by
    funext a
    match a with
    | 0 => exact Fin.ext (by have h : (y 0).val < 1 := (y 0).isLt; show (y 0).val = 0; omega)
    | 1 => rfl
    | 2 => rfl
  have e1 : (((cfg0.win 14).blk t).view.emb y 1).val = 512 * (grid0.coords t 1).val + (y 1).val := by
    blk_simp [index14 t]
    omega
  have e : ((cfg0.win 14).blk t).view.emb y = ix3 (grid0.coords t 0) (token (grid0.coords t 1) (y 1)) (y 2) := by
    funext a
    have h : (y 0).val < 1 := (y 0).isLt
    match a with
    | 0 => exact Fin.ext (by blk_simp [index14 t])
    | 1 => exact Fin.ext e1
    | 2 => exact Fin.ext (by blk_simp [index14 t])
  refine (congrArg ((outsAt0 m c t.val t.isLt).2.2.2.2.2.2.1) hy).trans ((point14 m c t (y 1) (y 2)).trans ?_)
  exact (congrArg (krArr (aX m c) (aG m c) (aB m c) (aWR m c)) e).symm

theorem covers15 : (cfg0.win 15).Covers := by
  refine Pipeline.Window.covers_of_indexMap_surj _ rfl (by decide) fun β => ?_
  have h0 : (β 0).val < 4 := (β 0).isLt
  have h1 : (β 1).val < 16 := (β 1).isLt
  have h2 : (β 2).val < 1 := (β 2).isLt
  have key : ∀ (x : Fin 4) (y : Fin 16), ∃ i : grid0.Coords, cc0_transform_15 i = ![x.val, y.val, 0] := by
    intro x y
    refine ⟨fun a => match a with | 0 => x | 1 => y, ?_⟩
    revert x y
    decide +kernel
  obtain ⟨i, hi⟩ := key ⟨_, h0⟩ ⟨_, h1⟩
  refine ⟨i, fun a => ?_⟩
  show cc0_transform_15 i a = _
  rw [hi]
  match a with
  | 0 => rfl
  | 1 => rfl
  | 2 => show 0 = (β 2).val; omega

theorem array15 : (dats m 0 c).arrAt 15 cfg0.N = irArr (aX m c) (aG m c) (aB m c) (aWR m c) := by
  refine (dats m 0 c).arrAt_eq_of_covers 15 _ covers15 fun t hf y => ?_
  blk_simp
  rw [after0_15]
  have hy : y = ix3 0 (y 1) (y 2) := by
    funext a
    match a with
    | 0 => exact Fin.ext (by have h : (y 0).val < 1 := (y 0).isLt; show (y 0).val = 0; omega)
    | 1 => rfl
    | 2 => rfl
  have e1 : (((cfg0.win 15).blk t).view.emb y 1).val = 512 * (grid0.coords t 1).val + (y 1).val := by
    blk_simp [index15 t]
    omega
  have e : ((cfg0.win 15).blk t).view.emb y = ix3 (grid0.coords t 0) (token (grid0.coords t 1) (y 1)) (y 2) := by
    funext a
    have h : (y 0).val < 1 := (y 0).isLt
    match a with
    | 0 => exact Fin.ext (by blk_simp [index15 t])
    | 1 => exact Fin.ext e1
    | 2 => exact Fin.ext (by blk_simp [index15 t])
  refine (congrArg ((outsAt0 m c t.val t.isLt).2.2.2.2.2.2.2.1) hy).trans ((point15 m c t (y 1) (y 2)).trans ?_)
  exact (congrArg (irArr (aX m c) (aG m c) (aB m c) (aWR m c)) e).symm

theorem covers16 : (cfg0.win 16).Covers := by
  refine Pipeline.Window.covers_of_indexMap_surj _ rfl (by decide) fun β => ?_
  have h0 : (β 0).val < 4 := (β 0).isLt
  have h1 : (β 1).val < 16 := (β 1).isLt
  have h2 : (β 2).val < 1 := (β 2).isLt
  have key : ∀ (x : Fin 4) (y : Fin 16), ∃ i : grid0.Coords, cc0_transform_16 i = ![x.val, y.val, 0] := by
    intro x y
    refine ⟨fun a => match a with | 0 => x | 1 => y, ?_⟩
    revert x y
    decide +kernel
  obtain ⟨i, hi⟩ := key ⟨_, h0⟩ ⟨_, h1⟩
  refine ⟨i, fun a => ?_⟩
  show cc0_transform_16 i a = _
  rw [hi]
  match a with
  | 0 => rfl
  | 1 => rfl
  | 2 => show 0 = (β 2).val; omega

theorem array16 : (dats m 0 c).arrAt 16 cfg0.N = grArr (aX m c) (aG m c) (aB m c) (aWR m c) := by
  refine (dats m 0 c).arrAt_eq_of_covers 16 _ covers16 fun t hf y => ?_
  blk_simp
  rw [after0_16]
  have hy : y = ix3 0 (y 1) (y 2) := by
    funext a
    match a with
    | 0 => exact Fin.ext (by have h : (y 0).val < 1 := (y 0).isLt; show (y 0).val = 0; omega)
    | 1 => rfl
    | 2 => rfl
  have e1 : (((cfg0.win 16).blk t).view.emb y 1).val = 512 * (grid0.coords t 1).val + (y 1).val := by
    blk_simp [index16 t]
    omega
  have e : ((cfg0.win 16).blk t).view.emb y = ix3 (grid0.coords t 0) (token (grid0.coords t 1) (y 1)) (y 2) := by
    funext a
    have h : (y 0).val < 1 := (y 0).isLt
    match a with
    | 0 => exact Fin.ext (by blk_simp [index16 t])
    | 1 => exact Fin.ext e1
    | 2 => exact Fin.ext (by blk_simp [index16 t])
  refine (congrArg ((outsAt0 m c t.val t.isLt).2.2.2.2.2.2.2.2.1) hy).trans ((point16 m c t (y 1) (y 2)).trans ?_)
  exact (congrArg (grArr (aX m c) (aG m c) (aB m c) (aWR m c)) e).symm

theorem covers17 : (cfg0.win 17).Covers := by
  refine Pipeline.Window.covers_of_indexMap_surj _ rfl (by decide) fun β => ?_
  have h0 : (β 0).val < 4 := (β 0).isLt
  have h1 : (β 1).val < 16 := (β 1).isLt
  have h2 : (β 2).val < 1 := (β 2).isLt
  have key : ∀ (x : Fin 4) (y : Fin 16), ∃ i : grid0.Coords, cc0_transform_17 i = ![x.val, y.val, 0] := by
    intro x y
    refine ⟨fun a => match a with | 0 => x | 1 => y, ?_⟩
    revert x y
    decide +kernel
  obtain ⟨i, hi⟩ := key ⟨_, h0⟩ ⟨_, h1⟩
  refine ⟨i, fun a => ?_⟩
  show cc0_transform_17 i a = _
  rw [hi]
  match a with
  | 0 => rfl
  | 1 => rfl
  | 2 => show 0 = (β 2).val; omega

theorem array17 : (dats m 0 c).arrAt 17 cfg0.N = lfrArr (aX m c) (aG m c) (aB m c) (aWR m c) := by
  refine (dats m 0 c).arrAt_eq_of_covers 17 _ covers17 fun t hf y => ?_
  blk_simp
  rw [after0_17]
  have hy : y = ix3 0 (y 1) (y 2) := by
    funext a
    match a with
    | 0 => exact Fin.ext (by have h : (y 0).val < 1 := (y 0).isLt; show (y 0).val = 0; omega)
    | 1 => rfl
    | 2 => rfl
  have e1 : (((cfg0.win 17).blk t).view.emb y 1).val = 512 * (grid0.coords t 1).val + (y 1).val := by
    blk_simp [index17 t]
    omega
  have e : ((cfg0.win 17).blk t).view.emb y = ix3 (grid0.coords t 0) (token (grid0.coords t 1) (y 1)) (y 2) := by
    funext a
    have h : (y 0).val < 1 := (y 0).isLt
    match a with
    | 0 => exact Fin.ext (by blk_simp [index17 t])
    | 1 => exact Fin.ext e1
    | 2 => exact Fin.ext (by blk_simp [index17 t])
  refine (congrArg ((outsAt0 m c t.val t.isLt).2.2.2.2.2.2.2.2.2.1) hy).trans ((point17 m c t (y 1) (y 2)).trans ?_)
  exact (congrArg (lfrArr (aX m c) (aG m c) (aB m c) (aWR m c)) e).symm

/-- The kernel's run. -/
theorem kernel_run : θ_run defs (onTc (τ := τ) (main (F := Ideal))) ⟨m, fun _ => 0, ρ⟩ fun r => ∀ c : Dev nD,
      r.2.mem ((c : Thread nD τ).loc main_v0_0) = xlnArr (aX m c) (aG m c) (aB m c)
      ∧ r.2.mem ((c : Thread nD τ).loc main_v0_1) = qArr (aX m c) (aG m c) (aB m c) (aW m c)
      ∧ r.2.mem ((c : Thread nD τ).loc main_v0_2) = kArr (aX m c) (aG m c) (aB m c) (aW m c)
      ∧ r.2.mem ((c : Thread nD τ).loc main_v0_3) = vArr (aX m c) (aG m c) (aB m c) (aW m c)
      ∧ r.2.mem ((c : Thread nD τ).loc main_v0_4) = ctArr (aX m c) (aG m c) (aB m c) (aWF m c) (aFB m c)
      ∧ r.2.mem ((c : Thread nD τ).loc main_v0_5) = qrArr (aX m c) (aG m c) (aB m c) (aWR m c)
      ∧ r.2.mem ((c : Thread nD τ).loc main_v0_6) = krArr (aX m c) (aG m c) (aB m c) (aWR m c)
      ∧ r.2.mem ((c : Thread nD τ).loc main_v0_7) = irArr (aX m c) (aG m c) (aB m c) (aWR m c)
      ∧ r.2.mem ((c : Thread nD τ).loc main_v0_8) = grArr (aX m c) (aG m c) (aB m c) (aWR m c)
      ∧ r.2.mem ((c : Thread nD τ).loc main_v0_9) = lfrArr (aX m c) (aG m c) (aB m c) (aWR m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (array8 m c), (h c).2.1.trans (array9 m c), (h c).2.2.1.trans (array10 m c), (h c).2.2.2.1.trans (array11 m c), (h c).2.2.2.2.1.trans (array12 m c), (h c).2.2.2.2.2.1.trans (array13 m c), (h c).2.2.2.2.2.2.1.trans (array14 m c), (h c).2.2.2.2.2.2.2.1.trans (array15 m c), (h c).2.2.2.2.2.2.2.2.1.trans (array16 m c), (h c).2.2.2.2.2.2.2.2.2.1.trans (array17 m c), (h c).2.2.2.2.2.2.2.2.2.2⟩) (Cert.Kernel4Ideal.Value.run_blocks (F := Ideal) m ρ)

end Cert.Proj

end
-- ==== Proof.Proj.Cumsum.lean ====
/-
  A running sum written as a sum over a window as long as the sequence, padded in front.
-/
module

public import proofs.«01_k».proof.Proof.Proj.Scan
public import Idealize.ShloMosaic.Lib.Pointwise

@[expose] public section

noncomputable section

namespace Cert.Proj

open Idealize.ShloMosaic

/-- A left fold that adds is the start plus the sum of the terms. -/
theorem fold_sum {ι : Type} (g : ι → EReal) (l : List ι) (z : EReal) : l.foldl (fun r a => r + g a) z = z + (l.map g).sum := by
  induction l generalizing z with
  | nil => simp
  | cons a l ih => rw [List.foldl_cons, ih, List.map_cons, List.sum_cons, add_assoc]

theorem numel_line (N : ℕ) : (⟨3, ![1, 1, N]⟩ : Shape).numel = N := by
  simp [Shape.numel, Fin.prod_univ_succ]

theorem symm_line (N : ℕ) (n : Fin (⟨3, ![1, 1, N]⟩ : Shape).numel) :
    (⟨3, ![1, 1, N]⟩ : Shape).rowMajor.symm n = ix3 (0 : Fin 1) (0 : Fin 1) (n.cast (numel_line N)) :=
  ((⟨3, ![1, 1, N]⟩ : Shape).rowMajor.symm_apply_eq).2 (Fin.ext (by
    rw [Shape.rowMajor_val_three]
    show n.val = (0 * 1 + 0) * N + n.val
    omega))

/-- The terms of the window that ends at `j`, added up, are the running sum up to `j`. -/
theorem window_sum (f : ℕ → EReal) (M j : ℕ) (hj : j < M + 1) :
    (∑ n ∈ Finset.range (M + 1), if M ≤ j + n then f (j + n - M) else 0) = prefixSum f j := by
  rw [← win_full f (M + 1) j hj, win, ← Finset.sum_range_reflect]
  refine Finset.sum_congr rfl fun n hn => ?_
  have hn := Finset.mem_range.mp hn
  by_cases h : n ≤ j
  · rw [if_pos (by omega), if_pos h]
    congr 1
    omega
  · rw [if_neg (by omega), if_neg h]

/-- The running sum along the last of three axes. -/
theorem cumsum_line {A H N M : ℕ} (hN : M + 1 = N) (x : (⟨3, ![A, H, N]⟩ : Shape).Idx → EReal) (init : (⟨0, ![]⟩ : Shape).Idx → EReal)
    (hinit : ∀ i, init i = 0)
    (h : (⟨3, ![A, H, N]⟩ : Shape).ReduceWindows (![1, 1, N] : Fin 3 → Nat) ![1, 1, 1] ![0, 0, M] ![0, 0, 0] ⟨3, ![A, H, N]⟩)
    (hu : 0 < (⟨0, ![]⟩ : Shape).numel) (a : Fin A) (b : Fin H) (j : Fin N) (f : ℕ → EReal) (hf : ∀ i : Fin N, x (ix3 a b i) = f i.val) :
    Host.reduceWindow (· + ·) ![1, 1, N] ![1, 1, 1] ![0, 0, M] ![0, 0, 0] x init h hu (ix3 a b j) = prefixSum f j.val := by
  subst hN
  have hj := j.isLt
  have ha := a.isLt
  have hb := b.isLt
  have hs : ∀ n : Fin (⟨3, ![1, 1, M + 1]⟩ : Shape).numel,
      ((⟨3, ![1, 1, M + 1]⟩ : Shape).rowMajor.symm n 0).val = 0 ∧ ((⟨3, ![1, 1, M + 1]⟩ : Shape).rowMajor.symm n 1).val = 0
        ∧ ((⟨3, ![1, 1, M + 1]⟩ : Shape).rowMajor.symm n 2).val = n.val := by
    intro n
    rw [symm_line]
    exact ⟨rfl, rfl, rfl⟩
  unfold Host.reduceWindow
  dsimp only
  rw [hinit]
  refine (fold_sum _ _ 0).trans ?_
  rw [zero_add, ← Fin.sum_univ_def]
  refine Eq.trans (Finset.sum_congr rfl fun n _ => ?_)
    ((Fin.sum_univ_eq_sum_range (fun n => if M ≤ j.val + n then f (j.val + n - M) else 0) _).trans
      ((congrArg (fun K => ∑ n ∈ Finset.range K, if M ≤ j.val + n then f (j.val + n - M) else 0) (numel_line (M + 1))).trans
        (window_sum f M j.val hj)))
  obtain ⟨w0, w1, w2⟩ := hs n
  have hn : n.val < M + 1 := (n.cast (numel_line _)).isLt
  split
  · next hin =>
    have h2 := hin 2
    change M ≤ j.val * 1 + ((⟨3, ![1, 1, M + 1]⟩ : Shape).rowMajor.symm n 2).val
      ∧ j.val * 1 + ((⟨3, ![1, 1, M + 1]⟩ : Shape).rowMajor.symm n 2).val - M < M + 1 at h2
    rw [w2] at h2
    rw [if_pos (by omega)]
    refine (congrArg x (funext fun a' => Fin.ext ?_)).trans (hf ⟨j.val + n.val - M, by omega⟩)
    match a' with
    | ⟨0, _⟩ =>
      show a.val * 1 + ((⟨3, ![1, 1, M + 1]⟩ : Shape).rowMajor.symm n 0).val - 0 = a.val
      rw [w0]; omega
    | ⟨1, _⟩ =>
      show b.val * 1 + ((⟨3, ![1, 1, M + 1]⟩ : Shape).rowMajor.symm n 1).val - 0 = b.val
      rw [w1]; omega
    | ⟨2, _⟩ =>
      show j.val * 1 + ((⟨3, ![1, 1, M + 1]⟩ : Shape).rowMajor.symm n 2).val - M = j.val + n.val - M
      rw [w2]; omega
  · next hin =>
    rw [if_neg fun hle => hin fun a' => by
      match a' with
      | ⟨0, _⟩ =>
        show 0 ≤ a.val * 1 + ((⟨3, ![1, 1, M + 1]⟩ : Shape).rowMajor.symm n 0).val
          ∧ a.val * 1 + ((⟨3, ![1, 1, M + 1]⟩ : Shape).rowMajor.symm n 0).val - 0 < A
        rw [w0]; omega
      | ⟨1, _⟩ =>
        show 0 ≤ b.val * 1 + ((⟨3, ![1, 1, M + 1]⟩ : Shape).rowMajor.symm n 1).val
          ∧ b.val * 1 + ((⟨3, ![1, 1, M + 1]⟩ : Shape).rowMajor.symm n 1).val - 0 < H
        rw [w1]; omega
      | ⟨2, _⟩ =>
        show M ≤ j.val * 1 + ((⟨3, ![1, 1, M + 1]⟩ : Shape).rowMajor.symm n 2).val
          ∧ j.val * 1 + ((⟨3, ![1, 1, M + 1]⟩ : Shape).rowMajor.symm n 2).val - M < M + 1
        rw [w2]; omega]

/-- The host's float window sum of that form is the running sum. -/
theorem cumsum_host {A H N M : ℕ} (hN : M + 1 = N) (x : Vec Ideal ⟨3, ![A, H, N]⟩ .f32) (init : Vec Ideal ⟨0, ![]⟩ .f32)
    (hinit : ∀ i, init i = (0 : EReal))
    (h : (⟨3, ![A, H, N]⟩ : Shape).ReduceWindows (![1, 1, N] : Fin 3 → Nat) ![1, 1, 1] ![0, 0, M] ![0, 0, 0] ⟨3, ![A, H, N]⟩)
    (hu : 0 < (⟨0, ![]⟩ : Shape).numel) (a : Fin A) (b : Fin H) (j : Fin N) (f : ℕ → EReal) (hf : ∀ i : Fin N, x (ix3 a b i) = f i.val) :
    Host.reduceWindowAdd (F := Ideal) (φ := .f32) ![1, 1, N] ![1, 1, 1] ![0, 0, M] ![0, 0, 0] x init h hu (ix3 a b j) = prefixSum f j.val :=
  cumsum_line hN x (fun _ => init (Shape.Idx.first hu)) (fun _ => hinit _) h (by decide) a b j f hf

end Cert.Proj

end
-- ==== Proof.Proj.Reference.lean ====
/-
  The input projection reference's results, stage by stage, as the formulas over whole arrays.
-/
module

public import proofs.«01_k».proof.Proof.Proj.Formula
public import proofs.«01_k».proof.Proof.Proj.Cumsum
public import proofs.«01_k».proof.Proof.Gen.Reference4Ideal.Read
public import Idealize.ShloMosaic.Lib.Tactic.CleanTypes

@[expose] public section

set_option maxRecDepth 16384

noncomputable section

namespace Cert.Proj

open Idealize.ShloMosaic Idealize.ShloMosaic.TcCoe Cert.Reference4Ideal Cert.Reference4Ideal.Read

variable (X : Vec Ideal Cert.Kernel4Ideal.S4x8192x1024 .f32) (G B : Vec Ideal Cert.Kernel4Ideal.S1x1024 .f32)
  (W : Vec Ideal Cert.Kernel4Ideal.S1024x1536 .bf16) (WF : Vec Ideal Cert.Kernel4Ideal.S16x1024 .bf16)
  (FB : Vec Ideal Cert.Kernel4Ideal.S8x1 .f32) (WR : Vec Ideal Cert.Kernel4Ideal.S1024x2048 .bf16)

/-! ## The layer norm -/

theorem ref_norm (b : Fin 4) (n : Fin 8192) (d : Fin 1024) : val_main_v25 (F := Ideal) X G B (ix3 b n d) = xln X G B b n d := by
  unfold xln
  unfold val_main_v25 val_main_v24 val_main_v23 val_main_v22 val_main_v21 val_main_v20 val_main_v19 val_main_v18 val_main_v17 val_main_v16 val_main_v15 val_main_v14 val_main_v13 val_main_v12 val_main_v11 val_main_v10 val_main_v9 val_main_v8 val_main_v7 val_main_v6 val_main_v5 val_main_v4 val_main_v3 val_main_v2 val_main_v1 val_main_v0
  clean_types
  pointwise [val_main_cst, val_main_cst_0, val_main_cst_1, val_main_cst_2, val_main_cst_3]
  rfl

theorem ref_xln : val_main_v25 (F := Ideal) X G B = xlnArr X G B := by
  funext y
  exact (congrArg _ (eq_ix3 y)).trans (ref_norm X G B (y 0) (y 1) (y 2))

/-! ## The projections -/

theorem ref_acol (b : Fin 4) (n : Fin 8192) (j : Fin 1536) : val_main_v27 (F := Ideal) X G B W (ix3 b n j) = acol X G B W b n j := by
  rw [val_main_v27_apply]
  refine Finset.sum_congr rfl fun k _ => ?_
  refine congrArg₂ (· * ·) (Eq.trans (congrArg _ ?_) (ref_norm X G B b n k)) (Eq.trans (val_main_v26_apply W _) (congrArg W ?_))
  · exact funext fun a => Fin.ext (by match a with | ⟨0, _⟩ => rfl | ⟨1, _⟩ => rfl | ⟨2, _⟩ => rfl)
  · exact funext fun a => Fin.ext (by match a with | ⟨0, _⟩ => rfl | ⟨1, _⟩ => rfl)

theorem ref_rcol (b : Fin 4) (n : Fin 8192) (j : Fin 2048) : val_main_v45 (F := Ideal) X G B WR (ix3 b n j) = rcol X G B WR b n j := by
  rw [val_main_v45_apply]
  refine Finset.sum_congr rfl fun k _ => ?_
  refine congrArg₂ (· * ·) (Eq.trans (congrArg _ ?_) (ref_norm X G B b n k)) (Eq.trans (val_main_v44_apply WR _) (congrArg WR ?_))
  · exact funext fun a => Fin.ext (by match a with | ⟨0, _⟩ => rfl | ⟨1, _⟩ => rfl | ⟨2, _⟩ => rfl)
  · exact funext fun a => Fin.ext (by match a with | ⟨0, _⟩ => rfl | ⟨1, _⟩ => rfl)

theorem ref_f (b : Fin 4) (n : Fin 8192) (h : Fin 8) :
    val_main_v38 (F := Ideal) X G B WF FB (ix3 b n h)
      = (∑ k : Fin 1024, WF (ix2 ⟨h.val, by omega⟩ k) * xln X G B b n k) + FB (ix2 h 0) := by
  rw [val_main_v38_apply]
  refine congrArg₂ (fun u v : EReal => u + v) ?_ ?_
  · rw [val_main_v34_apply]
    refine Finset.sum_congr rfl fun k _ => ?_
    rw [mul_comm]
    refine congrArg₂ (fun u v : EReal => u * v) ?_ (Eq.trans (congrArg _ ?_) (ref_norm X G B b n k))
    · rw [val_main_v33_apply, val_main_v32_apply, val_main_v31_apply]
      refine congrArg WF (funext fun a => Fin.ext ?_)
      match a with
      | ⟨0, _⟩ => rfl
      | ⟨1, _⟩ => rfl
    · exact funext fun a => Fin.ext (by match a with | ⟨0, _⟩ => rfl | ⟨1, _⟩ => rfl | ⟨2, _⟩ => rfl)
  · rw [val_main_v37_apply, val_main_v36_apply, val_main_v35_apply]
    refine congrArg FB (funext fun a => Fin.ext ?_)
    match a with
    | ⟨0, _⟩ => show h.val / 1 = h.val; omega
    | ⟨1, _⟩ => rfl

/-! ## The logarithm of the logistic function -/

theorem ref_gate (b : Fin 4) (n : Fin 8192) (h : Fin 8) : val_main_v39 (F := Ideal) X G B WF FB (ix3 b n h) = gate X G B WF FB b h n := by
  have e := ref_f X G B WF FB b n h
  unfold gate
  rw [← e]
  unfold val_main_v39 val_main_call0_v1 val_main_call0_call0_v11 val_main_call0_call0_v10 val_main_call0_call0_v9 val_main_call0_call0_v8 val_main_call0_call0_v7 val_main_call0_call0_v6 val_main_call0_call0_v5 val_main_call0_call0_v4 val_main_call0_call0_v3 val_main_call0_call0_v2 val_main_call0_call0_v1 val_main_call0_call0_v0 val_main_call0_v0
  generalize val_main_v38 (F := Ideal) X G B WF FB = z
  clean_types
  pointwise [val_main_call0_call0_cst]
  rw [if_neg (not_not.mpr rfl)]
  have h' := logsig_eq (z (ix3 b n h))
  rw [sub_zero] at h'
  exact h'

theorem ref_logf (b : Fin 4) (n : Fin 8192) (j : Fin 512) :
    val_main_v54 (F := Ideal) X G B WR (ix3 b n j) = logsig (rcol X G B WR b n ⟨512 + j.val, by omega⟩) := by
  have e : val_main_v47 (F := Ideal) X G B WR (ix3 b n j) = rcol X G B WR b n ⟨512 + j.val, by omega⟩ := by
    rw [val_main_v47_apply]
    refine Eq.trans (congrArg _ (funext fun a => Fin.ext ?_)) (ref_rcol X G B WR b n ⟨512 + j.val, by omega⟩)
    match a with
    | ⟨0, _⟩ => rfl
    | ⟨1, _⟩ => rfl
    | ⟨2, _⟩ => rfl
  rw [← e]
  unfold val_main_v54 val_main_call3_v1 val_main_call3_call0_v11 val_main_call3_call0_v10 val_main_call3_call0_v9 val_main_call3_call0_v8 val_main_call3_call0_v7 val_main_call3_call0_v6 val_main_call3_call0_v5 val_main_call3_call0_v4 val_main_call3_call0_v3 val_main_call3_call0_v2 val_main_call3_call0_v1 val_main_call3_call0_v0 val_main_call3_v0
  generalize val_main_v47 (F := Ideal) X G B WR = z
  clean_types
  pointwise [val_main_call3_call0_cst]
  rw [if_neg (not_not.mpr rfl)]
  have h' := logsig_eq (z (ix3 b n j))
  rw [sub_zero] at h'
  exact h'

theorem ref_logf_r (b : Fin 4) (n : Fin 8192) (j : Fin 512) :
    val_main_v71 (F := Ideal) X G B WR (ix3 b n j) = logsig (rcol X G B WR b n ⟨512 + j.val, by omega⟩) := by
  refine Eq.trans ?_ (ref_logf X G B WR b n j)
  unfold val_main_v71 val_main_v70 val_main_v69 val_main_v68 val_main_v67 val_main_v66 val_main_v65 val_main_v64 val_main_v63 val_main_v62 val_main_v61 val_main_v60 val_main_v59 val_main_v58 val_main_v57 val_main_v56 val_main_v55 val_main_v53 val_main_v52 val_main_v51 val_main_v50
  generalize val_main_v54 (F := Ideal) X G B WR = z
  clean_types
  pointwise [val_main_cst_4]
  rw [if_neg (not_not.mpr rfl), log_zero, log1p_zero, zero_add]
  exact logadd_bot _

theorem ref_lfr : val_main_v71 (F := Ideal) X G B WR = lfrArr X G B WR := by
  funext y
  exact (congrArg _ (eq_ix3 y)).trans (ref_logf_r X G B WR (y 0) (y 1) (y 2))

theorem ref_kr : val_main_v81 (F := Ideal) X G B WR = krArr X G B WR := by
  funext y
  have e := (congrArg _ (eq_ix3 y)).trans (ref_logf_r X G B WR (y 0) (y 1) (y 2))
  have h : val_main_v81 (F := Ideal) X G B WR y = -(Ideal.exp (val_main_v71 (F := Ideal) X G B WR y) - 1) := rfl
  rw [h, e]
  exact one_sub_sigm _

/-! ## The columns kept -/

/-- The host's logistic function. -/
theorem host_sigm (z : EReal) : z * Ideal.div (Ideal.ofBits .f32 0x3F800000#32) (Ideal.ofBits .f32 0x3F800000#32 + Ideal.exp (-z)) = z * sigm z := by
  rw [ofBits_one]
  rfl

theorem ref_q : val_main_v76 (F := Ideal) X G B W = qArr X G B W := by
  funext y
  have h : (y 2).val < 512 := (y 2).isLt
  have e : val_main_v28 (F := Ideal) X G B W y = acol X G B W (y 0) (y 1) ⟨(y 2).val, by omega⟩ := by
    rw [val_main_v28_apply]
    refine Eq.trans (congrArg _ (funext fun a => Fin.ext ?_)) (ref_acol X G B W (y 0) (y 1) ⟨(y 2).val, by omega⟩)
    match a with
    | ⟨0, _⟩ => rfl
    | ⟨1, _⟩ => rfl
    | ⟨2, _⟩ => rfl
  have h' : val_main_v76 (F := Ideal) X G B W y = val_main_v28 (F := Ideal) X G B W y * Ideal.ofBits .f32 0x3E000000#32 := by
    rw [val_main_v76_apply, val_main_v75_apply, val_main_v74_apply, val_main_cst_5_apply]
    rfl
  rw [h', e]
  rfl

theorem ref_k : val_main_v77 (F := Ideal) X G B W = kArr X G B W := by
  funext y
  have h : (y 2).val < 512 := (y 2).isLt
  have e : val_main_v29 (F := Ideal) X G B W y = acol X G B W (y 0) (y 1) ⟨512 + (y 2).val, by omega⟩ := by
    rw [val_main_v29_apply]
    refine Eq.trans (congrArg _ (funext fun a => Fin.ext ?_)) (ref_acol X G B W (y 0) (y 1) ⟨512 + (y 2).val, by omega⟩)
    match a with
    | ⟨0, _⟩ => rfl
    | ⟨1, _⟩ => rfl
    | ⟨2, _⟩ => rfl
  exact (val_main_v77_apply X G B W y).trans e

theorem ref_v : val_main_v78 (F := Ideal) X G B W = vArr X G B W := by
  funext y
  have h : (y 2).val < 512 := (y 2).isLt
  have e : val_main_v30 (F := Ideal) X G B W y = acol X G B W (y 0) (y 1) ⟨1024 + (y 2).val, by omega⟩ := by
    rw [val_main_v30_apply]
    refine Eq.trans (congrArg _ (funext fun a => Fin.ext ?_)) (ref_acol X G B W (y 0) (y 1) ⟨1024 + (y 2).val, by omega⟩)
    match a with
    | ⟨0, _⟩ => rfl
    | ⟨1, _⟩ => rfl
    | ⟨2, _⟩ => rfl
  exact (val_main_v78_apply X G B W y).trans e

theorem ref_ir : val_main_v82 (F := Ideal) X G B WR = irArr X G B WR := by
  funext y
  have h : (y 2).val < 512 := (y 2).isLt
  have e : val_main_v48 (F := Ideal) X G B WR y = rcol X G B WR (y 0) (y 1) ⟨1024 + (y 2).val, by omega⟩ := by
    rw [val_main_v48_apply]
    refine Eq.trans (congrArg _ (funext fun a => Fin.ext ?_)) (ref_rcol X G B WR (y 0) (y 1) ⟨1024 + (y 2).val, by omega⟩)
    match a with
    | ⟨0, _⟩ => rfl
    | ⟨1, _⟩ => rfl
    | ⟨2, _⟩ => rfl
  exact (val_main_v82_apply X G B WR y).trans e

theorem ref_qr : val_main_v80 (F := Ideal) X G B WR = qrArr X G B WR := by
  funext y
  have h : (y 2).val < 512 := (y 2).isLt
  have e : val_main_v46 (F := Ideal) X G B WR y = rcol X G B WR (y 0) (y 1) ⟨(y 2).val, by omega⟩ := by
    rw [val_main_v46_apply]
    refine Eq.trans (congrArg _ (funext fun a => Fin.ext ?_)) (ref_rcol X G B WR (y 0) (y 1) ⟨(y 2).val, by omega⟩)
    match a with
    | ⟨0, _⟩ => rfl
    | ⟨1, _⟩ => rfl
    | ⟨2, _⟩ => rfl
  have h' : val_main_v80 (F := Ideal) X G B WR y
      = val_main_v46 (F := Ideal) X G B WR y * Ideal.div (Ideal.ofBits .f32 0x3F800000#32) (Ideal.ofBits .f32 0x3F800000#32 + Ideal.exp (-val_main_v46 (F := Ideal) X G B WR y)) := by
    rw [val_main_v80_apply, val_main_v79_apply, val_main_call4_v5_apply, val_main_call4_v4_apply, val_main_call4_v3_apply, val_main_call4_v2_apply,
      val_main_call4_v1_apply, val_main_call4_v0_apply, val_main_call4_cst_apply, val_main_call4_cst_0_apply]
    rfl
  rw [h', host_sigm, e]
  rfl

theorem ref_gr : val_main_v84 (F := Ideal) X G B WR = grArr X G B WR := by
  funext y
  have h : (y 2).val < 512 := (y 2).isLt
  have e : val_main_v49 (F := Ideal) X G B WR y = rcol X G B WR (y 0) (y 1) ⟨1536 + (y 2).val, by omega⟩ := by
    rw [val_main_v49_apply]
    refine Eq.trans (congrArg _ (funext fun a => Fin.ext ?_)) (ref_rcol X G B WR (y 0) (y 1) ⟨1536 + (y 2).val, by omega⟩)
    match a with
    | ⟨0, _⟩ => rfl
    | ⟨1, _⟩ => rfl
    | ⟨2, _⟩ => rfl
  have h' : val_main_v84 (F := Ideal) X G B WR y
      = val_main_v49 (F := Ideal) X G B WR y * Ideal.div (Ideal.ofBits .f32 0x3F800000#32) (Ideal.ofBits .f32 0x3F800000#32 + Ideal.exp (-val_main_v49 (F := Ideal) X G B WR y)) := by
    rw [val_main_v84_apply, val_main_v83_apply, val_main_call5_v5_apply, val_main_call5_v4_apply, val_main_call5_v3_apply, val_main_call5_v2_apply,
      val_main_call5_v1_apply, val_main_call5_v0_apply, val_main_call5_cst_apply, val_main_call5_cst_0_apply]
    rfl
  rw [h', host_sigm, e]
  rfl

/-! ## The running sums -/

theorem ref_sum (b : Fin 4) (h : Fin 8) (j : Fin 8192) :
    val_main_v41 (F := Ideal) X G B WF FB (ix3 b h j) = prefixSum (gSeq X G B WF FB b h) j.val := by
  unfold val_main_v41
  have hi : ∀ i, val_main_call1_call0_v0 (F := Ideal) i = (0 : EReal) := fun i => by
    rw [val_main_call1_call0_v0_apply, val_main_call1_call0_cst_apply]
    exact ofBits_zero'
  have hg : ∀ i : Fin 8192, val_main_v40 (F := Ideal) X G B WF FB (ix3 b h i) = gSeq X G B WF FB b h i.val := fun i => by
    rw [val_main_v40_apply]
    unfold gSeq
    rw [dif_pos i.isLt]
    refine Eq.trans (congrArg _ (funext fun a => Fin.ext ?_)) (ref_gate X G B WF FB b i h)
    match a with
    | ⟨0, _⟩ => rfl
    | ⟨1, _⟩ => rfl
    | ⟨2, _⟩ => rfl
  generalize val_main_v40 (F := Ideal) X G B WF FB = x at hg ⊢
  generalize val_main_call1_call0_v0 (F := Ideal) = v at hi ⊢
  exact cumsum_host (by norm_num) x v hi _ _ b h j _ hg

theorem ref_group (b g : Fin 4) (u : Fin 2) (j : Fin 8192) :
    val_main_v42 (F := Ideal) X G B WF FB (ix4 b g u j) = prefixSum (gSeq X G B WF FB b ⟨2 * g.val + u.val, by omega⟩) j.val := by
  rw [val_main_v42_apply]
  refine Eq.trans (congrArg _ (funext fun a => Fin.ext ?_)) (ref_sum X G B WF FB b ⟨2 * g.val + u.val, by omega⟩ j)
  match a with
  | ⟨0, _⟩ => show (((b.val * 4 + g.val) * 2 + u.val) * 8192 + j.val) / 65536 = b.val; omega
  | ⟨1, _⟩ => show (((b.val * 4 + g.val) * 2 + u.val) * 8192 + j.val) / 8192 % 8 = 2 * g.val + u.val; omega
  | ⟨2, _⟩ => show (((b.val * 4 + g.val) * 2 + u.val) * 8192 + j.val) % 8192 = j.val; omega

theorem ref_rows (b g : Fin 4) (u : Fin 8) (j : Fin 8192) :
    val_main_v43 (F := Ideal) X G B WF FB (ix4 b g u j)
      = if hu : u.val < 2 then prefixSum (gSeq X G B WF FB b ⟨2 * g.val + u.val, by omega⟩) j.val else 0 := by
  have e : ∀ u' : Fin 2, val_main_v42 (F := Ideal) X G B WF FB (ix4 b g u' j) = prefixSum (gSeq X G B WF FB b ⟨2 * g.val + u'.val, by omega⟩) j.val :=
    fun u' => ref_group X G B WF FB b g u' j
  unfold val_main_v43
  generalize val_main_v42 (F := Ideal) X G B WF FB = z at e
  clean_types
  pointwise [val_main_call2_v0, val_main_c]
  by_cases hu : u.val < 2
  · rw [dif_pos hu, dif_pos hu]
    exact e ⟨u.val, hu⟩
  · rw [dif_neg hu, dif_neg hu]
    show ((((0#32 : BitVec 32).toInt : ℝ)) : EReal) = 0
    simp

theorem ref_ct : val_main_v43 (F := Ideal) X G B WF FB = ctArr X G B WF FB := by
  funext y
  exact (congrArg _ (eq_ix4 y)).trans (ref_rows X G B WF FB (y 0) (y 1) (y 2) (y 3))

end Cert.Proj

end
-- ==== Proof.Proj2.Bound.lean ====
/-
  The learned lower bound of the recurrence's forget gate, and the gate built from it, in the two ways they are written.
-/
module

public import proofs.«01_k».proof.Proof.Proj.Scalar

@[expose] public section

noncomputable section

namespace Cert.Proj2

open Idealize.ShloMosaic Cert.Proj

/-- The second of two softmax weights. -/
def soft (a b : EReal) : EReal := Ideal.div (Ideal.exp (b - max a b)) (Ideal.exp (a - max a b) + Ideal.exp (b - max a b))

/-- The logarithm of the forget gate at lower bound `l` and pre-activation `z`. -/
def lfr (l z : EReal) : EReal :=
  max (Ideal.log l) (Ideal.log (1 - l) + logsig z)
    + Ideal.log (1 + Ideal.exp (-max (Ideal.log l - (Ideal.log (1 - l) + logsig z)) (-(Ideal.log l - (Ideal.log (1 - l) + logsig z)))))

theorem ofBits_bot : Ideal.ofBits .f32 0xFF800000#32 = ⊥ := by
  simp [Ideal.ofBits, Ideal.ieee]

/-- The maximum of two elements as a fold. -/
theorem fold_max_two (f : Fin 2 → EReal) : Finset.fold max (Ideal.ofBits .f32 0xFF800000#32) f Finset.univ = max (f 0) (f 1) := by
  rw [ofBits_bot]
  show Finset.univ.sup f = _
  simp [Fin.univ_succ]

theorem exp_coe (r : ℝ) : Ideal.exp (r : EReal) = ((Real.exp r : ℝ) : EReal) := rfl

theorem log_coe {r : ℝ} (h : 0 < r) : Ideal.log (r : EReal) = ((Real.log r : ℝ) : EReal) := by
  show (if r ≤ 0 then (⊥ : EReal) else _) = _
  rw [if_neg (not_le.mpr h)]

theorem div_coe (x : ℝ) {y : ℝ} (h : y ≠ 0) : Ideal.div (x : EReal) (y : EReal) = ((x / y : ℝ) : EReal) := by
  unfold Ideal.div
  rw [if_neg (by rw [← EReal.coe_zero]; exact fun hh => h (EReal.coe_injective hh)), ← EReal.coe_inv, ← EReal.coe_mul, div_eq_mul_inv]

theorem max_coe (x y : ℝ) : max (x : EReal) (y : EReal) = ((max x y : ℝ) : EReal) := (EReal.coe_strictMono.monotone.map_max).symm

/-- Of two real numbers the first softmax weight and the second are real, and the second is between zero and one. -/
theorem soft_real (a b : ℝ) : ∃ p l : ℝ, 0 < l ∧ l < 1 ∧ soft a b = (l : EReal)
    ∧ Ideal.div (Ideal.exp ((a : EReal) - max (a : EReal) b)) (Ideal.exp ((a : EReal) - max (a : EReal) b) + Ideal.exp ((b : EReal) - max (a : EReal) b)) = (p : EReal) := by
  have hp := Real.exp_pos (a - max a b)
  have hq := Real.exp_pos (b - max a b)
  refine ⟨Real.exp (a - max a b) / (Real.exp (a - max a b) + Real.exp (b - max a b)),
    Real.exp (b - max a b) / (Real.exp (a - max a b) + Real.exp (b - max a b)), by positivity, ?_, ?_, ?_⟩
  · rw [div_lt_one (by positivity)]; linarith
  · unfold soft
    rw [max_coe, ← EReal.coe_sub, ← EReal.coe_sub, exp_coe, exp_coe, ← EReal.coe_add, div_coe _ (by positivity)]
  · rw [max_coe, ← EReal.coe_sub, ← EReal.coe_sub, exp_coe, exp_coe, ← EReal.coe_add, div_coe _ (by positivity)]

/-- A running sum of two less its first term. -/
theorem sum_sub (p l : ℝ) : ((p : EReal) + (l : EReal)) - (p : EReal) = (l : EReal) := by
  rw [← EReal.coe_add, ← EReal.coe_sub]
  congr 1
  ring

theorem logadd_real (a b : ℝ) : max (a : EReal) b + Ideal.log (1 + Ideal.exp (-max ((a : EReal) - b) (-((a : EReal) - b))))
    = ((Real.log (Real.exp a + Real.exp b) : ℝ) : EReal) := by
  rw [← EReal.coe_sub, ← EReal.coe_neg, max_coe, max_coe, ← EReal.coe_neg, exp_coe, ← EReal.coe_one, ← EReal.coe_add, log_coe (by positivity),
    ← EReal.coe_add]
  congr 1
  rw [← Real.exp_eq_exp, Real.exp_add, Real.exp_log (by positivity), Real.exp_log (by positivity)]
  rcases le_total a b with h | h
  · rw [max_eq_right h, max_eq_right (by linarith), mul_add, mul_one, ← Real.exp_add, add_comm]
    congr 2
    ring
  · rw [max_eq_left h, max_eq_left (by linarith), mul_add, mul_one, ← Real.exp_add]
    congr 2
    ring

theorem logsig_cases (z : EReal) : (z = ⊥ ∧ logsig z = ⊥) ∨ ∃ s : ℝ, logsig z = (s : EReal) := by
  obtain ⟨r, hr⟩ := tail_real z
  induction z with
  | bot => exact Or.inl ⟨rfl, by unfold logsig; rw [hr]; simp⟩
  | top => exact Or.inr ⟨-r, by unfold logsig; rw [hr]; simp⟩
  | coe x =>
    refine Or.inr ⟨min x 0 - r, ?_⟩
    unfold logsig
    rw [hr, EReal.coe_sub]
    congr 1

/-- One minus the forget gate is one minus the bound, times the logistic function of the negated pre-activation. -/
theorem one_sub_gate {l : ℝ} (h0 : 0 < l) (h1 : l < 1) (z : EReal) :
    -(Ideal.exp (lfr l z) - 1) = (1 - (l : EReal)) * sigm (-z) := by
  have e1 : (1 : EReal) - (l : EReal) = ((1 - l : ℝ) : EReal) := by rw [← EReal.coe_one, ← EReal.coe_sub]
  have hl : 0 < 1 - l := by linarith
  unfold lfr
  rw [← one_sub_sigm, e1, log_coe h0, log_coe hl]
  rcases logsig_cases z with ⟨_, hz⟩ | ⟨s, hs⟩
  · rw [hz]
    simp only [EReal.add_bot, EReal.coe_sub_bot, EReal.neg_top, max_eq_left, bot_le, exp_bot, add_zero, log_one, max_bot_right, zero_sub]
    rw [exp_coe, Real.exp_log h0]
    rw [← EReal.coe_one, ← EReal.coe_sub, ← EReal.coe_neg, ← EReal.coe_neg, ← EReal.coe_neg, ← EReal.coe_mul]
    congr 1
    ring
  · rw [hs, ← EReal.coe_add, logadd_real, exp_coe, exp_coe, Real.exp_log (by positivity), Real.exp_add, Real.exp_log h0, Real.exp_log hl,
      ← EReal.coe_one, ← EReal.coe_sub, ← EReal.coe_sub, ← EReal.coe_neg, ← EReal.coe_neg, ← EReal.coe_mul]
    congr 1
    ring

end Cert.Proj2

end
-- ==== Proof.Proj2.Tile.lean ====
/-
  The second layer's input projection: its stored values, read at an element. The columns of the three matrix products, the
  recurrence's gates above their learned lower bound, and the running sum.
-/
module

public import proofs.«01_k».proof.Proof.Gen.Kernel5Ideal.Skeleton
public import proofs.«01_k».proof.Proof.Proj.Tile
public import proofs.«01_k».proof.Proof.Proj2.Bound
public import Idealize.ShloMosaic.Lib.Pointwise

@[expose] public section

set_option maxRecDepth 16384

noncomputable section

namespace Cert.Proj2

open Idealize.ShloMosaic Cert.Kernel5Ideal Cert.Kernel5Ideal.Gen
open Cert.Proj (sigm logsig ofBits_zero' ofBits_one prefixSum win win_one win_full step step_1 step_2 step_4 step_8 step_16 step_32 step_64
  step_128 step_256 gates select_test slt_2 lanes rowIds)

/-- The lower bound of one column, from the two rows of raw bounds. -/
def bound (raw : Vec Ideal S2x512 .f32) (n : Fin 512) : EReal := soft (raw (ix2 0 n)) (raw (ix2 1 n))

variable (x : Vec Ideal S1x512x1024 .f32) (w : Vec Ideal S1024x1536 .bf16)
  (wf : Vec Ideal S16x1024 .bf16) (fb : Vec Ideal S8x1 .f32) (wr : Vec Ideal S1024x2048 .bf16) (raw : Vec Ideal S2x512 .f32)

theorem pay2_apply (r : Fin 512) (d : Fin 1024) : k0_pay2 x (ix2 r d) = x (ix3 0 r d) := by
  pointwise [k0_pay2]

theorem pay3_apply (r : Fin 512) (n : Fin 1536) : k0_pay3 x w (ix2 r n) = ∑ k : Fin 1024, x (ix3 0 r k) * w (ix2 k n) := by
  pointwise [k0_pay3]
  simp only [pay2_apply]

theorem pay4_apply (r : Fin 512) (n : Fin 512) : k0_pay4 x w (ix3 0 r n)
    = (∑ k : Fin 1024, x (ix3 0 r k) * w (ix2 k ⟨n.val, by omega⟩)) * Ideal.ofBits .f32 0x3E000000#32 := by
  pointwise [k0_pay4]
  rw [pay3_apply]

theorem pay5_apply (r : Fin 512) (n : Fin 512) : k0_pay5 x w (ix3 0 r n)
    = ∑ k : Fin 1024, x (ix3 0 r k) * w (ix2 k ⟨512 + n.val, by omega⟩) := by
  pointwise [k0_pay5]
  rw [pay3_apply]

theorem pay6_apply (r : Fin 512) (n : Fin 512) : k0_pay6 x w (ix3 0 r n)
    = ∑ k : Fin 1024, x (ix3 0 r k) * w (ix2 k ⟨1024 + n.val, by omega⟩) := by
  pointwise [k0_pay6]
  rw [pay3_apply]

theorem pay23_apply (r : Fin 512) (n : Fin 2048) : k0_pay23 (k0_pay2 x) wr (ix2 r n) = ∑ k : Fin 1024, x (ix3 0 r k) * wr (ix2 k n) := by
  pointwise [k0_pay23]
  simp only [pay2_apply]

theorem pay26_apply (r : Fin 512) (n : Fin 512) : k0_pay26 (k0_pay24 (k0_pay2 x) wr) k0_pay25 (ix3 0 r n)
    = (∑ k : Fin 1024, x (ix3 0 r k) * wr (ix2 k ⟨n.val, by omega⟩)) * sigm (∑ k : Fin 1024, x (ix3 0 r k) * wr (ix2 k ⟨n.val, by omega⟩)) := by
  pointwise [k0_pay26, k0_pay24, k0_pay25]
  rw [pay23_apply]
  simp only [ofBits_zero', ofBits_one, zero_sub]
  rfl

theorem pay27_apply (r : Fin 512) (n : Fin 512) : k0_pay27 (k0_pay23 (k0_pay2 x) wr) (ix2 r n)
    = ∑ k : Fin 1024, x (ix3 0 r k) * wr (ix2 k ⟨512 + n.val, by omega⟩) := by
  pointwise [k0_pay27]
  rw [pay23_apply]

theorem pay28_apply (n : Fin 512) : k0_pay28 raw (ix2 0 n) = bound raw n := by
  pointwise [k0_pay28]
  simp only [fold_max_two, Fin.sum_univ_two, Finset.univ_unique, Finset.sum_singleton]
  rfl

theorem pay30_apply (r : Fin 512) (n : Fin 512) : k0_pay30 (k0_pay23 (k0_pay2 x) wr) raw (ix2 r n)
    = Ideal.log (1 - bound raw n) + logsig (∑ k : Fin 1024, x (ix3 0 r k) * wr (ix2 k ⟨512 + n.val, by omega⟩)) := by
  pointwise [k0_pay30]
  rw [pay27_apply, pay28_apply]
  simp only [ofBits_zero', ofBits_one, zero_sub]
  rfl

theorem pay33_apply (r : Fin 512) (n : Fin 512) :
    k0_pay33 (k0_pay31 (k0_pay23 (k0_pay2 x) wr) raw) (k0_pay32 (k0_pay23 (k0_pay2 x) wr) raw) (ix3 0 r n)
    = lfr (bound raw n) (∑ k : Fin 1024, x (ix3 0 r k) * wr (ix2 k ⟨512 + n.val, by omega⟩)) := by
  pointwise [k0_pay33, k0_pay31, k0_pay32, k0_pay29]
  rw [pay30_apply, pay28_apply]
  simp only [ofBits_zero', ofBits_one, zero_sub]
  rfl

theorem pay34_apply (r : Fin 512) (n : Fin 512) : k0_pay34 (k0_pay27 (k0_pay23 (k0_pay2 x) wr)) (k0_pay28 raw) (ix3 0 r n)
    = (1 - bound raw n) * sigm (-∑ k : Fin 1024, x (ix3 0 r k) * wr (ix2 k ⟨512 + n.val, by omega⟩)) := by
  pointwise [k0_pay34]
  rw [pay27_apply, pay28_apply]
  simp only [ofBits_zero', ofBits_one, zero_sub]
  rfl

theorem pay35_apply (r : Fin 512) (n : Fin 512) : k0_pay35 (k0_pay23 (k0_pay2 x) wr) (ix3 0 r n)
    = ∑ k : Fin 1024, x (ix3 0 r k) * wr (ix2 k ⟨1024 + n.val, by omega⟩) := by
  pointwise [k0_pay35]
  rw [pay23_apply]

theorem pay1_apply (r : Fin 512) (n : Fin 512) : k0_pay1 (k0_pay36 (k0_pay23 (k0_pay2 x) wr)) (k0_pay37 (k0_pay23 (k0_pay2 x) wr)) (ix3 0 r n)
    = (∑ k : Fin 1024, x (ix3 0 r k) * wr (ix2 k ⟨1536 + n.val, by omega⟩)) * sigm (∑ k : Fin 1024, x (ix3 0 r k) * wr (ix2 k ⟨1536 + n.val, by omega⟩)) := by
  pointwise [k0_pay1, k0_pay36, k0_pay37]
  rw [pay23_apply]
  simp only [ofBits_zero', ofBits_one, zero_sub]
  rfl

/-- The logarithm of the gate at a row and a token of the block. -/
def gateRow (x : Vec Ideal S1x512x1024 .f32) (wf : Vec Ideal S16x1024 .bf16) (fb : Vec Ideal S8x1 .f32)
    (h : Fin 8) (r : Fin 512) : EReal :=
  logsig ((∑ k : Fin 1024, wf (ix2 ⟨h.val, by omega⟩ k) * x (ix3 0 r k)) + fb (ix2 h 0))

/-- The gates of one row as a sequence. -/
def gateSeq (h : Fin 8) (j : ℕ) : EReal := if hj : j < 512 then gateRow x wf fb h ⟨j, hj⟩ else 0

theorem gates_apply (h : Fin 8) (l : Fin 512) : gates (k0_pay2 x) wf fb (ix2 h l) = gateRow x wf fb h l := by
  pointwise [gates]
  simp only [pay2_apply, ofBits_zero', ofBits_one, zero_sub]
  rfl

/-- The block's running sum after the first five doublings. -/
abbrev part (x : Vec Ideal S1x512x1024 .f32) (wf : Vec Ideal S16x1024 .bf16) (fb : Vec Ideal S8x1 .f32) : FVec Ideal S8x512 .f32 :=
  k0_pay11 (k0_pay8 x wf fb) (k0_pay9 x wf fb) k0_pay10

/-- The same sum turned by thirty-two lanes. -/
abbrev turned (x : Vec Ideal S1x512x1024 .f32) (wf : Vec Ideal S16x1024 .bf16) (fb : Vec Ideal S8x1 .f32) : FVec Ideal S8x512 .f32 :=
  k0_pay13 (k0_pay8 x wf fb) (k0_pay9 x wf fb) k0_pay10

theorem part_eq : part x wf fb = step 16#32 (step 8#32 (step 4#32 (step 2#32 (step 1#32 (gates (k0_pay2 x) wf fb))))) := rfl

/-- The block's running sum with the carry added. -/
def tile (cy : Vec Ideal S8x1 .f32) : FVec Ideal S8x512 .f32 :=
  k0_pay16 lanes (part x wf fb) k0_pay12 (turned x wf fb) k0_pay14 cy

theorem tile_eq (cy : Vec Ideal S8x1 .f32) :
    tile x wf fb cy = addf (step 256#32 (step 128#32 (step 64#32 (step 32#32 (part x wf fb))))) (broadcastTo S8x512 cy broadcasts_S8x1_S8x512) := rfl

theorem tile_apply (cy : Vec Ideal S8x1 .f32) (h : Fin 8) (l : Fin 512) :
    tile x wf fb cy (ix2 h l) = prefixSum (gateSeq x wf fb h) l.val + cy (ix2 h 0) := by
  rw [tile_eq, part_eq]
  have key : step 256#32 (step 128#32 (step 64#32 (step 32#32 (step 16#32 (step 8#32 (step 4#32 (step 2#32 (step 1#32
      (gates (k0_pay2 x) wf fb))))))))) (ix2 h l) = prefixSum (gateSeq x wf fb h) l.val := by
    refine (step_256 (gateSeq x wf fb h) _ h (step_128 _ _ h (step_64 _ _ h (step_32 _ _ h (step_16 _ _ h (step_8 _ _ h
      (step_4 _ _ h (step_2 _ _ h (step_1 _ _ h fun l => ?_)))))))) l).trans (win_full _ _ _ l.isLt)
    rw [gates_apply, win_one, gateSeq, dif_pos l.isLt]
  rw [← key]
  generalize step 256#32 _ = z
  pointwise []

variable (cy : Vec Ideal S8x1 .f32)

theorem pay17_apply (h : Fin 8) (j : Fin 128) :
    k0_pay17 lanes (part x wf fb) k0_pay12 (turned x wf fb) k0_pay14 cy (ix2 h j) = tile x wf fb cy (ix2 h 511) := by
  unfold tile
  generalize part x wf fb = p
  generalize turned x wf fb = q
  pointwise [k0_pay17]

theorem rows19 (u : Fin 8) (l : Fin 512) :
    k0_pay19 (k0_pay18 lanes (part x wf fb) k0_pay12 (turned x wf fb) k0_pay14 cy) (ix4 0 0 u l)
    = if hu : u.val < 2 then tile x wf fb cy (ix2 ⟨u.val, by omega⟩ l) else 0 := by
  unfold tile
  generalize part x wf fb = p
  generalize turned x wf fb = q
  pointwise [k0_pay19, k0_pay18]
  exact select_test (slt_2 u) _ _

theorem rows20 (d : FVec Ideal S8x512 .f32) (u : Fin 8) (l : Fin 512) : k0_pay20 d rowIds (ix4 0 0 u l)
    = if hu : u.val < 2 then d (ix2 ⟨2 + u.val, by omega⟩ l) else 0 := by
  pointwise [k0_pay20, rowIds]
  rw [select_test (slt_2 u)]
  split
  · rename_i h
    exact congrArg (fun i => d (ix2 i l)) (Fin.ext (by show (u.val + 8 - 6) % 8 = 2 + u.val; omega))
  · rfl

theorem rows21 (d : FVec Ideal S8x512 .f32) (u : Fin 8) (l : Fin 512) : k0_pay21 d rowIds (ix4 0 0 u l)
    = if hu : u.val < 2 then d (ix2 ⟨4 + u.val, by omega⟩ l) else 0 := by
  pointwise [k0_pay21, rowIds]
  rw [select_test (slt_2 u)]
  split
  · rename_i h
    exact congrArg (fun i => d (ix2 i l)) (Fin.ext (by show (u.val + 8 - 4) % 8 = 4 + u.val; omega))
  · rfl

theorem rows22 (d : FVec Ideal S8x512 .f32) (u : Fin 8) (l : Fin 512) : k0_pay22 d rowIds (ix4 0 0 u l)
    = if hu : u.val < 2 then d (ix2 ⟨6 + u.val, by omega⟩ l) else 0 := by
  pointwise [k0_pay22, rowIds]
  rw [select_test (slt_2 u)]
  split
  · rename_i h
    exact congrArg (fun i => d (ix2 i l)) (Fin.ext (by show (u.val + 8 - 2) % 8 = 6 + u.val; omega))
  · rfl

end Cert.Proj2

end
-- ==== Proof.Proj2.Formula.lean ====
/-
  The second layer's input projection as formulas: the columns of the projections, the gates, and the running sums of the
  forgetting attention's gate logarithms.
-/
module

public import proofs.«01_k».proof.Proof.Proj2.Tile
public import Idealize.ShloMosaic.Lib.Pointwise

@[expose] public section

noncomputable section

namespace Cert.Proj2

open Idealize.ShloMosaic Cert.Kernel5Ideal
open Cert.Proj (sigm logsig prefixSum)

variable (X : Vec Ideal S4x8192x1024 .f32) (W : Vec Ideal S1024x1536 .bf16)
  (WF : Vec Ideal S16x1024 .bf16) (FB : Vec Ideal S8x1 .f32) (WR : Vec Ideal S1024x2048 .bf16) (RAW : Vec Ideal S2x512 .f32)

/-- A token times one column of the attention's projection. -/
def acol (b : Fin 4) (n : Fin 8192) (j : Fin 1536) : EReal := ∑ k : Fin 1024, X (ix3 b n k) * W (ix2 k j)

/-- A token times one column of the recurrence's projection. -/
def rcol (b : Fin 4) (n : Fin 8192) (j : Fin 2048) : EReal := ∑ k : Fin 1024, X (ix3 b n k) * WR (ix2 k j)

/-- The logarithm of a token's forget gate at one head. -/
def gate (b : Fin 4) (h : Fin 8) (n : Fin 8192) : EReal :=
  logsig ((∑ k : Fin 1024, WF (ix2 ⟨h.val, by omega⟩ k) * X (ix3 b n k)) + FB (ix2 h 0))

/-- One head's gates along the sequence. -/
def gSeq (b : Fin 4) (h : Fin 8) (j : ℕ) : EReal := if hj : j < 8192 then gate X WF FB b h ⟨j, hj⟩ else 0

def qArr : Vec Ideal S4x8192x512 .bf16 := fun y =>
  acol X W (y 0) (y 1) ⟨(y 2).val, by have h : (y 2).val < 512 := (y 2).isLt; omega⟩ * Ideal.ofBits .f32 0x3E000000#32

def kArr : Vec Ideal S4x8192x512 .bf16 := fun y =>
  acol X W (y 0) (y 1) ⟨512 + (y 2).val, by have h : (y 2).val < 512 := (y 2).isLt; omega⟩

def vArr : Vec Ideal S4x8192x512 .bf16 := fun y =>
  acol X W (y 0) (y 1) ⟨1024 + (y 2).val, by have h : (y 2).val < 512 := (y 2).isLt; omega⟩

/-- The running sums, two heads to a group of eight rows. -/
def ctArr : Vec Ideal S4x4x8x8192 .f32 := fun y =>
  if hu : (y 2).val < 2 then
    prefixSum (gSeq X WF FB (y 0) ⟨2 * (y 1).val + (y 2).val, by have h : (y 1).val < 4 := (y 1).isLt; omega⟩) (y 3).val
  else 0

def qrArr : Vec Ideal S4x8192x512 .bf16 := fun y =>
  rcol X WR (y 0) (y 1) ⟨(y 2).val, by have h : (y 2).val < 512 := (y 2).isLt; omega⟩
    * sigm (rcol X WR (y 0) (y 1) ⟨(y 2).val, by have h : (y 2).val < 512 := (y 2).isLt; omega⟩)

def krArr : Vec Ideal S4x8192x512 .bf16 := fun y =>
  (1 - bound RAW (y 2)) * sigm (-rcol X WR (y 0) (y 1) ⟨512 + (y 2).val, by have h : (y 2).val < 512 := (y 2).isLt; omega⟩)

def irArr : Vec Ideal S4x8192x512 .bf16 := fun y =>
  rcol X WR (y 0) (y 1) ⟨1024 + (y 2).val, by have h : (y 2).val < 512 := (y 2).isLt; omega⟩

def grArr : Vec Ideal S4x8192x512 .bf16 := fun y =>
  rcol X WR (y 0) (y 1) ⟨1536 + (y 2).val, by have h : (y 2).val < 512 := (y 2).isLt; omega⟩
    * sigm (rcol X WR (y 0) (y 1) ⟨1536 + (y 2).val, by have h : (y 2).val < 512 := (y 2).isLt; omega⟩)

def lfrArr : Vec Ideal S4x8192x512 .f32 := fun y =>
  lfr (bound RAW (y 2)) (rcol X WR (y 0) (y 1) ⟨512 + (y 2).val, by have h : (y 2).val < 512 := (y 2).isLt; omega⟩)

end Cert.Proj2

end
-- ==== Proof.Proj2.Point.lean ====
/-
  One grid point of the second layer's input projection: what each stored block holds at an element, at a sequence's first
  block and at the others, and the carry it leaves.
-/
module

public import proofs.«01_k».proof.Proof.Gen.Kernel5Ideal.Frame
public import proofs.«01_k».proof.Proof.Proj2.Tile
public import Idealize.ShloMosaic.Lib.Pipeline.ValueKit
public import Idealize.ShloMosaic.Lib.WritesUnit

@[expose] public section

set_option maxRecDepth 16384

noncomputable section

namespace Cert.Proj2

open Idealize.ShloMosaic Idealize.ShloMosaic.TcCoe Idealize.ShloMosaic.Tactic Idealize.SL Cert.Kernel5Ideal Cert.Kernel5Ideal.Gen
open Cert.Proj (sigm logsig prefixSum lanes rowIds)

/-- A first column of the carry. -/
def col (s : Vec Ideal S8x128 .f32) : Vec Ideal S8x1 .f32 := fun y => s (ix2 (y 0) 0)

theorem at_x (arg : Memref sig .tc .vmem S1x512x1024 .f32) (harg : arg.IsWhole) (x : Vec Ideal S1x512x1024 .f32) :
    View.readAt (Elt Ideal) arg.view (Rect.unit (s := S1x512x1024) ![0, 0, 0] S1x512x1024.size inb_S1x512x1024_S1x512x1024_0_0_0).toLoadRect (harg.unread x) = x := by
  refine (congrArg (fun g => View.ld (Val := Elt Ideal) (e' := .f32) g (Rect.unit (s := S1x512x1024) ![0, 0, 0] S1x512x1024.size inb_S1x512x1024_S1x512x1024_0_0_0)) (harg.read_unread x)).trans ?_
  exact funext fun y => View.ld_unit_apply_of (Val := Elt Ideal) _ _ _ _ y y fun a => by
    match a with
    | 0 => exact (Nat.zero_add _).symm
    | 1 => exact (Nat.zero_add _).symm
    | 2 => exact (Nat.zero_add _).symm

theorem at_w (arg : Memref sig .tc .vmem S1024x1536 .bf16) (harg : arg.IsWhole) (x : Vec Ideal S1024x1536 .bf16) :
    View.readAt (Elt Ideal) arg.view (Rect.unit (s := S1024x1536) ![0, 0] S1024x1536.size inb_S1024x1536_S1024x1536_0_0).toLoadRect (harg.unread x) = x := by
  refine (congrArg (fun g => View.ld (Val := Elt Ideal) (e' := .bf16) g (Rect.unit (s := S1024x1536) ![0, 0] S1024x1536.size inb_S1024x1536_S1024x1536_0_0)) (harg.read_unread x)).trans ?_
  exact funext fun y => View.ld_unit_apply_of (Val := Elt Ideal) _ _ _ _ y y fun a => by
    match a with
    | 0 => exact (Nat.zero_add _).symm
    | 1 => exact (Nat.zero_add _).symm

theorem at_wf (arg : Memref sig .tc .vmem S16x1024 .bf16) (harg : arg.IsWhole) (x : Vec Ideal S16x1024 .bf16) :
    View.readAt (Elt Ideal) arg.view (Rect.unit (s := S16x1024) ![0, 0] S16x1024.size inb_S16x1024_S16x1024_0_0).toLoadRect (harg.unread x) = x := by
  refine (congrArg (fun g => View.ld (Val := Elt Ideal) (e' := .bf16) g (Rect.unit (s := S16x1024) ![0, 0] S16x1024.size inb_S16x1024_S16x1024_0_0)) (harg.read_unread x)).trans ?_
  exact funext fun y => View.ld_unit_apply_of (Val := Elt Ideal) _ _ _ _ y y fun a => by
    match a with
    | 0 => exact (Nat.zero_add _).symm
    | 1 => exact (Nat.zero_add _).symm

theorem at_fb (arg : Memref sig .tc .vmem S8x1 .f32) (harg : arg.IsWhole) (x : Vec Ideal S8x1 .f32) :
    View.readAt (Elt Ideal) arg.view (Rect.unit (s := S8x1) ![0, 0] S8x1.size inb_S8x1_S8x1_0_0).toLoadRect (harg.unread x) = x := by
  refine (congrArg (fun g => View.ld (Val := Elt Ideal) (e' := .f32) g (Rect.unit (s := S8x1) ![0, 0] S8x1.size inb_S8x1_S8x1_0_0)) (harg.read_unread x)).trans ?_
  exact funext fun y => View.ld_unit_apply_of (Val := Elt Ideal) _ _ _ _ y y fun a => by
    match a with
    | 0 => exact (Nat.zero_add _).symm
    | 1 => exact (Nat.zero_add _).symm

theorem at_wr (arg : Memref sig .tc .vmem S1024x2048 .bf16) (harg : arg.IsWhole) (x : Vec Ideal S1024x2048 .bf16) :
    View.readAt (Elt Ideal) arg.view (Rect.unit (s := S1024x2048) ![0, 0] S1024x2048.size inb_S1024x2048_S1024x2048_0_0).toLoadRect (harg.unread x) = x := by
  refine (congrArg (fun g => View.ld (Val := Elt Ideal) (e' := .bf16) g (Rect.unit (s := S1024x2048) ![0, 0] S1024x2048.size inb_S1024x2048_S1024x2048_0_0)) (harg.read_unread x)).trans ?_
  exact funext fun y => View.ld_unit_apply_of (Val := Elt Ideal) _ _ _ _ y y fun a => by
    match a with
    | 0 => exact (Nat.zero_add _).symm
    | 1 => exact (Nat.zero_add _).symm

theorem at_raw (arg : Memref sig .tc .vmem S2x512 .f32) (harg : arg.IsWhole) (x : Vec Ideal S2x512 .f32) :
    View.readAt (Elt Ideal) arg.view (Rect.unit (s := S2x512) ![0, 0] S2x512.size inb_S2x512_S2x512_0_0).toLoadRect (harg.unread x) = x := by
  refine (congrArg (fun g => View.ld (Val := Elt Ideal) (e' := .f32) g (Rect.unit (s := S2x512) ![0, 0] S2x512.size inb_S2x512_S2x512_0_0)) (harg.read_unread x)).trans ?_
  exact funext fun y => View.ld_unit_apply_of (Val := Elt Ideal) _ _ _ _ y y fun a => by
    match a with
    | 0 => exact (Nat.zero_add _).symm
    | 1 => exact (Nat.zero_add _).symm

theorem ld_col (s : Vec Ideal S8x128 .f32) : View.ld (Val := Elt Ideal) (e' := .f32) s (Rect.unit (s := S8x128) ![0, 0] S8x1.size inb_S8x128_S8x1_0_0) = col s :=
  funext fun y => View.ld_unit_apply_of (Val := Elt Ideal) _ _ _ _ y (ix2 (y 0) 0) fun a => by
    match a with
    | 0 => exact (Nat.zero_add _).symm
    | 1 => exact (show (0 : ℕ) = 0 + (y 1).val by have h1 : (y 1).val < 1 := (y 1).isLt; omega)

theorem at_carry (arg : Memref sig .tc .vmem S8x128 .f32) (harg : arg.IsWhole) (s : Vec Ideal S8x128 .f32) :
    View.readAt (Elt Ideal) arg.view (Rect.unit (s := S8x128) ![0, 0] S8x1.size inb_S8x128_S8x1_0_0).toLoadRect (harg.unread s) = col s :=
  (congrArg (fun g => View.ld (Val := Elt Ideal) (e' := .f32) g (Rect.unit (s := S8x128) ![0, 0] S8x1.size inb_S8x128_S8x1_0_0)) (harg.read_unread s)).trans
    (ld_col s)

theorem pay15_apply (y : S8x128.Idx) : k0_pay15 (F := Ideal) y = 0 := by
  pointwise [k0_pay15]

theorem at_reset (arg : Memref sig .tc .vmem S8x128 .f32) :
    arg.view.readCov (Val := Elt Ideal) [⟨Rect.unit (s := S8x128) ![0, 0] S8x128.size inb_S8x128_S8x128_0_0, (k0_pay15 (F := Ideal) : S8x128.Idx → Elt Ideal .f32)⟩]
      (Rect.unit (s := S8x128) ![0, 0] S8x1.size inb_S8x128_S8x1_0_0).toLoadRect = fun _ => 0 := by
  refine (ld_col (arg.view.read (Elt Ideal) (arg.view.writes (Elt Ideal) arg.view.junk _))).trans (funext fun y => ?_)
  unfold col
  rw [View.read_writes_cons_unit_of_mem _ _ _ _ _ _ (ix2 (y 0) 0) rfl
    (by intro a; match a with | 0 => exact (Nat.zero_add _).symm | 1 => exact (Nat.zero_add _).symm)]
  exact pay15_apply _

/-- The four stored pieces of the running sums: rows `2p` and `2p + 1` in the first two of eight rows, the others zero. -/
theorem ct_pieces (V : View sig .tc .vmem S1x4x8x512 .f32) (f) (x : Vec Ideal S1x512x1024 .f32)
    (wf : Vec Ideal S16x1024 .bf16) (fb : Vec Ideal S8x1 .f32) (cy : Vec Ideal S8x1 .f32) (p : Fin 4) (u : Fin 8) (l : Fin 512) :
    V.read (Elt Ideal) (V.writes (Elt Ideal) f
      [⟨Rect.unit (s := S1x4x8x512) ![0, 3, 0, 0] ![1, 1, 8, 512] inb_S1x4x8x512_S1x1x8x512_0_3_0_0, k0_pay22 (tile x wf fb cy) rowIds⟩,
       ⟨Rect.unit (s := S1x4x8x512) ![0, 2, 0, 0] ![1, 1, 8, 512] inb_S1x4x8x512_S1x1x8x512_0_2_0_0, k0_pay21 (tile x wf fb cy) rowIds⟩,
       ⟨Rect.unit (s := S1x4x8x512) ![0, 1, 0, 0] ![1, 1, 8, 512] inb_S1x4x8x512_S1x1x8x512_0_1_0_0, k0_pay20 (tile x wf fb cy) rowIds⟩,
       ⟨Rect.unit (s := S1x4x8x512) ![0, 0, 0, 0] ![1, 1, 8, 512] inb_S1x4x8x512_S1x1x8x512_0_0_0_0, k0_pay19 (k0_pay18 lanes (part x wf fb) k0_pay12 (turned x wf fb) k0_pay14 cy)⟩])
      (ix4 0 p u l)
    = if hu : u.val < 2 then tile x wf fb cy (ix2 ⟨2 * p.val + u.val, by omega⟩ l) else 0 := by
  match p with
  | 3 =>
    rw [View.read_writes_cons_unit_of_mem _ _ _ _ _ _ (ix4 0 0 u l) rfl
      (by intro a; match a with | 0 => exact (Nat.zero_add _).symm | 1 => rfl | 2 => exact (Nat.zero_add _).symm | 3 => exact (Nat.zero_add _).symm)]
    exact rows22 (tile x wf fb cy) u l
  | 2 =>
    rw [View.read_writes_cons_unit_of_not_mem _ _ _ _ _ _ rfl 1 (Or.inl (by show 2 < 3; omega))]
    rw [View.read_writes_cons_unit_of_mem _ _ _ _ _ _ (ix4 0 0 u l) rfl
      (by intro a; match a with | 0 => exact (Nat.zero_add _).symm | 1 => rfl | 2 => exact (Nat.zero_add _).symm | 3 => exact (Nat.zero_add _).symm)]
    exact rows21 (tile x wf fb cy) u l
  | 1 =>
    rw [View.read_writes_cons_unit_of_not_mem _ _ _ _ _ _ rfl 1 (Or.inl (by show 1 < 3; omega))]
    rw [View.read_writes_cons_unit_of_not_mem _ _ _ _ _ _ rfl 1 (Or.inl (by show 1 < 2; omega))]
    rw [View.read_writes_cons_unit_of_mem _ _ _ _ _ _ (ix4 0 0 u l) rfl
      (by intro a; match a with | 0 => exact (Nat.zero_add _).symm | 1 => rfl | 2 => exact (Nat.zero_add _).symm | 3 => exact (Nat.zero_add _).symm)]
    exact rows20 (tile x wf fb cy) u l
  | 0 =>
    rw [View.read_writes_cons_unit_of_not_mem _ _ _ _ _ _ rfl 1 (Or.inl (by show 0 < 3; omega))]
    rw [View.read_writes_cons_unit_of_not_mem _ _ _ _ _ _ rfl 1 (Or.inl (by show 0 < 2; omega))]
    rw [View.read_writes_cons_unit_of_not_mem _ _ _ _ _ _ rfl 1 (Or.inl (by show 0 < 1; omega))]
    rw [View.read_writes_cons_unit_of_mem _ _ _ _ _ _ (ix4 0 0 u l) rfl
      (by intro a; match a with | 0 => exact (Nat.zero_add _).symm | 1 => rfl | 2 => exact (Nat.zero_add _).symm | 3 => exact (Nat.zero_add _).symm)]
    refine (rows19 x wf fb cy u l).trans (dite_congr rfl (fun hu => congrArg (fun i => tile x wf fb cy (ix2 i l)) (Fin.ext ?_)) fun _ => rfl)
    show u.val = 2 * 0 + u.val
    omega

section

variable (c : Dev nD) (i : grid0.Coords) (arg2 : Memref sig .tc .vmem S1x512x1024 .f32) (harg2 : arg2.IsWhole) (arg3 : Memref sig .tc .vmem S1024x1536 .bf16) (harg3 : arg3.IsWhole) (arg4 : Memref sig .tc .vmem S16x1024 .bf16) (harg4 : arg4.IsWhole) (arg5 : Memref sig .tc .vmem S8x1 .f32) (harg5 : arg5.IsWhole) (arg6 : Memref sig .tc .vmem S1024x2048 .bf16) (harg6 : arg6.IsWhole) (arg7 : Memref sig .tc .vmem S2x512 .f32) (harg7 : arg7.IsWhole) (arg8 : Memref sig .tc .vmem S1x512x512 .bf16) (harg8 : arg8.IsWhole) (arg9 : Memref sig .tc .vmem S1x512x512 .bf16) (harg9 : arg9.IsWhole) (arg10 : Memref sig .tc .vmem S1x512x512 .bf16) (harg10 : arg10.IsWhole) (arg11 : Memref sig .tc .vmem S1x4x8x512 .f32) (harg11 : arg11.IsWhole) (arg12 : Memref sig .tc .vmem S1x512x512 .bf16) (harg12 : arg12.IsWhole) (arg13 : Memref sig .tc .vmem S1x512x512 .bf16) (harg13 : arg13.IsWhole) (arg14 : Memref sig .tc .vmem S1x512x512 .bf16) (harg14 : arg14.IsWhole) (arg15 : Memref sig .tc .vmem S1x512x512 .bf16) (harg15 : arg15.IsWhole) (arg16 : Memref sig .tc .vmem S1x512x512 .f32) (harg16 : arg16.IsWhole) (arg17 : Memref sig .tc .vmem S8x128 .f32) (harg17 : arg17.IsWhole)
    (x0 : Vec Ideal S1x512x1024 .f32) (x1 : Vec Ideal S1024x1536 .bf16) (x2 : Vec Ideal S16x1024 .bf16) (x3 : Vec Ideal S8x1 .f32) (x4 : Vec Ideal S1024x2048 .bf16) (x5 : Vec Ideal S2x512 .f32)

theorem q_A (hc0 : cond0_0 i) (r n : Fin 512) : out0_A_6 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 (ix3 0 r n)
    = (∑ k : Fin 1024, x0 (ix3 0 r k) * x1 (ix2 k ⟨n.val, by omega⟩)) * Ideal.ofBits .f32 0x3E000000#32 := by
  unfold out0_A_6 kernelRun0_A
  dsimp only
  sl_unfold_words
  rw [at_x arg2 harg2 x0, at_w arg3 harg3 x1]
  rw [View.read_writes_cons_unit_of_mem _ _ _ _ _ _ (ix3 0 r n) rfl
    (by intro a; match a with | 0 => exact (Nat.zero_add _).symm | 1 => exact (Nat.zero_add _).symm | 2 => exact (Nat.zero_add _).symm)]
  exact pay4_apply x0 x1 r n

theorem k_A (hc0 : cond0_0 i) (r n : Fin 512) : out0_A_7 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 (ix3 0 r n)
    = ∑ k : Fin 1024, x0 (ix3 0 r k) * x1 (ix2 k ⟨512 + n.val, by omega⟩) := by
  unfold out0_A_7 kernelRun0_A
  dsimp only
  sl_unfold_words
  rw [at_x arg2 harg2 x0, at_w arg3 harg3 x1]
  rw [View.read_writes_cons_unit_of_mem _ _ _ _ _ _ (ix3 0 r n) rfl
    (by intro a; match a with | 0 => exact (Nat.zero_add _).symm | 1 => exact (Nat.zero_add _).symm | 2 => exact (Nat.zero_add _).symm)]
  exact pay5_apply x0 x1 r n

theorem v_A (hc0 : cond0_0 i) (r n : Fin 512) : out0_A_8 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 (ix3 0 r n)
    = ∑ k : Fin 1024, x0 (ix3 0 r k) * x1 (ix2 k ⟨1024 + n.val, by omega⟩) := by
  unfold out0_A_8 kernelRun0_A
  dsimp only
  sl_unfold_words
  rw [at_x arg2 harg2 x0, at_w arg3 harg3 x1]
  rw [View.read_writes_cons_unit_of_mem _ _ _ _ _ _ (ix3 0 r n) rfl
    (by intro a; match a with | 0 => exact (Nat.zero_add _).symm | 1 => exact (Nat.zero_add _).symm | 2 => exact (Nat.zero_add _).symm)]
  exact pay6_apply x0 x1 r n

theorem qr_A (hc0 : cond0_0 i) (r n : Fin 512) : out0_A_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 (ix3 0 r n)
    = (∑ k : Fin 1024, x0 (ix3 0 r k) * x4 (ix2 k ⟨n.val, by omega⟩)) * sigm (∑ k : Fin 1024, x0 (ix3 0 r k) * x4 (ix2 k ⟨n.val, by omega⟩)) := by
  unfold out0_A_10 kernelRun0_A
  dsimp only
  sl_unfold_words
  rw [at_x arg2 harg2 x0, at_wr arg6 harg6 x4]
  rw [View.read_writes_cons_unit_of_mem _ _ _ _ _ _ (ix3 0 r n) rfl
    (by intro a; match a with | 0 => exact (Nat.zero_add _).symm | 1 => exact (Nat.zero_add _).symm | 2 => exact (Nat.zero_add _).symm)]
  exact pay26_apply x0 x4 r n

theorem kr_A (hc0 : cond0_0 i) (r n : Fin 512) : out0_A_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 (ix3 0 r n)
    = (1 - bound x5 n) * sigm (-(∑ k : Fin 1024, x0 (ix3 0 r k) * x4 (ix2 k ⟨512 + n.val, by omega⟩))) := by
  unfold out0_A_11 kernelRun0_A
  dsimp only
  sl_unfold_words
  rw [at_x arg2 harg2 x0, at_wr arg6 harg6 x4, at_raw arg7 harg7 x5]
  rw [View.read_writes_cons_unit_of_mem _ _ _ _ _ _ (ix3 0 r n) rfl
    (by intro a; match a with | 0 => exact (Nat.zero_add _).symm | 1 => exact (Nat.zero_add _).symm | 2 => exact (Nat.zero_add _).symm)]
  exact pay34_apply x0 x4 x5 r n

theorem ir_A (hc0 : cond0_0 i) (r n : Fin 512) : out0_A_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 (ix3 0 r n)
    = ∑ k : Fin 1024, x0 (ix3 0 r k) * x4 (ix2 k ⟨1024 + n.val, by omega⟩) := by
  unfold out0_A_12 kernelRun0_A
  dsimp only
  sl_unfold_words
  rw [at_x arg2 harg2 x0, at_wr arg6 harg6 x4]
  rw [View.read_writes_cons_unit_of_mem _ _ _ _ _ _ (ix3 0 r n) rfl
    (by intro a; match a with | 0 => exact (Nat.zero_add _).symm | 1 => exact (Nat.zero_add _).symm | 2 => exact (Nat.zero_add _).symm)]
  exact pay35_apply x0 x4 r n

theorem gr_A (hc0 : cond0_0 i) (r n : Fin 512) : out0_A_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 (ix3 0 r n)
    = (∑ k : Fin 1024, x0 (ix3 0 r k) * x4 (ix2 k ⟨1536 + n.val, by omega⟩)) * sigm (∑ k : Fin 1024, x0 (ix3 0 r k) * x4 (ix2 k ⟨1536 + n.val, by omega⟩)) := by
  unfold out0_A_13 kernelRun0_A
  dsimp only
  sl_unfold_words
  rw [at_x arg2 harg2 x0, at_wr arg6 harg6 x4]
  rw [View.read_writes_cons_unit_of_mem _ _ _ _ _ _ (ix3 0 r n) rfl
    (by intro a; match a with | 0 => exact (Nat.zero_add _).symm | 1 => exact (Nat.zero_add _).symm | 2 => exact (Nat.zero_add _).symm)]
  exact pay1_apply x0 x4 r n

theorem lfr_A (hc0 : cond0_0 i) (r n : Fin 512) : out0_A_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 (ix3 0 r n)
    = lfr (bound x5 n) (∑ k : Fin 1024, x0 (ix3 0 r k) * x4 (ix2 k ⟨512 + n.val, by omega⟩)) := by
  unfold out0_A_14 kernelRun0_A
  dsimp only
  sl_unfold_words
  rw [at_x arg2 harg2 x0, at_wr arg6 harg6 x4, at_raw arg7 harg7 x5]
  rw [View.read_writes_cons_unit_of_mem _ _ _ _ _ _ (ix3 0 r n) rfl
    (by intro a; match a with | 0 => exact (Nat.zero_add _).symm | 1 => exact (Nat.zero_add _).symm | 2 => exact (Nat.zero_add _).symm)]
  exact pay33_apply x0 x4 x5 r n

theorem ct_A (hc0 : cond0_0 i) (p : Fin 4) (u : Fin 8) (l : Fin 512) :
    out0_A_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 (ix4 0 p u l)
    = if hu : u.val < 2 then tile x0 x2 x3 (fun _ => 0) (ix2 ⟨2 * p.val + u.val, by omega⟩ l) else 0 := by
  unfold out0_A_9 kernelRun0_A
  dsimp only
  sl_unfold_words
  rw [at_x arg2 harg2 x0, at_wf arg4 harg4 x2, at_fb arg5 harg5 x3, at_reset arg17]
  exact ct_pieces VO0_9 VO0_9.junk x0 x2 x3 (fun _ => 0) p u l

theorem carry_A (hc0 : cond0_0 i) (h : Fin 8) (j : Fin 128) :
    sout0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 (ix2 h j)
    = tile x0 x2 x3 (fun _ => 0) (ix2 h 511) := by
  unfold sout0_A_0 kernelRun0_A
  dsimp only
  sl_unfold_words
  rw [at_x arg2 harg2 x0, at_wf arg4 harg4 x2, at_fb arg5 harg5 x3, at_reset arg17]
  rw [View.read_writes_cons_unit_of_mem _ _ _ _ _ _ (ix2 h j) rfl
    (by intro a; match a with | 0 => exact (Nat.zero_add _).symm | 1 => exact (Nat.zero_add _).symm)]
  exact pay17_apply x0 x2 x3 (fun _ => 0) h j

theorem q_B (hc0 : ¬cond0_0 i) (xs0 : Vec Ideal S8x128 .f32) (r n : Fin 512) : out0_B_6 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 xs0 (ix3 0 r n)
    = (∑ k : Fin 1024, x0 (ix3 0 r k) * x1 (ix2 k ⟨n.val, by omega⟩)) * Ideal.ofBits .f32 0x3E000000#32 := by
  unfold out0_B_6 kernelRun0_B
  dsimp only
  sl_unfold_words
  rw [at_x arg2 harg2 x0, at_w arg3 harg3 x1]
  rw [View.read_writes_cons_unit_of_mem _ _ _ _ _ _ (ix3 0 r n) rfl
    (by intro a; match a with | 0 => exact (Nat.zero_add _).symm | 1 => exact (Nat.zero_add _).symm | 2 => exact (Nat.zero_add _).symm)]
  exact pay4_apply x0 x1 r n

theorem k_B (hc0 : ¬cond0_0 i) (xs0 : Vec Ideal S8x128 .f32) (r n : Fin 512) : out0_B_7 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 xs0 (ix3 0 r n)
    = ∑ k : Fin 1024, x0 (ix3 0 r k) * x1 (ix2 k ⟨512 + n.val, by omega⟩) := by
  unfold out0_B_7 kernelRun0_B
  dsimp only
  sl_unfold_words
  rw [at_x arg2 harg2 x0, at_w arg3 harg3 x1]
  rw [View.read_writes_cons_unit_of_mem _ _ _ _ _ _ (ix3 0 r n) rfl
    (by intro a; match a with | 0 => exact (Nat.zero_add _).symm | 1 => exact (Nat.zero_add _).symm | 2 => exact (Nat.zero_add _).symm)]
  exact pay5_apply x0 x1 r n

theorem v_B (hc0 : ¬cond0_0 i) (xs0 : Vec Ideal S8x128 .f32) (r n : Fin 512) : out0_B_8 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 xs0 (ix3 0 r n)
    = ∑ k : Fin 1024, x0 (ix3 0 r k) * x1 (ix2 k ⟨1024 + n.val, by omega⟩) := by
  unfold out0_B_8 kernelRun0_B
  dsimp only
  sl_unfold_words
  rw [at_x arg2 harg2 x0, at_w arg3 harg3 x1]
  rw [View.read_writes_cons_unit_of_mem _ _ _ _ _ _ (ix3 0 r n) rfl
    (by intro a; match a with | 0 => exact (Nat.zero_add _).symm | 1 => exact (Nat.zero_add _).symm | 2 => exact (Nat.zero_add _).symm)]
  exact pay6_apply x0 x1 r n

theorem qr_B (hc0 : ¬cond0_0 i) (xs0 : Vec Ideal S8x128 .f32) (r n : Fin 512) : out0_B_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 xs0 (ix3 0 r n)
    = (∑ k : Fin 1024, x0 (ix3 0 r k) * x4 (ix2 k ⟨n.val, by omega⟩)) * sigm (∑ k : Fin 1024, x0 (ix3 0 r k) * x4 (ix2 k ⟨n.val, by omega⟩)) := by
  unfold out0_B_10 kernelRun0_B
  dsimp only
  sl_unfold_words
  rw [at_x arg2 harg2 x0, at_wr arg6 harg6 x4]
  rw [View.read_writes_cons_unit_of_mem _ _ _ _ _ _ (ix3 0 r n) rfl
    (by intro a; match a with | 0 => exact (Nat.zero_add _).symm | 1 => exact (Nat.zero_add _).symm | 2 => exact (Nat.zero_add _).symm)]
  exact pay26_apply x0 x4 r n

theorem kr_B (hc0 : ¬cond0_0 i) (xs0 : Vec Ideal S8x128 .f32) (r n : Fin 512) : out0_B_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 xs0 (ix3 0 r n)
    = (1 - bound x5 n) * sigm (-(∑ k : Fin 1024, x0 (ix3 0 r k) * x4 (ix2 k ⟨512 + n.val, by omega⟩))) := by
  unfold out0_B_11 kernelRun0_B
  dsimp only
  sl_unfold_words
  rw [at_x arg2 harg2 x0, at_wr arg6 harg6 x4, at_raw arg7 harg7 x5]
  rw [View.read_writes_cons_unit_of_mem _ _ _ _ _ _ (ix3 0 r n) rfl
    (by intro a; match a with | 0 => exact (Nat.zero_add _).symm | 1 => exact (Nat.zero_add _).symm | 2 => exact (Nat.zero_add _).symm)]
  exact pay34_apply x0 x4 x5 r n

theorem ir_B (hc0 : ¬cond0_0 i) (xs0 : Vec Ideal S8x128 .f32) (r n : Fin 512) : out0_B_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 xs0 (ix3 0 r n)
    = ∑ k : Fin 1024, x0 (ix3 0 r k) * x4 (ix2 k ⟨1024 + n.val, by omega⟩) := by
  unfold out0_B_12 kernelRun0_B
  dsimp only
  sl_unfold_words
  rw [at_x arg2 harg2 x0, at_wr arg6 harg6 x4]
  rw [View.read_writes_cons_unit_of_mem _ _ _ _ _ _ (ix3 0 r n) rfl
    (by intro a; match a with | 0 => exact (Nat.zero_add _).symm | 1 => exact (Nat.zero_add _).symm | 2 => exact (Nat.zero_add _).symm)]
  exact pay35_apply x0 x4 r n

theorem gr_B (hc0 : ¬cond0_0 i) (xs0 : Vec Ideal S8x128 .f32) (r n : Fin 512) : out0_B_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 xs0 (ix3 0 r n)
    = (∑ k : Fin 1024, x0 (ix3 0 r k) * x4 (ix2 k ⟨1536 + n.val, by omega⟩)) * sigm (∑ k : Fin 1024, x0 (ix3 0 r k) * x4 (ix2 k ⟨1536 + n.val, by omega⟩)) := by
  unfold out0_B_13 kernelRun0_B
  dsimp only
  sl_unfold_words
  rw [at_x arg2 harg2 x0, at_wr arg6 harg6 x4]
  rw [View.read_writes_cons_unit_of_mem _ _ _ _ _ _ (ix3 0 r n) rfl
    (by intro a; match a with | 0 => exact (Nat.zero_add _).symm | 1 => exact (Nat.zero_add _).symm | 2 => exact (Nat.zero_add _).symm)]
  exact pay1_apply x0 x4 r n

theorem lfr_B (hc0 : ¬cond0_0 i) (xs0 : Vec Ideal S8x128 .f32) (r n : Fin 512) : out0_B_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 xs0 (ix3 0 r n)
    = lfr (bound x5 n) (∑ k : Fin 1024, x0 (ix3 0 r k) * x4 (ix2 k ⟨512 + n.val, by omega⟩)) := by
  unfold out0_B_14 kernelRun0_B
  dsimp only
  sl_unfold_words
  rw [at_x arg2 harg2 x0, at_wr arg6 harg6 x4, at_raw arg7 harg7 x5]
  rw [View.read_writes_cons_unit_of_mem _ _ _ _ _ _ (ix3 0 r n) rfl
    (by intro a; match a with | 0 => exact (Nat.zero_add _).symm | 1 => exact (Nat.zero_add _).symm | 2 => exact (Nat.zero_add _).symm)]
  exact pay33_apply x0 x4 x5 r n

theorem ct_B (hc0 : ¬cond0_0 i) (xs0 : Vec Ideal S8x128 .f32) (p : Fin 4) (u : Fin 8) (l : Fin 512) :
    out0_B_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 xs0 (ix4 0 p u l)
    = if hu : u.val < 2 then tile x0 x2 x3 (col xs0) (ix2 ⟨2 * p.val + u.val, by omega⟩ l) else 0 := by
  unfold out0_B_9 kernelRun0_B
  dsimp only
  sl_unfold_words
  rw [at_x arg2 harg2 x0, at_wf arg4 harg4 x2, at_fb arg5 harg5 x3, at_carry arg17 harg17 xs0]
  exact ct_pieces VO0_9 VO0_9.junk x0 x2 x3 (col xs0) p u l

theorem carry_B (hc0 : ¬cond0_0 i) (xs0 : Vec Ideal S8x128 .f32) (h : Fin 8) (j : Fin 128) :
    sout0_B_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 xs0 (ix2 h j)
    = tile x0 x2 x3 (col xs0) (ix2 h 511) := by
  unfold sout0_B_0 kernelRun0_B
  dsimp only
  sl_unfold_words
  rw [at_x arg2 harg2 x0, at_wf arg4 harg4 x2, at_fb arg5 harg5 x3, at_carry arg17 harg17 xs0]
  rw [View.read_writes_cons_unit_of_mem _ _ _ _ _ _ (ix2 h j) rfl
    (by intro a; match a with | 0 => exact (Nat.zero_add _).symm | 1 => exact (Nat.zero_add _).symm)]
  exact pay17_apply x0 x2 x3 (col xs0) h j

end

end Cert.Proj2

end
-- ==== Proof.Proj2.Block.lean ====
/-
  The blocks of the second layer's input projection's grid: what a point reads of the arrays, and the running sums it carries to the next
  block of the sequence.
-/
module

public import proofs.«01_k».proof.Proof.Gen.Kernel5Ideal.Value
public import proofs.«01_k».proof.Proof.Proj2.Formula
public import proofs.«01_k».proof.Proof.Proj2.Point
public import Idealize.ShloMosaic.Lib.Pipeline.Covers
public import Idealize.ShloMosaic.Lib.Pipeline.ValueKit

@[expose] public section

set_option maxRecDepth 16384

noncomputable section

namespace Cert.Proj2

open Idealize.ShloMosaic Idealize.ShloMosaic.TcCoe Idealize.SL.Sem Cert.Kernel5Ideal Cert.Kernel5Ideal.Gen
open Cert.Proj (sigm logsig prefixSum prefixSum_add prefixSum_congr)

variable (m : (ℓ : Loc nD τ sig) → Buf (Elt Ideal) ℓ) (c : Dev nD)

abbrev aX : Vec Ideal S4x8192x1024 .f32 := m ((c : Thread nD τ).loc main_arg0)
abbrev aW : Vec Ideal S1024x1536 .bf16 := m ((c : Thread nD τ).loc main_arg1)
abbrev aWF : Vec Ideal S16x1024 .bf16 := m ((c : Thread nD τ).loc main_arg2)
abbrev aFB : Vec Ideal S8x1 .f32 := m ((c : Thread nD τ).loc main_arg3)
abbrev aWR : Vec Ideal S1024x2048 .bf16 := m ((c : Thread nD τ).loc main_arg4)
abbrev aRAW : Vec Ideal S2x512 .f32 := m ((c : Thread nD τ).loc main_arg5)

theorem index0 : ∀ t : Fin cfg0.N, win0_0.index t = ![(grid0.coords t 0).val, (grid0.coords t 1).val, 0] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![0, 0] := (by decide +kernel : ∀ t : Fin grid0.N, _)
theorem index3 : ∀ t : Fin cfg0.N, win0_3.index t = ![0, 0] := (by decide +kernel : ∀ t : Fin grid0.N, _)
theorem index4 : ∀ t : Fin cfg0.N, win0_4.index t = ![0, 0] := (by decide +kernel : ∀ t : Fin grid0.N, _)
theorem index5 : ∀ t : Fin cfg0.N, win0_5.index t = ![0, 0] := (by decide +kernel : ∀ t : Fin grid0.N, _)

theorem coord0 : ∀ t : Fin cfg0.N, (grid0.coords t 0).val = t.val / 16 := (by decide +kernel : ∀ t : Fin grid0.N, _)
theorem coord1 : ∀ t : Fin cfg0.N, (grid0.coords t 1).val = t.val % 16 := (by decide +kernel : ∀ t : Fin grid0.N, _)

/-- The token at row `r` of block `s`. -/
abbrev token (s : Fin 16) (r : Fin 512) : Fin 8192 := ⟨512 * s.val + r.val, by omega⟩

section

variable (t : Fin cfg0.N)

theorem blk_x (r : Fin 512) (k : Fin 1024) :
    iblk m c 0 t (ix3 0 r k) = aX m c (ix3 (grid0.coords t 0) (token (grid0.coords t 1) r) k) := by
  blk_ext [iblk, V, index0 t]

theorem blk_w : iblk m c 1 t = aW m c := by
  funext y
  blk_ext [iblk, V, index1 t]

theorem blk_wf : iblk m c 2 t = aWF m c := by
  funext y
  blk_ext [iblk, V, index2 t]

theorem blk_fb : iblk m c 3 t = aFB m c := by
  funext y
  blk_ext [iblk, V, index3 t]

theorem blk_wr : iblk m c 4 t = aWR m c := by
  funext y
  blk_ext [iblk, V, index4 t]

theorem blk_raw : iblk m c 5 t = aRAW m c := by
  funext y
  blk_ext [iblk, V, index5 t]

/-- The gates of one head along the sequence the point belongs to. -/
abbrev seq (h : Fin 8) : ℕ → EReal := gSeq (aX m c) (aWF m c) (aFB m c) (grid0.coords t 0) h

theorem gates_eq (h : Fin 8) (j : ℕ) (hj : j < 512) :
    gateSeq (iblk m c 0 t) (iblk m c 2 t) (iblk m c 3 t) h j
      = seq m c t h (512 * (grid0.coords t 1).val + j) := by
  have h1 : (grid0.coords t 1).val < 16 := (grid0.coords t 1).isLt
  unfold gateSeq seq gSeq
  rw [dif_pos hj, dif_pos (by omega)]
  unfold gateRow gate
  simp only [blk_x, blk_wf, blk_fb]

theorem tile_first (h0 : t.val % 16 = 0) (h : Fin 8) (l : Fin 512) :
    tile (iblk m c 0 t) (iblk m c 2 t) (iblk m c 3 t) (fun _ => 0) (ix2 h l)
      = prefixSum (seq m c t h) (512 * (grid0.coords t 1).val + l.val) := by
  refine (tile_apply _ _ _ _ h l).trans ?_
  have e : (grid0.coords t 1).val = 0 := (coord1 t).trans h0
  rw [add_zero, e, Nat.mul_zero, Nat.zero_add]
  exact prefixSum_congr _ fun j hj => (gates_eq m c t h j (by omega)).trans (by rw [e, Nat.mul_zero, Nat.zero_add])

theorem tile_later (h0 : ¬t.val % 16 = 0) (s : Vec Ideal S8x128 .f32) (h : Fin 8) (l : Fin 512)
    (hs : s (ix2 h 0) = prefixSum (seq m c t h) (512 * (grid0.coords t 1).val - 1)) :
    tile (iblk m c 0 t) (iblk m c 2 t) (iblk m c 3 t) (col s) (ix2 h l)
      = prefixSum (seq m c t h) (512 * (grid0.coords t 1).val + l.val) := by
  refine (tile_apply _ _ _ _ h l).trans ?_
  have e : (grid0.coords t 1).val = t.val % 16 := coord1 t
  have e1 : 512 * (grid0.coords t 1).val - 1 + 1 = 512 * (grid0.coords t 1).val := by omega
  have e2 : col s (ix2 h 0) = s (ix2 h 0) := rfl
  rw [e2, hs, ← e1, ← prefixSum_add, e1]
  refine congrArg (· + _) (prefixSum_congr _ fun j hj => gates_eq m c t h j (by omega))

end

theorem seq_before (t : Fin cfg0.N) (h0 : ¬t.val % 16 = 0) (hn : t.val - 1 < cfg0.N) (h : Fin 8) :
    prefixSum (seq m c ⟨t.val - 1, hn⟩ h) (512 * (grid0.coords ⟨t.val - 1, hn⟩ 1).val + 511)
      = prefixSum (seq m c t h) (512 * (grid0.coords t 1).val - 1) := by
  have a0 := coord0 ⟨t.val - 1, hn⟩
  have a1 := coord1 ⟨t.val - 1, hn⟩
  have b0 := coord0 t
  have b1 := coord1 t
  have e0 : grid0.coords ⟨t.val - 1, hn⟩ 0 = grid0.coords t 0 := Fin.ext (by rw [a0, b0]; show (t.val - 1) / 16 = t.val / 16; omega)
  have e1 : 512 * (grid0.coords ⟨t.val - 1, hn⟩ 1).val + 511 = 512 * (grid0.coords t 1).val - 1 := by
    rw [a1, b1]
    show 512 * ((t.val - 1) % 16) + 511 = 512 * (t.val % 16) - 1
    omega
  unfold seq
  rw [e0, e1]

/-- The carry after a point: the sums through the last token of its block. -/
theorem carry_at : ∀ (n : ℕ) (t : Fin cfg0.N), t.val = n → ∀ (h : Fin 8) (j : Fin 128),
    (outsAt0 m c t.val t.isLt).2.2.2.2.2.2.2.2.2 (ix2 h j)
      = prefixSum (seq m c t h) (512 * (grid0.coords t 1).val + 511) := by
  intro n
  induction n with
  | zero =>
    intro t ht h j
    have h0 : t.val % 16 = 0 := by omega
    rw [outsAt0_A m c t h0]
    dsimp only
    rw [carry_A]
    exact tile_first m c t h0 h 511
  | succ n ih =>
    intro t ht h j
    by_cases h0 : t.val % 16 = 0
    · rw [outsAt0_A m c t h0]
      dsimp only
      rw [carry_A]
      exact tile_first m c t h0 h 511
    · rw [outsAt0_B m c t h0]
      dsimp only
      rw [carry_B]
      have hn : t.val - 1 < cfg0.N := lt_of_le_of_lt (Nat.sub_le _ _) t.isLt
      exact tile_later m c t h0 _ h 511 ((ih ⟨t.val - 1, hn⟩ (by show t.val - 1 = n; omega) h 0).trans (seq_before m c t h0 hn h))

theorem carry_before (t : Fin cfg0.N) (h0 : ¬t.val % 16 = 0) (hn : t.val - 1 < cfg0.N) (h : Fin 8) :
    (outsAt0 m c (t.val - 1) hn).2.2.2.2.2.2.2.2.2 (ix2 h 0)
      = prefixSum (seq m c t h) (512 * (grid0.coords t 1).val - 1) :=
  (carry_at m c _ ⟨t.val - 1, hn⟩ rfl h 0).trans (seq_before m c t h0 hn h)

end Cert.Proj2

end
-- ==== Proof.Proj2.Array.lean ====
/-
  The second layer's input projection whole: every block a grid point stores is the block of its formula there, and the blocks
  cover each array.
-/
module

public import proofs.«01_k».proof.Proof.Proj2.Block

@[expose] public section

set_option maxRecDepth 16384

noncomputable section

namespace Cert.Proj2

open Idealize.ShloMosaic Idealize.ShloMosaic.TcCoe Idealize.SL.Sem Cert.Kernel5Ideal Cert.Kernel5Ideal.Gen
open Cert.Proj (sigm logsig prefixSum)

variable (m : (ℓ : Loc nD τ sig) → Buf (Elt Ideal) ℓ) (ρ : Dev nD → PrngReg) (c : Dev nD)

theorem index6 : ∀ t : Fin cfg0.N, win0_6.index t = ![(grid0.coords t 0).val, (grid0.coords t 1).val, 0] := (by decide +kernel : ∀ t : Fin grid0.N, _)
theorem index7 : ∀ t : Fin cfg0.N, win0_7.index t = ![(grid0.coords t 0).val, (grid0.coords t 1).val, 0] := (by decide +kernel : ∀ t : Fin grid0.N, _)
theorem index8 : ∀ t : Fin cfg0.N, win0_8.index t = ![(grid0.coords t 0).val, (grid0.coords t 1).val, 0] := (by decide +kernel : ∀ t : Fin grid0.N, _)
theorem index9 : ∀ t : Fin cfg0.N, win0_9.index t = ![(grid0.coords t 0).val, 0, 0, (grid0.coords t 1).val] := (by decide +kernel : ∀ t : Fin grid0.N, _)
theorem index10 : ∀ t : Fin cfg0.N, win0_10.index t = ![(grid0.coords t 0).val, (grid0.coords t 1).val, 0] := (by decide +kernel : ∀ t : Fin grid0.N, _)
theorem index11 : ∀ t : Fin cfg0.N, win0_11.index t = ![(grid0.coords t 0).val, (grid0.coords t 1).val, 0] := (by decide +kernel : ∀ t : Fin grid0.N, _)
theorem index12 : ∀ t : Fin cfg0.N, win0_12.index t = ![(grid0.coords t 0).val, (grid0.coords t 1).val, 0] := (by decide +kernel : ∀ t : Fin grid0.N, _)
theorem index13 : ∀ t : Fin cfg0.N, win0_13.index t = ![(grid0.coords t 0).val, (grid0.coords t 1).val, 0] := (by decide +kernel : ∀ t : Fin grid0.N, _)
theorem index14 : ∀ t : Fin cfg0.N, win0_14.index t = ![(grid0.coords t 0).val, (grid0.coords t 1).val, 0] := (by decide +kernel : ∀ t : Fin grid0.N, _)

theorem point6 (t : Fin cfg0.N) (r : Fin 512) (n : Fin 512) :
    (outsAt0 m c t.val t.isLt).1 (ix3 0 r n) = acol (aX m c) (aW m c) (grid0.coords t 0) (token (grid0.coords t 1) r) ⟨n.val, by omega⟩ * Ideal.ofBits .f32 0x3E000000#32 := by
  by_cases h0 : t.val % 16 = 0
  · rw [outsAt0_A m c t h0]
    dsimp only
    rw [q_A]
    simp only [blk_x, blk_w]
    rfl
  · rw [outsAt0_B m c t h0]
    dsimp only
    rw [q_B]
    simp only [blk_x, blk_w]
    rfl

theorem point7 (t : Fin cfg0.N) (r : Fin 512) (n : Fin 512) :
    (outsAt0 m c t.val t.isLt).2.1 (ix3 0 r n) = acol (aX m c) (aW m c) (grid0.coords t 0) (token (grid0.coords t 1) r) ⟨512 + n.val, by omega⟩ := by
  by_cases h0 : t.val % 16 = 0
  · rw [outsAt0_A m c t h0]
    dsimp only
    rw [k_A]
    simp only [blk_x, blk_w]
    rfl
  · rw [outsAt0_B m c t h0]
    dsimp only
    rw [k_B]
    simp only [blk_x, blk_w]
    rfl

theorem point8 (t : Fin cfg0.N) (r : Fin 512) (n : Fin 512) :
    (outsAt0 m c t.val t.isLt).2.2.1 (ix3 0 r n) = acol (aX m c) (aW m c) (grid0.coords t 0) (token (grid0.coords t 1) r) ⟨1024 + n.val, by omega⟩ := by
  by_cases h0 : t.val % 16 = 0
  · rw [outsAt0_A m c t h0]
    dsimp only
    rw [v_A]
    simp only [blk_x, blk_w]
    rfl
  · rw [outsAt0_B m c t h0]
    dsimp only
    rw [v_B]
    simp only [blk_x, blk_w]
    rfl

theorem point9 (t : Fin cfg0.N) (p : Fin 4) (u : Fin 8) (l : Fin 512) :
    (outsAt0 m c t.val t.isLt).2.2.2.1 (ix4 0 p u l)
      = if hu : u.val < 2 then prefixSum (seq m c t ⟨2 * p.val + u.val, by omega⟩) (512 * (grid0.coords t 1).val + l.val) else 0 := by
  by_cases h0 : t.val % 16 = 0
  · rw [outsAt0_A m c t h0]
    dsimp only
    rw [ct_A]
    exact dite_congr rfl (fun hu => tile_first m c t h0 _ l) fun _ => rfl
  · rw [outsAt0_B m c t h0]
    dsimp only
    rw [ct_B]
    exact dite_congr rfl (fun hu => tile_later m c t h0 _ _ l (carry_before m c t h0 _ _)) fun _ => rfl

theorem point10 (t : Fin cfg0.N) (r : Fin 512) (n : Fin 512) :
    (outsAt0 m c t.val t.isLt).2.2.2.2.1 (ix3 0 r n) = rcol (aX m c) (aWR m c) (grid0.coords t 0) (token (grid0.coords t 1) r) ⟨n.val, by omega⟩ * sigm (rcol (aX m c) (aWR m c) (grid0.coords t 0) (token (grid0.coords t 1) r) ⟨n.val, by omega⟩) := by
  by_cases h0 : t.val % 16 = 0
  · rw [outsAt0_A m c t h0]
    dsimp only
    rw [qr_A]
    simp only [blk_x, blk_wr]
    rfl
  · rw [outsAt0_B m c t h0]
    dsimp only
    rw [qr_B]
    simp only [blk_x, blk_wr]
    rfl

theorem point11 (t : Fin cfg0.N) (r : Fin 512) (n : Fin 512) :
    (outsAt0 m c t.val t.isLt).2.2.2.2.2.1 (ix3 0 r n) = (1 - bound (aRAW m c) n) * sigm (-rcol (aX m c) (aWR m c) (grid0.coords t 0) (token (grid0.coords t 1) r) ⟨512 + n.val, by omega⟩) := by
  by_cases h0 : t.val % 16 = 0
  · rw [outsAt0_A m c t h0]
    dsimp only
    rw [kr_A]
    simp only [blk_x, blk_wr, blk_raw]
    rfl
  · rw [outsAt0_B m c t h0]
    dsimp only
    rw [kr_B]
    simp only [blk_x, blk_wr, blk_raw]
    rfl

theorem point12 (t : Fin cfg0.N) (r : Fin 512) (n : Fin 512) :
    (outsAt0 m c t.val t.isLt).2.2.2.2.2.2.1 (ix3 0 r n) = rcol (aX m c) (aWR m c) (grid0.coords t 0) (token (grid0.coords t 1) r) ⟨1024 + n.val, by omega⟩ := by
  by_cases h0 : t.val % 16 = 0
  · rw [outsAt0_A m c t h0]
    dsimp only
    rw [ir_A]
    simp only [blk_x, blk_wr]
    rfl
  · rw [outsAt0_B m c t h0]
    dsimp only
    rw [ir_B]
    simp only [blk_x, blk_wr]
    rfl

theorem point13 (t : Fin cfg0.N) (r : Fin 512) (n : Fin 512) :
    (outsAt0 m c t.val t.isLt).2.2.2.2.2.2.2.1 (ix3 0 r n) = rcol (aX m c) (aWR m c) (grid0.coords t 0) (token (grid0.coords t 1) r) ⟨1536 + n.val, by omega⟩ * sigm (rcol (aX m c) (aWR m c) (grid0.coords t 0) (token (grid0.coords t 1) r) ⟨1536 + n.val, by omega⟩) := by
  by_cases h0 : t.val % 16 = 0
  · rw [outsAt0_A m c t h0]
    dsimp only
    rw [gr_A]
    simp only [blk_x, blk_wr]
    rfl
  · rw [outsAt0_B m c t h0]
    dsimp only
    rw [gr_B]
    simp only [blk_x, blk_wr]
    rfl

theorem point14 (t : Fin cfg0.N) (r : Fin 512) (n : Fin 512) :
    (outsAt0 m c t.val t.isLt).2.2.2.2.2.2.2.2.1 (ix3 0 r n) = lfr (bound (aRAW m c) n) (rcol (aX m c) (aWR m c) (grid0.coords t 0) (token (grid0.coords t 1) r) ⟨512 + n.val, by omega⟩) := by
  by_cases h0 : t.val % 16 = 0
  · rw [outsAt0_A m c t h0]
    dsimp only
    rw [lfr_A]
    simp only [blk_x, blk_wr, blk_raw]
    rfl
  · rw [outsAt0_B m c t h0]
    dsimp only
    rw [lfr_B]
    simp only [blk_x, blk_wr, blk_raw]
    rfl

theorem covers6 : (cfg0.win 6).Covers := by
  refine Pipeline.Window.covers_of_indexMap_surj _ rfl (by decide) fun β => ?_
  have h0 : (β 0).val < 4 := (β 0).isLt
  have h1 : (β 1).val < 16 := (β 1).isLt
  have h2 : (β 2).val < 1 := (β 2).isLt
  have key : ∀ (x : Fin 4) (y : Fin 16), ∃ i : grid0.Coords, cc0_transform_6 i = ![x.val, y.val, 0] := by
    intro x y
    refine ⟨fun a => match a with | 0 => x | 1 => y, ?_⟩
    revert x y
    decide +kernel
  obtain ⟨i, hi⟩ := key ⟨_, h0⟩ ⟨_, h1⟩
  refine ⟨i, fun a => ?_⟩
  show cc0_transform_6 i a = _
  rw [hi]
  match a with
  | 0 => rfl
  | 1 => rfl
  | 2 => show 0 = (β 2).val; omega

theorem array6 : (dats m 0 c).arrAt 6 cfg0.N = qArr (aX m c) (aW m c) := by
  refine (dats m 0 c).arrAt_eq_of_covers 6 _ covers6 fun t hf y => ?_
  blk_simp
  rw [after0_6]
  have hy : y = ix3 0 (y 1) (y 2) := by
    funext a
    match a with
    | 0 => exact Fin.ext (by have h : (y 0).val < 1 := (y 0).isLt; show (y 0).val = 0; omega)
    | 1 => rfl
    | 2 => rfl
  have e1 : (((cfg0.win 6).blk t).view.emb y 1).val = 512 * (grid0.coords t 1).val + (y 1).val := by
    blk_simp [index6 t]
    omega
  have e : ((cfg0.win 6).blk t).view.emb y = ix3 (grid0.coords t 0) (token (grid0.coords t 1) (y 1)) (y 2) := by
    funext a
    have h : (y 0).val < 1 := (y 0).isLt
    match a with
    | 0 => exact Fin.ext (by blk_simp [index6 t])
    | 1 => exact Fin.ext e1
    | 2 => exact Fin.ext (by blk_simp [index6 t])
  refine (congrArg ((outsAt0 m c t.val t.isLt).1) hy).trans ((point6 m c t (y 1) (y 2)).trans ?_)
  exact (congrArg (qArr (aX m c) (aW m c)) e).symm

theorem covers7 : (cfg0.win 7).Covers := by
  refine Pipeline.Window.covers_of_indexMap_surj _ rfl (by decide) fun β => ?_
  have h0 : (β 0).val < 4 := (β 0).isLt
  have h1 : (β 1).val < 16 := (β 1).isLt
  have h2 : (β 2).val < 1 := (β 2).isLt
  have key : ∀ (x : Fin 4) (y : Fin 16), ∃ i : grid0.Coords, cc0_transform_7 i = ![x.val, y.val, 0] := by
    intro x y
    refine ⟨fun a => match a with | 0 => x | 1 => y, ?_⟩
    revert x y
    decide +kernel
  obtain ⟨i, hi⟩ := key ⟨_, h0⟩ ⟨_, h1⟩
  refine ⟨i, fun a => ?_⟩
  show cc0_transform_7 i a = _
  rw [hi]
  match a with
  | 0 => rfl
  | 1 => rfl
  | 2 => show 0 = (β 2).val; omega

theorem array7 : (dats m 0 c).arrAt 7 cfg0.N = kArr (aX m c) (aW m c) := by
  refine (dats m 0 c).arrAt_eq_of_covers 7 _ covers7 fun t hf y => ?_
  blk_simp
  rw [after0_7]
  have hy : y = ix3 0 (y 1) (y 2) := by
    funext a
    match a with
    | 0 => exact Fin.ext (by have h : (y 0).val < 1 := (y 0).isLt; show (y 0).val = 0; omega)
    | 1 => rfl
    | 2 => rfl
  have e1 : (((cfg0.win 7).blk t).view.emb y 1).val = 512 * (grid0.coords t 1).val + (y 1).val := by
    blk_simp [index7 t]
    omega
  have e : ((cfg0.win 7).blk t).view.emb y = ix3 (grid0.coords t 0) (token (grid0.coords t 1) (y 1)) (y 2) := by
    funext a
    have h : (y 0).val < 1 := (y 0).isLt
    match a with
    | 0 => exact Fin.ext (by blk_simp [index7 t])
    | 1 => exact Fin.ext e1
    | 2 => exact Fin.ext (by blk_simp [index7 t])
  refine (congrArg ((outsAt0 m c t.val t.isLt).2.1) hy).trans ((point7 m c t (y 1) (y 2)).trans ?_)
  exact (congrArg (kArr (aX m c) (aW m c)) e).symm

theorem covers8 : (cfg0.win 8).Covers := by
  refine Pipeline.Window.covers_of_indexMap_surj _ rfl (by decide) fun β => ?_
  have h0 : (β 0).val < 4 := (β 0).isLt
  have h1 : (β 1).val < 16 := (β 1).isLt
  have h2 : (β 2).val < 1 := (β 2).isLt
  have key : ∀ (x : Fin 4) (y : Fin 16), ∃ i : grid0.Coords, cc0_transform_8 i = ![x.val, y.val, 0] := by
    intro x y
    refine ⟨fun a => match a with | 0 => x | 1 => y, ?_⟩
    revert x y
    decide +kernel
  obtain ⟨i, hi⟩ := key ⟨_, h0⟩ ⟨_, h1⟩
  refine ⟨i, fun a => ?_⟩
  show cc0_transform_8 i a = _
  rw [hi]
  match a with
  | 0 => rfl
  | 1 => rfl
  | 2 => show 0 = (β 2).val; omega

theorem array8 : (dats m 0 c).arrAt 8 cfg0.N = vArr (aX m c) (aW m c) := by
  refine (dats m 0 c).arrAt_eq_of_covers 8 _ covers8 fun t hf y => ?_
  blk_simp
  rw [after0_8]
  have hy : y = ix3 0 (y 1) (y 2) := by
    funext a
    match a with
    | 0 => exact Fin.ext (by have h : (y 0).val < 1 := (y 0).isLt; show (y 0).val = 0; omega)
    | 1 => rfl
    | 2 => rfl
  have e1 : (((cfg0.win 8).blk t).view.emb y 1).val = 512 * (grid0.coords t 1).val + (y 1).val := by
    blk_simp [index8 t]
    omega
  have e : ((cfg0.win 8).blk t).view.emb y = ix3 (grid0.coords t 0) (token (grid0.coords t 1) (y 1)) (y 2) := by
    funext a
    have h : (y 0).val < 1 := (y 0).isLt
    match a with
    | 0 => exact Fin.ext (by blk_simp [index8 t])
    | 1 => exact Fin.ext e1
    | 2 => exact Fin.ext (by blk_simp [index8 t])
  refine (congrArg ((outsAt0 m c t.val t.isLt).2.2.1) hy).trans ((point8 m c t (y 1) (y 2)).trans ?_)
  exact (congrArg (vArr (aX m c) (aW m c)) e).symm

theorem covers9 : (cfg0.win 9).Covers := by
  refine Pipeline.Window.covers_of_indexMap_surj _ rfl (by decide) fun β => ?_
  have h0 : (β 0).val < 4 := (β 0).isLt
  have h1 : (β 1).val < 1 := (β 1).isLt
  have h2 : (β 2).val < 1 := (β 2).isLt
  have h3 : (β 3).val < 16 := (β 3).isLt
  have key : ∀ (x : Fin 4) (y : Fin 16), ∃ i : grid0.Coords, cc0_transform_9 i = ![x.val, 0, 0, y.val] := by
    intro x y
    refine ⟨fun a => match a with | 0 => x | 1 => y, ?_⟩
    revert x y
    decide +kernel
  obtain ⟨i, hi⟩ := key ⟨_, h0⟩ ⟨_, h3⟩
  refine ⟨i, fun a => ?_⟩
  show cc0_transform_9 i a = _
  rw [hi]
  match a with
  | 0 => rfl
  | 1 => show 0 = (β 1).val; omega
  | 2 => show 0 = (β 2).val; omega
  | 3 => rfl

theorem array9 : (dats m 0 c).arrAt 9 cfg0.N = ctArr (aX m c) (aWF m c) (aFB m c) := by
  refine (dats m 0 c).arrAt_eq_of_covers 9 _ covers9 fun t hf y => ?_
  blk_simp
  rw [after0_9]
  have hy : y = ix4 0 (y 1) (y 2) (y 3) := by
    funext a
    match a with
    | 0 => exact Fin.ext (by have h : (y 0).val < 1 := (y 0).isLt; show (y 0).val = 0; omega)
    | 1 => rfl
    | 2 => rfl
    | 3 => rfl
  have e3 : (((cfg0.win 9).blk t).view.emb y 3).val = 512 * (grid0.coords t 1).val + (y 3).val := by
    blk_simp [index9 t]
    omega
  have e : ((cfg0.win 9).blk t).view.emb y = ix4 (grid0.coords t 0) (y 1) (y 2) (token (grid0.coords t 1) (y 3)) := by
    funext a
    have h : (y 0).val < 1 := (y 0).isLt
    match a with
    | 0 => exact Fin.ext (by blk_simp [index9 t])
    | 1 => exact Fin.ext (by blk_simp [index9 t])
    | 2 => exact Fin.ext (by blk_simp [index9 t])
    | 3 => exact Fin.ext e3
  refine (congrArg ((outsAt0 m c t.val t.isLt).2.2.2.1) hy).trans ((point9 m c t (y 1) (y 2) (y 3)).trans ?_)
  exact (congrArg (ctArr (aX m c) (aWF m c) (aFB m c)) e).symm

theorem covers10 : (cfg0.win 10).Covers := by
  refine Pipeline.Window.covers_of_indexMap_surj _ rfl (by decide) fun β => ?_
  have h0 : (β 0).val < 4 := (β 0).isLt
  have h1 : (β 1).val < 16 := (β 1).isLt
  have h2 : (β 2).val < 1 := (β 2).isLt
  have key : ∀ (x : Fin 4) (y : Fin 16), ∃ i : grid0.Coords, cc0_transform_10 i = ![x.val, y.val, 0] := by
    intro x y
    refine ⟨fun a => match a with | 0 => x | 1 => y, ?_⟩
    revert x y
    decide +kernel
  obtain ⟨i, hi⟩ := key ⟨_, h0⟩ ⟨_, h1⟩
  refine ⟨i, fun a => ?_⟩
  show cc0_transform_10 i a = _
  rw [hi]
  match a with
  | 0 => rfl
  | 1 => rfl
  | 2 => show 0 = (β 2).val; omega

theorem array10 : (dats m 0 c).arrAt 10 cfg0.N = qrArr (aX m c) (aWR m c) := by
  refine (dats m 0 c).arrAt_eq_of_covers 10 _ covers10 fun t hf y => ?_
  blk_simp
  rw [after0_10]
  have hy : y = ix3 0 (y 1) (y 2) := by
    funext a
    match a with
    | 0 => exact Fin.ext (by have h : (y 0).val < 1 := (y 0).isLt; show (y 0).val = 0; omega)
    | 1 => rfl
    | 2 => rfl
  have e1 : (((cfg0.win 10).blk t).view.emb y 1).val = 512 * (grid0.coords t 1).val + (y 1).val := by
    blk_simp [index10 t]
    omega
  have e : ((cfg0.win 10).blk t).view.emb y = ix3 (grid0.coords t 0) (token (grid0.coords t 1) (y 1)) (y 2) := by
    funext a
    have h : (y 0).val < 1 := (y 0).isLt
    match a with
    | 0 => exact Fin.ext (by blk_simp [index10 t])
    | 1 => exact Fin.ext e1
    | 2 => exact Fin.ext (by blk_simp [index10 t])
  refine (congrArg ((outsAt0 m c t.val t.isLt).2.2.2.2.1) hy).trans ((point10 m c t (y 1) (y 2)).trans ?_)
  exact (congrArg (qrArr (aX m c) (aWR m c)) e).symm

theorem covers11 : (cfg0.win 11).Covers := by
  refine Pipeline.Window.covers_of_indexMap_surj _ rfl (by decide) fun β => ?_
  have h0 : (β 0).val < 4 := (β 0).isLt
  have h1 : (β 1).val < 16 := (β 1).isLt
  have h2 : (β 2).val < 1 := (β 2).isLt
  have key : ∀ (x : Fin 4) (y : Fin 16), ∃ i : grid0.Coords, cc0_transform_11 i = ![x.val, y.val, 0] := by
    intro x y
    refine ⟨fun a => match a with | 0 => x | 1 => y, ?_⟩
    revert x y
    decide +kernel
  obtain ⟨i, hi⟩ := key ⟨_, h0⟩ ⟨_, h1⟩
  refine ⟨i, fun a => ?_⟩
  show cc0_transform_11 i a = _
  rw [hi]
  match a with
  | 0 => rfl
  | 1 => rfl
  | 2 => show 0 = (β 2).val; omega

theorem array11 : (dats m 0 c).arrAt 11 cfg0.N = krArr (aX m c) (aWR m c) (aRAW m c) := by
  refine (dats m 0 c).arrAt_eq_of_covers 11 _ covers11 fun t hf y => ?_
  blk_simp
  rw [after0_11]
  have hy : y = ix3 0 (y 1) (y 2) := by
    funext a
    match a with
    | 0 => exact Fin.ext (by have h : (y 0).val < 1 := (y 0).isLt; show (y 0).val = 0; omega)
    | 1 => rfl
    | 2 => rfl
  have e1 : (((cfg0.win 11).blk t).view.emb y 1).val = 512 * (grid0.coords t 1).val + (y 1).val := by
    blk_simp [index11 t]
    omega
  have e : ((cfg0.win 11).blk t).view.emb y = ix3 (grid0.coords t 0) (token (grid0.coords t 1) (y 1)) (y 2) := by
    funext a
    have h : (y 0).val < 1 := (y 0).isLt
    match a with
    | 0 => exact Fin.ext (by blk_simp [index11 t])
    | 1 => exact Fin.ext e1
    | 2 => exact Fin.ext (by blk_simp [index11 t])
  refine (congrArg ((outsAt0 m c t.val t.isLt).2.2.2.2.2.1) hy).trans ((point11 m c t (y 1) (y 2)).trans ?_)
  exact (congrArg (krArr (aX m c) (aWR m c) (aRAW m c)) e).symm

theorem covers12 : (cfg0.win 12).Covers := by
  refine Pipeline.Window.covers_of_indexMap_surj _ rfl (by decide) fun β => ?_
  have h0 : (β 0).val < 4 := (β 0).isLt
  have h1 : (β 1).val < 16 := (β 1).isLt
  have h2 : (β 2).val < 1 := (β 2).isLt
  have key : ∀ (x : Fin 4) (y : Fin 16), ∃ i : grid0.Coords, cc0_transform_12 i = ![x.val, y.val, 0] := by
    intro x y
    refine ⟨fun a => match a with | 0 => x | 1 => y, ?_⟩
    revert x y
    decide +kernel
  obtain ⟨i, hi⟩ := key ⟨_, h0⟩ ⟨_, h1⟩
  refine ⟨i, fun a => ?_⟩
  show cc0_transform_12 i a = _
  rw [hi]
  match a with
  | 0 => rfl
  | 1 => rfl
  | 2 => show 0 = (β 2).val; omega

theorem array12 : (dats m 0 c).arrAt 12 cfg0.N = irArr (aX m c) (aWR m c) := by
  refine (dats m 0 c).arrAt_eq_of_covers 12 _ covers12 fun t hf y => ?_
  blk_simp
  rw [after0_12]
  have hy : y = ix3 0 (y 1) (y 2) := by
    funext a
    match a with
    | 0 => exact Fin.ext (by have h : (y 0).val < 1 := (y 0).isLt; show (y 0).val = 0; omega)
    | 1 => rfl
    | 2 => rfl
  have e1 : (((cfg0.win 12).blk t).view.emb y 1).val = 512 * (grid0.coords t 1).val + (y 1).val := by
    blk_simp [index12 t]
    omega
  have e : ((cfg0.win 12).blk t).view.emb y = ix3 (grid0.coords t 0) (token (grid0.coords t 1) (y 1)) (y 2) := by
    funext a
    have h : (y 0).val < 1 := (y 0).isLt
    match a with
    | 0 => exact Fin.ext (by blk_simp [index12 t])
    | 1 => exact Fin.ext e1
    | 2 => exact Fin.ext (by blk_simp [index12 t])
  refine (congrArg ((outsAt0 m c t.val t.isLt).2.2.2.2.2.2.1) hy).trans ((point12 m c t (y 1) (y 2)).trans ?_)
  exact (congrArg (irArr (aX m c) (aWR m c)) e).symm

theorem covers13 : (cfg0.win 13).Covers := by
  refine Pipeline.Window.covers_of_indexMap_surj _ rfl (by decide) fun β => ?_
  have h0 : (β 0).val < 4 := (β 0).isLt
  have h1 : (β 1).val < 16 := (β 1).isLt
  have h2 : (β 2).val < 1 := (β 2).isLt
  have key : ∀ (x : Fin 4) (y : Fin 16), ∃ i : grid0.Coords, cc0_transform_13 i = ![x.val, y.val, 0] := by
    intro x y
    refine ⟨fun a => match a with | 0 => x | 1 => y, ?_⟩
    revert x y
    decide +kernel
  obtain ⟨i, hi⟩ := key ⟨_, h0⟩ ⟨_, h1⟩
  refine ⟨i, fun a => ?_⟩
  show cc0_transform_13 i a = _
  rw [hi]
  match a with
  | 0 => rfl
  | 1 => rfl
  | 2 => show 0 = (β 2).val; omega

theorem array13 : (dats m 0 c).arrAt 13 cfg0.N = grArr (aX m c) (aWR m c) := by
  refine (dats m 0 c).arrAt_eq_of_covers 13 _ covers13 fun t hf y => ?_
  blk_simp
  rw [after0_13]
  have hy : y = ix3 0 (y 1) (y 2) := by
    funext a
    match a with
    | 0 => exact Fin.ext (by have h : (y 0).val < 1 := (y 0).isLt; show (y 0).val = 0; omega)
    | 1 => rfl
    | 2 => rfl
  have e1 : (((cfg0.win 13).blk t).view.emb y 1).val = 512 * (grid0.coords t 1).val + (y 1).val := by
    blk_simp [index13 t]
    omega
  have e : ((cfg0.win 13).blk t).view.emb y = ix3 (grid0.coords t 0) (token (grid0.coords t 1) (y 1)) (y 2) := by
    funext a
    have h : (y 0).val < 1 := (y 0).isLt
    match a with
    | 0 => exact Fin.ext (by blk_simp [index13 t])
    | 1 => exact Fin.ext e1
    | 2 => exact Fin.ext (by blk_simp [index13 t])
  refine (congrArg ((outsAt0 m c t.val t.isLt).2.2.2.2.2.2.2.1) hy).trans ((point13 m c t (y 1) (y 2)).trans ?_)
  exact (congrArg (grArr (aX m c) (aWR m c)) e).symm

theorem covers14 : (cfg0.win 14).Covers := by
  refine Pipeline.Window.covers_of_indexMap_surj _ rfl (by decide) fun β => ?_
  have h0 : (β 0).val < 4 := (β 0).isLt
  have h1 : (β 1).val < 16 := (β 1).isLt
  have h2 : (β 2).val < 1 := (β 2).isLt
  have key : ∀ (x : Fin 4) (y : Fin 16), ∃ i : grid0.Coords, cc0_transform_14 i = ![x.val, y.val, 0] := by
    intro x y
    refine ⟨fun a => match a with | 0 => x | 1 => y, ?_⟩
    revert x y
    decide +kernel
  obtain ⟨i, hi⟩ := key ⟨_, h0⟩ ⟨_, h1⟩
  refine ⟨i, fun a => ?_⟩
  show cc0_transform_14 i a = _
  rw [hi]
  match a with
  | 0 => rfl
  | 1 => rfl
  | 2 => show 0 = (β 2).val; omega

theorem array14 : (dats m 0 c).arrAt 14 cfg0.N = lfrArr (aX m c) (aWR m c) (aRAW m c) := by
  refine (dats m 0 c).arrAt_eq_of_covers 14 _ covers14 fun t hf y => ?_
  blk_simp
  rw [after0_14]
  have hy : y = ix3 0 (y 1) (y 2) := by
    funext a
    match a with
    | 0 => exact Fin.ext (by have h : (y 0).val < 1 := (y 0).isLt; show (y 0).val = 0; omega)
    | 1 => rfl
    | 2 => rfl
  have e1 : (((cfg0.win 14).blk t).view.emb y 1).val = 512 * (grid0.coords t 1).val + (y 1).val := by
    blk_simp [index14 t]
    omega
  have e : ((cfg0.win 14).blk t).view.emb y = ix3 (grid0.coords t 0) (token (grid0.coords t 1) (y 1)) (y 2) := by
    funext a
    have h : (y 0).val < 1 := (y 0).isLt
    match a with
    | 0 => exact Fin.ext (by blk_simp [index14 t])
    | 1 => exact Fin.ext e1
    | 2 => exact Fin.ext (by blk_simp [index14 t])
  refine (congrArg ((outsAt0 m c t.val t.isLt).2.2.2.2.2.2.2.2.1) hy).trans ((point14 m c t (y 1) (y 2)).trans ?_)
  exact (congrArg (lfrArr (aX m c) (aWR m c) (aRAW m c)) e).symm

/-- The kernel's run. -/
theorem kernel_run : θ_run defs (onTc (τ := τ) (main (F := Ideal))) ⟨m, fun _ => 0, ρ⟩ fun r => ∀ c : Dev nD,
      r.2.mem ((c : Thread nD τ).loc main_v0_0) = qArr (aX m c) (aW m c)
      ∧ r.2.mem ((c : Thread nD τ).loc main_v0_1) = kArr (aX m c) (aW m c)
      ∧ r.2.mem ((c : Thread nD τ).loc main_v0_2) = vArr (aX m c) (aW m c)
      ∧ r.2.mem ((c : Thread nD τ).loc main_v0_3) = ctArr (aX m c) (aWF m c) (aFB m c)
      ∧ r.2.mem ((c : Thread nD τ).loc main_v0_4) = qrArr (aX m c) (aWR m c)
      ∧ r.2.mem ((c : Thread nD τ).loc main_v0_5) = krArr (aX m c) (aWR m c) (aRAW m c)
      ∧ r.2.mem ((c : Thread nD τ).loc main_v0_6) = irArr (aX m c) (aWR m c)
      ∧ r.2.mem ((c : Thread nD τ).loc main_v0_7) = grArr (aX m c) (aWR m c)
      ∧ r.2.mem ((c : Thread nD τ).loc main_v0_8) = lfrArr (aX m c) (aWR m c) (aRAW m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (array6 m c), (h c).2.1.trans (array7 m c), (h c).2.2.1.trans (array8 m c), (h c).2.2.2.1.trans (array9 m c), (h c).2.2.2.2.1.trans (array10 m c), (h c).2.2.2.2.2.1.trans (array11 m c), (h c).2.2.2.2.2.2.1.trans (array12 m c), (h c).2.2.2.2.2.2.2.1.trans (array13 m c), (h c).2.2.2.2.2.2.2.2.1.trans (array14 m c), (h c).2.2.2.2.2.2.2.2.2⟩) (Cert.Kernel5Ideal.Value.run_blocks (F := Ideal) m ρ)

end Cert.Proj2

end
-- ==== Proof.Proj2.Cumsum.lean ====
/-
  A running sum along the first of two axes, written as a sum over a window as long as that axis, padded in front.
-/
module

public import proofs.«01_k».proof.Proof.Proj.Cumsum

@[expose] public section

noncomputable section

namespace Cert.Proj2

open Idealize.ShloMosaic
open Cert.Proj (prefixSum fold_sum window_sum)

theorem numel_col (N : ℕ) : (⟨2, ![N, 1]⟩ : Shape).numel = N := by
  simp [Shape.numel, Fin.prod_univ_succ]

theorem symm_col (N : ℕ) (n : Fin (⟨2, ![N, 1]⟩ : Shape).numel) :
    (⟨2, ![N, 1]⟩ : Shape).rowMajor.symm n = ix2 (n.cast (numel_col N)) (0 : Fin 1) :=
  ((⟨2, ![N, 1]⟩ : Shape).rowMajor.symm_apply_eq).2 (Fin.ext (by
    rw [Shape.rowMajor_val_two]
    show n.val = n.val * 1 + 0
    omega))

theorem cumsum_rows {A N M : ℕ} (hN : M + 1 = N) (x : (⟨2, ![N, A]⟩ : Shape).Idx → EReal) (init : (⟨0, ![]⟩ : Shape).Idx → EReal)
    (hinit : ∀ i, init i = 0)
    (h : (⟨2, ![N, A]⟩ : Shape).ReduceWindows (![N, 1] : Fin 2 → Nat) ![1, 1] ![M, 0] ![0, 0] ⟨2, ![N, A]⟩)
    (hu : 0 < (⟨0, ![]⟩ : Shape).numel) (j : Fin N) (a : Fin A) (f : ℕ → EReal) (hf : ∀ i : Fin N, x (ix2 i a) = f i.val) :
    Host.reduceWindow (· + ·) ![N, 1] ![1, 1] ![M, 0] ![0, 0] x init h hu (ix2 j a) = prefixSum f j.val := by
  subst hN
  have hj := j.isLt
  have ha := a.isLt
  have hs : ∀ n : Fin (⟨2, ![M + 1, 1]⟩ : Shape).numel,
      ((⟨2, ![M + 1, 1]⟩ : Shape).rowMajor.symm n 0).val = n.val ∧ ((⟨2, ![M + 1, 1]⟩ : Shape).rowMajor.symm n 1).val = 0 := by
    intro n
    rw [symm_col]
    exact ⟨rfl, rfl⟩
  unfold Host.reduceWindow
  dsimp only
  rw [hinit]
  refine (fold_sum _ _ 0).trans ?_
  rw [zero_add, ← Fin.sum_univ_def]
  refine Eq.trans (Finset.sum_congr rfl fun n _ => ?_)
    ((Fin.sum_univ_eq_sum_range (fun n => if M ≤ j.val + n then f (j.val + n - M) else 0) _).trans
      ((congrArg (fun K => ∑ n ∈ Finset.range K, if M ≤ j.val + n then f (j.val + n - M) else 0) (numel_col (M + 1))).trans
        (window_sum f M j.val hj)))
  obtain ⟨w0, w1⟩ := hs n
  have hn : n.val < M + 1 := (n.cast (numel_col _)).isLt
  split
  · next hin =>
    have h2 := hin 0
    change M ≤ j.val * 1 + ((⟨2, ![M + 1, 1]⟩ : Shape).rowMajor.symm n 0).val
      ∧ j.val * 1 + ((⟨2, ![M + 1, 1]⟩ : Shape).rowMajor.symm n 0).val - M < M + 1 at h2
    rw [w0] at h2
    rw [if_pos (by omega)]
    refine (congrArg x (funext fun a' => Fin.ext ?_)).trans (hf ⟨j.val + n.val - M, by omega⟩)
    match a' with
    | ⟨0, _⟩ =>
      show j.val * 1 + ((⟨2, ![M + 1, 1]⟩ : Shape).rowMajor.symm n 0).val - M = j.val + n.val - M
      rw [w0]; omega
    | ⟨1, _⟩ =>
      show a.val * 1 + ((⟨2, ![M + 1, 1]⟩ : Shape).rowMajor.symm n 1).val - 0 = a.val
      rw [w1]; omega
  · next hin =>
    rw [if_neg fun hle => hin fun a' => by
      match a' with
      | ⟨0, _⟩ =>
        show M ≤ j.val * 1 + ((⟨2, ![M + 1, 1]⟩ : Shape).rowMajor.symm n 0).val
          ∧ j.val * 1 + ((⟨2, ![M + 1, 1]⟩ : Shape).rowMajor.symm n 0).val - M < M + 1
        rw [w0]; omega
      | ⟨1, _⟩ =>
        show 0 ≤ a.val * 1 + ((⟨2, ![M + 1, 1]⟩ : Shape).rowMajor.symm n 1).val
          ∧ a.val * 1 + ((⟨2, ![M + 1, 1]⟩ : Shape).rowMajor.symm n 1).val - 0 < A
        rw [w1]; omega]

/-- The host's float window sum of that form is the running sum. -/
theorem cumsum_rows_host {A N M : ℕ} (hN : M + 1 = N) (x : Vec Ideal ⟨2, ![N, A]⟩ .f32) (init : Vec Ideal ⟨0, ![]⟩ .f32)
    (hinit : ∀ i, init i = (0 : EReal))
    (h : (⟨2, ![N, A]⟩ : Shape).ReduceWindows (![N, 1] : Fin 2 → Nat) ![1, 1] ![M, 0] ![0, 0] ⟨2, ![N, A]⟩)
    (hu : 0 < (⟨0, ![]⟩ : Shape).numel) (j : Fin N) (a : Fin A) (f : ℕ → EReal) (hf : ∀ i : Fin N, x (ix2 i a) = f i.val) :
    Host.reduceWindowAdd (F := Ideal) (φ := .f32) ![N, 1] ![1, 1] ![M, 0] ![0, 0] x init h hu (ix2 j a) = prefixSum f j.val :=
  cumsum_rows hN x (fun _ => init (Shape.Idx.first hu)) (fun _ => hinit _) h (by decide) j a f hf

end Cert.Proj2

end
-- ==== Proof.Proj2.Reference.lean ====
/-
  The second layer's input projection reference's results, stage by stage, as the formulas over whole arrays.
-/
module

public import proofs.«01_k».proof.Proof.Proj2.Formula
public import proofs.«01_k».proof.Proof.Proj2.Cumsum
public import proofs.«01_k».proof.Proof.Gen.Reference5Ideal.Read
public import Idealize.ShloMosaic.Lib.Tactic.CleanTypes

@[expose] public section

set_option maxRecDepth 16384

noncomputable section

namespace Cert.Proj2

open Idealize.ShloMosaic Idealize.ShloMosaic.TcCoe Cert.Reference5Ideal Cert.Reference5Ideal.Read
open Cert.Proj (sigm logsig prefixSum ofBits_zero' ofBits_one logsig_eq cumsum_host)

variable (X : Vec Ideal Cert.Kernel5Ideal.S4x8192x1024 .f32)
  (W : Vec Ideal Cert.Kernel5Ideal.S1024x1536 .bf16) (WF : Vec Ideal Cert.Kernel5Ideal.S16x1024 .bf16)
  (FB : Vec Ideal Cert.Kernel5Ideal.S8x1 .f32) (WR : Vec Ideal Cert.Kernel5Ideal.S1024x2048 .bf16)
  (RAW : Vec Ideal Cert.Kernel5Ideal.S2x512 .f32)

/-! ## The projections -/

theorem ref_acol (b : Fin 4) (n : Fin 8192) (j : Fin 1536) : val_main_v1 (F := Ideal) X W (ix3 b n j) = acol X W b n j := by
  rw [val_main_v1_apply]
  refine Finset.sum_congr rfl fun k _ => ?_
  refine congrArg₂ (· * ·) (congrArg X ?_) (Eq.trans (val_main_v0_apply W _) (congrArg W ?_))
  · exact funext fun a => Fin.ext (by match a with | ⟨0, _⟩ => rfl | ⟨1, _⟩ => rfl | ⟨2, _⟩ => rfl)
  · exact funext fun a => Fin.ext (by match a with | ⟨0, _⟩ => rfl | ⟨1, _⟩ => rfl)

theorem ref_rcol (b : Fin 4) (n : Fin 8192) (j : Fin 2048) : val_main_v19 (F := Ideal) X WR (ix3 b n j) = rcol X WR b n j := by
  rw [val_main_v19_apply]
  refine Finset.sum_congr rfl fun k _ => ?_
  refine congrArg₂ (· * ·) (congrArg X ?_) (Eq.trans (val_main_v18_apply WR _) (congrArg WR ?_))
  · exact funext fun a => Fin.ext (by match a with | ⟨0, _⟩ => rfl | ⟨1, _⟩ => rfl | ⟨2, _⟩ => rfl)
  · exact funext fun a => Fin.ext (by match a with | ⟨0, _⟩ => rfl | ⟨1, _⟩ => rfl)

theorem ref_f (b : Fin 4) (n : Fin 8192) (h : Fin 8) :
    val_main_v12 (F := Ideal) X WF FB (ix3 b n h)
      = (∑ k : Fin 1024, WF (ix2 ⟨h.val, by omega⟩ k) * X (ix3 b n k)) + FB (ix2 h 0) := by
  rw [val_main_v12_apply]
  refine congrArg₂ (fun u v : EReal => u + v) ?_ ?_
  · rw [val_main_v8_apply]
    refine Finset.sum_congr rfl fun k _ => ?_
    rw [mul_comm]
    refine congrArg₂ (fun u v : EReal => u * v) ?_ (congrArg X ?_)
    · rw [val_main_v7_apply, val_main_v6_apply, val_main_v5_apply]
      refine congrArg WF (funext fun a => Fin.ext ?_)
      match a with
      | ⟨0, _⟩ => rfl
      | ⟨1, _⟩ => rfl
    · exact funext fun a => Fin.ext (by match a with | ⟨0, _⟩ => rfl | ⟨1, _⟩ => rfl | ⟨2, _⟩ => rfl)
  · rw [val_main_v11_apply, val_main_v10_apply, val_main_v9_apply]
    refine congrArg FB (funext fun a => Fin.ext ?_)
    match a with
    | ⟨0, _⟩ => show h.val / 1 = h.val; omega
    | ⟨1, _⟩ => rfl

/-! ## The logarithm of the logistic function -/

theorem ref_gate (b : Fin 4) (n : Fin 8192) (h : Fin 8) : val_main_v13 (F := Ideal) X WF FB (ix3 b n h) = gate X WF FB b h n := by
  have e := ref_f X WF FB b n h
  unfold gate
  rw [← e]
  unfold val_main_v13 val_main_call0_v1 val_main_call0_call0_v11 val_main_call0_call0_v10 val_main_call0_call0_v9 val_main_call0_call0_v8 val_main_call0_call0_v7 val_main_call0_call0_v6 val_main_call0_call0_v5 val_main_call0_call0_v4 val_main_call0_call0_v3 val_main_call0_call0_v2 val_main_call0_call0_v1 val_main_call0_call0_v0 val_main_call0_v0
  generalize val_main_v12 (F := Ideal) X WF FB = z
  clean_types
  pointwise [val_main_call0_call0_cst]
  rw [if_neg (not_not.mpr rfl)]
  have h' := logsig_eq (z (ix3 b n h))
  rw [sub_zero] at h'
  exact h'

theorem ref_logf (b : Fin 4) (n : Fin 8192) (j : Fin 512) :
    val_main_v44 (F := Ideal) X WR (ix3 b n j) = logsig (rcol X WR b n ⟨512 + j.val, by omega⟩) := by
  have e : val_main_v21 (F := Ideal) X WR (ix3 b n j) = rcol X WR b n ⟨512 + j.val, by omega⟩ := by
    rw [val_main_v21_apply]
    refine Eq.trans (congrArg _ (funext fun a => Fin.ext ?_)) (ref_rcol X WR b n ⟨512 + j.val, by omega⟩)
    match a with
    | ⟨0, _⟩ => rfl
    | ⟨1, _⟩ => rfl
    | ⟨2, _⟩ => rfl
  rw [← e]
  unfold val_main_v44 val_main_call4_v1 val_main_call4_call0_v11 val_main_call4_call0_v10 val_main_call4_call0_v9 val_main_call4_call0_v8 val_main_call4_call0_v7 val_main_call4_call0_v6 val_main_call4_call0_v5 val_main_call4_call0_v4 val_main_call4_call0_v3 val_main_call4_call0_v2 val_main_call4_call0_v1 val_main_call4_call0_v0 val_main_call4_v0
  generalize val_main_v21 (F := Ideal) X WR = z
  clean_types
  pointwise [val_main_call4_call0_cst]
  rw [if_neg (not_not.mpr rfl)]
  have h' := logsig_eq (z (ix3 b n j))
  rw [sub_zero] at h'
  exact h'

/-! ## The lower bound -/

theorem ref_weight (i : Fin 2) (n : Fin 512) : val_main_v34 (F := Ideal) RAW (ix2 i n)
    = Ideal.div (Ideal.exp (RAW (ix2 i n) - max (RAW (ix2 0 n)) (RAW (ix2 1 n))))
        (Ideal.exp (RAW (ix2 0 n) - max (RAW (ix2 0 n)) (RAW (ix2 1 n))) + Ideal.exp (RAW (ix2 1 n) - max (RAW (ix2 0 n)) (RAW (ix2 1 n)))) := by
  unfold val_main_v34 val_main_v33 val_main_v32 val_main_v31 val_main_v30 val_main_v29 val_main_v28 val_main_v27 val_main_v26 val_main_v25 val_main_v24
  clean_types
  pointwise [val_main_cst, val_main_cst_0, val_main_cst_1]
  simp only [fold_max_two, Fin.sum_univ_two]
  simp only [ofBits_bot, max_bot_left]

theorem ref_bound (n : Fin 512) (a b : ℝ) (ha : RAW (ix2 0 n) = (a : EReal)) (hb : RAW (ix2 1 n) = (b : EReal)) :
    val_main_v40 (F := Ideal) RAW (ix1 n) = bound RAW n := by
  obtain ⟨p, l, _, _, hl, hp⟩ := soft_real a b
  have w0 : val_main_v34 (F := Ideal) RAW (ix2 0 n) = (p : EReal) := by rw [ref_weight, ha, hb]; exact hp
  have w1 : val_main_v34 (F := Ideal) RAW (ix2 1 n) = (l : EReal) := by rw [ref_weight, ha, hb]; exact hl
  have hi : ∀ i, val_main_call3_call0_v0 (F := Ideal) i = (0 : EReal) := fun i => by
    rw [val_main_call3_call0_v0_apply, val_main_call3_call0_cst_apply]
    exact ofBits_zero'
  have hs : ∀ j : Fin 2, val_main_v35 (F := Ideal) RAW (ix2 j n) = prefixSum (fun i => if i = 0 then (p : EReal) else (l : EReal)) j.val := fun j => by
    unfold val_main_v35
    have hx : ∀ i : Fin 2, val_main_v34 (F := Ideal) RAW (ix2 i n) = (fun i => if i = 0 then (p : EReal) else (l : EReal)) i.val := fun i => by
      match i with
      | 0 => exact w0
      | 1 => exact w1
    generalize val_main_v34 (F := Ideal) RAW = x at hx ⊢
    generalize val_main_call3_call0_v0 (F := Ideal) = v at hi ⊢
    exact cumsum_rows_host (by norm_num) x v hi _ _ j n _ hx
  have e0 : val_main_v35 (F := Ideal) RAW (ix2 0 n) = (p : EReal) := by rw [hs]; simp [prefixSum]
  have e1 : val_main_v35 (F := Ideal) RAW (ix2 1 n) = (p : EReal) + (l : EReal) := by rw [hs]; simp [prefixSum, Finset.sum_range_succ]
  have e : val_main_v40 (F := Ideal) RAW (ix1 n) = val_main_v35 (F := Ideal) RAW (ix2 1 n) - val_main_v35 (F := Ideal) RAW (ix2 0 n) := by
    unfold val_main_v40 val_main_v39 val_main_v38 val_main_v37 val_main_v36
    generalize val_main_v35 (F := Ideal) RAW = z
    clean_types
    pointwise []
  unfold bound
  rw [e, e0, e1, sum_sub, ha, hb]
  exact hl.symm

theorem ref_logf_r (b : Fin 4) (n : Fin 8192) (j : Fin 512) :
    val_main_v61 (F := Ideal) X WR RAW (ix3 b n j)
      = lfr (val_main_v40 (F := Ideal) RAW (ix1 j)) (rcol X WR b n ⟨512 + j.val, by omega⟩) := by
  have h := ref_logf X WR b n j
  unfold val_main_v61 val_main_v60 val_main_v59 val_main_v58 val_main_v57 val_main_v56 val_main_v55 val_main_v54 val_main_v53 val_main_v52 val_main_v51 val_main_v50 val_main_v49 val_main_v48 val_main_v47 val_main_v46 val_main_v45 val_main_v43 val_main_v42 val_main_v41
  generalize val_main_v44 (F := Ideal) X WR = z at h
  generalize val_main_v40 (F := Ideal) RAW = l
  clean_types
  pointwise []
  rw [if_neg (not_not.mpr rfl), h]
  rfl

/-- Every raw bound is a real number. -/
def Finite (RAW : Vec Ideal Cert.Kernel5Ideal.S2x512 .f32) : Prop := ∀ (i : Fin 2) (n : Fin 512), ∃ a : ℝ, RAW (ix2 i n) = (a : EReal)

theorem ref_lfr (hR : Finite RAW) : val_main_v61 (F := Ideal) X WR RAW = lfrArr X WR RAW := by
  funext y
  obtain ⟨a, ha⟩ := hR 0 (y 2)
  obtain ⟨b, hb⟩ := hR 1 (y 2)
  refine (congrArg _ (eq_ix3 y)).trans ((ref_logf_r X WR RAW (y 0) (y 1) (y 2)).trans ?_)
  rw [ref_bound RAW (y 2) a b ha hb]
  rfl

theorem ref_kr (hR : Finite RAW) : val_main_v71 (F := Ideal) X WR RAW = krArr X WR RAW := by
  funext y
  obtain ⟨a, ha⟩ := hR 0 (y 2)
  obtain ⟨b, hb⟩ := hR 1 (y 2)
  obtain ⟨p, l, h0, h1, hl, _⟩ := soft_real a b
  have e := (congrFun (ref_lfr X WR RAW hR) y)
  have h : val_main_v71 (F := Ideal) X WR RAW y = -(Ideal.exp (val_main_v61 (F := Ideal) X WR RAW y) - 1) := rfl
  have hb' : bound RAW (y 2) = (l : EReal) := by
    unfold bound
    rw [ha, hb]
    exact hl
  rw [h, e]
  unfold lfrArr krArr
  rw [hb']
  exact one_sub_gate h0 h1 _

/-! ## The columns kept -/

/-- The host's logistic function. -/
theorem host_sigm (z : EReal) : z * Ideal.div (Ideal.ofBits .f32 0x3F800000#32) (Ideal.ofBits .f32 0x3F800000#32 + Ideal.exp (-z)) = z * sigm z := by
  rw [ofBits_one]
  rfl

theorem ref_q : val_main_v66 (F := Ideal) X W = qArr X W := by
  funext y
  have h : (y 2).val < 512 := (y 2).isLt
  have e : val_main_v2 (F := Ideal) X W y = acol X W (y 0) (y 1) ⟨(y 2).val, by omega⟩ := by
    rw [val_main_v2_apply]
    refine Eq.trans (congrArg _ (funext fun a => Fin.ext ?_)) (ref_acol X W (y 0) (y 1) ⟨(y 2).val, by omega⟩)
    match a with
    | ⟨0, _⟩ => rfl
    | ⟨1, _⟩ => rfl
    | ⟨2, _⟩ => rfl
  have h' : val_main_v66 (F := Ideal) X W y = val_main_v2 (F := Ideal) X W y * Ideal.ofBits .f32 0x3E000000#32 := by
    rw [val_main_v66_apply, val_main_v65_apply, val_main_v64_apply, val_main_cst_2_apply]
    rfl
  rw [h', e]
  rfl

theorem ref_k : val_main_v67 (F := Ideal) X W = kArr X W := by
  funext y
  have h : (y 2).val < 512 := (y 2).isLt
  have e : val_main_v3 (F := Ideal) X W y = acol X W (y 0) (y 1) ⟨512 + (y 2).val, by omega⟩ := by
    rw [val_main_v3_apply]
    refine Eq.trans (congrArg _ (funext fun a => Fin.ext ?_)) (ref_acol X W (y 0) (y 1) ⟨512 + (y 2).val, by omega⟩)
    match a with
    | ⟨0, _⟩ => rfl
    | ⟨1, _⟩ => rfl
    | ⟨2, _⟩ => rfl
  exact (val_main_v67_apply X W y).trans e

theorem ref_v : val_main_v68 (F := Ideal) X W = vArr X W := by
  funext y
  have h : (y 2).val < 512 := (y 2).isLt
  have e : val_main_v4 (F := Ideal) X W y = acol X W (y 0) (y 1) ⟨1024 + (y 2).val, by omega⟩ := by
    rw [val_main_v4_apply]
    refine Eq.trans (congrArg _ (funext fun a => Fin.ext ?_)) (ref_acol X W (y 0) (y 1) ⟨1024 + (y 2).val, by omega⟩)
    match a with
    | ⟨0, _⟩ => rfl
    | ⟨1, _⟩ => rfl
    | ⟨2, _⟩ => rfl
  exact (val_main_v68_apply X W y).trans e

theorem ref_ir : val_main_v72 (F := Ideal) X WR = irArr X WR := by
  funext y
  have h : (y 2).val < 512 := (y 2).isLt
  have e : val_main_v22 (F := Ideal) X WR y = rcol X WR (y 0) (y 1) ⟨1024 + (y 2).val, by omega⟩ := by
    rw [val_main_v22_apply]
    refine Eq.trans (congrArg _ (funext fun a => Fin.ext ?_)) (ref_rcol X WR (y 0) (y 1) ⟨1024 + (y 2).val, by omega⟩)
    match a with
    | ⟨0, _⟩ => rfl
    | ⟨1, _⟩ => rfl
    | ⟨2, _⟩ => rfl
  exact (val_main_v72_apply X WR y).trans e

theorem ref_qr : val_main_v70 (F := Ideal) X WR = qrArr X WR := by
  funext y
  have h : (y 2).val < 512 := (y 2).isLt
  have e : val_main_v20 (F := Ideal) X WR y = rcol X WR (y 0) (y 1) ⟨(y 2).val, by omega⟩ := by
    rw [val_main_v20_apply]
    refine Eq.trans (congrArg _ (funext fun a => Fin.ext ?_)) (ref_rcol X WR (y 0) (y 1) ⟨(y 2).val, by omega⟩)
    match a with
    | ⟨0, _⟩ => rfl
    | ⟨1, _⟩ => rfl
    | ⟨2, _⟩ => rfl
  have h' : val_main_v70 (F := Ideal) X WR y
      = val_main_v20 (F := Ideal) X WR y * Ideal.div (Ideal.ofBits .f32 0x3F800000#32) (Ideal.ofBits .f32 0x3F800000#32 + Ideal.exp (-val_main_v20 (F := Ideal) X WR y)) := by
    rw [val_main_v70_apply, val_main_v69_apply, val_main_call5_v5_apply, val_main_call5_v4_apply, val_main_call5_v3_apply, val_main_call5_v2_apply,
      val_main_call5_v1_apply, val_main_call5_v0_apply, val_main_call5_cst_apply, val_main_call5_cst_0_apply]
    rfl
  rw [h', host_sigm, e]
  rfl

theorem ref_gr : val_main_v74 (F := Ideal) X WR = grArr X WR := by
  funext y
  have h : (y 2).val < 512 := (y 2).isLt
  have e : val_main_v23 (F := Ideal) X WR y = rcol X WR (y 0) (y 1) ⟨1536 + (y 2).val, by omega⟩ := by
    rw [val_main_v23_apply]
    refine Eq.trans (congrArg _ (funext fun a => Fin.ext ?_)) (ref_rcol X WR (y 0) (y 1) ⟨1536 + (y 2).val, by omega⟩)
    match a with
    | ⟨0, _⟩ => rfl
    | ⟨1, _⟩ => rfl
    | ⟨2, _⟩ => rfl
  have h' : val_main_v74 (F := Ideal) X WR y
      = val_main_v23 (F := Ideal) X WR y * Ideal.div (Ideal.ofBits .f32 0x3F800000#32) (Ideal.ofBits .f32 0x3F800000#32 + Ideal.exp (-val_main_v23 (F := Ideal) X WR y)) := by
    rw [val_main_v74_apply, val_main_v73_apply, val_main_call6_v5_apply, val_main_call6_v4_apply, val_main_call6_v3_apply, val_main_call6_v2_apply,
      val_main_call6_v1_apply, val_main_call6_v0_apply, val_main_call6_cst_apply, val_main_call6_cst_0_apply]
    rfl
  rw [h', host_sigm, e]
  rfl

/-! ## The running sums -/

theorem ref_sum (b : Fin 4) (h : Fin 8) (j : Fin 8192) :
    val_main_v15 (F := Ideal) X WF FB (ix3 b h j) = prefixSum (gSeq X WF FB b h) j.val := by
  unfold val_main_v15
  have hi : ∀ i, val_main_call1_call0_v0 (F := Ideal) i = (0 : EReal) := fun i => by
    rw [val_main_call1_call0_v0_apply, val_main_call1_call0_cst_apply]
    exact ofBits_zero'
  have hg : ∀ i : Fin 8192, val_main_v14 (F := Ideal) X WF FB (ix3 b h i) = gSeq X WF FB b h i.val := fun i => by
    rw [val_main_v14_apply]
    unfold gSeq
    rw [dif_pos i.isLt]
    refine Eq.trans (congrArg _ (funext fun a => Fin.ext ?_)) (ref_gate X WF FB b i h)
    match a with
    | ⟨0, _⟩ => rfl
    | ⟨1, _⟩ => rfl
    | ⟨2, _⟩ => rfl
  generalize val_main_v14 (F := Ideal) X WF FB = x at hg ⊢
  generalize val_main_call1_call0_v0 (F := Ideal) = v at hi ⊢
  exact cumsum_host (by norm_num) x v hi _ _ b h j _ hg

theorem ref_group (b g : Fin 4) (u : Fin 2) (j : Fin 8192) :
    val_main_v16 (F := Ideal) X WF FB (ix4 b g u j) = prefixSum (gSeq X WF FB b ⟨2 * g.val + u.val, by omega⟩) j.val := by
  rw [val_main_v16_apply]
  refine Eq.trans (congrArg _ (funext fun a => Fin.ext ?_)) (ref_sum X WF FB b ⟨2 * g.val + u.val, by omega⟩ j)
  match a with
  | ⟨0, _⟩ => show (((b.val * 4 + g.val) * 2 + u.val) * 8192 + j.val) / 65536 = b.val; omega
  | ⟨1, _⟩ => show (((b.val * 4 + g.val) * 2 + u.val) * 8192 + j.val) / 8192 % 8 = 2 * g.val + u.val; omega
  | ⟨2, _⟩ => show (((b.val * 4 + g.val) * 2 + u.val) * 8192 + j.val) % 8192 = j.val; omega

theorem ref_rows (b g : Fin 4) (u : Fin 8) (j : Fin 8192) :
    val_main_v17 (F := Ideal) X WF FB (ix4 b g u j)
      = if hu : u.val < 2 then prefixSum (gSeq X WF FB b ⟨2 * g.val + u.val, by omega⟩) j.val else 0 := by
  have e : ∀ u' : Fin 2, val_main_v16 (F := Ideal) X WF FB (ix4 b g u' j) = prefixSum (gSeq X WF FB b ⟨2 * g.val + u'.val, by omega⟩) j.val :=
    fun u' => ref_group X WF FB b g u' j
  unfold val_main_v17
  generalize val_main_v16 (F := Ideal) X WF FB = z at e
  clean_types
  pointwise [val_main_call2_v0, val_main_c]
  by_cases hu : u.val < 2
  · rw [dif_pos hu, dif_pos hu]
    exact e ⟨u.val, hu⟩
  · rw [dif_neg hu, dif_neg hu]
    show ((((0#32 : BitVec 32).toInt : ℝ)) : EReal) = 0
    simp

theorem ref_ct : val_main_v17 (F := Ideal) X WF FB = ctArr X WF FB := by
  funext y
  exact (congrArg _ (eq_ix4 y)).trans (ref_rows X WF FB (y 0) (y 1) (y 2) (y 3))

end Cert.Proj2

end
-- ==== Proof.Proj2.Finite.lean ====
/-
  The precondition, read at an element: a raw lower bound whose absolute value is below infinity is a real number.
-/
module

public import proofs.«01_k».proof.Pre_finite_bounds
public import proofs.«01_k».proof.Proof.Proj2.Reference

@[expose] public section

noncomputable section

namespace Cert.Proj2

open Idealize.ShloMosaic

theorem ofBits_top : Ideal.ofBits .f32 0x7F800000#32 = ⊤ := by
  simp [Ideal.ofBits, Ideal.ieee]

theorem real_of_abs_lt (x : EReal) (h : max x (-x) < ⊤) : ∃ a : ℝ, x = (a : EReal) := by
  induction x with
  | bot => simp at h
  | top => simp at h
  | coe a => exact ⟨a, rfl⟩

theorem finite_of_pre [Cert.Pre_finite_bounds.Facts] (X : Vec Ideal Cert.Kernel5Ideal.S4x8192x1024 .f32)
    (W : Vec Ideal Cert.Kernel5Ideal.S1024x1536 .bf16) (WF : Vec Ideal Cert.Kernel5Ideal.S16x1024 .bf16)
    (FB : Vec Ideal Cert.Kernel5Ideal.S8x1 .f32) (WR : Vec Ideal Cert.Kernel5Ideal.S1024x2048 .bf16)
    (RAW : Vec Ideal Cert.Kernel5Ideal.S2x512 .f32)
    (h : Cert.Pre_finite_bounds.fn (F := Ideal) X W WF FB WR RAW = fun _ => 1#1) : Finite RAW := by
  intro i n
  refine real_of_abs_lt _ ?_
  have e : Cert.Pre_finite_bounds.fn (F := Ideal) X W WF FB WR RAW (ix2 i n) = 1#1 := congrFun h _
  unfold Cert.Pre_finite_bounds.fn at e
  have e' : BitVec.ofBool (decide (max (RAW (ix2 i n)) (-RAW (ix2 i n)) < Ideal.ofBits .f32 0x7F800000#32)) = 1#1 := e
  rw [ofBits_top] at e'
  by_contra hc
  rw [decide_eq_false hc] at e'
  exact absurd e' (by decide)

end Cert.Proj2

end
-- ==== Proof.lean ====
/-
  The claims about the forgetting attention, the feed-forward call, the output projection and both layers' input
  projections, assembled: for each the frames, the
  rewrite's premises, and the equation of the kernel's result with the reference's over the extended reals. Of the
  recurrence only the frames and the rewrite's premises.
-/
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.Fox.Reference
public import proofs.«01_k».proof.Proof.Gen.Kernel2.Frame
public import proofs.«01_k».proof.Proof.Gen.Kernel2Ideal.Frame
public import proofs.«01_k».proof.Proof.Gen.Reference2Ideal.Run
public import proofs.«01_k».proof.Proof.Ffn.Array
public import proofs.«01_k».proof.Proof.Ffn.Reference
public import proofs.«01_k».proof.Proof.Gen.Kernel3.Frame
public import proofs.«01_k».proof.Proof.Gen.Kernel3Ideal.Frame
public import proofs.«01_k».proof.Proof.Gen.Reference3Ideal.Run
public import proofs.«01_k».proof.Proof.Out.Array
public import proofs.«01_k».proof.Proof.Out.Reference
public import proofs.«01_k».proof.Proof.Gen.Kernel4.Frame
public import proofs.«01_k».proof.Proof.Gen.Kernel4Ideal.Frame
public import proofs.«01_k».proof.Proof.Gen.Reference4Ideal.Run
public import proofs.«01_k».proof.Proof.Proj.Array
public import proofs.«01_k».proof.Proof.Proj.Reference
public import proofs.«01_k».proof.Proof.Gen.Kernel5.Frame
public import proofs.«01_k».proof.Proof.Gen.Kernel5Ideal.Frame
public import proofs.«01_k».proof.Proof.Gen.Reference5Ideal.Run
public import proofs.«01_k».proof.Proof.Gen.Pre_finite_bounds
public import proofs.«01_k».proof.Proof.Proj2.Array
public import proofs.«01_k».proof.Proof.Proj2.Reference
public import proofs.«01_k».proof.Proof.Proj2.Finite
public import proofs.«01_k».proof.Proof.Gen.Kernel6.Frame
public import proofs.«01_k».proof.Proof.Gen.Kernel6Ideal.Frame
public import Idealize.ShloMosaic.Adequacy
public import Idealize.ShloMosaic.Init

@[expose] public section

noncomputable section

namespace Cert.Proof

open Idealize.ShloMosaic Idealize.SL.Sem

theorem fox_frame : Cert.quiescent_Kernel := fun m ρ _ => Cert.Kernel.Gen.frame m ρ

theorem fox_ideal_frame : Cert.quiescent_KernelIdeal := fun m ρ _ => Cert.KernelIdeal.Gen.frame m ρ

theorem fox_reference_frame : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem fox_preserves : Cert.preserves_Kernel_KernelIdeal := trivial

theorem fox_algebraic : Cert.algebraic_KernelIdeal_ReferenceIdeal := fun m ρ m' ρ' _ hag =>
  ⟨_, Cert.Fox.kernel_run m ρ, (θ_run Cert.ReferenceIdeal.defs _ _).mono
    (fun _ h c => ⟨(h c).1.trans ((Cert.ReferenceIdeal.Read.val_main_v53_eq m' c).trans ((Cert.Fox.ref_eq _ _ _ _ _).trans
      (by rw [(hag c).1, (hag c).2.1, (hag c).2.2.1, (hag c).2.2.2.1, (hag c).2.2.2.2]))), (h c).2⟩)
    (Cert.ReferenceIdeal.Value.run (F := Ideal) m' ρ')⟩

theorem ffn_frame : Cert.quiescent_Kernel2 := fun m ρ _ => Cert.Kernel2.Gen.frame m ρ

theorem ffn_ideal_frame : Cert.quiescent_Kernel2Ideal := fun m ρ _ => Cert.Kernel2Ideal.Gen.frame m ρ

theorem ffn_reference_frame : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

theorem ffn_preserves : Cert.preserves_Kernel2_Kernel2Ideal := trivial

theorem ffn_algebraic : Cert.algebraic_Kernel2Ideal_Reference2Ideal := fun m ρ m' ρ' _ hag =>
  ⟨_, Cert.Ffn.kernel_run m ρ, (θ_run Cert.Reference2Ideal.defs _ _).mono
    (fun _ h c => ⟨(h c).1.trans ((Cert.Reference2Ideal.Read.val_main_v109_eq m' c).trans ((Cert.Ffn.ref_eq _ _ _ _ _ _ _).trans
      (by rw [(hag c).1, (hag c).2.1, (hag c).2.2.1, (hag c).2.2.2.1, (hag c).2.2.2.2.1, (hag c).2.2.2.2.2.1, (hag c).2.2.2.2.2.2]))), (h c).2⟩)
    (Cert.Reference2Ideal.Value.run (F := Ideal) m' ρ')⟩

theorem out_frame : Cert.quiescent_Kernel3 := fun m ρ _ => Cert.Kernel3.Gen.frame m ρ

theorem out_ideal_frame : Cert.quiescent_Kernel3Ideal := fun m ρ _ => Cert.Kernel3Ideal.Gen.frame m ρ

theorem out_reference_frame : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

theorem out_preserves : Cert.preserves_Kernel3_Kernel3Ideal := trivial

theorem out_algebraic : Cert.algebraic_Kernel3Ideal_Reference3Ideal := fun m ρ m' ρ' _ hag =>
  ⟨_, Cert.Out.kernel_run m ρ, (θ_run Cert.Reference3Ideal.defs _ _).mono
    (fun _ h c => ⟨(h c).1.trans ((Cert.Reference3Ideal.Read.val_main_v33_eq m' c).trans ((Cert.Out.ref_eq _ _ _ _ _ _ _).trans
      (by rw [(hag c).1, (hag c).2.1, (hag c).2.2.1, (hag c).2.2.2.1, (hag c).2.2.2.2.1, (hag c).2.2.2.2.2.1, (hag c).2.2.2.2.2.2]))), (h c).2⟩)
    (Cert.Reference3Ideal.Value.run (F := Ideal) m' ρ')⟩

theorem proj_frame : Cert.quiescent_Kernel4 := fun m ρ _ => Cert.Kernel4.Gen.frame m ρ

theorem proj_ideal_frame : Cert.quiescent_Kernel4Ideal := fun m ρ _ => Cert.Kernel4Ideal.Gen.frame m ρ

theorem proj_reference_frame : Cert.quiescent_Reference4Ideal := fun m ρ _ =>
  (θ_run Cert.Reference4Ideal.defs _ _).mono (fun r h => ⟨fun c => (h c).2.2.2.2.2.2.2.2.2.2, sem_eq_zero_of_no_sems (by decide) r.2⟩)
    (Cert.Reference4Ideal.Value.run (F := Ideal) m ρ)

theorem proj_preserves : Cert.preserves_Kernel4_Kernel4Ideal := trivial

theorem proj_algebraic : Cert.algebraic_Kernel4Ideal_Reference4Ideal := fun m ρ m' ρ' _ hag =>
  ⟨_, _, _, _, _, _, _, _, _, _, Cert.Proj.kernel_run m ρ, (θ_run Cert.Reference4Ideal.defs _ _).mono
    (fun _ h c => ⟨
      (h c).1.trans ((Cert.Reference4Ideal.Read.val_main_v25_eq _ _ _).trans ((Cert.Proj.ref_xln _ _ _).trans
        (by rw [(hag c).1, (hag c).2.1, (hag c).2.2.1]))),
      (h c).2.1.trans ((Cert.Reference4Ideal.Read.val_main_v76_eq _ _ _ _).trans ((Cert.Proj.ref_q _ _ _ _).trans
        (by rw [(hag c).1, (hag c).2.1, (hag c).2.2.1, (hag c).2.2.2.1]))),
      (h c).2.2.1.trans ((Cert.Reference4Ideal.Read.val_main_v77_eq _ _ _ _).trans ((Cert.Proj.ref_k _ _ _ _).trans
        (by rw [(hag c).1, (hag c).2.1, (hag c).2.2.1, (hag c).2.2.2.1]))),
      (h c).2.2.2.1.trans ((Cert.Reference4Ideal.Read.val_main_v78_eq _ _ _ _).trans ((Cert.Proj.ref_v _ _ _ _).trans
        (by rw [(hag c).1, (hag c).2.1, (hag c).2.2.1, (hag c).2.2.2.1]))),
      (h c).2.2.2.2.1.trans ((Cert.Reference4Ideal.Read.val_main_v43_eq m' c).trans ((Cert.Proj.ref_ct _ _ _ _ _).trans
        (by rw [(hag c).1, (hag c).2.1, (hag c).2.2.1, (hag c).2.2.2.2.1, (hag c).2.2.2.2.2.1]))),
      (h c).2.2.2.2.2.1.trans ((Cert.Reference4Ideal.Read.val_main_v80_eq m' c).trans ((Cert.Proj.ref_qr _ _ _ _).trans
        (by rw [(hag c).1, (hag c).2.1, (hag c).2.2.1, (hag c).2.2.2.2.2.2.1]))),
      (h c).2.2.2.2.2.2.1.trans ((Cert.Reference4Ideal.Read.val_main_v81_eq m' c).trans ((Cert.Proj.ref_kr _ _ _ _).trans
        (by rw [(hag c).1, (hag c).2.1, (hag c).2.2.1, (hag c).2.2.2.2.2.2.1]))),
      (h c).2.2.2.2.2.2.2.1.trans ((Cert.Reference4Ideal.Read.val_main_v82_eq _ _ _ _).trans ((Cert.Proj.ref_ir _ _ _ _).trans
        (by rw [(hag c).1, (hag c).2.1, (hag c).2.2.1, (hag c).2.2.2.2.2.2.1]))),
      (h c).2.2.2.2.2.2.2.2.1.trans ((Cert.Reference4Ideal.Read.val_main_v84_eq m' c).trans ((Cert.Proj.ref_gr _ _ _ _).trans
        (by rw [(hag c).1, (hag c).2.1, (hag c).2.2.1, (hag c).2.2.2.2.2.2.1]))),
      (h c).2.2.2.2.2.2.2.2.2.1.trans ((Cert.Reference4Ideal.Read.val_main_v71_eq m' c).trans ((Cert.Proj.ref_lfr _ _ _ _).trans
        (by rw [(hag c).1, (hag c).2.1, (hag c).2.2.1, (hag c).2.2.2.2.2.2.1]))),
      (h c).2.2.2.2.2.2.2.2.2.2⟩)
    (Cert.Reference4Ideal.Value.run (F := Ideal) m' ρ')⟩

theorem proj2_frame : Cert.quiescent_Kernel5 := fun m ρ _ => Cert.Kernel5.Gen.frame m ρ

theorem proj2_ideal_frame : Cert.quiescent_Kernel5Ideal := fun m ρ _ => Cert.Kernel5Ideal.Gen.frame m ρ

theorem proj2_ideal_frame_finite : Cert.quiescent_Kernel5Ideal_pre_finite_bounds := fun m ρ _ => Cert.Kernel5Ideal.Gen.frame m ρ

theorem proj2_reference_frame : Cert.quiescent_Reference5Ideal := fun m ρ _ =>
  (θ_run Cert.Reference5Ideal.defs _ _).mono (fun r h => ⟨fun c => (h c).2.2.2.2.2.2.2.2.2, sem_eq_zero_of_no_sems (by decide) r.2⟩)
    (Cert.Reference5Ideal.Value.run (F := Ideal) m ρ)

theorem proj2_reference_frame_finite : Cert.quiescent_Reference5Ideal_pre_finite_bounds := fun m ρ _ =>
  (θ_run Cert.Reference5Ideal.defs _ _).mono (fun r h => ⟨fun c => (h c).2.2.2.2.2.2.2.2.2, sem_eq_zero_of_no_sems (by decide) r.2⟩)
    (Cert.Reference5Ideal.Value.run (F := Ideal) m ρ)

theorem proj2_preserves : Cert.preserves_Kernel5_Kernel5Ideal := trivial

theorem proj2_algebraic : Cert.algebraic_Kernel5Ideal_Reference5Ideal_pre_finite_bounds := fun m ρ m' ρ' hpre hag =>
  ⟨_, _, _, _, _, _, _, _, _, Cert.Proj2.kernel_run m ρ, (θ_run Cert.Reference5Ideal.defs _ _).mono
    (fun _ h c => ⟨
      (h c).1.trans ((Cert.Reference5Ideal.Read.val_main_v66_eq _ _).trans ((Cert.Proj2.ref_q _ _).trans
        (by rw [(hag c).1, (hag c).2.1]))),
      (h c).2.1.trans ((Cert.Reference5Ideal.Read.val_main_v67_eq _ _).trans ((Cert.Proj2.ref_k _ _).trans
        (by rw [(hag c).1, (hag c).2.1]))),
      (h c).2.2.1.trans ((Cert.Reference5Ideal.Read.val_main_v68_eq _ _).trans ((Cert.Proj2.ref_v _ _).trans
        (by rw [(hag c).1, (hag c).2.1]))),
      (h c).2.2.2.1.trans ((Cert.Reference5Ideal.Read.val_main_v17_eq _ _ _).trans ((Cert.Proj2.ref_ct _ _ _).trans
        (by rw [(hag c).1, (hag c).2.2.1, (hag c).2.2.2.1]))),
      (h c).2.2.2.2.1.trans ((Cert.Reference5Ideal.Read.val_main_v70_eq _ _).trans ((Cert.Proj2.ref_qr _ _).trans
        (by rw [(hag c).1, (hag c).2.2.2.2.1]))),
      (h c).2.2.2.2.2.1.trans ((Cert.Reference5Ideal.Read.val_main_v71_eq m' c).trans ((Cert.Proj2.ref_kr _ _ _ (by rw [(hag c).2.2.2.2.2]; exact Cert.Proj2.finite_of_pre _ _ _ _ _ _ (hpre c))).trans
        (by rw [(hag c).1, (hag c).2.2.2.2.1, (hag c).2.2.2.2.2]))),
      (h c).2.2.2.2.2.2.1.trans ((Cert.Reference5Ideal.Read.val_main_v72_eq _ _).trans ((Cert.Proj2.ref_ir _ _).trans
        (by rw [(hag c).1, (hag c).2.2.2.2.1]))),
      (h c).2.2.2.2.2.2.2.1.trans ((Cert.Reference5Ideal.Read.val_main_v74_eq _ _).trans ((Cert.Proj2.ref_gr _ _).trans
        (by rw [(hag c).1, (hag c).2.2.2.2.1]))),
      (h c).2.2.2.2.2.2.2.2.1.trans ((Cert.Reference5Ideal.Read.val_main_v61_eq m' c).trans ((Cert.Proj2.ref_lfr _ _ _ (by rw [(hag c).2.2.2.2.2]; exact Cert.Proj2.finite_of_pre _ _ _ _ _ _ (hpre c))).trans
        (by rw [(hag c).1, (hag c).2.2.2.2.1, (hag c).2.2.2.2.2]))),
      (h c).2.2.2.2.2.2.2.2.2⟩)
    (Cert.Reference5Ideal.Value.run (F := Ideal) m' ρ')⟩

theorem recurrence_frame : Cert.quiescent_Kernel6 := fun m ρ _ => Cert.Kernel6.Gen.frame m ρ

theorem recurrence_ideal_frame : Cert.quiescent_Kernel6Ideal := fun m ρ _ => Cert.Kernel6Ideal.Gen.frame m ρ

theorem recurrence_preserves : Cert.preserves_Kernel6_Kernel6Ideal := trivial

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts, Cert.Kernel6.Gen.facts, Cert.Kernel6Ideal.Gen.facts, Cert.Pre_finite_bounds.Gen.facts,
  fox_frame, fox_ideal_frame, fox_reference_frame, ffn_frame, ffn_ideal_frame, ffn_reference_frame,
  out_frame, out_ideal_frame, out_reference_frame, proj_frame, proj_ideal_frame, proj_reference_frame,
  proj2_frame, proj2_ideal_frame, proj2_ideal_frame_finite, proj2_reference_frame, proj2_reference_frame_finite,
  recurrence_frame, recurrence_ideal_frame,
  fox_preserves, fox_algebraic, ffn_preserves, ffn_algebraic, out_preserves, out_algebraic, proj_preserves, proj_algebraic,
  proj2_preserves, proj2_algebraic, recurrence_preserves⟩

end Cert.Proof

end
